-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite2 [hPre_finite2 : Cert.Pre_finite2.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite2 [hPre_finite2 : Cert.Pre_finite2.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite2 [hKernel3Ideal : Cert.Kernel3Ideal.Facts] [hPre_finite2 : Cert.Pre_finite2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite2 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite2 [hReference3Ideal : Cert.Reference3Ideal.Facts] [hPre_finite2 : Cert.Pre_finite2.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite2 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (Cert.Kernel4.threads (F := Bits)) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (Cert.Kernel4Ideal.threads (F := Ideal)) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v185) = v3 c
          ∧ r.2.mem ((c.tc : Thread Cert.ReferenceIdeal.nD Cert.ReferenceIdeal.τ).loc Cert.ReferenceIdeal.main_v187) = v4 c
          ∧ r.2.mem ((c.tc : Thread Cert.ReferenceIdeal.nD Cert.ReferenceIdeal.τ).loc Cert.ReferenceIdeal.main_v189) = v5 c
          ∧ r.2.mem ((c.tc : Thread Cert.ReferenceIdeal.nD Cert.ReferenceIdeal.τ).loc Cert.ReferenceIdeal.main_v191) = v6 c
          ∧ r.2.mem ((c.tc : Thread Cert.ReferenceIdeal.nD Cert.ReferenceIdeal.τ).loc Cert.ReferenceIdeal.main_v180) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "gelu_cubic" .f32 0x3D372713#32 ((8943 / 200000 : ℝ) : EReal)
  ∧ IdealRules.named_const.Statement Cert.Kernel2Ideal.κ "gelu_cubic_grad" .f32 0x3E095D4F#32 ((26829 / 200000 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v140_0)) (v1 : (c : Dev Cert.Kernel2Ideal.nD) → Buf (Elt Ideal) ((c.tc : Thread Cert.Kernel2Ideal.nD Cert.Kernel2Ideal.τ).loc Cert.Kernel2Ideal.main_v140_1)) (v2 : (c : Dev Cert.Kernel2Ideal.nD) → Buf (Elt Ideal) ((c.tc : Thread Cert.Kernel2Ideal.nD Cert.Kernel2Ideal.τ).loc Cert.Kernel2Ideal.main_v140_2)) (v3 : (c : Dev Cert.Kernel2Ideal.nD) → Buf (Elt Ideal) ((c.tc : Thread Cert.Kernel2Ideal.nD Cert.Kernel2Ideal.τ).loc Cert.Kernel2Ideal.main_v140_3)) (v4 : (c : Dev Cert.Kernel2Ideal.nD) → Buf (Elt Ideal) ((c.tc : Thread Cert.Kernel2Ideal.nD Cert.Kernel2Ideal.τ).loc Cert.Kernel2Ideal.main_v140_4)) (v5 : (c : Dev Cert.Kernel2Ideal.nD) → Buf (Elt Ideal) ((c.tc : Thread Cert.Kernel2Ideal.nD Cert.Kernel2Ideal.τ).loc Cert.Kernel2Ideal.main_v140_5)) (v6 : (c : Dev Cert.Kernel2Ideal.nD) → Buf (Elt Ideal) ((c.tc : Thread Cert.Kernel2Ideal.nD Cert.Kernel2Ideal.τ).loc Cert.Kernel2Ideal.main_v140_6)) (v7 : (c : Dev Cert.Kernel2Ideal.nD) → Buf (Elt Ideal) ((c.tc : Thread Cert.Kernel2Ideal.nD Cert.Kernel2Ideal.τ).loc Cert.Kernel2Ideal.main_v140_7)) (v8 : (c : Dev Cert.Kernel2Ideal.nD) → Buf (Elt Ideal) ((c.tc : Thread Cert.Kernel2Ideal.nD Cert.Kernel2Ideal.τ).loc Cert.Kernel2Ideal.main_v140_8)) (v9 : (c : Dev Cert.Kernel2Ideal.nD) → Buf (Elt Ideal) ((c.tc : Thread Cert.Kernel2Ideal.nD Cert.Kernel2Ideal.τ).loc Cert.Kernel2Ideal.main_v140_9)) (v10 : (c : Dev Cert.Kernel2Ideal.nD) → Buf (Elt Ideal) ((c.tc : Thread Cert.Kernel2Ideal.nD Cert.Kernel2Ideal.τ).loc Cert.Kernel2Ideal.main_v140_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v140_0) = v0 c
          ∧ r.2.mem ((c.tc : Thread Cert.Kernel2Ideal.nD Cert.Kernel2Ideal.τ).loc Cert.Kernel2Ideal.main_v140_1) = v1 c
          ∧ r.2.mem ((c.tc : Thread Cert.Kernel2Ideal.nD Cert.Kernel2Ideal.τ).loc Cert.Kernel2Ideal.main_v140_2) = v2 c
          ∧ r.2.mem ((c.tc : Thread Cert.Kernel2Ideal.nD Cert.Kernel2Ideal.τ).loc Cert.Kernel2Ideal.main_v140_3) = v3 c
          ∧ r.2.mem ((c.tc : Thread Cert.Kernel2Ideal.nD Cert.Kernel2Ideal.τ).loc Cert.Kernel2Ideal.main_v140_4) = v4 c
          ∧ r.2.mem ((c.tc : Thread Cert.Kernel2Ideal.nD Cert.Kernel2Ideal.τ).loc Cert.Kernel2Ideal.main_v140_5) = v5 c
          ∧ r.2.mem ((c.tc : Thread Cert.Kernel2Ideal.nD Cert.Kernel2Ideal.τ).loc Cert.Kernel2Ideal.main_v140_6) = v6 c
          ∧ r.2.mem ((c.tc : Thread Cert.Kernel2Ideal.nD Cert.Kernel2Ideal.τ).loc Cert.Kernel2Ideal.main_v140_7) = v7 c
          ∧ r.2.mem ((c.tc : Thread Cert.Kernel2Ideal.nD Cert.Kernel2Ideal.τ).loc Cert.Kernel2Ideal.main_v140_8) = v8 c
          ∧ r.2.mem ((c.tc : Thread Cert.Kernel2Ideal.nD Cert.Kernel2Ideal.τ).loc Cert.Kernel2Ideal.main_v140_9) = v9 c
          ∧ r.2.mem ((c.tc : Thread Cert.Kernel2Ideal.nD Cert.Kernel2Ideal.τ).loc Cert.Kernel2Ideal.main_v140_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v285) = v0 c
          ∧ r.2.mem ((c.tc : Thread Cert.Reference2Ideal.nD Cert.Reference2Ideal.τ).loc Cert.Reference2Ideal.main_v287) = v1 c
          ∧ r.2.mem ((c.tc : Thread Cert.Reference2Ideal.nD Cert.Reference2Ideal.τ).loc Cert.Reference2Ideal.main_v289) = v2 c
          ∧ r.2.mem ((c.tc : Thread Cert.Reference2Ideal.nD Cert.Reference2Ideal.τ).loc Cert.Reference2Ideal.main_v291) = v3 c
          ∧ r.2.mem ((c.tc : Thread Cert.Reference2Ideal.nD Cert.Reference2Ideal.τ).loc Cert.Reference2Ideal.main_v293) = v4 c
          ∧ r.2.mem ((c.tc : Thread Cert.Reference2Ideal.nD Cert.Reference2Ideal.τ).loc Cert.Reference2Ideal.main_v295) = v5 c
          ∧ r.2.mem ((c.tc : Thread Cert.Reference2Ideal.nD Cert.Reference2Ideal.τ).loc Cert.Reference2Ideal.main_v297) = v6 c
          ∧ r.2.mem ((c.tc : Thread Cert.Reference2Ideal.nD Cert.Reference2Ideal.τ).loc Cert.Reference2Ideal.main_v300) = v7 c
          ∧ r.2.mem ((c.tc : Thread Cert.Reference2Ideal.nD Cert.Reference2Ideal.τ).loc Cert.Reference2Ideal.main_v302) = v8 c
          ∧ r.2.mem ((c.tc : Thread Cert.Reference2Ideal.nD Cert.Reference2Ideal.τ).loc Cert.Reference2Ideal.main_v303) = v9 c
          ∧ r.2.mem ((c.tc : Thread Cert.Reference2Ideal.nD Cert.Reference2Ideal.τ).loc Cert.Reference2Ideal.main_v304) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "gelu_cubic" .f32 0x3D372713#32 ((8943 / 200000 : ℝ) : EReal)

def algebraic_Kernel3Ideal_Reference3Ideal_pre_finite2 [hKernel3Ideal : Cert.Kernel3Ideal.Facts] [hReference3Ideal : Cert.Reference3Ideal.Facts] [hPre_finite2 : Cert.Pre_finite2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite2 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v123) = v0 c
          ∧ r.2.mem ((c.tc : Thread Cert.Reference3Ideal.nD Cert.Reference3Ideal.τ).loc Cert.Reference3Ideal.main_v124) = v1 c
          ∧ r.2.mem ((c.tc : Thread Cert.Reference3Ideal.nD Cert.Reference3Ideal.τ).loc Cert.Reference3Ideal.main_v125) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m ((c.tc : Thread Cert.Kernel4Ideal.nD Cert.Kernel4Ideal.τ).loc Cert.Kernel4Ideal.main_arg0) = Layout.block ⟨3, ![4, 1024, 1024]⟩ ⟨3, ![32, 1024, 1024]⟩ 0 8 c (m' (((0 : Dev Cert.Reference4Ideal.nD).tc : Thread Cert.Reference4Ideal.nD Cert.Reference4Ideal.τ).loc Cert.Reference4Ideal.main_arg0))
      ∧ m ((c.tc : Thread Cert.Kernel4Ideal.nD Cert.Kernel4Ideal.τ).loc Cert.Kernel4Ideal.main_arg1) = Layout.block ⟨3, ![4, 1024, 1024]⟩ ⟨3, ![32, 1024, 1024]⟩ 0 8 c (m' (((0 : Dev Cert.Reference4Ideal.nD).tc : Thread Cert.Reference4Ideal.nD Cert.Reference4Ideal.τ).loc Cert.Reference4Ideal.main_arg1))) →
    ∃ (v0 : Buf (Elt Ideal) (((0 : Dev Cert.Reference4Ideal.nD).tc : Thread Cert.Reference4Ideal.nD Cert.Reference4Ideal.τ).loc Cert.Reference4Ideal.main_v8)) (v1 : Buf (Elt Ideal) (((0 : Dev Cert.Reference4Ideal.nD).tc : Thread Cert.Reference4Ideal.nD Cert.Reference4Ideal.τ).loc Cert.Reference4Ideal.main_v17)),
      θ_run (Cert.Kernel4Ideal.defs (F := Ideal)) (Cert.Kernel4Ideal.threads (F := Ideal)) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = Layout.block ⟨3, ![4, 512, 1024]⟩ ⟨3, ![32, 512, 1024]⟩ 0 8 c v0
          ∧ r.2.mem ((c.tc : Thread Cert.Kernel4Ideal.nD Cert.Kernel4Ideal.τ).loc Cert.Kernel4Ideal.main_v3_1) = Layout.block ⟨3, ![4, 512, 1024]⟩ ⟨3, ![32, 512, 1024]⟩ 0 8 c v1
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r =>
          r.2.mem (((0 : Dev Cert.Reference4Ideal.nD).tc : Thread Cert.Reference4Ideal.nD Cert.Reference4Ideal.τ).loc Cert.Reference4Ideal.main_v8) = v0
          ∧ r.2.mem (((0 : Dev Cert.Reference4Ideal.nD).tc : Thread Cert.Reference4Ideal.nD Cert.Reference4Ideal.τ).loc Cert.Reference4Ideal.main_v17) = v1
          ∧ r.2.mem (((0 : Dev Cert.Reference4Ideal.nD).tc : Thread Cert.Reference4Ideal.nD Cert.Reference4Ideal.τ).loc Cert.Reference4Ideal.main_arg0) = m' (((0 : Dev Cert.Reference4Ideal.nD).tc : Thread Cert.Reference4Ideal.nD Cert.Reference4Ideal.τ).loc Cert.Reference4Ideal.main_arg0)
          ∧ r.2.mem (((0 : Dev Cert.Reference4Ideal.nD).tc : Thread Cert.Reference4Ideal.nD Cert.Reference4Ideal.τ).loc Cert.Reference4Ideal.main_arg1) = m' (((0 : Dev Cert.Reference4Ideal.nD).tc : Thread Cert.Reference4Ideal.nD Cert.Reference4Ideal.τ).loc Cert.Reference4Ideal.main_arg1))

def bitexact_Kernel4_Reference4 [hKernel4 : Cert.Kernel4.Facts] [hReference4 : Cert.Reference4.Facts] : Prop :=
  ∀ (m : (ℓ : Loc Cert.Kernel4.nD Cert.Kernel4.τ Cert.Kernel4.sig) → Buf (Elt Bits) ℓ) (g : Dev Cert.Kernel4.nD → PrngReg)
    (m' : (ℓ : Loc Cert.Reference4.nD Cert.Reference4.τ Cert.Reference4.sig) → Buf (Elt Bits) ℓ) (g' : Dev Cert.Reference4.nD → PrngReg), Pre_Kernel4 m →
    (∀ c : Dev Cert.Kernel4.nD,
      m ((c.tc : Thread Cert.Kernel4.nD Cert.Kernel4.τ).loc Cert.Kernel4.main_arg0) = Layout.block ⟨3, ![4, 1024, 1024]⟩ ⟨3, ![32, 1024, 1024]⟩ 0 8 c (m' (((0 : Dev Cert.Reference4.nD).tc : Thread Cert.Reference4.nD Cert.Reference4.τ).loc Cert.Reference4.main_arg0))
      ∧ m ((c.tc : Thread Cert.Kernel4.nD Cert.Kernel4.τ).loc Cert.Kernel4.main_arg1) = Layout.block ⟨3, ![4, 1024, 1024]⟩ ⟨3, ![32, 1024, 1024]⟩ 0 8 c (m' (((0 : Dev Cert.Reference4.nD).tc : Thread Cert.Reference4.nD Cert.Reference4.τ).loc Cert.Reference4.main_arg1))) →
    ∃ (v0 : Buf (Elt Bits) (((0 : Dev Cert.Reference4.nD).tc : Thread Cert.Reference4.nD Cert.Reference4.τ).loc Cert.Reference4.main_v8)) (v1 : Buf (Elt Bits) (((0 : Dev Cert.Reference4.nD).tc : Thread Cert.Reference4.nD Cert.Reference4.τ).loc Cert.Reference4.main_v17)),
      θ_run (Cert.Kernel4.defs (F := Bits)) (Cert.Kernel4.threads (F := Bits)) ⟨m, fun _ => 0, g⟩ (fun r => ∀ c : Dev Cert.Kernel4.nD,
          r.2.mem ((c.tc : Thread Cert.Kernel4.nD Cert.Kernel4.τ).loc Cert.Kernel4.main_v3_0) = Layout.block ⟨3, ![4, 512, 1024]⟩ ⟨3, ![32, 512, 1024]⟩ 0 8 c v0
          ∧ r.2.mem ((c.tc : Thread Cert.Kernel4.nD Cert.Kernel4.τ).loc Cert.Kernel4.main_v3_1) = Layout.block ⟨3, ![4, 512, 1024]⟩ ⟨3, ![32, 512, 1024]⟩ 0 8 c v1
          ∧ r.2.mem ((c.tc : Thread Cert.Kernel4.nD Cert.Kernel4.τ).loc Cert.Kernel4.main_arg0) = m ((c.tc : Thread Cert.Kernel4.nD Cert.Kernel4.τ).loc Cert.Kernel4.main_arg0)
          ∧ r.2.mem ((c.tc : Thread Cert.Kernel4.nD Cert.Kernel4.τ).loc Cert.Kernel4.main_arg1) = m ((c.tc : Thread Cert.Kernel4.nD Cert.Kernel4.τ).loc Cert.Kernel4.main_arg1))
      ∧ θ_run (Cert.Reference4.defs (F := Bits)) (onTc (τ := Cert.Reference4.τ) (Cert.Reference4.main (F := Bits))) ⟨m', fun _ => 0, g'⟩ (fun r =>
          r.2.mem (((0 : Dev Cert.Reference4.nD).tc : Thread Cert.Reference4.nD Cert.Reference4.τ).loc Cert.Reference4.main_v8) = v0
          ∧ r.2.mem (((0 : Dev Cert.Reference4.nD).tc : Thread Cert.Reference4.nD Cert.Reference4.τ).loc Cert.Reference4.main_v17) = v1
          ∧ r.2.mem (((0 : Dev Cert.Reference4.nD).tc : Thread Cert.Reference4.nD Cert.Reference4.τ).loc Cert.Reference4.main_arg0) = m' (((0 : Dev Cert.Reference4.nD).tc : Thread Cert.Reference4.nD Cert.Reference4.τ).loc Cert.Reference4.main_arg0)
          ∧ r.2.mem (((0 : Dev Cert.Reference4.nD).tc : Thread Cert.Reference4.nD Cert.Reference4.τ).loc Cert.Reference4.main_arg1) = m' (((0 : Dev Cert.Reference4.nD).tc : Thread Cert.Reference4.nD Cert.Reference4.τ).loc Cert.Reference4.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite2 (hKernel3Ideal := hKernel3Ideal) (hPre_finite2 := hPre_finite2)
    ∧ quiescent_Reference3Ideal (hReference3Ideal := hReference3Ideal)
    ∧ quiescent_Reference3Ideal_pre_finite2 (hReference3Ideal := hReference3Ideal) (hPre_finite2 := hPre_finite2)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite2 (hKernel3Ideal := hKernel3Ideal) (hReference3Ideal := hReference3Ideal) (hPre_finite2 := hPre_finite2)
    ∧ preserves_Kernel4_Kernel4Ideal
    ∧ algebraic_Kernel4Ideal_Reference4Ideal (hKernel4Ideal := hKernel4Ideal) (hReference4Ideal := hReference4Ideal)
    ∧ bitexact_Kernel4_Reference4 (hKernel4 := hKernel4) (hReference4 := hReference4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S1x16384x1024 : Shape := ⟨3, ![1, 16384, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x1024 .f32) (main_arg5 : FVec F S1x1024 .f32) (main_arg6 : FVec F S1x1024 .f32) (main_arg7 : FVec F S1x16384x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x16384x1024 .f32 := Host.absf main_arg7
  let main_cst_12 : FVec F S_ .f32 := constant S_ .f32 0x7F800000#32
  let main_v29 : FVec F S1x16384x1024 .f32 := broadcastInDim S1x16384x1024 ![] bcast_S_S1x16384x1024 main_cst_12
  let main_v30 : IVec S1x16384x1024 1 := cmpf .olt main_v28 main_v29
  let main_c_13 : IVec S_ 1 := constantI S_ 1 1#1
  let main_v31 : IVec S_ 1 := (fun x v => Host.reduce IntOp.andi x v reducesTo_S1x16384x1024_S_d0_1_2 h_S_) main_v30 main_c_13
  fn_part2 (F := F) main_v3 main_v7 main_v11 main_v15 main_v19 main_v23 main_v27 main_v31

def fn {F : FTy → Type} [FloatOps F] (main_arg0 : FVec F S1x16384x1024 .f32) (main_arg1 : FVec F S1x1024x4096 .f32) (main_arg2 : FVec F S1x4096x1024 .f32) (main_arg3 : FVec F S1x1024 .f32) (main_arg4 : FVec F S1x1024 .f32) (main_arg5 : FVec F S1x1024 .f32) (main_arg6 : FVec F S1x1024 .f32) (main_arg7 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x1024x4096 .f32 := Host.absf main_arg1
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_c_1 : IVec S_ 1 := constantI S_ 1 1#1
  let main_v7 : IVec S_ 1 := (fun x v => Host.reduce IntOp.andi x v reducesTo_S1x1024x4096_S_d0_1_2 h_S_) main_v6 main_c_1
  let main_v8 : FVec F S1x4096x1024 .f32 := Host.absf main_arg2
  let main_cst_2 : FVec F S_ .f32 := constant S_ .f32 0x7F800000#32
  let main_v9 : FVec F S1x4096x1024 .f32 := broadcastInDim S1x4096x1024 ![] bcast_S_S1x4096x1024 main_cst_2
  let main_v10 : IVec S1x4096x1024 1 := cmpf .olt main_v8 main_v9
  let main_c_3 : IVec S_ 1 := constantI S_ 1 1#1
  let main_v11 : IVec S_ 1 := (fun x v => Host.reduce IntOp.andi x v reducesTo_S1x4096x1024_S_d0_1_2 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_v3 main_v7 main_v11 main_v15
-- ==== Pre_finite2.lean ====
abbrev S1x16384x8704 : Shape := ⟨3, ![1, 16384, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x16384x1024 : Shape := ⟨3, ![1, 16384, 1024]⟩
abbrev S_ : Shape := ⟨0, ![]⟩

class Facts : Prop where
  bcast_S_S1x16384x8704 : S_.BroadcastsInDim S1x16384x8704 (![] : Fin 0 → Fin S1x16384x8704.rank)
  reducesTo_S1x16384x8704_S_d0_1_2 : S1x16384x8704.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x3x1536 : S_.BroadcastsInDim S1x3x1536 (![] : Fin 0 → Fin S1x3x1536.rank)
  reducesTo_S1x3x1536_S_d0_1_2 : S1x3x1536.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x1536x1024 : S_.BroadcastsInDim S1x1536x1024 (![] : Fin 0 → Fin S1x1536x1024.rank)
  reducesTo_S1x1536x1024_S_d0_1_2 : S1x1536x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x16384x1024 : S_.BroadcastsInDim S1x16384x1024 (![] : Fin 0 → Fin S1x16384x1024.rank)
  reducesTo_S1x16384x1024_S_d0_1_2 : S1x16384x1024.ReducesTo [0, 1, 2] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1x1024x1024 .f32) (main_arg9 : FVec F S1x1024x1024 .f32) (main_arg10 : FVec F S1x16384x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024x1024 .f32 := Host.absf main_arg8
  let main_cst_14 : FVec F S_ .f32 := constant S_ .f32 0x7F800000#32
  let main_v33 : FVec F S1x1024x1024 .f32 := broadcastInDim S1x1024x1024 ![] bcast_S_S1x1024x1024 main_cst_14
  let main_v34 : IVec S1x1024x1024 1 := cmpf .olt main_v32 main_v33
  let main_c_15 : IVec S_ 1 := constantI S_ 1 1#1
  let main_v35 : IVec S_ 1 := (fun x v => Host.reduce IntOp.andi x v reducesTo_S1x1024x1024_S_d0_1_2 h_S_) main_v34 main_c_15
  let main_v36 : FVec F S1x1024x1024 .f32 := Host.absf main_arg9
  let main_cst_16 : FVec F S_ .f32 := constant S_ .f32 0x7F800000#32
  let main_v37 : FVec F S1x1024x1024 .f32 := broadcastInDim S1x1024x1024 ![] bcast_S_S1x1024x1024 main_cst_16
  let main_v38 : IVec S1x1024x1024 1 := cmpf .olt main_v36 main_v37
  let main_c_17 : IVec S_ 1 := constantI S_ 1 1#1
  let main_v39 : IVec S_ 1 := (fun x v => Host.reduce IntOp.andi x v reducesTo_S1x1024x1024_S_d0_1_2 h_S_) main_v38 main_c_17
  let main_v40 : FVec F S1x16384x1024 .f32 := Host.absf main_arg10
  let main_cst_18 : FVec F S_ .f32 := constant S_ .f32 0x7F800000#32
  let main_v41 : FVec F S1x16384x1024 .f32 := broadcastInDim S1x16384x1024 ![] bcast_S_S1x16384x1024 main_cst_18
  let main_v42 : IVec S1x16384x1024 1 := cmpf .olt main_v40 main_v41
  let main_c_19 : IVec S_ 1 := constantI S_ 1 1#1
  let main_v43 : IVec S_ 1 := (fun x v => Host.reduce IntOp.andi x v reducesTo_S1x16384x1024_S_d0_1_2 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x8x128x128 .f32) (main_arg6 : FVec F S1x8x128 .f32) (main_arg7 : FVec F S1x1536x1024 .f32) (main_arg8 : FVec F S1x1024x1024 .f32) (main_arg9 : FVec F S1x1024x1024 .f32) (main_arg10 : FVec F S1x16384x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x8x128x128 .f32 := Host.absf main_arg5
  let main_cst_8 : FVec F S_ .f32 := constant S_ .f32 0x7F800000#32
  let main_v21 : FVec F S1x8x128x128 .f32 := broadcastInDim S1x8x128x128 ![] bcast_S_S1x8x128x128 main_cst_8
  let main_v22 : IVec S1x8x128x128 1 := cmpf .olt main_v20 main_v21
  let main_c_9 : IVec S_ 1 := constantI S_ 1 1#1
  let main_v23 : IVec S_ 1 := (fun x v => Host.reduce IntOp.andi x v reducesTo_S1x8x128x128_S_d0_1_2_3 h_S_) main_v22 main_c_9
  let main_v24 : FVec F S1x8x128 .f32 := Host.absf main_arg6
  let main_cst_10 : FVec F S_ .f32 := constant S_ .f32 0x7F800000#32
  let main_v25 : FVec F S1x8x128 .f32 := broadcastInDim S1x8x128 ![] bcast_S_S1x8x128 main_cst_10
  let main_v26 : IVec S1x8x128 1 := cmpf .olt main_v24 main_v25
  let main_c_11 : IVec S_ 1 := constantI S_ 1 1#1
  let main_v27 : IVec S_ 1 := (fun x v => Host.reduce IntOp.andi x v reducesTo_S1x8x128_S_d0_1_2 h_S_) main_v26 main_c_11
  let main_v28 : FVec F S1x1536x1024 .f32 := Host.absf main_arg7
  let main_cst_12 : FVec F S_ .f32 := constant S_ .f32 0x7F800000#32
  let main_v29 : FVec F S1x1536x1024 .f32 := broadcastInDim S1x1536x1024 ![] bcast_S_S1x1536x1024 main_cst_12
  let main_v30 : IVec S1x1536x1024 1 := cmpf .olt main_v28 main_v29
  let main_c_13 : IVec S_ 1 := constantI S_ 1 1#1
  let main_v31 : IVec S_ 1 := (fun x v => Host.reduce IntOp.andi x v reducesTo_S1x1536x1024_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S1x16384x8704 .f32) (main_arg1 : FVec F S1x2048 .f32) (main_arg2 : FVec F S1x3x1536 .f32) (main_arg3 : FVec F S1x1024 .f32) (main_arg4 : FVec F S1x1024 .f32) (main_arg5 : FVec F S1x8x128x128 .f32) (main_arg6 : FVec F S1x8x128 .f32) (main_arg7 : FVec F S1x1536x1024 .f32) (main_arg8 : FVec F S1x1024x1024 .f32) (main_arg9 : FVec F S1x1024x1024 .f32) (main_arg10 : FVec F S1x16384x1024 .f32) : IVec S_ 1 :=
  let main_v0 : FVec F S1x16384x8704 .f32 := Host.absf main_arg0
  let main_cst : FVec F S_ .f32 := constant S_ .f32 0x7F800000#32
  let main_v1 : FVec F S1x16384x8704 .f32 := broadcastInDim S1x16384x8704 ![] bcast_S_S1x16384x8704 main_cst
  let main_v2 : IVec S1x16384x8704 1 := cmpf .olt main_v0 main_v1
  let main_c : IVec S_ 1 := constantI S_ 1 1#1
  let main_v3 : IVec S_ 1 := (fun x v => Host.reduce IntOp.andi x v reducesTo_S1x16384x8704_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S1x3x1536 .f32 := Host.absf main_arg2
  let main_cst_2 : FVec F S_ .f32 := constant S_ .f32 0x7F800000#32
  let main_v9 : FVec F S1x3x1536 .f32 := broadcastInDim S1x3x1536 ![] bcast_S_S1x3x1536 main_cst_2
  let main_v10 : IVec S1x3x1536 1 := cmpf .olt main_v8 main_v9
  let main_c_3 : IVec S_ 1 := constantI S_ 1 1#1
  let main_v11 : IVec S_ 1 := (fun x v => Host.reduce IntOp.andi x v reducesTo_S1x3x1536_S_d0_1_2 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_arg10 main_v3 main_v7 main_v11 main_v15
-- ==== Kernel.lean ====
abbrev S1x16384x1024 : Shape := ⟨3, ![1, 16384, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S16384x1024 : Shape := ⟨2, ![16384, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S64x16x1024 : Shape := ⟨3, ![64, 16, 1024]⟩
abbrev S16384x4096 : Shape := ⟨2, ![16384, 4096]⟩
abbrev S8x1024 : Shape := ⟨2, ![8, 1024]⟩
abbrev S256x1024 : Shape := ⟨2, ![256, 1024]⟩
abbrev S1x16x1024 : Shape := ⟨3, ![1, 16, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1024 : Shape := ⟨1, ![1024]⟩
abbrev S1x8x1024 : Shape := ⟨3, ![1, 8, 1024]⟩

abbrev nBuf : Space → Nat
  | .hbm => 24
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x16384x1024, .f32⟩
  | .hbm, ⟨8, _⟩ => ⟨S16384x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4096x1024, .f32⟩
  | .hbm, ⟨14, _⟩ => ⟨S4096x1024, .bf16⟩
  | .hbm, ⟨15, _⟩ => ⟨S16384x1024, .f32⟩
  | .hbm, ⟨16, _⟩ => ⟨S16384x1024, .f32⟩
  | .hbm, ⟨17, _⟩ => ⟨S16384x1024, .bf16⟩
  | .hbm, ⟨18, _⟩ => ⟨S64x16x1024, .f32⟩
  | .hbm, ⟨19, _⟩ => ⟨S16384x1024, .bf16⟩
  | .hbm, ⟨20, _⟩ => ⟨S16384x4096, .bf16⟩
  | .hbm, ⟨21, _⟩ => ⟨S16384x4096, .bf16⟩
  | .hbm, ⟨22, _⟩ => ⟨S16384x1024, .bf16⟩
  | .hbm, ⟨23, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024x1024, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x16x1024, .f32⟩
  | .local _ .vmem, ⟨15, _⟩ => ⟨S1x16x1024, .f32⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | .local _ .vmem, ⟨25, _⟩ => ⟨S256x4096, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1x16384x1024 : Shape := ⟨3, ![1, 16384, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4096 : Shape := ⟨3, ![1, 16384, 4096]⟩
abbrev S4096x1024 : Shape := ⟨2, ![4096, 1024]⟩
abbrev S16384 : Shape := ⟨1, ![16384]⟩
abbrev S64x256x1024 : Shape := ⟨3, ![64, 256, 1024]⟩
abbrev S64x8x1024 : Shape := ⟨3, ![64, 8, 1024]⟩
abbrev S64x16x1024 : Shape := ⟨3, ![64, 16, 1024]⟩
abbrev S3x1024 : Shape := ⟨2, ![3, 1024]⟩
abbrev S8x1024 : Shape := ⟨2, ![8, 1024]⟩
abbrev S16384x1024 : Shape := ⟨2, ![16384, 1024]⟩
abbrev S16384x4096 : Shape := ⟨2, ![16384, 4096]⟩

abbrev nBuf : Space → Nat
  | .hbm => 254
  | .vmem => 0
  | .smem => 0
  | _ => 0

abbrev hbmTy0_0 (i : Nat) : BufTy := match i % 128 with
  | 0 => ⟨S1x16384x1024, .f32⟩
  | 1 => ⟨S1x1024x4096, .f32⟩
  | 2 => ⟨S1x4096x1024, .f32⟩
  | 3 => ⟨S1x1024, .f32⟩
  | 4 => ⟨S1x1024, .f32⟩
  | 5 => ⟨S1x1024, .f32⟩
  | 6 => ⟨S1x1024, .f32⟩
  | 7 => ⟨S1x16384x1024, .f32⟩
  | 8 => ⟨S1024, .f32⟩
  | 9 => ⟨S1024, .f32⟩
  | 10 => ⟨S1024x4096, .f32⟩
  | 11 => ⟨S_, .f32⟩
  | 12 => ⟨S1x16384, .f32⟩
  | 13 => ⟨S1x16384x1, .f32⟩
  | 14 => ⟨S_, .f32⟩
  | 15 => ⟨S1x16384x1, .f32⟩
  | 16 => ⟨S1x16384x1, .f32⟩
  | 17 => ⟨S1x16384x1024, .f32⟩
  | 18 => ⟨S1x16384x1024, .f32⟩
  | 19 => ⟨S1x16384x1024, .f32⟩
  | 20 => ⟨S_, .f32⟩
  | 21 => ⟨S1x16384x1024, .f32⟩
  | 22 => ⟨S1x16384x1024, .f32⟩
  | 23 => ⟨S_, .f32⟩
  | 24 => ⟨S1x16384, .f32⟩
  | 25 => ⟨S1x16384x1, .f32⟩
  | 26 => ⟨S_, .f32⟩
  | 27 => ⟨S1x16384x1, .f32⟩
  | 28 => ⟨S1x16384x1, .f32⟩
  | 29 => ⟨S1x16384x1024, .f32⟩
  | 30 => ⟨S1x16384x1024, .f32⟩
  | 31 => ⟨S_, .f32⟩
  | 32 => ⟨S1x16384x1, .f32⟩
  | 33 => ⟨S1x16384x1, .f32⟩
  | 34 => ⟨S1x16384x1, .f32⟩
  | 35 => ⟨S1x16384x1, .f32⟩
  | 36 => ⟨S_, .f32⟩
  | 37 => ⟨S1x16384x1, .f32⟩
  | 38 => ⟨S1x16384x1, .f32⟩
  | 39 => ⟨S1x16384x1024, .f32⟩
  | 40 => ⟨S1x16384x1024, .f32⟩
  | 41 => ⟨S1x1x1024, .f32⟩
  | 42 => ⟨S1x16384x1024, .f32⟩
  | 43 => ⟨S1x16384x1024, .f32⟩
  | 44 => ⟨S1x1x1024, .f32⟩
  | 45 => ⟨S1x16384x1024, .f32⟩
  | 46 => ⟨S1x16384x1024, .f32⟩
  | 47 => ⟨S1x16384x4096, .f32⟩
  | 48 => ⟨S_, .f32⟩
  | 49 => ⟨S1x16384x4096, .f32⟩
  | 50 => ⟨S1x16384x4096, .f32⟩
  | 51 => ⟨S_, .f32⟩
  | 52 => ⟨S1x16384x4096, .f32⟩
  | 53 => ⟨S1x16384x4096, .i1⟩
  | 54 => ⟨S_, .f32⟩
  | 55 => ⟨S1x16384x4096, .f32⟩
  | 56 => ⟨S1x16384x4096, .f32⟩
  | 57 => ⟨S_, .f32⟩
  | 58 => ⟨S1x16384x4096, .f32⟩
  | 59 => ⟨S1x16384x4096, .f32⟩
  | 60 => ⟨S4096x1024, .f32⟩
  | 61 => ⟨S1x16384x1024, .f32⟩
  | 62 => ⟨S_, .f32⟩
  | 63 => ⟨S1x16384x1024, .f32⟩
  | 64 => ⟨S1x16384x1024, .f32⟩
  | 65 => ⟨S1x16384x1024, .f32⟩
  | 66 => ⟨S1024, .f32⟩
  | 67 => ⟨S1024, .f32⟩
  | 68 => ⟨S_, .f32⟩
  | 69 => ⟨S1x16384, .f32⟩
  | 70 => ⟨S1x16384x1, .f32⟩
  | 71 => ⟨S_, .f32⟩
  | 72 => ⟨S1x16384x1, .f32⟩
  | 73 => ⟨S1x16384x1, .f32⟩
  | 74 => ⟨S1x16384x1024, .f32⟩
  | 75 => ⟨S1x16384x1024, .f32⟩
  | 76 => ⟨S1x16384x1024, .f32⟩
  | 77 => ⟨S_, .f32⟩
  | 78 => ⟨S1x16384x1024, .f32⟩
  | 79 => ⟨S1x16384x1024, .f32⟩
  | 80 => ⟨S_, .f32⟩
  | 81 => ⟨S1x16384, .f32⟩
  | 82 => ⟨S1x16384x1, .f32⟩
  | 83 => ⟨S_, .f32⟩
  | 84 => ⟨S1x16384x1, .f32⟩
  | 85 => ⟨S1x16384x1, .f32⟩
  | 86 => ⟨S1x16384x1024, .f32⟩
  | 87 => ⟨S1x16384x1024, .f32⟩
  | 88 => ⟨S_, .f32⟩
  | 89 => ⟨S1x16384x1, .f32⟩
  | 90 => ⟨S1x16384x1, .f32⟩
  | 91 => ⟨S1x16384x1, .f32⟩
  | 92 => ⟨S1x16384x1, .f32⟩
  | 93 => ⟨S_, .f32⟩
  | 94 => ⟨S1x16384x1, .f32⟩
  | 95 => ⟨S1x16384x1, .f32⟩
  | 96 => ⟨S1x16384x1024, .f32⟩
  | 97 => ⟨S1x16384x1024, .f32⟩
  | 98 => ⟨S1x1x1024, .f32⟩
  | 99 => ⟨S1x16384x1024, .f32⟩
  | 100 => ⟨S1x16384x1024, .f32⟩
  | 101 => ⟨S1x1x1024, .f32⟩
  | 102 => ⟨S1x16384x1024, .f32⟩
  | 103 => ⟨S1x16384x1024, .f32⟩
  | 104 => ⟨S1x16384x1024, .f32⟩
  | 105 => ⟨S1x16384x1024, .f32⟩
  | 106 => ⟨S_, .f32⟩
  | 107 => ⟨S1x16384x1024, .f32⟩
  | 108 => ⟨S1x16384x1024, .f32⟩
  | 109 => ⟨S_, .f32⟩
  | 110 => ⟨S1x16384, .f32⟩
  | 111 => ⟨S_, .f32⟩
  | 112 => ⟨S1x16384, .f32⟩
  | 113 => ⟨S1x16384, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1x16384, .f32⟩
  | 122 => ⟨S_, .f32⟩
  | 123 => ⟨S1x16384, .f32⟩
  | 124 => ⟨S1x16384, .f32⟩
  | 125 => ⟨S1x16384x1024, .f32⟩
  | 126 => ⟨S1x16384x1024, .f32⟩
  | 127 => ⟨S_, .f32⟩
  | _ => ⟨S1x16384x1024, .f32⟩

abbrev hbmTy0_1 (i : Nat) : BufTy := match i % 128 with
  | 0 => ⟨S1x1024, .f32⟩
  | 1 => ⟨S1x1x1024, .f32⟩
  | 2 => ⟨S_, .f32⟩
  | 3 => ⟨S1024, .f32⟩
  | 4 => ⟨S1x16384x1024, .f32⟩
  | 5 => ⟨S_, .f32⟩
  | 6 => ⟨S1x1024, .f32⟩
  | 7 => ⟨S1x1x1024, .f32⟩
  | 8 => ⟨S1x16384x1024, .f32⟩
  | 9 => ⟨S1x16384x1024, .f32⟩
  | 10 => ⟨S_, .f32⟩
  | 11 => ⟨S1024, .f32⟩
  | 12 => ⟨S1x16384x1024, .f32⟩
  | 13 => ⟨S_, .f32⟩
  | 14 => ⟨S1x16384, .f32⟩
  | 15 => ⟨S1x16384x1, .f32⟩
  | 16 => ⟨S1x16384x1024, .f32⟩
  | 17 => ⟨S1x16384x1024, .f32⟩
  | 18 => ⟨S1x16384x1, .f32⟩
  | 19 => ⟨S1x16384x1024, .f32⟩
  | 20 => ⟨S_, .f32⟩
  | 21 => ⟨S1x16384, .f32⟩
  | 22 => ⟨S1x16384x1, .f32⟩
  | 23 => ⟨S_, .f32⟩
  | 24 => ⟨S1x16384x1, .f32⟩
  | 25 => ⟨S1x16384x1, .f32⟩
  | 26 => ⟨S_, .f32⟩
  | 27 => ⟨S16384, .f32⟩
  | 28 => ⟨S1x16384, .f32⟩
  | 29 => ⟨S1x16384x1024, .f32⟩
  | 30 => ⟨S1x16384x1024, .f32⟩
  | 31 => ⟨S1x16384x1024, .f32⟩
  | 32 => ⟨S_, .f32⟩
  | 33 => ⟨S1x16384, .f32⟩
  | 34 => ⟨S1x16384x1, .f32⟩
  | 35 => ⟨S1x16384x1024, .f32⟩
  | 36 => ⟨S1x16384x1, .f32⟩
  | 37 => ⟨S_, .f32⟩
  | 38 => ⟨S1x16384x1, .f32⟩
  | 39 => ⟨S1x16384x1, .f32⟩
  | 40 => ⟨S_, .f32⟩
  | 41 => ⟨S16384, .f32⟩
  | 42 => ⟨S1x16384, .f32⟩
  | 43 => ⟨S1x16384x1024, .f32⟩
  | 44 => ⟨S1x16384x1024, .f32⟩
  | 45 => ⟨S_, .f32⟩
  | 46 => ⟨S1x16384x1024, .f32⟩
  | 47 => ⟨S1x16384x1024, .f32⟩
  | 48 => ⟨S1x16384x4096, .f32⟩
  | 49 => ⟨S1x16384x4096, .f32⟩
  | 50 => ⟨S_, .f32⟩
  | 51 => ⟨S1x16384x4096, .f32⟩
  | 52 => ⟨S1x16384x4096, .f32⟩
  | 53 => ⟨S1x16384x1024, .f32⟩
  | 54 => ⟨S1x16384x1024, .f32⟩
  | 55 => ⟨S_, .f32⟩
  | 56 => ⟨S1x1024, .f32⟩
  | 57 => ⟨S1x1x1024, .f32⟩
  | 58 => ⟨S_, .f32⟩
  | 59 => ⟨S1024, .f32⟩
  | 60 => ⟨S1x16384x1024, .f32⟩
  | 61 => ⟨S_, .f32⟩
  | 62 => ⟨S1x1024, .f32⟩
  | 63 => ⟨S1x1x1024, .f32⟩
  | 64 => ⟨S1x16384x1024, .f32⟩
  | 65 => ⟨S1x16384x1024, .f32⟩
  | 66 => ⟨S_, .f32⟩
  | 67 => ⟨S1024, .f32⟩
  | 68 => ⟨S1x16384x1024, .f32⟩
  | 69 => ⟨S_, .f32⟩
  | 70 => ⟨S1x16384, .f32⟩
  | 71 => ⟨S1x16384x1, .f32⟩
  | 72 => ⟨S1x16384x1024, .f32⟩
  | 73 => ⟨S1x16384x1024, .f32⟩
  | 74 => ⟨S1x16384x1, .f32⟩
  | 75 => ⟨S1x16384x1024, .f32⟩
  | 76 => ⟨S_, .f32⟩
  | 77 => ⟨S1x16384, .f32⟩
  | 78 => ⟨S1x16384x1, .f32⟩
  | 79 => ⟨S_, .f32⟩
  | 80 => ⟨S1x16384x1, .f32⟩
  | 81 => ⟨S1x16384x1, .f32⟩
  | 82 => ⟨S_, .f32⟩
  | 83 => ⟨S16384, .f32⟩
  | 84 => ⟨S1x16384, .f32⟩
  | 85 => ⟨S1x16384x1024, .f32⟩
  | 86 => ⟨S1x16384x1024, .f32⟩
  | 87 => ⟨S1x16384x1024, .f32⟩
  | 88 => ⟨S_, .f32⟩
  | 89 => ⟨S1x16384, .f32⟩
  | 90 => ⟨S1x16384x1, .f32⟩
  | 91 => ⟨S1x16384x1024, .f32⟩
  | 92 => ⟨S1x16384x1, .f32⟩
  | 93 => ⟨S_, .f32⟩
  | 94 => ⟨S1x16384x1, .f32⟩
  | 95 => ⟨S1x16384x1, .f32⟩
  | 96 => ⟨S_, .f32⟩
  | 97 => ⟨S16384, .f32⟩
  | 98 => ⟨S1x16384, .f32⟩
  | 99 => ⟨S1x16384x1024, .f32⟩
  | 100 => ⟨S1x16384x1024, .f32⟩
  | 101 => ⟨S64x256x1024, .f32⟩
  | 102 => ⟨S64x8x1024, .f32⟩
  | 103 => ⟨S64x8x1024, .f32⟩
  | 104 => ⟨S64x16x1024, .f32⟩
  | 105 => ⟨S1x1024, .f32⟩
  | 106 => ⟨S1x1024, .f32⟩
  | 107 => ⟨S1x1024, .f32⟩
  | 108 => ⟨S1x1024, .f32⟩
  | 109 => ⟨S_, .f32⟩
  | 110 => ⟨S1024, .f32⟩
  | 111 => ⟨S1x1024, .f32⟩
  | 112 => ⟨S_, .f32⟩
  | 113 => ⟨S3x1024, .f32⟩
  | 114 => ⟨S8x1024, .f32⟩
  | 115 => ⟨S16384x1024, .f32⟩
  | 116 => ⟨S16384x1024, .f32⟩
  | 117 => ⟨S16384x1024, .bf16⟩
  | 118 => ⟨S16384x1024, .f32⟩
  | 119 => ⟨S16384x1024, .bf16⟩
  | 120 => ⟨S16384x4096, .f32⟩
  | 121 => ⟨S16384x4096, .bf16⟩
  | 122 => ⟨S16384x4096, .f32⟩
  | 123 => ⟨S16384x4096, .bf16⟩
  | 124 => ⟨S16384x1024, .f32⟩
  | 125 => ⟨S16384x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_cst_22 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_cst_27 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_28 : Ref sig .tc := ⟨.hbm, 138, rfl⟩
abbrev main_v99 : Ref sig .tc := ⟨.hbm, 139, rfl⟩
abbrev main_v100 : Ref sig .tc := ⟨.hbm, 140, rfl⟩
abbrev main_cst_29 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_30 : Ref sig .tc := ⟨.hbm, 148, rfl⟩
abbrev main_v107 : Ref sig .tc := ⟨.hbm, 149, rfl⟩
abbrev main_v108 : Ref sig .tc := ⟨.hbm, 150, rfl⟩
abbrev main_cst_31 : Ref sig .tc := ⟨.hbm, 151, rfl⟩
abbrev main_v109 : Ref sig .tc := ⟨.hbm, 152, rfl⟩
abbrev main_v110 : Ref sig .tc := ⟨.hbm, 153, rfl⟩
abbrev main_cst_32 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_33 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_34 : Ref sig .tc := ⟨.hbm, 165, rfl⟩
abbrev main_v120 : Ref sig .tc := ⟨.hbm, 166, rfl⟩
abbrev main_v121 : Ref sig .tc := ⟨.hbm, 167, rfl⟩
abbrev main_cst_35 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_36 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_37 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_38 : Ref sig .tc := ⟨.hbm, 183, rfl⟩
abbrev main_v134 : Ref sig .tc := ⟨.hbm, 184, rfl⟩
abbrev main_v135 : Ref sig .tc := ⟨.hbm, 185, rfl⟩
abbrev main_cst_39 : Ref sig .tc := ⟨.hbm, 186, rfl⟩
abbrev main_v136 : Ref sig .tc := ⟨.hbm, 187, rfl⟩
abbrev main_v137 : Ref sig .tc := ⟨.hbm, 188, rfl⟩
abbrev main_cst_40 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_41 : Ref sig .tc := ⟨.hbm, 194, rfl⟩
abbrev main_v142 : Ref sig .tc := ⟨.hbm, 195, rfl⟩
abbrev main_v143 : Ref sig .tc := ⟨.hbm, 196, rfl⟩
abbrev main_cst_42 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_43 : Ref sig .tc := ⟨.hbm, 204, rfl⟩
abbrev main_v150 : Ref sig .tc := ⟨.hbm, 205, rfl⟩
abbrev main_v151 : Ref sig .tc := ⟨.hbm, 206, rfl⟩
abbrev main_cst_44 : Ref sig .tc := ⟨.hbm, 207, rfl⟩
abbrev main_v152 : Ref sig .tc := ⟨.hbm, 208, rfl⟩
abbrev main_v153 : Ref sig .tc := ⟨.hbm, 209, rfl⟩
abbrev main_cst_45 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_46 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_47 : Ref sig .tc := ⟨.hbm, 221, rfl⟩
abbrev main_v163 : Ref sig .tc := ⟨.hbm, 222, rfl⟩
abbrev main_v164 : Ref sig .tc := ⟨.hbm, 223, rfl⟩
abbrev main_cst_48 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_49 : Ref sig .tc := ⟨.hbm, 237, rfl⟩
abbrev main_v177 : Ref sig .tc := ⟨.hbm, 238, rfl⟩
abbrev main_v178 : Ref sig .tc := ⟨.hbm, 239, rfl⟩
abbrev main_cst_50 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩

abbrev nD : Nat := 1
abbrev τ : Topo := Topo.v7x

variable {F : FTy → Type} [FloatOps F]
-- ==== Kernel2.lean ====
abbrev S1x16384x8704 : Shape := ⟨3, ![1, 16384, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x16384x1024 : Shape := ⟨3, ![1, 16384, 1024]⟩
abbrev S1536x1024 : Shape := ⟨2, ![1536, 1024]⟩
abbrev S1024x1024 : Shape := ⟨2, ![1024, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S128x8x1 : Shape := ⟨3, ![128, 8, 1]⟩
abbrev S1x16384x1536 : Shape := ⟨3, ![1, 16384, 1536]⟩
abbrev S1x16384x2048 : Shape := ⟨3, ![1, 16384, 2048]⟩
abbrev S2048 : Shape := ⟨1, ![2048]⟩
abbrev S1x1x2048 : Shape := ⟨3, ![1, 1, 2048]⟩
abbrev S_ : Shape := ⟨0, ![]⟩
abbrev S3x1536 : Shape := ⟨2, ![3, 1536]⟩
abbrev S1x1x1536 : Shape := ⟨3, ![1, 1, 1536]⟩
abbrev S1x16386x1536 : Shape := ⟨3, ![1, 16386, 1536]⟩
abbrev S1x1536 : Shape := ⟨2, ![1, 1536]⟩
abbrev S1536 : Shape := ⟨1, ![1536]⟩
abbrev S1024 : Shape := ⟨1, ![1024]⟩
abbrev S1x16384 : Shape := ⟨2, ![1, 16384]⟩
abbrev S1x16384x1 : Shape := ⟨3, ![1, 16384, 1]⟩
abbrev S1x1x1024 : Shape := ⟨3, ![1, 1, 1024]⟩
abbrev S1x128x128x8x128 : Shape := ⟨5, ![1, 128, 128, 8, 128]⟩
abbrev S8x1x128x128x128 : Shape := ⟨5, ![8, 1, 128, 128, 128]⟩
abbrev S1x1x128x8x128 : Shape := ⟨5, ![1, 1, 128, 8, 128]⟩
abbrev S16384x8704 : Shape := ⟨2, ![16384, 8704]⟩
abbrev S16384x1024 : Shape := ⟨2, ![16384, 1024]⟩
abbrev S64x256x8704 : Shape := ⟨3, ![64, 256, 8704]⟩
abbrev S64x8x8704 : Shape := ⟨3, ![64, 8, 8704]⟩
abbrev S64x16x8704 : Shape := ⟨3, ![64, 16, 8704]⟩
abbrev S64x256x1024 : Shape := ⟨3, ![64, 256, 1024]⟩
abbrev S64x8x1024 : Shape := ⟨3, ![64, 8, 1024]⟩
abbrev S64x16x1024 : Shape := ⟨3, ![64, 16, 1024]⟩
abbrev S16384x1536 : Shape := ⟨2, ![16384, 1536]⟩
abbrev S8x2048 : Shape := ⟨2, ![8, 2048]⟩
abbrev S8x1536 : Shape := ⟨2, ![8, 1536]⟩
abbrev S8x1024 : Shape := ⟨2, ![8, 1024]⟩
abbrev S256x8704 : Shape := ⟨2, ![256, 8704]⟩
abbrev S1x8x8704 : Shape := ⟨3, ![1, 8, 8704]⟩
abbrev S256x1024 : Shape := ⟨2, ![256, 1024]⟩
abbrev S1x8x1024 : Shape := ⟨3, ![1, 8, 1024]⟩
abbrev S256x1536 : Shape := ⟨2, ![256, 1536]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S272x1024 : Shape := ⟨2, ![272, 1024]⟩
abbrev S272x1536 : Shape := ⟨2, ![272, 1536]⟩
abbrev S1x8x1536 : Shape := ⟨3, ![1, 8, 1536]⟩

abbrev nBuf : Space → Nat
  | .hbm => 180
  | .vmem => 46
  | .smem => 0
  | _ => 0

abbrev hbmTy0_0 (i : Nat) : BufTy := match i % 128 with
  | 0 => ⟨S1x16384x8704, .f32⟩
  | 1 => ⟨S1x2048, .f32⟩
  | 2 => ⟨S1x3x1536, .f32⟩
  | 3 => ⟨S1x1024, .f32⟩
  | 4 => ⟨S1x1024, .f32⟩
  | 5 => ⟨S1x8x128x128, .f32⟩
  | 6 => ⟨S1x8x128, .f32⟩
  | 7 => ⟨S1x1536x1024, .f32⟩
  | 8 => ⟨S1x1024x1024, .f32⟩
  | 9 => ⟨S1x1024x1024, .f32⟩
  | 10 => ⟨S1x16384x1024, .f32⟩
  | 11 => ⟨S1536x1024, .f32⟩
  | 12 => ⟨S1536x1024, .bf16⟩
  | 13 => ⟨S1024x1024, .f32⟩
  | 14 => ⟨S1024x1024, .bf16⟩
  | 15 => ⟨S1024x1024, .f32⟩
  | 16 => ⟨S1024x1024, .bf16⟩
  | 17 => ⟨S8x128x128, .f32⟩
  | 18 => ⟨S8x128x128, .bf16⟩
  | 19 => ⟨S8x128, .f32⟩
  | 20 => ⟨S128x8, .f32⟩
  | 21 => ⟨S128x8x128, .f32⟩
  | 22 => ⟨S128x1024, .f32⟩
  | 23 => ⟨S8x128, .f32⟩
  | 24 => ⟨S128x8, .f32⟩
  | 25 => ⟨S128x8x1, .f32⟩
  | 26 => ⟨S128x8x128, .f32⟩
  | 27 => ⟨S1x16384x1536, .f32⟩
  | 28 => ⟨S1x16384x1536, .f32⟩
  | 29 => ⟨S1x16384x1536, .f32⟩
  | 30 => ⟨S1x16384x1024, .f32⟩
  | 31 => ⟨S1x16384x1024, .f32⟩
  | 32 => ⟨S1x16384x2048, .f32⟩
  | 33 => ⟨S2048, .f32⟩
  | 34 => ⟨S1x1x2048, .f32⟩
  | 35 => ⟨S1x16384x2048, .f32⟩
  | 36 => ⟨S1x16384x2048, .f32⟩
  | 37 => ⟨S1x16384x2048, .f32⟩
  | 38 => ⟨S1x16384x2048, .f32⟩
  | 39 => ⟨S_, .f32⟩
  | 40 => ⟨S1x16384x2048, .f32⟩
  | 41 => ⟨S1x16384x2048, .f32⟩
  | 42 => ⟨S_, .f32⟩
  | 43 => ⟨S1x16384x2048, .f32⟩
  | 44 => ⟨S1x16384x2048, .f32⟩
  | 45 => ⟨S1x16384x1024, .f32⟩
  | 46 => ⟨S1x16384x1024, .f32⟩
  | 47 => ⟨S1x16384x1536, .f32⟩
  | 48 => ⟨S3x1536, .f32⟩
  | 49 => ⟨S1x1x1536, .f32⟩
  | 50 => ⟨S_, .f32⟩
  | 51 => ⟨S1x1x1536, .f32⟩
  | 52 => ⟨S1x16386x1536, .f32⟩
  | 53 => ⟨S1x16384x1536, .f32⟩
  | 54 => ⟨S1x1536, .f32⟩
  | 55 => ⟨S1536, .f32⟩
  | 56 => ⟨S1x1x1536, .f32⟩
  | 57 => ⟨S1x16384x1536, .f32⟩
  | 58 => ⟨S1x16384x1536, .f32⟩
  | 59 => ⟨S1x16384x1536, .f32⟩
  | 60 => ⟨S1x1536, .f32⟩
  | 61 => ⟨S1536, .f32⟩
  | 62 => ⟨S1x1x1536, .f32⟩
  | 63 => ⟨S1x16384x1536, .f32⟩
  | 64 => ⟨S1x16384x1536, .f32⟩
  | 65 => ⟨S1x16384x1536, .f32⟩
  | 66 => ⟨S1x16384x1536, .f32⟩
  | 67 => ⟨S1x1536, .f32⟩
  | 68 => ⟨S1536, .f32⟩
  | 69 => ⟨S1x1x1536, .f32⟩
  | 70 => ⟨S1x16384x1536, .f32⟩
  | 71 => ⟨S1x16384x1536, .f32⟩
  | 72 => ⟨S1x16384x1536, .f32⟩
  | 73 => ⟨S1x16384x1536, .f32⟩
  | 74 => ⟨S_, .f32⟩
  | 75 => ⟨S_, .f32⟩
  | 76 => ⟨S_, .f32⟩
  | 77 => ⟨S1x16384x1024, .f32⟩
  | 78 => ⟨S1x16384x1024, .f32⟩
  | 79 => ⟨S1x16384x1024, .f32⟩
  | 80 => ⟨S1x16384x1024, .f32⟩
  | 81 => ⟨S1x16384x1024, .f32⟩
  | 82 => ⟨S_, .f32⟩
  | 83 => ⟨S1x16384x1024, .f32⟩
  | 84 => ⟨S1x16384x1024, .f32⟩
  | 85 => ⟨S1x16384x1024, .f32⟩
  | 86 => ⟨S_, .f32⟩
  | 87 => ⟨S1x16384x1024, .f32⟩
  | 88 => ⟨S1x16384x1024, .f32⟩
  | 89 => ⟨S_, .f32⟩
  | 90 => ⟨S1x16384x1024, .f32⟩
  | 91 => ⟨S1x16384x1024, .f32⟩
  | 92 => ⟨S1x16384x1024, .f32⟩
  | 93 => ⟨S_, .f32⟩
  | 94 => ⟨S_, .f32⟩
  | 95 => ⟨S_, .f32⟩
  | 96 => ⟨S1x16384x1024, .f32⟩
  | 97 => ⟨S1x16384x1024, .f32⟩
  | 98 => ⟨S1x16384x1024, .f32⟩
  | 99 => ⟨S1x16384x1024, .f32⟩
  | 100 => ⟨S1x16384x1024, .f32⟩
  | 101 => ⟨S_, .f32⟩
  | 102 => ⟨S1x16384x1024, .f32⟩
  | 103 => ⟨S1x16384x1024, .f32⟩
  | 104 => ⟨S1x16384x1024, .f32⟩
  | 105 => ⟨S_, .f32⟩
  | 106 => ⟨S1x16384x1024, .f32⟩
  | 107 => ⟨S1x16384x1024, .f32⟩
  | 108 => ⟨S_, .f32⟩
  | 109 => ⟨S1x16384x1024, .f32⟩
  | 110 => ⟨S1x16384x1024, .f32⟩
  | 111 => ⟨S1x16384x1024, .f32⟩
  | 112 => ⟨S1024, .f32⟩
  | 113 => ⟨S1024, .f32⟩
  | 114 => ⟨S8x128x128, .f32⟩
  | 115 => ⟨S_, .f32⟩
  | 116 => ⟨S1x16384, .f32⟩
  | 117 => ⟨S1x16384x1, .f32⟩
  | 118 => ⟨S_, .f32⟩
  | 119 => ⟨S1x16384x1, .f32⟩
  | 120 => ⟨S1x16384x1, .f32⟩
  | 121 => ⟨S1x16384x1024, .f32⟩
  | 122 => ⟨S1x16384x1024, .f32⟩
  | 123 => ⟨S1x16384x1024, .f32⟩
  | 124 => ⟨S_, .f32⟩
  | 125 => ⟨S1x16384, .f32⟩
  | 126 => ⟨S1x16384x1, .f32⟩
  | 127 => ⟨S_, .f32⟩
  | _ => ⟨S1x16384x8704, .f32⟩

abbrev hbmTy0_1 (i : Nat) : BufTy := match i % 128 with
  | 0 => ⟨S1x16384x1, .f32⟩
  | 1 => ⟨S1x16384x1, .f32⟩
  | 2 => ⟨S1x16384x1024, .f32⟩
  | 3 => ⟨S1x16384x1024, .f32⟩
  | 4 => ⟨S_, .f32⟩
  | 5 => ⟨S1x16384x1, .f32⟩
  | 6 => ⟨S1x16384x1, .f32⟩
  | 7 => ⟨S1x16384x1, .f32⟩
  | 8 => ⟨S1x16384x1024, .f32⟩
  | 9 => ⟨S1x16384x1024, .f32⟩
  | 10 => ⟨S1x1x1024, .f32⟩
  | 11 => ⟨S1x16384x1024, .f32⟩
  | 12 => ⟨S1x16384x1024, .f32⟩
  | 13 => ⟨S1x1x1024, .f32⟩
  | 14 => ⟨S1x16384x1024, .f32⟩
  | 15 => ⟨S1x16384x1024, .f32⟩
  | 16 => ⟨S1x128x128x8x128, .f32⟩
  | 17 => ⟨S8x1x128x128x128, .f32⟩
  | 18 => ⟨S1x128x128x8x128, .f32⟩
  | 19 => ⟨S1x1x128x8x128, .f32⟩
  | 20 => ⟨S1x128x128x8x128, .f32⟩
  | 21 => ⟨S1x128x128x8x128, .f32⟩
  | 22 => ⟨S1x16384x1024, .f32⟩
  | 23 => ⟨S1x16384x1024, .f32⟩
  | 24 => ⟨S1536x1024, .f32⟩
  | 25 => ⟨S1x16384x1024, .f32⟩
  | 26 => ⟨S1024x1024, .f32⟩
  | 27 => ⟨S1x16384x1024, .f32⟩
  | 28 => ⟨S16384x8704, .f32⟩
  | 29 => ⟨S16384x1024, .f32⟩
  | 30 => ⟨S64x256x8704, .f32⟩
  | 31 => ⟨S64x8x8704, .f32⟩
  | 32 => ⟨S64x8x8704, .f32⟩
  | 33 => ⟨S64x16x8704, .f32⟩
  | 34 => ⟨S64x256x1024, .f32⟩
  | 35 => ⟨S64x8x1024, .f32⟩
  | 36 => ⟨S64x8x1024, .f32⟩
  | 37 => ⟨S64x16x1024, .f32⟩
  | 38 => ⟨S16384x1024, .f32⟩
  | 39 => ⟨S16384x1024, .f32⟩
  | 40 => ⟨S3x1536, .f32⟩
  | 41 => ⟨S16384x8704, .bf16⟩
  | 42 => ⟨S16384x1536, .bf16⟩
  | 43 => ⟨S16384x1024, .bf16⟩
  | 44 => ⟨S16384x1024, .bf16⟩
  | 45 => ⟨S16384x1024, .bf16⟩
  | 46 => ⟨S16384x1024, .bf16⟩
  | 47 => ⟨S8x2048, .f32⟩
  | 48 => ⟨S8x1536, .f32⟩
  | 49 => ⟨S8x1024, .f32⟩
  | 50 => ⟨S8x128x128, .f32⟩
  | 51 => ⟨S128x1024, .f32⟩
  | _ => ⟨S1x16384x8704, .f32⟩

abbrev hbmTy (i : Nat) : BufTy := match i / 128 with
  | 0 => hbmTy0_0 i
  | 1 => hbmTy0_1 i
  | _ => ⟨S1x16384x8704, .f32⟩

abbrev bufTy : (tb : Table) → Fin (tcTables nBuf tb) → BufTy
  | .hbm, ⟨i, _⟩ => hbmTy i
  | .local _ .vmem, ⟨0, _⟩ => ⟨S256x8704, .f32⟩
  | .local _ .vmem, ⟨1, _⟩ => ⟨S256x8704, .f32⟩
  | .local _ .vmem, ⟨2, _⟩ => ⟨S1x8x8704, .f32⟩
  | .local _ .vmem, ⟨3, _⟩ => ⟨S1x8x8704, .f32⟩
  | .local _ .vmem, ⟨4, _⟩ => ⟨S1x8x8704, .f32⟩
  | .local _ .vmem, ⟨5, _⟩ => ⟨S1x8x8704, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1536x1024, .bf16⟩
  | .local _ .vmem, ⟨17, _⟩ => ⟨S1024x1024, .bf16⟩
  | .local _ .vmem, ⟨18, _⟩ => ⟨S1024x1024, .bf16⟩
  | .local _ .vmem, ⟨19, _⟩ => ⟨S8x128x128, .bf16⟩
  | .local _ .vmem, ⟨20, _⟩ => ⟨S128x1024, .f32⟩
  | .local _ .vmem, ⟨21, _⟩ => ⟨S1x2048, .f32⟩
  | .local _ .vmem, ⟨22, _⟩ => ⟨S3x1536, .f32⟩
  | .local _ .vmem, ⟨23, _⟩ => ⟨S1x1024, .f32⟩
  | .local _ .vmem, ⟨24, _⟩ => ⟨S1x1024, .f32⟩
  | .local _ .vmem, ⟨25, _⟩ => ⟨S256x8704, .bf16⟩
  | .local _ .vmem, ⟨26, _⟩ => ⟨S256x8704, .bf16⟩
  | .local _ .vmem, ⟨27, _⟩ => ⟨S256x1536, .bf16⟩
  | .local _ .vmem, ⟨28, _⟩ => ⟨S256x1536, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S8x2048, .f32⟩
  | .local _ .vmem, ⟨38, _⟩ => ⟨S8x1536, .f32⟩
  | .local _ .vmem, ⟨39, _⟩ => ⟨S8x1024, .f32⟩
  | .local _ .vmem, ⟨40, _⟩ => ⟨S8x128x128, .f32⟩
  | .local _ .vmem, ⟨41, _⟩ => ⟨S128x1024, .f32⟩
  | .local _ .vmem, ⟨42, _⟩ => ⟨S256x1024, .bf16⟩
  | .local _ .vmem, ⟨43, _⟩ => ⟨S256x1024, .f32⟩
  | .local _ .vmem, ⟨44, _⟩ => ⟨S256x1024, .bf16⟩
  | .local _ .vmem, ⟨45, _⟩ => ⟨S256x1024, .f32⟩
  | _, _ => ⟨S1x16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_2 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_4 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_16 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140_0 : Ref sig .tc := ⟨.hbm, 169, rfl⟩
abbrev main_v140_1 : Ref sig .tc := ⟨.hbm, 170, rfl⟩
abbrev main_v140_2 : Ref sig .tc := ⟨.hbm, 171, rfl⟩
abbrev main_v140_3 : Ref sig .tc := ⟨.hbm, 172, rfl⟩
abbrev main_v140_4 : Ref sig .tc := ⟨.hbm, 173, rfl⟩
abbrev main_v140_5 : Ref sig .tc := ⟨.hbm, 174, rfl⟩
abbrev main_v140_6 : Ref sig .tc := ⟨.hbm, 175, rfl⟩
abbrev main_v140_7 : Ref sig .tc := ⟨.hbm, 176, rfl⟩
abbrev main_v140_8 : Ref sig .tc := ⟨.hbm, 177, rfl⟩
abbrev main_v140_9 : Ref sig .tc := ⟨.hbm, 178, rfl⟩
abbrev main_v140_10 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c1_i32_1 : BitVec 32 := 1#32
  let c0_i32_2 : BitVec 32 := 0#32
  let c0_i32_3 : BitVec 32 := 0#32
  ![v2.toNat, c1_i32_1.toNat, c0_i32_2.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c1_i32_1 : BitVec 32 := 1#32
  let c0_i32_2 : BitVec 32 := 0#32
  let c0_i32_3 : BitVec 32 := 0#32
  ![v2.toNat, c1_i32_1.toNat, c0_i32_2.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  ![v2.toNat, c0_i32.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x8704 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1536 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Kernel2Ideal.lean ====
variable {F : FTy → Type} [FloatOps F] [Named F]
def κ : String → Option EReal := fun
  | "gelu_cubic" => some ((8943 / 200000 : ℝ) : EReal)
  | "gelu_cubic_grad" => some ((26829 / 200000 : ℝ) : EReal)
  | _ => none
-- ==== Reference2Ideal.lean ====
abbrev S1x16384x8704 : Shape := ⟨3, ![1, 16384, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x16384x1024 : Shape := ⟨3, ![1, 16384, 1024]⟩
abbrev S8x128 : Shape := ⟨2, ![8, 128]⟩
abbrev S128x8 : Shape := ⟨2, ![128, 8]⟩
abbrev S128x8x1 : Shape := ⟨3, ![128, 8, 1]⟩
abbrev S128x8x128 : Shape := ⟨3, ![128, 8, 128]⟩
abbrev S1x16384x1536 : Shape := ⟨3, ![1, 16384, 1536]⟩
abbrev S1x16384x2048 : Shape := ⟨3, ![1, 16384, 2048]⟩
abbrev S2048 : Shape := ⟨1, ![2048]⟩
abbrev S1x1x2048 : Shape := ⟨3, ![1, 1, 2048]⟩
abbrev S_ : Shape := ⟨0, ![]⟩
abbrev S3x1536 : Shape := ⟨2, ![3, 1536]⟩
abbrev S1x1x1536 : Shape := ⟨3, ![1, 1, 1536]⟩
abbrev S1x16386x1536 : Shape := ⟨3, ![1, 16386, 1536]⟩
abbrev S1x1536 : Shape := ⟨2, ![1, 1536]⟩
abbrev S1536 : Shape := ⟨1, ![1536]⟩
abbrev S1024 : Shape := ⟨1, ![1024]⟩
abbrev S8x128x128 : Shape := ⟨3, ![8, 128, 128]⟩
abbrev S1x16384 : Shape := ⟨2, ![1, 16384]⟩
abbrev S1x16384x1 : Shape := ⟨3, ![1, 16384, 1]⟩
abbrev S1x1x1024 : Shape := ⟨3, ![1, 1, 1024]⟩
abbrev S1x128x128x8x128 : Shape := ⟨5, ![1, 128, 128, 8, 128]⟩
abbrev S8x1x128x128x128 : Shape := ⟨5, ![8, 1, 128, 128, 128]⟩
abbrev S1x1x128x8x128 : Shape := ⟨5, ![1, 1, 128, 8, 128]⟩
abbrev S1536x1024 : Shape := ⟨2, ![1536, 1024]⟩
abbrev S1024x1024 : Shape := ⟨2, ![1024, 1024]⟩
abbrev S1x128x8x128 : Shape := ⟨4, ![1, 128, 8, 128]⟩
abbrev S16384 : Shape := ⟨1, ![16384]⟩
abbrev S16384x8704 : Shape := ⟨2, ![16384, 8704]⟩
abbrev S16384x1536 : Shape := ⟨2, ![16384, 1536]⟩
abbrev S16384x1024 : Shape := ⟨2, ![16384, 1024]⟩
abbrev S7x2048 : Shape := ⟨2, ![7, 2048]⟩
abbrev S8x2048 : Shape := ⟨2, ![8, 2048]⟩
abbrev S5x1536 : Shape := ⟨2, ![5, 1536]⟩
abbrev S8x1536 : Shape := ⟨2, ![8, 1536]⟩
abbrev S6x1024 : Shape := ⟨2, ![6, 1024]⟩
abbrev S8x1024 : Shape := ⟨2, ![8, 1024]⟩
abbrev S128x1024 : Shape := ⟨2, ![128, 1024]⟩

abbrev nBuf : Space → Nat
  | .hbm => 387
  | .vmem => 0
  | .smem => 0
  | _ => 0

abbrev hbmTy0_0 (i : Nat) : BufTy := match i % 128 with
  | 0 => ⟨S1x16384x8704, .f32⟩
  | 1 => ⟨S1x2048, .f32⟩
  | 2 => ⟨S1x3x1536, .f32⟩
  | 3 => ⟨S1x1024, .f32⟩
  | 4 => ⟨S1x1024, .f32⟩
  | 5 => ⟨S1x8x128x128, .f32⟩
  | 6 => ⟨S1x8x128, .f32⟩
  | 7 => ⟨S1x1536x1024, .f32⟩
  | 8 => ⟨S1x1024x1024, .f32⟩
  | 9 => ⟨S1x1024x1024, .f32⟩
  | 10 => ⟨S1x16384x1024, .f32⟩
  | 11 => ⟨S8x128, .f32⟩
  | 12 => ⟨S128x8, .f32⟩
  | 13 => ⟨S128x8x1, .f32⟩
  | 14 => ⟨S128x8x128, .f32⟩
  | 15 => ⟨S1x16384x1536, .f32⟩
  | 16 => ⟨S1x16384x1536, .f32⟩
  | 17 => ⟨S1x16384x1536, .f32⟩
  | 18 => ⟨S1x16384x1024, .f32⟩
  | 19 => ⟨S1x16384x1024, .f32⟩
  | 20 => ⟨S1x16384x2048, .f32⟩
  | 21 => ⟨S2048, .f32⟩
  | 22 => ⟨S1x1x2048, .f32⟩
  | 23 => ⟨S1x16384x2048, .f32⟩
  | 24 => ⟨S1x16384x2048, .f32⟩
  | 25 => ⟨S1x16384x2048, .f32⟩
  | 26 => ⟨S1x16384x2048, .f32⟩
  | 27 => ⟨S_, .f32⟩
  | 28 => ⟨S1x16384x2048, .f32⟩
  | 29 => ⟨S1x16384x2048, .f32⟩
  | 30 => ⟨S_, .f32⟩
  | 31 => ⟨S1x16384x2048, .f32⟩
  | 32 => ⟨S1x16384x2048, .f32⟩
  | 33 => ⟨S_, .f32⟩
  | 34 => ⟨S1x16384x2048, .f32⟩
  | 35 => ⟨S1x16384x2048, .f32⟩
  | 36 => ⟨S1x16384x2048, .f32⟩
  | 37 => ⟨S1x16384x1024, .f32⟩
  | 38 => ⟨S1x16384x1024, .f32⟩
  | 39 => ⟨S1x16384x1536, .f32⟩
  | 40 => ⟨S3x1536, .f32⟩
  | 41 => ⟨S1x1x1536, .f32⟩
  | 42 => ⟨S_, .f32⟩
  | 43 => ⟨S1x1x1536, .f32⟩
  | 44 => ⟨S1x16386x1536, .f32⟩
  | 45 => ⟨S_, .f32⟩
  | 46 => ⟨S1x1x1536, .f32⟩
  | 47 => ⟨S_, .f32⟩
  | 48 => ⟨S1x1x1536, .f32⟩
  | 49 => ⟨S1x16384x1536, .f32⟩
  | 50 => ⟨S1x1536, .f32⟩
  | 51 => ⟨S1536, .f32⟩
  | 52 => ⟨S1x1x1536, .f32⟩
  | 53 => ⟨S1x16384x1536, .f32⟩
  | 54 => ⟨S1x16384x1536, .f32⟩
  | 55 => ⟨S1x16384x1536, .f32⟩
  | 56 => ⟨S1x1536, .f32⟩
  | 57 => ⟨S1536, .f32⟩
  | 58 => ⟨S1x1x1536, .f32⟩
  | 59 => ⟨S1x16384x1536, .f32⟩
  | 60 => ⟨S1x16384x1536, .f32⟩
  | 61 => ⟨S1x16384x1536, .f32⟩
  | 62 => ⟨S1x16384x1536, .f32⟩
  | 63 => ⟨S1x1536, .f32⟩
  | 64 => ⟨S1536, .f32⟩
  | 65 => ⟨S1x1x1536, .f32⟩
  | 66 => ⟨S1x16384x1536, .f32⟩
  | 67 => ⟨S1x16384x1536, .f32⟩
  | 68 => ⟨S1x16384x1536, .f32⟩
  | 69 => ⟨S1x16384x1536, .f32⟩
  | 70 => ⟨S_, .f32⟩
  | 71 => ⟨S_, .f32⟩
  | 72 => ⟨S_, .f32⟩
  | 73 => ⟨S1x16384x1024, .f32⟩
  | 74 => ⟨S1x16384x1024, .f32⟩
  | 75 => ⟨S1x16384x1024, .f32⟩
  | 76 => ⟨S_, .f32⟩
  | 77 => ⟨S1x16384x1024, .f32⟩
  | 78 => ⟨S1x16384x1024, .f32⟩
  | 79 => ⟨S1x16384x1024, .f32⟩
  | 80 => ⟨S1x16384x1024, .f32⟩
  | 81 => ⟨S1x16384x1024, .f32⟩
  | 82 => ⟨S_, .f32⟩
  | 83 => ⟨S1x16384x1024, .f32⟩
  | 84 => ⟨S1x16384x1024, .f32⟩
  | 85 => ⟨S1x16384x1024, .f32⟩
  | 86 => ⟨S_, .f32⟩
  | 87 => ⟨S1x16384x1024, .f32⟩
  | 88 => ⟨S1x16384x1024, .f32⟩
  | 89 => ⟨S_, .f32⟩
  | 90 => ⟨S1x16384x1024, .f32⟩
  | 91 => ⟨S1x16384x1024, .f32⟩
  | 92 => ⟨S1x16384x1024, .f32⟩
  | 93 => ⟨S_, .f32⟩
  | 94 => ⟨S1x16384x1024, .f32⟩
  | 95 => ⟨S1x16384x1024, .f32⟩
  | 96 => ⟨S_, .f32⟩
  | 97 => ⟨S1x16384x1024, .f32⟩
  | 98 => ⟨S1x16384x1024, .f32⟩
  | 99 => ⟨S1x16384x1024, .f32⟩
  | 100 => ⟨S_, .f32⟩
  | 101 => ⟨S_, .f32⟩
  | 102 => ⟨S_, .f32⟩
  | 103 => ⟨S1x16384x1024, .f32⟩
  | 104 => ⟨S1x16384x1024, .f32⟩
  | 105 => ⟨S1x16384x1024, .f32⟩
  | 106 => ⟨S_, .f32⟩
  | 107 => ⟨S1x16384x1024, .f32⟩
  | 108 => ⟨S1x16384x1024, .f32⟩
  | 109 => ⟨S1x16384x1024, .f32⟩
  | 110 => ⟨S1x16384x1024, .f32⟩
  | 111 => ⟨S1x16384x1024, .f32⟩
  | 112 => ⟨S_, .f32⟩
  | 113 => ⟨S1x16384x1024, .f32⟩
  | 114 => ⟨S1x16384x1024, .f32⟩
  | 115 => ⟨S1x16384x1024, .f32⟩
  | 116 => ⟨S_, .f32⟩
  | 117 => ⟨S1x16384x1024, .f32⟩
  | 118 => ⟨S1x16384x1024, .f32⟩
  | 119 => ⟨S_, .f32⟩
  | 120 => ⟨S1x16384x1024, .f32⟩
  | 121 => ⟨S1x16384x1024, .f32⟩
  | 122 => ⟨S1x16384x1024, .f32⟩
  | 123 => ⟨S_, .f32⟩
  | 124 => ⟨S1x16384x1024, .f32⟩
  | 125 => ⟨S1x16384x1024, .f32⟩
  | 126 => ⟨S_, .f32⟩
  | 127 => ⟨S1x16384x1024, .f32⟩
  | _ => ⟨S1x16384x8704, .f32⟩

abbrev hbmTy0_1 (i : Nat) : BufTy := match i % 128 with
  | 0 => ⟨S1x16384x1024, .f32⟩
  | 1 => ⟨S1x16384x1024, .f32⟩
  | 2 => ⟨S1024, .f32⟩
  | 3 => ⟨S1024, .f32⟩
  | 4 => ⟨S8x128x128, .f32⟩
  | 5 => ⟨S_, .f32⟩
  | 6 => ⟨S1x16384, .f32⟩
  | 7 => ⟨S1x16384x1, .f32⟩
  | 8 => ⟨S_, .f32⟩
  | 9 => ⟨S1x16384x1, .f32⟩
  | 10 => ⟨S1x16384x1, .f32⟩
  | 11 => ⟨S1x16384x1024, .f32⟩
  | 12 => ⟨S1x16384x1024, .f32⟩
  | 13 => ⟨S1x16384x1024, .f32⟩
  | 14 => ⟨S_, .f32⟩
  | 15 => ⟨S1x16384x1024, .f32⟩
  | 16 => ⟨S1x16384x1024, .f32⟩
  | 17 => ⟨S_, .f32⟩
  | 18 => ⟨S1x16384, .f32⟩
  | 19 => ⟨S1x16384x1, .f32⟩
  | 20 => ⟨S_, .f32⟩
  | 21 => ⟨S1x16384x1, .f32⟩
  | 22 => ⟨S1x16384x1, .f32⟩
  | 23 => ⟨S1x16384x1024, .f32⟩
  | 24 => ⟨S1x16384x1024, .f32⟩
  | 25 => ⟨S_, .f32⟩
  | 26 => ⟨S1x16384x1, .f32⟩
  | 27 => ⟨S1x16384x1, .f32⟩
  | 28 => ⟨S1x16384x1, .f32⟩
  | 29 => ⟨S1x16384x1, .f32⟩
  | 30 => ⟨S_, .f32⟩
  | 31 => ⟨S1x16384x1, .f32⟩
  | 32 => ⟨S1x16384x1, .f32⟩
  | 33 => ⟨S1x16384x1024, .f32⟩
  | 34 => ⟨S1x16384x1024, .f32⟩
  | 35 => ⟨S1x1x1024, .f32⟩
  | 36 => ⟨S1x16384x1024, .f32⟩
  | 37 => ⟨S1x16384x1024, .f32⟩
  | 38 => ⟨S1x1x1024, .f32⟩
  | 39 => ⟨S1x16384x1024, .f32⟩
  | 40 => ⟨S1x16384x1024, .f32⟩
  | 41 => ⟨S1x128x128x8x128, .f32⟩
  | 42 => ⟨S8x1x128x128x128, .f32⟩
  | 43 => ⟨S1x128x128x8x128, .f32⟩
  | 44 => ⟨S1x1x128x8x128, .f32⟩
  | 45 => ⟨S1x128x128x8x128, .f32⟩
  | 46 => ⟨S1x128x128x8x128, .f32⟩
  | 47 => ⟨S1x16384x1024, .f32⟩
  | 48 => ⟨S1x16384x1024, .f32⟩
  | 49 => ⟨S1536x1024, .f32⟩
  | 50 => ⟨S1x16384x1024, .f32⟩
  | 51 => ⟨S1024x1024, .f32⟩
  | 52 => ⟨S1x16384x1024, .f32⟩
  | 53 => ⟨S1x16384x1024, .f32⟩
  | 54 => ⟨S1x16384x1024, .f32⟩
  | 55 => ⟨S1x16384x1024, .f32⟩
  | 56 => ⟨S1024x1024, .f32⟩
  | 57 => ⟨S1x16384x1024, .f32⟩
  | 58 => ⟨S1x16384x1024, .f32⟩
  | 59 => ⟨S1x16384x1024, .f32⟩
  | 60 => ⟨S1x16384x1024, .f32⟩
  | 61 => ⟨S1x16384x1024, .f32⟩
  | 62 => ⟨S1x16384x1024, .f32⟩
  | 63 => ⟨S1x16384x1024, .f32⟩
  | 64 => ⟨S1x16384x1536, .f32⟩
  | 65 => ⟨S1x16384x1024, .f32⟩
  | 66 => ⟨S1x16384x1024, .f32⟩
  | 67 => ⟨S1x128x128x8x128, .f32⟩
  | 68 => ⟨S_, .f32⟩
  | 69 => ⟨S1x128x8x128, .f32⟩
  | 70 => ⟨S1x1x128x8x128, .f32⟩
  | 71 => ⟨S_, .f32⟩
  | 72 => ⟨S128x8x128, .f32⟩
  | 73 => ⟨S8x1x128x128x128, .f32⟩
  | 74 => ⟨S8x128x128, .f32⟩
  | 75 => ⟨S8x1x128x128x128, .f32⟩
  | 76 => ⟨S1x128x128x8x128, .f32⟩
  | 77 => ⟨S1x16384x1024, .f32⟩
  | 78 => ⟨S_, .f32⟩
  | 79 => ⟨S1x1024, .f32⟩
  | 80 => ⟨S1x1x1024, .f32⟩
  | 81 => ⟨S_, .f32⟩
  | 82 => ⟨S1024, .f32⟩
  | 83 => ⟨S1x16384x1024, .f32⟩
  | 84 => ⟨S_, .f32⟩
  | 85 => ⟨S1x1024, .f32⟩
  | 86 => ⟨S1x1x1024, .f32⟩
  | 87 => ⟨S1x16384x1024, .f32⟩
  | 88 => ⟨S1x16384x1024, .f32⟩
  | 89 => ⟨S_, .f32⟩
  | 90 => ⟨S1024, .f32⟩
  | 91 => ⟨S1x16384x1024, .f32⟩
  | 92 => ⟨S_, .f32⟩
  | 93 => ⟨S1x16384, .f32⟩
  | 94 => ⟨S1x16384x1, .f32⟩
  | 95 => ⟨S1x16384x1024, .f32⟩
  | 96 => ⟨S1x16384x1024, .f32⟩
  | 97 => ⟨S1x16384x1, .f32⟩
  | 98 => ⟨S1x16384x1024, .f32⟩
  | 99 => ⟨S_, .f32⟩
  | 100 => ⟨S1x16384, .f32⟩
  | 101 => ⟨S1x16384x1, .f32⟩
  | 102 => ⟨S_, .f32⟩
  | 103 => ⟨S1x16384x1, .f32⟩
  | 104 => ⟨S1x16384x1, .f32⟩
  | 105 => ⟨S_, .f32⟩
  | 106 => ⟨S16384, .f32⟩
  | 107 => ⟨S1x16384, .f32⟩
  | 108 => ⟨S1x16384x1024, .f32⟩
  | 109 => ⟨S1x16384x1024, .f32⟩
  | 110 => ⟨S1x16384x1024, .f32⟩
  | 111 => ⟨S_, .f32⟩
  | 112 => ⟨S1x16384, .f32⟩
  | 113 => ⟨S1x16384x1, .f32⟩
  | 114 => ⟨S1x16384x1024, .f32⟩
  | 115 => ⟨S1x16384x1, .f32⟩
  | 116 => ⟨S_, .f32⟩
  | 117 => ⟨S1x16384x1, .f32⟩
  | 118 => ⟨S1x16384x1, .f32⟩
  | 119 => ⟨S_, .f32⟩
  | 120 => ⟨S16384, .f32⟩
  | 121 => ⟨S1x16384, .f32⟩
  | 122 => ⟨S1x16384x1024, .f32⟩
  | 123 => ⟨S1x16384x1024, .f32⟩
  | 124 => ⟨S1x8x128x128, .f32⟩
  | 125 => ⟨S1x1024, .f32⟩
  | 126 => ⟨S1x1024, .f32⟩
  | 127 => ⟨S1x16384x1024, .f32⟩
  | _ => ⟨S1x16384x8704, .f32⟩

abbrev hbmTy0_2 (i : Nat) : BufTy := match i % 128 with
  | 0 => ⟨S1x16384x1024, .f32⟩
  | 1 => ⟨S_, .f32⟩
  | 2 => ⟨S1x16384x1024, .f32⟩
  | 3 => ⟨S1x16384x1024, .f32⟩
  | 4 => ⟨S1x16384x1024, .f32⟩
  | 5 => ⟨S_, .f32⟩
  | 6 => ⟨S1x16384x1024, .f32⟩
  | 7 => ⟨S1x16384x1024, .f32⟩
  | 8 => ⟨S1x16384x1024, .f32⟩
  | 9 => ⟨S1x16384x1024, .f32⟩
  | 10 => ⟨S1x16384x1024, .f32⟩
  | 11 => ⟨S1x16384x1024, .f32⟩
  | 12 => ⟨S1x16384x1024, .f32⟩
  | 13 => ⟨S1x16384x1024, .f32⟩
  | 14 => ⟨S1x16384x1024, .f32⟩
  | 15 => ⟨S_, .f32⟩
  | 16 => ⟨S1x16384x1024, .f32⟩
  | 17 => ⟨S1x16384x1024, .f32⟩
  | 18 => ⟨S1x16384x1024, .f32⟩
  | 19 => ⟨S_, .f32⟩
  | 20 => ⟨S1x16384x1024, .f32⟩
  | 21 => ⟨S1x16384x1024, .f32⟩
  | 22 => ⟨S1x16384x1024, .f32⟩
  | 23 => ⟨S1x16384x1024, .f32⟩
  | 24 => ⟨S1x16384x1024, .f32⟩
  | 25 => ⟨S1x16384x1024, .f32⟩
  | 26 => ⟨S1x16384x1024, .f32⟩
  | 27 => ⟨S1x16384x1536, .f32⟩
  | 28 => ⟨S1x16384x1536, .f32⟩
  | 29 => ⟨S1x16384x1536, .f32⟩
  | 30 => ⟨S_, .f32⟩
  | 31 => ⟨S1x1536, .f32⟩
  | 32 => ⟨S1x1x1536, .f32⟩
  | 33 => ⟨S1x16384x1536, .f32⟩
  | 34 => ⟨S1x16384x1536, .f32⟩
  | 35 => ⟨S_, .f32⟩
  | 36 => ⟨S1536, .f32⟩
  | 37 => ⟨S1x1536, .f32⟩
  | 38 => ⟨S_, .f32⟩
  | 39 => ⟨S3x1536, .f32⟩
  | 40 => ⟨S_, .f32⟩
  | 41 => ⟨S1x16386x1536, .f32⟩
  | 42 => ⟨S1x16384x1536, .f32⟩
  | 43 => ⟨S_, .f32⟩
  | 44 => ⟨S1x1536, .f32⟩
  | 45 => ⟨S1x1x1536, .f32⟩
  | 46 => ⟨S1x16384x1536, .f32⟩
  | 47 => ⟨S1x16384x1536, .f32⟩
  | 48 => ⟨S_, .f32⟩
  | 49 => ⟨S1536, .f32⟩
  | 50 => ⟨S1x1536, .f32⟩
  | 51 => ⟨S_, .f32⟩
  | 52 => ⟨S3x1536, .f32⟩
  | 53 => ⟨S3x1536, .f32⟩
  | 54 => ⟨S_, .f32⟩
  | 55 => ⟨S1x16386x1536, .f32⟩
  | 56 => ⟨S1x16386x1536, .f32⟩
  | 57 => ⟨S1x16384x1536, .f32⟩
  | 58 => ⟨S_, .f32⟩
  | 59 => ⟨S1x1536, .f32⟩
  | 60 => ⟨S1x1x1536, .f32⟩
  | 61 => ⟨S1x16384x1536, .f32⟩
  | 62 => ⟨S1x16384x1536, .f32⟩
  | 63 => ⟨S_, .f32⟩
  | 64 => ⟨S1536, .f32⟩
  | 65 => ⟨S1x1536, .f32⟩
  | 66 => ⟨S_, .f32⟩
  | 67 => ⟨S3x1536, .f32⟩
  | 68 => ⟨S3x1536, .f32⟩
  | 69 => ⟨S_, .f32⟩
  | 70 => ⟨S1x16386x1536, .f32⟩
  | 71 => ⟨S1x16386x1536, .f32⟩
  | 72 => ⟨S1x1x1536, .f32⟩
  | 73 => ⟨S1x16384x1536, .f32⟩
  | 74 => ⟨S1x1x1536, .f32⟩
  | 75 => ⟨S1x3x1536, .f32⟩
  | 76 => ⟨S1x16384x1536, .f32⟩
  | 77 => ⟨S1x16384x1536, .f32⟩
  | 78 => ⟨S_, .f32⟩
  | 79 => ⟨S1x16384x2048, .f32⟩
  | 80 => ⟨S_, .f32⟩
  | 81 => ⟨S1x16384x2048, .f32⟩
  | 82 => ⟨S1x16384x2048, .f32⟩
  | 83 => ⟨S1x16384x2048, .f32⟩
  | 84 => ⟨S_, .f32⟩
  | 85 => ⟨S1x2048, .f32⟩
  | 86 => ⟨S1x1x2048, .f32⟩
  | 87 => ⟨S_, .f32⟩
  | 88 => ⟨S2048, .f32⟩
  | 89 => ⟨S1x2048, .f32⟩
  | 90 => ⟨S_, .f32⟩
  | 91 => ⟨S1x16384x8704, .f32⟩
  | 92 => ⟨S_, .f32⟩
  | 93 => ⟨S1x16384x8704, .f32⟩
  | 94 => ⟨S1x16384x8704, .f32⟩
  | 95 => ⟨S_, .f32⟩
  | 96 => ⟨S1x16384x8704, .f32⟩
  | 97 => ⟨S1x16384x8704, .f32⟩
  | 98 => ⟨S_, .f32⟩
  | 99 => ⟨S1x16384x8704, .f32⟩
  | 100 => ⟨S1x16384x8704, .f32⟩
  | 101 => ⟨S_, .f32⟩
  | 102 => ⟨S1x16384x8704, .f32⟩
  | 103 => ⟨S1x16384x8704, .f32⟩
  | 104 => ⟨S_, .f32⟩
  | 105 => ⟨S1x16384x8704, .f32⟩
  | 106 => ⟨S1x16384x8704, .f32⟩
  | 107 => ⟨S16384x8704, .f32⟩
  | 108 => ⟨S16384x8704, .bf16⟩
  | 109 => ⟨S16384x1536, .f32⟩
  | 110 => ⟨S16384x1536, .bf16⟩
  | 111 => ⟨S16384x1024, .f32⟩
  | 112 => ⟨S16384x1024, .bf16⟩
  | 113 => ⟨S16384x1024, .f32⟩
  | 114 => ⟨S16384x1024, .bf16⟩
  | 115 => ⟨S16384x1024, .f32⟩
  | 116 => ⟨S16384x1024, .bf16⟩
  | 117 => ⟨S16384x1024, .f32⟩
  | 118 => ⟨S16384x1024, .bf16⟩
  | 119 => ⟨S_, .f32⟩
  | 120 => ⟨S7x2048, .f32⟩
  | 121 => ⟨S8x2048, .f32⟩
  | 122 => ⟨S3x1536, .f32⟩
  | 123 => ⟨S_, .f32⟩
  | 124 => ⟨S5x1536, .f32⟩
  | 125 => ⟨S8x1536, .f32⟩
  | 126 => ⟨S_, .f32⟩
  | 127 => ⟨S6x1024, .f32⟩
  | _ => ⟨S1x16384x8704, .f32⟩

abbrev hbmTy0_3 (i : Nat) : BufTy := match i % 128 with
  | 0 => ⟨S8x1024, .f32⟩
  | 1 => ⟨S8x128x128, .f32⟩
  | 2 => ⟨S128x1024, .f32⟩
  | _ => ⟨S1x16384x8704, .f32⟩

abbrev hbmTy (i : Nat) : BufTy := match i / 128 with
  | 0 => hbmTy0_0 i
  | 1 => hbmTy0_1 i
  | 2 => hbmTy0_2 i
  | 3 => hbmTy0_3 i
  | _ => ⟨S1x16384x8704, .f32⟩

abbrev bufTy : (tb : Table) → Fin (tcTables nBuf tb) → BufTy
  | .hbm, ⟨i, _⟩ => hbmTy i
  | _, _ => ⟨S1x16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_19 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_cst_22 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_cst_24 : Ref sig .tc := ⟨.hbm, 145, rfl⟩
abbrev main_v109 : Ref sig .tc := ⟨.hbm, 146, rfl⟩
abbrev main_v110 : Ref sig .tc := ⟨.hbm, 147, rfl⟩
abbrev main_cst_25 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_26 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_27 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_28 : Ref sig .tc := ⟨.hbm, 196, rfl⟩
abbrev main_v156 : Ref sig .tc := ⟨.hbm, 197, rfl⟩
abbrev main_v157 : Ref sig .tc := ⟨.hbm, 198, rfl⟩
abbrev main_cst_29 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_30 : Ref sig .tc := ⟨.hbm, 206, rfl⟩
abbrev main_v164 : Ref sig .tc := ⟨.hbm, 207, rfl⟩
abbrev main_v165 : Ref sig .tc := ⟨.hbm, 208, rfl⟩
abbrev main_cst_31 : Ref sig .tc := ⟨.hbm, 209, rfl⟩
abbrev main_v166 : Ref sig .tc := ⟨.hbm, 210, rfl⟩
abbrev main_v167 : Ref sig .tc := ⟨.hbm, 211, rfl⟩
abbrev main_cst_32 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_33 : Ref sig .tc := ⟨.hbm, 217, rfl⟩
abbrev main_v172 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_35 : Ref sig .tc := ⟨.hbm, 227, rfl⟩
abbrev main_v180 : Ref sig .tc := ⟨.hbm, 228, rfl⟩
abbrev main_v181 : Ref sig .tc := ⟨.hbm, 229, rfl⟩
abbrev main_cst_36 : Ref sig .tc := ⟨.hbm, 230, rfl⟩
abbrev main_v182 : Ref sig .tc := ⟨.hbm, 231, rfl⟩
abbrev main_v183 : Ref sig .tc := ⟨.hbm, 232, rfl⟩
abbrev main_cst_37 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_cst_38 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_39 : Ref sig .tc := ⟨.hbm, 244, rfl⟩
abbrev main_v193 : Ref sig .tc := ⟨.hbm, 245, rfl⟩
abbrev main_v194 : Ref sig .tc := ⟨.hbm, 246, rfl⟩
abbrev main_cst_40 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_cst_41 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_42 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_cst_43 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_44 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_cst_45 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_cst_46 : Ref sig .tc := ⟨.hbm, 291, rfl⟩
abbrev main_v233 : Ref sig .tc := ⟨.hbm, 292, rfl⟩
abbrev main_v234 : Ref sig .tc := ⟨.hbm, 293, rfl⟩
abbrev main_cst_47 : Ref sig .tc := ⟨.hbm, 294, rfl⟩
abbrev main_v235 : Ref sig .tc := ⟨.hbm, 295, rfl⟩
abbrev main_cst_48 : Ref sig .tc := ⟨.hbm, 296, rfl⟩
abbrev main_v236 : Ref sig .tc := ⟨.hbm, 297, rfl⟩
abbrev main_v237 : Ref sig .tc := ⟨.hbm, 298, rfl⟩
abbrev main_cst_49 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_cst_50 : Ref sig .tc := ⟨.hbm, 304, rfl⟩
abbrev main_v242 : Ref sig .tc := ⟨.hbm, 305, rfl⟩
abbrev main_v243 : Ref sig .tc := ⟨.hbm, 306, rfl⟩
abbrev main_cst_51 : Ref sig .tc := ⟨.hbm, 307, rfl⟩
abbrev main_v244 : Ref sig .tc := ⟨.hbm, 308, rfl⟩
abbrev main_v245 : Ref sig .tc := ⟨.hbm, 309, rfl⟩
abbrev main_cst_52 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_cst_53 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_cst_54 : Ref sig .tc := ⟨.hbm, 319, rfl⟩
abbrev main_v253 : Ref sig .tc := ⟨.hbm, 320, rfl⟩
abbrev main_v254 : Ref sig .tc := ⟨.hbm, 321, rfl⟩
abbrev main_cst_55 : Ref sig .tc := ⟨.hbm, 322, rfl⟩
abbrev main_v255 : Ref sig .tc := ⟨.hbm, 323, rfl⟩
abbrev main_v256 : Ref sig .tc := ⟨.hbm, 324, rfl⟩
abbrev main_cst_56 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_cst_57 : Ref sig .tc := ⟨.hbm, 334, rfl⟩
abbrev main_v265 : Ref sig .tc := ⟨.hbm, 335, rfl⟩
abbrev main_cst_58 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_cst_59 : Ref sig .tc := ⟨.hbm, 340, rfl⟩
abbrev main_v269 : Ref sig .tc := ⟨.hbm, 341, rfl⟩
abbrev main_v270 : Ref sig .tc := ⟨.hbm, 342, rfl⟩
abbrev main_cst_60 : Ref sig .tc := ⟨.hbm, 343, rfl⟩
abbrev main_v271 : Ref sig .tc := ⟨.hbm, 344, rfl⟩
abbrev main_v272 : Ref sig .tc := ⟨.hbm, 345, rfl⟩
abbrev main_cst_61 : Ref sig .tc := ⟨.hbm, 346, rfl⟩
abbrev main_v273 : Ref sig .tc := ⟨.hbm, 347, rfl⟩
abbrev main_cst_62 : Ref sig .tc := ⟨.hbm, 348, rfl⟩
abbrev main_v274 : Ref sig .tc := ⟨.hbm, 349, rfl⟩
abbrev main_v275 : Ref sig .tc := ⟨.hbm, 350, rfl⟩
abbrev main_cst_63 : Ref sig .tc := ⟨.hbm, 351, rfl⟩
abbrev main_v276 : Ref sig .tc := ⟨.hbm, 352, rfl⟩
abbrev main_v277 : Ref sig .tc := ⟨.hbm, 353, rfl⟩
abbrev main_cst_64 : Ref sig .tc := ⟨.hbm, 354, rfl⟩
abbrev main_v278 : Ref sig .tc := ⟨.hbm, 355, rfl⟩
abbrev main_v279 : Ref sig .tc := ⟨.hbm, 356, rfl⟩
abbrev main_cst_65 : Ref sig .tc := ⟨.hbm, 357, rfl⟩
abbrev main_v280 : Ref sig .tc := ⟨.hbm, 358, rfl⟩
abbrev main_v281 : Ref sig .tc := ⟨.hbm, 359, rfl⟩
abbrev main_cst_66 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_cst_67 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_cst_68 : Ref sig .tc := ⟨.hbm, 379, rfl⟩
abbrev main_v299 : Ref sig .tc := ⟨.hbm, 380, rfl⟩
abbrev main_v300 : Ref sig .tc := ⟨.hbm, 381, rfl⟩
abbrev main_cst_69 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩

abbrev nD : Nat := 1
abbrev τ : Topo := Topo.v7x

variable {F : FTy → Type} [FloatOps F]
-- ==== Kernel3.lean ====
abbrev S1x16384x8704 : Shape := ⟨3, ![1, 16384, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x16384x1024 : Shape := ⟨3, ![1, 16384, 1024]⟩
abbrev S1536x1024 : Shape := ⟨2, ![1536, 1024]⟩
abbrev S1024x1024 : Shape := ⟨2, ![1024, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S16384x8704 : Shape := ⟨2, ![16384, 8704]⟩
abbrev S64x256x8704 : Shape := ⟨3, ![64, 256, 8704]⟩
abbrev S64x8x8704 : Shape := ⟨3, ![64, 8, 8704]⟩
abbrev S64x16x8704 : Shape := ⟨3, ![64, 16, 8704]⟩
abbrev S16384x1024 : Shape := ⟨2, ![16384, 1024]⟩
abbrev S3x1536 : Shape := ⟨2, ![3, 1536]⟩
abbrev S256x8704 : Shape := ⟨2, ![256, 8704]⟩
abbrev S1x8x8704 : Shape := ⟨3, ![1, 8, 8704]⟩
abbrev S256x1024 : Shape := ⟨2, ![256, 1024]⟩
abbrev S256x1536 : Shape := ⟨2, ![256, 1536]⟩
abbrev S1x1x1536 : Shape := ⟨3, ![1, 1, 1536]⟩
abbrev S1x1536 : Shape := ⟨2, ![1, 1536]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 33
  | .vmem => 25
  | .smem => 0
  | _ => 0

abbrev bufTy : (tb : Table) → Fin (tcTables nBuf tb) → BufTy
  | .hbm, ⟨0, _⟩ => ⟨S1x16384x8704, .f32⟩
  | .hbm, ⟨1, _⟩ => ⟨S1x2048, .f32⟩
  | .hbm, ⟨2, _⟩ => ⟨S1x3x1536, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1536x1024, .f32⟩
  | .hbm, ⟨8, _⟩ => ⟨S1x1024x1024, .f32⟩
  | .hbm, ⟨9, _⟩ => ⟨S1x1024x1024, .f32⟩
  | .hbm, ⟨10, _⟩ => ⟨S1x16384x1024, .f32⟩
  | .hbm, ⟨11, _⟩ => ⟨S1536x1024, .f32⟩
  | .hbm, ⟨12, _⟩ => ⟨S1536x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S8x128x128, .f32⟩
  | .hbm, ⟨18, _⟩ => ⟨S8x128x128, .bf16⟩
  | .hbm, ⟨19, _⟩ => ⟨S8x128, .f32⟩
  | .hbm, ⟨20, _⟩ => ⟨S128x8, .f32⟩
  | .hbm, ⟨21, _⟩ => ⟨S128x8x128, .f32⟩
  | .hbm, ⟨22, _⟩ => ⟨S128x1024, .f32⟩
  | .hbm, ⟨23, _⟩ => ⟨S16384x8704, .f32⟩
  | .hbm, ⟨24, _⟩ => ⟨S64x256x8704, .f32⟩
  | .hbm, ⟨25, _⟩ => ⟨S64x8x8704, .f32⟩
  | .hbm, ⟨26, _⟩ => ⟨S64x8x8704, .f32⟩
  | .hbm, ⟨27, _⟩ => ⟨S64x16x8704, .f32⟩
  | .hbm, ⟨28, _⟩ => ⟨S16384x1024, .f32⟩
  | .hbm, ⟨29, _⟩ => ⟨S3x1536, .f32⟩
  | .hbm, ⟨30, _⟩ => ⟨S16384x1024, .f32⟩
  | .hbm, ⟨31, _⟩ => ⟨S16384x1024, .f32⟩
  | .hbm, ⟨32, _⟩ => ⟨S16384x1024, .f32⟩
  | .local _ .vmem, ⟨0, _⟩ => ⟨S256x8704, .f32⟩
  | .local _ .vmem, ⟨1, _⟩ => ⟨S256x8704, .f32⟩
  | .local _ .vmem, ⟨2, _⟩ => ⟨S1x8x8704, .f32⟩
  | .local _ .vmem, ⟨3, _⟩ => ⟨S1x8x8704, .f32⟩
  | .local _ .vmem, ⟨4, _⟩ => ⟨S1x8x8704, .f32⟩
  | .local _ .vmem, ⟨5, _⟩ => ⟨S1x8x8704, .f32⟩
  | .local _ .vmem, ⟨6, _⟩ => ⟨S256x1024, .f32⟩
  | .local _ .vmem, ⟨7, _⟩ => ⟨S256x1024, .f32⟩
  | .local _ .vmem, ⟨8, _⟩ => ⟨S1536x1024, .bf16⟩
  | .local _ .vmem, ⟨9, _⟩ => ⟨S1024x1024, .bf16⟩
  | .local _ .vmem, ⟨10, _⟩ => ⟨S1024x1024, .bf16⟩
  | .local _ .vmem, ⟨11, _⟩ => ⟨S8x128x128, .bf16⟩
  | .local _ .vmem, ⟨12, _⟩ => ⟨S128x1024, .f32⟩
  | .local _ .vmem, ⟨13, _⟩ => ⟨S1x2048, .f32⟩
  | .local _ .vmem, ⟨14, _⟩ => ⟨S3x1536, .f32⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .f32⟩
  | _, _ => ⟨S1x16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c1_i32_1 : BitVec 32 := 1#32
  let c0_i32_2 : BitVec 32 := 0#32
  let c0_i32_3 : BitVec 32 := 0#32
  ![v2.toNat, c1_i32_1.toNat, c0_i32_2.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
variable {F : FTy → Type} [FloatOps F] [Named F]
def κ : String → Option EReal := fun
  | "gelu_cubic" => some ((8943 / 200000 : ℝ) : EReal)
  | _ => none
-- ==== Reference3Ideal.lean ====
abbrev S1x16384x8704 : Shape := ⟨3, ![1, 16384, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x16384x1024 : Shape := ⟨3, ![1, 16384, 1024]⟩
abbrev S8x128 : Shape := ⟨2, ![8, 128]⟩
abbrev S128x8 : Shape := ⟨2, ![128, 8]⟩
abbrev S128x8x1 : Shape := ⟨3, ![128, 8, 1]⟩
abbrev S128x8x128 : Shape := ⟨3, ![128, 8, 128]⟩
abbrev S1x16384x1536 : Shape := ⟨3, ![1, 16384, 1536]⟩
abbrev S1x16384x2048 : Shape := ⟨3, ![1, 16384, 2048]⟩
abbrev S2048 : Shape := ⟨1, ![2048]⟩
abbrev S1x1x2048 : Shape := ⟨3, ![1, 1, 2048]⟩
abbrev S_ : Shape := ⟨0, ![]⟩
abbrev S3x1536 : Shape := ⟨2, ![3, 1536]⟩
abbrev S1x1x1536 : Shape := ⟨3, ![1, 1, 1536]⟩
abbrev S1x16386x1536 : Shape := ⟨3, ![1, 16386, 1536]⟩
abbrev S1x1536 : Shape := ⟨2, ![1, 1536]⟩
abbrev S1536 : Shape := ⟨1, ![1536]⟩
abbrev S1024 : Shape := ⟨1, ![1024]⟩
abbrev S8x128x128 : Shape := ⟨3, ![8, 128, 128]⟩
abbrev S1x16384 : Shape := ⟨2, ![1, 16384]⟩
abbrev S1x16384x1 : Shape := ⟨3, ![1, 16384, 1]⟩
abbrev S1x1x1024 : Shape := ⟨3, ![1, 1, 1024]⟩
abbrev S1x128x128x8x128 : Shape := ⟨5, ![1, 128, 128, 8, 128]⟩
abbrev S8x1x128x128x128 : Shape := ⟨5, ![8, 1, 128, 128, 128]⟩
abbrev S1x1x128x8x128 : Shape := ⟨5, ![1, 1, 128, 8, 128]⟩
abbrev S1536x1024 : Shape := ⟨2, ![1536, 1024]⟩
abbrev S1024x1024 : Shape := ⟨2, ![1024, 1024]⟩
abbrev S16384x1024 : Shape := ⟨2, ![16384, 1024]⟩

abbrev nBuf : Space → Nat
  | .hbm => 156
  | .vmem => 0
  | .smem => 0
  | _ => 0

abbrev hbmTy0_0 (i : Nat) : BufTy := match i % 128 with
  | 0 => ⟨S1x16384x8704, .f32⟩
  | 1 => ⟨S1x2048, .f32⟩
  | 2 => ⟨S1x3x1536, .f32⟩
  | 3 => ⟨S1x1024, .f32⟩
  | 4 => ⟨S1x1024, .f32⟩
  | 5 => ⟨S1x8x128x128, .f32⟩
  | 6 => ⟨S1x8x128, .f32⟩
  | 7 => ⟨S1x1536x1024, .f32⟩
  | 8 => ⟨S1x1024x1024, .f32⟩
  | 9 => ⟨S1x1024x1024, .f32⟩
  | 10 => ⟨S1x16384x1024, .f32⟩
  | 11 => ⟨S8x128, .f32⟩
  | 12 => ⟨S128x8, .f32⟩
  | 13 => ⟨S128x8x1, .f32⟩
  | 14 => ⟨S128x8x128, .f32⟩
  | 15 => ⟨S1x16384x1536, .f32⟩
  | 16 => ⟨S1x16384x1536, .f32⟩
  | 17 => ⟨S1x16384x1536, .f32⟩
  | 18 => ⟨S1x16384x1024, .f32⟩
  | 19 => ⟨S1x16384x1024, .f32⟩
  | 20 => ⟨S1x16384x2048, .f32⟩
  | 21 => ⟨S2048, .f32⟩
  | 22 => ⟨S1x1x2048, .f32⟩
  | 23 => ⟨S1x16384x2048, .f32⟩
  | 24 => ⟨S1x16384x2048, .f32⟩
  | 25 => ⟨S1x16384x2048, .f32⟩
  | 26 => ⟨S1x16384x2048, .f32⟩
  | 27 => ⟨S_, .f32⟩
  | 28 => ⟨S1x16384x2048, .f32⟩
  | 29 => ⟨S1x16384x2048, .f32⟩
  | 30 => ⟨S_, .f32⟩
  | 31 => ⟨S1x16384x2048, .f32⟩
  | 32 => ⟨S1x16384x2048, .f32⟩
  | 33 => ⟨S1x16384x1024, .f32⟩
  | 34 => ⟨S1x16384x1024, .f32⟩
  | 35 => ⟨S1x16384x1536, .f32⟩
  | 36 => ⟨S3x1536, .f32⟩
  | 37 => ⟨S1x1x1536, .f32⟩
  | 38 => ⟨S_, .f32⟩
  | 39 => ⟨S1x1x1536, .f32⟩
  | 40 => ⟨S1x16386x1536, .f32⟩
  | 41 => ⟨S1x16384x1536, .f32⟩
  | 42 => ⟨S1x1536, .f32⟩
  | 43 => ⟨S1536, .f32⟩
  | 44 => ⟨S1x1x1536, .f32⟩
  | 45 => ⟨S1x16384x1536, .f32⟩
  | 46 => ⟨S1x16384x1536, .f32⟩
  | 47 => ⟨S1x16384x1536, .f32⟩
  | 48 => ⟨S1x1536, .f32⟩
  | 49 => ⟨S1536, .f32⟩
  | 50 => ⟨S1x1x1536, .f32⟩
  | 51 => ⟨S1x16384x1536, .f32⟩
  | 52 => ⟨S1x16384x1536, .f32⟩
  | 53 => ⟨S1x16384x1536, .f32⟩
  | 54 => ⟨S1x16384x1536, .f32⟩
  | 55 => ⟨S1x1536, .f32⟩
  | 56 => ⟨S1536, .f32⟩
  | 57 => ⟨S1x1x1536, .f32⟩
  | 58 => ⟨S1x16384x1536, .f32⟩
  | 59 => ⟨S1x16384x1536, .f32⟩
  | 60 => ⟨S1x16384x1536, .f32⟩
  | 61 => ⟨S1x16384x1536, .f32⟩
  | 62 => ⟨S_, .f32⟩
  | 63 => ⟨S_, .f32⟩
  | 64 => ⟨S_, .f32⟩
  | 65 => ⟨S1x16384x1024, .f32⟩
  | 66 => ⟨S1x16384x1024, .f32⟩
  | 67 => ⟨S1x16384x1024, .f32⟩
  | 68 => ⟨S1x16384x1024, .f32⟩
  | 69 => ⟨S1x16384x1024, .f32⟩
  | 70 => ⟨S_, .f32⟩
  | 71 => ⟨S1x16384x1024, .f32⟩
  | 72 => ⟨S1x16384x1024, .f32⟩
  | 73 => ⟨S1x16384x1024, .f32⟩
  | 74 => ⟨S_, .f32⟩
  | 75 => ⟨S1x16384x1024, .f32⟩
  | 76 => ⟨S1x16384x1024, .f32⟩
  | 77 => ⟨S_, .f32⟩
  | 78 => ⟨S1x16384x1024, .f32⟩
  | 79 => ⟨S1x16384x1024, .f32⟩
  | 80 => ⟨S1x16384x1024, .f32⟩
  | 81 => ⟨S_, .f32⟩
  | 82 => ⟨S_, .f32⟩
  | 83 => ⟨S_, .f32⟩
  | 84 => ⟨S1x16384x1024, .f32⟩
  | 85 => ⟨S1x16384x1024, .f32⟩
  | 86 => ⟨S1x16384x1024, .f32⟩
  | 87 => ⟨S1x16384x1024, .f32⟩
  | 88 => ⟨S1x16384x1024, .f32⟩
  | 89 => ⟨S_, .f32⟩
  | 90 => ⟨S1x16384x1024, .f32⟩
  | 91 => ⟨S1x16384x1024, .f32⟩
  | 92 => ⟨S1x16384x1024, .f32⟩
  | 93 => ⟨S_, .f32⟩
  | 94 => ⟨S1x16384x1024, .f32⟩
  | 95 => ⟨S1x16384x1024, .f32⟩
  | 96 => ⟨S_, .f32⟩
  | 97 => ⟨S1x16384x1024, .f32⟩
  | 98 => ⟨S1x16384x1024, .f32⟩
  | 99 => ⟨S1x16384x1024, .f32⟩
  | 100 => ⟨S1024, .f32⟩
  | 101 => ⟨S1024, .f32⟩
  | 102 => ⟨S8x128x128, .f32⟩
  | 103 => ⟨S_, .f32⟩
  | 104 => ⟨S1x16384, .f32⟩
  | 105 => ⟨S1x16384x1, .f32⟩
  | 106 => ⟨S_, .f32⟩
  | 107 => ⟨S1x16384x1, .f32⟩
  | 108 => ⟨S1x16384x1, .f32⟩
  | 109 => ⟨S1x16384x1024, .f32⟩
  | 110 => ⟨S1x16384x1024, .f32⟩
  | 111 => ⟨S1x16384x1024, .f32⟩
  | 112 => ⟨S_, .f32⟩
  | 113 => ⟨S1x16384, .f32⟩
  | 114 => ⟨S1x16384x1, .f32⟩
  | 115 => ⟨S_, .f32⟩
  | 116 => ⟨S1x16384x1, .f32⟩
  | 117 => ⟨S1x16384x1, .f32⟩
  | 118 => ⟨S1x16384x1024, .f32⟩
  | 119 => ⟨S1x16384x1024, .f32⟩
  | 120 => ⟨S_, .f32⟩
  | 121 => ⟨S1x16384x1, .f32⟩
  | 122 => ⟨S1x16384x1, .f32⟩
  | 123 => ⟨S1x16384x1, .f32⟩
  | 124 => ⟨S1x16384x1024, .f32⟩
  | 125 => ⟨S1x16384x1024, .f32⟩
  | 126 => ⟨S1x1x1024, .f32⟩
  | 127 => ⟨S1x16384x1024, .f32⟩
  | _ => ⟨S1x16384x8704, .f32⟩

abbrev hbmTy0_1 (i : Nat) : BufTy := match i % 128 with
  | 0 => ⟨S1x16384x1024, .f32⟩
  | 1 => ⟨S1x1x1024, .f32⟩
  | 2 => ⟨S1x16384x1024, .f32⟩
  | 3 => ⟨S1x16384x1024, .f32⟩
  | 4 => ⟨S1x128x128x8x128, .f32⟩
  | 5 => ⟨S8x1x128x128x128, .f32⟩
  | 6 => ⟨S1x128x128x8x128, .f32⟩
  | 7 => ⟨S1x1x128x8x128, .f32⟩
  | 8 => ⟨S1x128x128x8x128, .f32⟩
  | 9 => ⟨S1x128x128x8x128, .f32⟩
  | 10 => ⟨S1x16384x1024, .f32⟩
  | 11 => ⟨S1x16384x1024, .f32⟩
  | 12 => ⟨S1536x1024, .f32⟩
  | 13 => ⟨S1x16384x1024, .f32⟩
  | 14 => ⟨S1024x1024, .f32⟩
  | 15 => ⟨S1x16384x1024, .f32⟩
  | 16 => ⟨S_, .f32⟩
  | 17 => ⟨S1x16384x1024, .f32⟩
  | 18 => ⟨S1x16384x1024, .f32⟩
  | 19 => ⟨S1x16384x1024, .f32⟩
  | 20 => ⟨S1x16384x1024, .f32⟩
  | 21 => ⟨S1x16384x1024, .f32⟩
  | 22 => ⟨S1024x1024, .f32⟩
  | 23 => ⟨S1x16384x1024, .f32⟩
  | 24 => ⟨S1x16384x1024, .f32⟩
  | 25 => ⟨S16384x1024, .f32⟩
  | 26 => ⟨S16384x1024, .f32⟩
  | 27 => ⟨S16384x1024, .f32⟩
  | _ => ⟨S1x16384x8704, .f32⟩

abbrev hbmTy (i : Nat) : BufTy := match i / 128 with
  | 0 => hbmTy0_0 i
  | 1 => hbmTy0_1 i
  | _ => ⟨S1x16384x8704, .f32⟩

abbrev bufTy : (tb : Table) → Fin (tcTables nBuf tb) → BufTy
  | .hbm, ⟨i, _⟩ => hbmTy i
  | _, _ => ⟨S1x16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_17 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩

abbrev nD : Nat := 1
abbrev τ : Topo := Topo.v7x

variable {F : FTy → Type} [FloatOps F]
-- ==== Kernel4.lean ====
abbrev S4x1024x1024 : Shape := ⟨3, ![4, 1024, 1024]⟩
abbrev S4x512x1024 : Shape := ⟨3, ![4, 512, 1024]⟩
abbrev S3 : Shape := ⟨1, ![3]⟩
abbrev S_ : Shape := ⟨0, ![]⟩
abbrev S1 : Shape := ⟨1, ![1]⟩

abbrev nBuf : Table → Nat
  | .hbm => 6
  | _ => 0

abbrev bufTy : (tb : Table) → Fin (nBuf tb) → BufTy
  | .hbm, ⟨0, _⟩ => ⟨S4x1024x1024, .f32⟩
  | .hbm, ⟨1, _⟩ => ⟨S4x1024x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | _, _ => ⟨S4x1024x1024, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  (ofTables nBuf rfl bufTy 5 6 bufScoped semScoped dmaSemScoped tileCredit tileCredit_eq_zero tileCredit_pos).withBarriers [(3, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_arg0_scs : Ref sig .scScalar := ⟨.hbm, 0, rfl⟩
abbrev main_v3_0_scs : Ref sig .scScalar := ⟨.hbm, 4, rfl⟩
abbrev main_arg1_scs : Ref sig .scScalar := ⟨.hbm, 1, rfl⟩
abbrev main_v3_1_scs : Ref sig .scScalar := ⟨.hbm, 5, rfl⟩
abbrev sc_start : Sem sig := 0
abbrev sc_done : Sem sig := 1
abbrev sc_go : Sem sig := 2
abbrev sc_taskDone : Sem sig := 3
abbrev barrier3 : Sem sig := 4

abbrev nD : Nat := 8
abbrev τ : Topo := Topo.v7x

variable {F : FTy → Type} [FloatOps F]

abbrev grid0 : Pipeline.Grid := ⟨1, ![1], ![false]⟩

def k0_dev1 (d1 : Dev nD) : Nat :=
  let c0_i32 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_6 : BitVec 32 := 4#32
  let v13 : BitVec 32 := Scalar.muli v3 c4_i32_6
  let v14 : BitVec 32 := Scalar.addi c0_i32 v13
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_7 : BitVec 32 := 2#32
  let v15 : BitVec 32 := Scalar.muli v6 c2_i32_7
  let v16 : BitVec 32 := Scalar.addi v14 v15
  let c1_i32_4 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v12 : BitVec 32 := Scalar.subi c1_i32_4 v9
  let c1_i32_8 : BitVec 32 := 1#32
  let v17 : BitVec 32 := Scalar.muli v12 c1_i32_8
  let v18 : BitVec 32 := Scalar.addi v16 v17
  v18.toNat
def k0_off1 (d1 : Dev nD) : Fin 3 → Nat :=
  let c0_i32_27 : BitVec 32 := 0#32
  let c1_i32_18 : BitVec 32 := 1#32
  let v25 : BitVec 32 := Dev.word d1
  let c1_i32_15 : BitVec 32 := 1#32
  let v26 : BitVec 32 := Scalar.divsi v25 c1_i32_15
  let c2_i32_14 : BitVec 32 := 2#32
  let v27 : BitVec 32 := Scalar.remsi v26 c2_i32_14
  let v31 : BitVec 32 := Scalar.subi c1_i32_18 v27
  let c512_i32 : BitVec 32 := 512#32
  let v32 : BitVec 32 := Scalar.muli v31 c512_i32
  let c0_i32_28 : BitVec 32 := 0#32
  ![0, v32.toNat, 0]
def k0_dev2 (d1 : Dev nD) : Nat :=
  let c0_i32_24 : BitVec 32 := 0#32
  let v19 : BitVec 32 := Dev.word d1
  let c4_i32_11 : BitVec 32 := 4#32
  let v20 : BitVec 32 := Scalar.divsi v19 c4_i32_11
  let c2_i32_10 : BitVec 32 := 2#32
  let v21 : BitVec 32 := Scalar.remsi v20 c2_i32_10
  let c4_i32_23 : BitVec 32 := 4#32
  let v35 : BitVec 32 := Scalar.muli v21 c4_i32_23
  let v36 : BitVec 32 := Scalar.addi c0_i32_24 v35
  let v22 : BitVec 32 := Dev.word d1
  let c2_i32_13 : BitVec 32 := 2#32
  let v23 : BitVec 32 := Scalar.divsi v22 c2_i32_13
  let c2_i32_12 : BitVec 32 := 2#32
  let v24 : BitVec 32 := Scalar.remsi v23 c2_i32_12
  let c2_i32_25 : BitVec 32 := 2#32
  let v37 : BitVec 32 := Scalar.muli v24 c2_i32_25
  let v38 : BitVec 32 := Scalar.addi v36 v37
  let c1_i32_17 : BitVec 32 := 1#32
  let v25 : BitVec 32 := Dev.word d1
  let c1_i32_15 : BitVec 32 := 1#32
  let v26 : BitVec 32 := Scalar.divsi v25 c1_i32_15
  let c2_i32_14 : BitVec 32 := 2#32
  let v27 : BitVec 32 := Scalar.remsi v26 c2_i32_14
  let v30 : BitVec 32 := Scalar.subi c1_i32_17 v27
  let c1_i32_26 : BitVec 32 := 1#32
  let v39 : BitVec 32 := Scalar.muli v30 c1_i32_26
  let v40 : BitVec 32 := Scalar.addi v38 v39
  v40.toNat
def k0_dev3 (d1 : Dev nD) : Nat :=
  let c0_i32_32 : BitVec 32 := 0#32
  let v19 : BitVec 32 := Dev.word d1
  let c4_i32_11 : BitVec 32 := 4#32
  let v20 : BitVec 32 := Scalar.divsi v19 c4_i32_11
  let c2_i32_10 : BitVec 32 := 2#32
  let v21 : BitVec 32 := Scalar.remsi v20 c2_i32_10
  let c4_i32_31 : BitVec 32 := 4#32
  let v46 : BitVec 32 := Scalar.muli v21 c4_i32_31
  let v47 : BitVec 32 := Scalar.addi c0_i32_32 v46
  let v22 : BitVec 32 := Dev.word d1
  let c2_i32_13 : BitVec 32 := 2#32
  let v23 : BitVec 32 := Scalar.divsi v22 c2_i32_13
  let c2_i32_12 : BitVec 32 := 2#32
  let v24 : BitVec 32 := Scalar.remsi v23 c2_i32_12
  let c2_i32_33 : BitVec 32 := 2#32
  let v48 : BitVec 32 := Scalar.muli v24 c2_i32_33
  let v49 : BitVec 32 := Scalar.addi v47 v48
  let c1_i32_17 : BitVec 32 := 1#32
  let v25 : BitVec 32 := Dev.word d1
  let c1_i32_15 : BitVec 32 := 1#32
  let v26 : BitVec 32 := Scalar.divsi v25 c1_i32_15
  let c2_i32_14 : BitVec 32 := 2#32
  let v27 : BitVec 32 := Scalar.remsi v26 c2_i32_14
  let v30 : BitVec 32 := Scalar.subi c1_i32_17 v27
  let c1_i32_34 : BitVec 32 := 1#32
  let v50 : BitVec 32 := Scalar.muli v30 c1_i32_34
  let v51 : BitVec 32 := Scalar.addi v49 v50
  v51.toNat
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference4.lean ====
abbrev S32x1024x1024 : Shape := ⟨3, ![32, 1024, 1024]⟩
abbrev S4x2x4x2x512x1024 : Shape := ⟨6, ![4, 2, 4, 2, 512, 1024]⟩
abbrev S4x1x4x1x512x1024 : Shape := ⟨6, ![4, 1, 4, 1, 512, 1024]⟩
abbrev S4x4x512x1024 : Shape := ⟨4, ![4, 4, 512, 1024]⟩
abbrev S4x1x4x512x1024 : Shape := ⟨5, ![4, 1, 4, 512, 1024]⟩
abbrev S4x2x4x512x1024 : Shape := ⟨5, ![4, 2, 4, 512, 1024]⟩
abbrev S32x512x1024 : Shape := ⟨3, ![32, 512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S4x2x4x2x512x1024, .f32⟩
  | .hbm, ⟨3, _⟩ => ⟨S4x1x4x1x512x1024, .f32⟩
  | .hbm, ⟨4, _⟩ => ⟨S4x4x512x1024, .f32⟩
  | .hbm, ⟨5, _⟩ => ⟨S4x1x4x1x512x1024, .f32⟩
  | .hbm, ⟨6, _⟩ => ⟨S4x4x512x1024, .f32⟩
  | .hbm, ⟨7, _⟩ => ⟨S4x1x4x512x1024, .f32⟩
  | .hbm, ⟨8, _⟩ => ⟨S4x1x4x512x1024, .f32⟩
  | .hbm, ⟨9, _⟩ => ⟨S4x2x4x512x1024, .f32⟩
  | .hbm, ⟨10, _⟩ => ⟨S32x512x1024, .f32⟩
  | .hbm, ⟨11, _⟩ => ⟨S4x2x4x2x512x1024, .f32⟩
  | .hbm, ⟨12, _⟩ => ⟨S4x1x4x1x512x1024, .f32⟩
  | .hbm, ⟨13, _⟩ => ⟨S4x4x512x1024, .f32⟩
  | .hbm, ⟨14, _⟩ => ⟨S4x1x4x1x512x1024, .f32⟩
  | .hbm, ⟨15, _⟩ => ⟨S4x4x512x1024, .f32⟩
  | .hbm, ⟨16, _⟩ => ⟨S4x1x4x512x1024, .f32⟩
  | .hbm, ⟨17, _⟩ => ⟨S4x1x4x512x1024, .f32⟩
  | .hbm, ⟨18, _⟩ => ⟨S4x2x4x512x1024, .f32⟩
  | .hbm, ⟨19, _⟩ => ⟨S32x512x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Kernel5.lean ====
abbrev S1x16384x1024 : Shape := ⟨3, ![1, 16384, 1024]⟩
abbrev S16384x8704 : Shape := ⟨2, ![16384, 8704]⟩
abbrev S16384x1024 : Shape := ⟨2, ![16384, 1024]⟩
abbrev S4x1024x2176 : Shape := ⟨3, ![4, 1024, 2176]⟩
abbrev S2048x1024 : Shape := ⟨2, ![2048, 1024]⟩
abbrev S2048x2176 : Shape := ⟨2, ![2048, 2176]⟩
abbrev S1x1024x2176 : Shape := ⟨3, ![1, 1024, 2176]⟩
abbrev S1024x2176 : Shape := ⟨2, ![1024, 2176]⟩

abbrev nBuf : Space → Nat
  | .hbm => 4
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S16384x8704, .bf16⟩
  | .hbm, ⟨2, _⟩ => ⟨S16384x1024, .f32⟩
  | .hbm, ⟨3, _⟩ => ⟨S4x1024x2176, .f32⟩
  | .local _ .vmem, ⟨0, _⟩ => ⟨S2048x1024, .f32⟩
  | .local _ .vmem, ⟨1, _⟩ => ⟨S2048x1024, .f32⟩
  | .local _ .vmem, ⟨2, _⟩ => ⟨S2048x2176, .bf16⟩
  | .local _ .vmem, ⟨3, _⟩ => ⟨S2048x2176, .bf16⟩
  | .local _ .vmem, ⟨4, _⟩ => ⟨S1x1024x2176, .f32⟩
  | .local _ .vmem, ⟨5, _⟩ => ⟨S1x1024x2176, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S1x16384x1024 : Shape := ⟨3, ![1, 16384, 1024]⟩
abbrev S16384x8704 : Shape := ⟨2, ![16384, 8704]⟩
abbrev S_ : Shape := ⟨0, ![]⟩
abbrev S1024x8704 : Shape := ⟨2, ![1024, 8704]⟩
abbrev S1x16384x8704 : Shape := ⟨3, ![1, 16384, 8704]⟩
abbrev S8704x1024 : Shape := ⟨2, ![8704, 1024]⟩
abbrev S1024x4x2176 : Shape := ⟨3, ![1024, 4, 2176]⟩
abbrev S4x1024x2176 : Shape := ⟨3, ![4, 1024, 2176]⟩

abbrev nBuf : Space → Nat
  | .hbm => 11
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x8704, .bf16⟩
  | .hbm, ⟨2, _⟩ => ⟨S_, .f32⟩
  | .hbm, ⟨3, _⟩ => ⟨S1024x8704, .f32⟩
  | .hbm, ⟨4, _⟩ => ⟨S1x16384x8704, .f32⟩
  | .hbm, ⟨5, _⟩ => ⟨S16384x8704, .f32⟩
  | .hbm, ⟨6, _⟩ => ⟨S1x16384x8704, .f32⟩
  | .hbm, ⟨7, _⟩ => ⟨S8704x1024, .f32⟩
  | .hbm, ⟨8, _⟩ => ⟨S1024x8704, .f32⟩
  | .hbm, ⟨9, _⟩ => ⟨S1024x4x2176, .f32⟩
  | .hbm, ⟨10, _⟩ => ⟨S4x1024x2176, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S16384x8704 : Shape := ⟨2, ![16384, 8704]⟩
abbrev S4x1024x2176 : Shape := ⟨3, ![4, 1024, 2176]⟩
abbrev S16384x1024 : Shape := ⟨2, ![16384, 1024]⟩
abbrev S512x8704 : Shape := ⟨2, ![512, 8704]⟩
abbrev S512x1024 : Shape := ⟨2, ![512, 1024]⟩
abbrev S512x2176 : Shape := ⟨2, ![512, 2176]⟩
abbrev S1x1024x2176 : Shape := ⟨3, ![1, 1024, 2176]⟩
abbrev S1024x2176 : Shape := ⟨2, ![1024, 2176]⟩

abbrev nBuf : Space → Nat
  | .hbm => 5
  | .vmem => 7
  | .smem => 0
  | _ => 0

abbrev bufTy : (tb : Table) → Fin (tcTables nBuf tb) → BufTy
  | .hbm, ⟨0, _⟩ => ⟨S16384x8704, .bf16⟩
  | .hbm, ⟨1, _⟩ => ⟨S4x1024x2176, .bf16⟩
  | .hbm, ⟨2, _⟩ => ⟨S16384x1024, .f32⟩
  | .hbm, ⟨3, _⟩ => ⟨S16384x1024, .f32⟩
  | .hbm, ⟨4, _⟩ => ⟨S16384x1024, .f32⟩
  | .local _ .vmem, ⟨0, _⟩ => ⟨S512x8704, .bf16⟩
  | .local _ .vmem, ⟨1, _⟩ => ⟨S512x8704, .bf16⟩
  | .local _ .vmem, ⟨2, _⟩ => ⟨S4x1024x2176, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

abbrev stage0_0 : Fin 2 → Memref sig .tc .vmem S512x8704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x8704 : Shape := ⟨2, ![16384, 8704]⟩
abbrev S4x1024x2176 : Shape := ⟨3, ![4, 1024, 2176]⟩
abbrev S16384x1024 : Shape := ⟨2, ![16384, 1024]⟩
abbrev S1024x4x2176 : Shape := ⟨3, ![1024, 4, 2176]⟩
abbrev S1024x8704 : Shape := ⟨2, ![1024, 8704]⟩
abbrev S_ : Shape := ⟨0, ![]⟩
abbrev S3072x1024 : Shape := ⟨2, ![3072, 1024]⟩
abbrev S13312x1024 : Shape := ⟨2, ![13312, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S4x1024x2176, .bf16⟩
  | .hbm, ⟨2, _⟩ => ⟨S16384x1024, .f32⟩
  | .hbm, ⟨3, _⟩ => ⟨S16384x1024, .f32⟩
  | .hbm, ⟨4, _⟩ => ⟨S4x1024x2176, .f32⟩
  | .hbm, ⟨5, _⟩ => ⟨S1024x4x2176, .f32⟩
  | .hbm, ⟨6, _⟩ => ⟨S1024x8704, .f32⟩
  | .hbm, ⟨7, _⟩ => ⟨S_, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x8704, .f32⟩
  | .hbm, ⟨13, _⟩ => ⟨S16384x8704, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S3072x1024, .f32⟩
  | .hbm, ⟨20, _⟩ => ⟨S13312x1024, .f32⟩
  | .hbm, ⟨21, _⟩ => ⟨S16384x1024, .f32⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel7.lean ====
abbrev S1x1024x2176 : Shape := ⟨3, ![1, 1024, 2176]⟩
abbrev S1024x2176 : Shape := ⟨2, ![1024, 2176]⟩
abbrev S128x2176 : Shape := ⟨2, ![128, 2176]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x2176, .f32⟩
  | .hbm, ⟨1, _⟩ => ⟨S1024x2176, .f32⟩
  | .hbm, ⟨2, _⟩ => ⟨S1x1024x2176, .f32⟩
  | .hbm, ⟨3, _⟩ => ⟨S1x1024x2176, .f32⟩
  | .hbm, ⟨4, _⟩ => ⟨S1024x2176, .f32⟩
  | .hbm, ⟨5, _⟩ => ⟨S1024x2176, .f32⟩
  | .hbm, ⟨6, _⟩ => ⟨S1024x2176, .f32⟩
  | .hbm, ⟨7, _⟩ => ⟨S1024x2176, .f32⟩
  | .hbm, ⟨8, _⟩ => ⟨S1024x2176, .f32⟩
  | .hbm, ⟨9, _⟩ => ⟨S1024x2176, .f32⟩
  | .local _ .vmem, ⟨0, _⟩ => ⟨S128x2176, .f32⟩
  | .local _ .vmem, ⟨1, _⟩ => ⟨S128x2176, .f32⟩
  | .local _ .vmem, ⟨2, _⟩ => ⟨S128x2176, .f32⟩
  | .local _ .vmem, ⟨3, _⟩ => ⟨S128x2176, .f32⟩
  | .local _ .vmem, ⟨4, _⟩ => ⟨S128x2176, .f32⟩
  | .local _ .vmem, ⟨5, _⟩ => ⟨S128x2176, .f32⟩
  | .local _ .vmem, ⟨6, _⟩ => ⟨S128x2176, .f32⟩
  | .local _ .vmem, ⟨7, _⟩ => ⟨S128x2176, .f32⟩
  | .local _ .vmem, ⟨8, _⟩ => ⟨S128x2176, .f32⟩
  | .local _ .vmem, ⟨9, _⟩ => ⟨S128x2176, .f32⟩
  | .local _ .vmem, ⟨10, _⟩ => ⟨S128x2176, .f32⟩
  | .local _ .vmem, ⟨11, _⟩ => ⟨S128x2176, .f32⟩
  | .local _ .vmem, ⟨12, _⟩ => ⟨S128x2176, .f32⟩
  | .local _ .vmem, ⟨13, _⟩ => ⟨S128x2176, .f32⟩
  | _, _ => ⟨S1x1024x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1x1024x2176 : Shape := ⟨3, ![1, 1024, 2176]⟩
abbrev S1024x2176 : Shape := ⟨2, ![1024, 2176]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2176, .f32⟩
  | .hbm, ⟨1, _⟩ => ⟨S1024x2176, .f32⟩
  | .hbm, ⟨2, _⟩ => ⟨S1x1024x2176, .f32⟩
  | .hbm, ⟨3, _⟩ => ⟨S1x1024x2176, .f32⟩
  | .hbm, ⟨4, _⟩ => ⟨S1024x2176, .f32⟩
  | .hbm, ⟨5, _⟩ => ⟨S_, .f32⟩
  | .hbm, ⟨6, _⟩ => ⟨S1024x2176, .f32⟩
  | .hbm, ⟨7, _⟩ => ⟨S1024x2176, .f32⟩
  | .hbm, ⟨8, _⟩ => ⟨S_, .f32⟩
  | .hbm, ⟨9, _⟩ => ⟨S1024x2176, .f32⟩
  | .hbm, ⟨10, _⟩ => ⟨S1024x2176, .f32⟩
  | .hbm, ⟨11, _⟩ => ⟨S1024x2176, .f32⟩
  | .hbm, ⟨12, _⟩ => ⟨S1024x2176, .f32⟩
  | .hbm, ⟨13, _⟩ => ⟨S_, .f32⟩
  | .hbm, ⟨14, _⟩ => ⟨S1024x2176, .f32⟩
  | .hbm, ⟨15, _⟩ => ⟨S1024x2176, .f32⟩
  | .hbm, ⟨16, _⟩ => ⟨S1024x2176, .f32⟩
  | .hbm, ⟨17, _⟩ => ⟨S_, .f32⟩
  | .hbm, ⟨18, _⟩ => ⟨S1024x2176, .f32⟩
  | .hbm, ⟨19, _⟩ => ⟨S1024x2176, .f32⟩
  | .hbm, ⟨20, _⟩ => ⟨S1024x2176, .f32⟩
  | .hbm, ⟨21, _⟩ => ⟨S_, .f32⟩
  | .hbm, ⟨22, _⟩ => ⟨S1024x2176, .f32⟩
  | .hbm, ⟨23, _⟩ => ⟨S1024x2176, .f32⟩
  | .hbm, ⟨24, _⟩ => ⟨S_, .f32⟩
  | .hbm, ⟨25, _⟩ => ⟨S1024x2176, .f32⟩
  | .hbm, ⟨26, _⟩ => ⟨S1024x2176, .f32⟩
  | .hbm, ⟨27, _⟩ => ⟨S1024x2176, .f32⟩
  | .hbm, ⟨28, _⟩ => ⟨S_, .f32⟩
  | .hbm, ⟨29, _⟩ => ⟨S1024x2176, .f32⟩
  | .hbm, ⟨30, _⟩ => ⟨S1024x2176, .f32⟩
  | .hbm, ⟨31, _⟩ => ⟨S1024x2176, .f32⟩
  | .hbm, ⟨32, _⟩ => ⟨S1024x2176, .f32⟩
  | .hbm, ⟨33, _⟩ => ⟨S_, .f32⟩
  | .hbm, ⟨34, _⟩ => ⟨S1024x2176, .f32⟩
  | .hbm, ⟨35, _⟩ => ⟨S1024x2176, .f32⟩
  | .hbm, ⟨36, _⟩ => ⟨S1024x2176, .f32⟩
  | .hbm, ⟨37, _⟩ => ⟨S_, .f32⟩
  | .hbm, ⟨38, _⟩ => ⟨S1024x2176, .f32⟩
  | .hbm, ⟨39, _⟩ => ⟨S1024x2176, .f32⟩
  | _, _ => ⟨S1x1024x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S16384x1536 : Shape := ⟨2, ![16384, 1536]⟩
abbrev S16384x1024 : Shape := ⟨2, ![16384, 1024]⟩
abbrev S4x896x1024 : Shape := ⟨3, ![4, 896, 1024]⟩
abbrev S1024x1536 : Shape := ⟨2, ![1024, 1536]⟩
abbrev S1024x1024 : Shape := ⟨2, ![1024, 1024]⟩
abbrev S1x384x1024 : Shape := ⟨3, ![1, 384, 1024]⟩
abbrev S384x1024 : Shape := ⟨2, ![384, 1024]⟩
abbrev S1024x384 : Shape := ⟨2, ![1024, 384]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 7
  | .vmem => 13
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S4x896x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S4x896x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x896x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S16384x1536 : Shape := ⟨2, ![16384, 1536]⟩
abbrev S16384x1024 : Shape := ⟨2, ![16384, 1024]⟩
abbrev S_ : Shape := ⟨0, ![]⟩
abbrev S1536x1024 : Shape := ⟨2, ![1536, 1024]⟩
abbrev S1024x1536 : Shape := ⟨2, ![1024, 1536]⟩
abbrev S4x384x1024 : Shape := ⟨3, ![4, 384, 1024]⟩
abbrev S1024x1024 : Shape := ⟨2, ![1024, 1024]⟩
abbrev S4x256x1024 : Shape := ⟨3, ![4, 256, 1024]⟩
abbrev S4x896x1024 : Shape := ⟨3, ![4, 896, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S_, .f32⟩
  | .hbm, ⟨7, _⟩ => ⟨S1536x1024, .f32⟩
  | .hbm, ⟨8, _⟩ => ⟨S16384x1536, .f32⟩
  | .hbm, ⟨9, _⟩ => ⟨S16384x1024, .f32⟩
  | .hbm, ⟨10, _⟩ => ⟨S16384x1024, .f32⟩
  | .hbm, ⟨11, _⟩ => ⟨S1024x1536, .f32⟩
  | .hbm, ⟨12, _⟩ => ⟨S1536x1024, .f32⟩
  | .hbm, ⟨13, _⟩ => ⟨S4x384x1024, .f32⟩
  | .hbm, ⟨14, _⟩ => ⟨S_, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S1024x1024, .f32⟩
  | .hbm, ⟨21, _⟩ => ⟨S4x256x1024, .f32⟩
  | .hbm, ⟨22, _⟩ => ⟨S_, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S1024x1024, .f32⟩
  | .hbm, ⟨29, _⟩ => ⟨S4x256x1024, .f32⟩
  | .hbm, ⟨30, _⟩ => ⟨S4x896x1024, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Reals.lean ====
module

public import Idealize.ShloMosaic.Lib.Pointwise

@[expose] public section

/-! # Extended reals that are real numbers

Every array of the step is finite, so every value of both programs is a real number.  This module has the few facts that
carry a real number through the arithmetic of the two programs. -/

set_option maxRecDepth 16384

noncomputable section

namespace Cert.Reals

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- A quotient of a real by a nonzero real. -/
theorem div_real {y : ℝ} (h : y ≠ 0) (x : ℝ) : Ideal.div (x : EReal) (y : EReal) = ((x / y : ℝ) : EReal) := by
  rw [Ideal.div_coe h, ← EReal.coe_mul, mul_one_div]

/-- The addend of the variance in both layer norms: the rational that the rounded `1e-5` is. -/
def eps : ℝ := 2748779 / 274877906944

/-- The residual scale: the rational that the rounded fourth root of two is. -/
def alpha : ℝ := 623487 / 524288

theorem eps_pos : 0 < eps := by unfold eps; norm_num

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : Ideal.ofBits .f32 0x3727C5AC#32 = ((eps : ℝ) : EReal) := by
  simp [Ideal.ofBits, Ideal.ieee, eps, -EReal.coe_mul]; norm_num

theorem ofBits_alpha : Ideal.ofBits .f32 0x3F9837F0#32 = ((alpha : ℝ) : EReal) := by
  simp [Ideal.ofBits, Ideal.ieee, alpha, -EReal.coe_mul]; norm_num

theorem ofBits_zero : Ideal.ofBits .f32 0x00000000#32 = ((0 : ℝ) : EReal) := by
  rw [Ideal.ofBits_zero_f32]; rfl

end Cert.Reals
-- ==== Proof.Spec.lean ====
module

public import proofs.«01_k».proof.Proof.Reals

@[expose] public section

/-! # The sub-layer and its gradient, one row at a time

A row `x` of the residual stream goes through a layer norm, an MLP with a squared ReLU, a residual sum and a second layer
norm; the loss compares the result with a row `y` of targets.  Every quantity of the forward and of the backward pass is a
function of the two rows and of the weights, written here over the reals. -/

noncomputable section

namespace Cert.Row

open Cert.Reals

/-- The gains and biases of the two norms and the two weight matrices. -/
structure Weights where
  g1 : Fin 1024 → ℝ
  b1 : Fin 1024 → ℝ
  g2 : Fin 1024 → ℝ
  b2 : Fin 1024 → ℝ
  w1 : Fin 1024 → Fin 4096 → ℝ
  w2 : Fin 4096 → Fin 1024 → ℝ

def mean (v : Fin 1024 → ℝ) : ℝ := (∑ k, v k) / 1024

/-- A row less its mean. -/
def cen (v : Fin 1024 → ℝ) (k : Fin 1024) : ℝ := v k - mean v

def var (v : Fin 1024 → ℝ) : ℝ := (∑ k, cen v k * cen v k) / 1024

def rstd (v : Fin 1024 → ℝ) : ℝ := (Real.sqrt (var v + eps))⁻¹

/-- A row normalised. -/
def xhat (v : Fin 1024 → ℝ) (k : Fin 1024) : ℝ := cen v k * rstd v

/-- The gradient with respect to `v` of the row `xhat v` paired with `d`. -/
def normGrad (v d : Fin 1024 → ℝ) (k : Fin 1024) : ℝ :=
  rstd v * (d k - mean d - xhat v k * mean fun i => d i * xhat v i)

variable (W : Weights) (x y : Fin 1024 → ℝ)

def norm1 (k : Fin 1024) : ℝ := xhat x k * W.g1 k + W.b1 k

def up (j : Fin 4096) : ℝ := ∑ k, norm1 W x k * W.w1 k j

def relu (j : Fin 4096) : ℝ := max (up W x j) 0

def hid (j : Fin 4096) : ℝ := relu W x j * relu W x j

/-- The residual stream after the MLP. -/
def res (k : Fin 1024) : ℝ := alpha * norm1 W x k + ∑ j, hid W x j * W.w2 j k

/-- The second norm less the target. -/
def err (k : Fin 1024) : ℝ := xhat (res W x) k * W.g2 k + W.b2 k - y k

/-- The loss's gradient with respect to the second norm. -/
def dnorm2 (k : Fin 1024) : ℝ := err W x y k * (1 / 1024)

def dres : Fin 1024 → ℝ := normGrad (res W x) fun k => dnorm2 W x y k * W.g2 k

/-- The gradient with respect to the row before the activation. -/
def dup (j : Fin 4096) : ℝ := (∑ k, dres W x y k * W.w2 j k) * (2 * relu W x j)

def dnorm1 (k : Fin 1024) : ℝ := alpha * dres W x y k + ∑ j, dup W x y j * W.w1 k j

def dx : Fin 1024 → ℝ := normGrad x fun k => dnorm1 W x y k * W.g1 k

/-! ## Four blocks of columns -/

/-- Column `k` of block `j` of the hidden width. -/
def col (j : Fin 4) (k : Fin 1024) : Fin 4096 := ⟨1024 * j.val + k.val, by have := j.isLt; have := k.isLt; omega⟩

/-- A sum over the hidden width, block by block. -/
theorem sum_col (f : Fin 4096 → ℝ) :
    ∑ j, f j = ((∑ k, f (col 0 k) + ∑ k, f (col 1 k)) + ∑ k, f (col 2 k)) + ∑ k, f (col 3 k) := by
  have e : ∑ j, f j = ∑ p : Fin 4 × Fin 1024, f (col p.1 p.2) := by
    refine (Fintype.sum_equiv (finProdFinEquiv (m := 4) (n := 1024)) _ _ fun p => ?_).symm
    refine congrArg f (Fin.ext ?_)
    show 1024 * p.1.val + p.2.val = p.2.val + 1024 * p.1.val
    exact Nat.add_comm _ _
  rw [e, Fintype.sum_prod_type, Fin.sum_univ_four]

theorem var_eps_pos (v : Fin 1024 → ℝ) : 0 < var v + eps :=
  add_pos_of_nonneg_of_pos (div_nonneg (Finset.sum_nonneg fun k _ => mul_self_nonneg _) (by norm_num)) eps_pos

/-! ## Rows of the whole -/

/-- Row `j` of the sixteen: the first eight of a block, then the last eight. -/
def edgeRow (j : Fin 16) : Fin 256 := ⟨if j.val < 8 then j.val else 240 + j.val, by split <;> omega⟩

/-- Row `r` of block `t`. -/
def at64 (t : Fin 64) (r : Fin 256) : Fin 16384 := ⟨256 * t.val + r.val, by omega⟩

/-- What one row adds to the sums. -/
def rowTerm (W : Weights) (x y : Fin 1024 → ℝ) : Fin 8 → Fin 1024 → ℝ :=
  ![fun k => dnorm1 W x y k * xhat x k, dnorm1 W x y, fun k => dnorm2 W x y k * xhat (res W x) k, dnorm2 W x y,
    fun k => err W x y k * err W x y k, 0, 0, 0]

end Cert.Row
-- ==== Proof.Block.lean ====
module

public import proofs.«01_k».proof.Proof.Gen.KernelIdeal.Value
public import Idealize.ShloMosaic.Lib.Pointwise
public import proofs.«01_k».proof.Proof.Spec

@[expose] public section

/-! # One grid point's arithmetic

What each payload of the kernel is when the blocks it is applied to are real: a function of the rows of the block, as
`Cert.Row` writes it. -/

set_option maxRecDepth 16384

noncomputable section

namespace Cert.KernelIdeal.Block

open Idealize.ShloMosaic Idealize.ShloMosaic.TcCoe Cert.KernelIdeal Cert.KernelIdeal.Gen Cert.Reals Cert.Row

/-- A block of 256 real rows. -/
def rows (φ : FTy) (f : Fin 256 → Fin 1024 → ℝ) : FVec Ideal S256x1024 φ := fun i => ((f (i 0) (i 1) : ℝ) : EReal)

/-- A column of 256 reals. -/
def column (f : Fin 256 → ℝ) : FVec Ideal S256x1 .f32 := fun i => ((f (i 0) : ℝ) : EReal)

/-- A single row of reals. -/
def line (f : Fin 1024 → ℝ) : FVec Ideal S1x1024 .f32 := fun i => ((f (i 1) : ℝ) : EReal)

/-- A slab of the first weight matrix, block `j` of its columns. -/
def slab1 (W : Weights) (j : Fin 4) : FVec Ideal S1x1024x1024 .bf16 := fun i => ((W.w1 (i 1) (col j (i 2)) : ℝ) : EReal)

/-- A slab of the second weight matrix, block `j` of its rows. -/
def slab2 (W : Weights) (j : Fin 4) : FVec Ideal S1024x1024 .bf16 := fun i => ((W.w2 (col j (i 0)) (i 1) : ℝ) : EReal)

variable (W : Weights) (x y : Fin 256 → Fin 1024 → ℝ)

/-- The hidden rows of block `j` of the columns: the activation's root, the activation, and the gradient before it. -/
def reluCols (φ : FTy) (j : Fin 4) : FVec Ideal S256x1024 φ := rows φ fun r k => relu W (x r) (col j k)

def hidCols (φ : FTy) (j : Fin 4) : FVec Ideal S256x1024 φ := rows φ fun r k => hid W (x r) (col j k)

def dupCols (φ : FTy) (j : Fin 4) : FVec Ideal S256x1024 φ := rows φ fun r k => dup W (x r) (y r) (col j k)

/-- What block `j` of the hidden width adds to the residual stream, and to the first norm's gradient. -/
def down (x : Fin 1024 → ℝ) (j : Fin 4) (k : Fin 1024) : ℝ := ∑ l, hid W x (col j l) * W.w2 (col j l) k

def back (x y : Fin 1024 → ℝ) (j : Fin 4) (k : Fin 1024) : ℝ := ∑ l, dup W x y (col j l) * W.w1 k (col j l)

theorem res_eq (x : Fin 1024 → ℝ) (k : Fin 1024) :
    res W x k = alpha * norm1 W x k + (((down W x 0 k + down W x 1 k) + down W x 2 k) + down W x 3 k) := by
  rw [res, sum_col]; rfl

theorem dnorm1_eq (x y : Fin 1024 → ℝ) (k : Fin 1024) :
    dnorm1 W x y k = (((alpha * dres W x y k + back W x y 0 k) + back W x y 1 k) + back W x y 2 k) + back W x y 3 k := by
  rw [dnorm1, sum_col]; simp only [add_assoc]; rfl

/-! ## The first norm -/

theorem pay6 : k0_pay6 (rows .f32 x) = rows .f32 fun r => cen (x r) := by
  funext i
  idx_vars i
  pointwise [k0_pay6, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay7 : k0_pay7 (rows .f32 x) = column fun r => rstd (x r) := by
  rw [k0_pay7, pay6]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  exact rsqrt_pos (var_eps_pos _)

theorem pay8 : k0_pay8 (rows .f32 x) = rows .f32 fun r => xhat (x r) := by
  rw [k0_pay8, pay6, pay7]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay9 : k0_pay9 (rows .f32 x) (line W.g1) (line W.b1) = rows .f32 fun r => norm1 W (x r) := by
  rw [k0_pay9, pay8]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay10 : k0_pay10 (rows .f32 x) (line W.g1) (line W.b1) = rows .bf16 fun r => norm1 W (x r) := by
  rw [k0_pay10, pay9]
  funext i
  idx_vars i
  pointwise [rows, line, column, slab1, slab2, reluCols, hidCols, dupCols]

/-! ## The MLP, forward -/

theorem pay17 (j : Fin 4) : k0_pay17 (rows .bf16 fun r => norm1 W (x r)) (slab1 W j) = reluCols W x .f32 j := by
  funext i
  idx_vars i
  pointwise [k0_pay17, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay19 (j : Fin 4) : k0_pay19 (rows .bf16 fun r => norm1 W (x r)) (slab1 W j) = hidCols W x .bf16 j := by
  rw [k0_pay19, pay17]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay14 (j : Fin 4) : k0_pay14 (k0_pay12 (rows .bf16 fun r => norm1 W (x r)) (slab1 W j)) = reluCols W x .f32 j :=
  (shapeCast_self _ _).trans (pay17 W x j)

theorem pay18 (j : Fin 4) : k0_pay18 (rows .bf16 fun r => norm1 W (x r)) (slab1 W j) = reluCols W x .f32 j :=
  (shapeCast_self _ _).trans (pay17 W x j)

theorem pay23 (j : Fin 4) : k0_pay23 (rows .bf16 fun r => norm1 W (x r)) (slab1 W j) = reluCols W x .f32 j := pay18 W x j

theorem pay27 (j : Fin 4) : k0_pay27 (rows .bf16 fun r => norm1 W (x r)) (slab1 W j) = reluCols W x .f32 j := pay18 W x j

theorem pay15 (j : Fin 4) : k0_pay15 (k0_pay12 (rows .bf16 fun r => norm1 W (x r)) (slab1 W j)) = hidCols W x .bf16 j := pay19 W x j

theorem pay24 (j : Fin 4) : k0_pay24 (rows .bf16 fun r => norm1 W (x r)) (slab1 W j) = hidCols W x .bf16 j := pay19 W x j

theorem pay28 (j : Fin 4) : k0_pay28 (k0_pay26 (rows .bf16 fun r => norm1 W (x r)) (slab1 W j)) = hidCols W x .bf16 j := pay19 W x j

theorem pay20 (v : FVec Ideal S256x1024 .bf16) : k0_pay20 v = v := shapeCast_self _ _

theorem pay21 (v : FVec Ideal S1024x1024 .bf16) : k0_pay21 v = v := shapeCast_self _ _

theorem pay16 (j : Fin 4) : k0_pay16 k0_pay11 (hidCols W x .bf16 j) (slab2 W j) = rows .f32 fun r => down W (x r) j := by
  funext i
  idx_vars i
  pointwise [k0_pay16, k0_pay11, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay25 : k0_pay25 (rows .f32 fun r => down W (x r) 0) (hidCols W x .bf16 1) (slab2 W 1) (hidCols W x .bf16 2) (slab2 W 2) =
    rows .f32 fun r k => (down W (x r) 0 k + down W (x r) 1 k) + down W (x r) 2 k := by
  funext i
  idx_vars i
  pointwise [k0_pay25, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

/-! ## The second norm and the loss -/

theorem pay29 : k0_pay29 (rows .f32 fun r => norm1 W (x r)) (rows .f32 fun r k => (down W (x r) 0 k + down W (x r) 1 k) + down W (x r) 2 k) (hidCols W x .bf16 3) (slab2 W 3) =
    rows .f32 fun r => cen (res W (x r)) := by
  funext i
  idx_vars i
  pointwise [k0_pay29, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  simp only [cen, mean, res_eq]
  rfl

theorem pay30 : k0_pay30 (rows .f32 fun r => norm1 W (x r)) (rows .f32 fun r k => (down W (x r) 0 k + down W (x r) 1 k) + down W (x r) 2 k) (hidCols W x .bf16 3) (slab2 W 3) =
    column fun r => rstd (res W (x r)) := by
  rw [k0_pay30, pay29]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  exact rsqrt_pos (var_eps_pos _)

theorem pay31 : k0_pay31 (rows .f32 fun r => norm1 W (x r)) (rows .f32 fun r k => (down W (x r) 0 k + down W (x r) 1 k) + down W (x r) 2 k) (hidCols W x .bf16 3) (slab2 W 3) =
    rows .f32 fun r => xhat (res W (x r)) := by
  rw [k0_pay31, pay29, pay30]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay32 : k0_pay32 (rows .f32 fun r => norm1 W (x r)) (rows .f32 fun r k => (down W (x r) 0 k + down W (x r) 1 k) + down W (x r) 2 k) (hidCols W x .bf16 3) (slab2 W 3) (line W.g2) (line W.b2) (rows .f32 y) =
    rows .f32 fun r => err W (x r) (y r) := by
  rw [k0_pay32, pay31]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay34 : k0_pay34 (rows .f32 fun r => err W (x r) (y r)) = rows .f32 fun r => dnorm2 W (x r) (y r) := by
  funext i
  idx_vars i
  pointwise [k0_pay34, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay37 : k0_pay37 (rows .f32 fun r => err W (x r) (y r)) (line W.g2) = rows .f32 fun r k => dnorm2 W (x r) (y r) k * W.g2 k := by
  rw [k0_pay37, pay34]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay38 : k0_pay38 (rows .f32 fun r => err W (x r) (y r)) (line W.g2) =
    rows .f32 fun r => cen fun k => dnorm2 W (x r) (y r) k * W.g2 k := by
  rw [k0_pay38, pay37]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay39 : k0_pay39 (rows .f32 fun r => xhat (res W (x r))) (rows .f32 fun r => err W (x r) (y r)) (line W.g2) =
    rows .f32 fun r k => xhat (res W (x r)) k * mean fun i => dnorm2 W (x r) (y r) i * W.g2 i * xhat (res W (x r)) i := by
  rw [k0_pay39, pay37]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay40 : k0_pay40 (column fun r => rstd (res W (x r))) (rows .f32 fun r => cen fun k => dnorm2 W (x r) (y r) k * W.g2 k)
      (rows .f32 fun r k => xhat (res W (x r)) k * mean fun i => dnorm2 W (x r) (y r) i * W.g2 i * xhat (res W (x r)) i) =
    rows .f32 fun r => dres W (x r) (y r) := by
  funext i
  idx_vars i
  pointwise [k0_pay40, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay41 : k0_pay41 (column fun r => rstd (res W (x r))) (rows .f32 fun r => cen fun k => dnorm2 W (x r) (y r) k * W.g2 k)
      (rows .f32 fun r k => xhat (res W (x r)) k * mean fun i => dnorm2 W (x r) (y r) i * W.g2 i * xhat (res W (x r)) i) =
    rows .bf16 fun r => dres W (x r) (y r) := by
  rw [k0_pay41, pay40]
  funext i
  idx_vars i
  pointwise [rows, line, column, slab1, slab2, reluCols, hidCols, dupCols]

/-! ## The MLP, backward -/

theorem pay42 (j : Fin 4) : k0_pay42 (rows .bf16 fun r => dres W (x r) (y r)) (slab2 W j) (reluCols W x .f32 j) = dupCols W x y .bf16 j := by
  funext i
  idx_vars i
  pointwise [k0_pay42, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay46 (j : Fin 4) : k0_pay46 (k0_pay44 (rows .bf16 fun r => dres W (x r) (y r)) (slab2 W j)) (reluCols W x .f32 j) k0_pay45 = dupCols W x y .bf16 j := pay42 W x y j

theorem pay47 (j : Fin 4) : k0_pay47 (rows .bf16 fun r => dres W (x r) (y r)) (slab2 W j) (reluCols W x .f32 j) = dupCols W x y .bf16 j := pay42 W x y j

theorem pay50 (j : Fin 4) : k0_pay50 (k0_pay49 (rows .bf16 fun r => dres W (x r) (y r))) (slab2 W j) (reluCols W x .f32 j) = dupCols W x y .bf16 j := pay42 W x y j

theorem pay43 (j : Fin 4) : k0_pay43 (column fun r => rstd (res W (x r))) (rows .f32 fun r => cen fun k => dnorm2 W (x r) (y r) k * W.g2 k)
      (rows .f32 fun r k => xhat (res W (x r)) k * mean fun i => dnorm2 W (x r) (y r) i * W.g2 i * xhat (res W (x r)) i) (dupCols W x y .bf16 j) (slab1 W j) =
    rows .f32 fun r k => alpha * dres W (x r) (y r) k + back W (x r) (y r) j k := by
  rw [k0_pay43, pay40]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay48 : k0_pay48 (rows .f32 fun r k => alpha * dres W (x r) (y r) k + back W (x r) (y r) 0 k) (dupCols W x y .bf16 1) (slab1 W 1)
      (dupCols W x y .bf16 2) (slab1 W 2) =
    rows .f32 fun r k => ((alpha * dres W (x r) (y r) k + back W (x r) (y r) 0 k) + back W (x r) (y r) 1 k) + back W (x r) (y r) 2 k := by
  funext i
  idx_vars i
  pointwise [k0_pay48, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay51 : k0_pay51 (rows .f32 fun r k => ((alpha * dres W (x r) (y r) k + back W (x r) (y r) 0 k) + back W (x r) (y r) 1 k) + back W (x r) (y r) 2 k)
      (dupCols W x y .bf16 3) (slab1 W 3) =
    rows .f32 fun r => dnorm1 W (x r) (y r) := by
  funext i
  idx_vars i
  pointwise [k0_pay51, rows, line, column, slab1, slab2, reluCols, hidCols, dupCols]
  simp only [dnorm1_eq, ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay54 : k0_pay54 (rows .f32 fun r k => ((alpha * dres W (x r) (y r) k + back W (x r) (y r) 0 k) + back W (x r) (y r) 1 k) + back W (x r) (y r) 2 k)
      (dupCols W x y .bf16 3) (slab1 W 3) (line W.g1) =
    rows .f32 fun r k => dnorm1 W (x r) (y r) k * W.g1 k := by
  rw [k0_pay54, pay51]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay55 : k0_pay55 (rows .f32 fun r k => ((alpha * dres W (x r) (y r) k + back W (x r) (y r) 0 k) + back W (x r) (y r) 1 k) + back W (x r) (y r) 2 k)
      (dupCols W x y .bf16 3) (slab1 W 3) (line W.g1) =
    column fun r => ∑ k, dnorm1 W (x r) (y r) k * W.g1 k := by
  rw [k0_pay55, pay54]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay1 : k0_pay1 (column fun r => rstd (x r)) (rows .f32 fun r => xhat (x r)) (rows .f32 fun r k => dnorm1 W (x r) (y r) k * W.g1 k)
      (column fun r => ∑ k, dnorm1 W (x r) (y r) k * W.g1 k) =
    rows .f32 fun r => dx W (x r) (y r) := by
  funext i
  idx_vars i
  pointwise [k0_pay1, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]
  rfl

theorem pay2 : k0_pay2 (column fun r => rstd (x r)) (rows .f32 fun r => xhat (x r)) (rows .f32 fun r k => dnorm1 W (x r) (y r) k * W.g1 k)
      (column fun r => ∑ k, dnorm1 W (x r) (y r) k * W.g1 k) =
    rows .bf16 fun r => dx W (x r) (y r) := by
  rw [k0_pay2, pay1]
  funext i
  idx_vars i
  pointwise [rows, line, column, slab1, slab2, reluCols, hidCols, dupCols]

/-! ## The five sums over rows -/

theorem pay33 (a : Fin 1024 → ℝ) : k0_pay33 (rows .f32 fun r => err W (x r) (y r)) (line a) =
    line fun k => a k + ∑ r, err W (x r) (y r) k * err W (x r) (y r) k := by
  funext i
  idx_vars i
  pointwise [k0_pay33, rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay35 (a : Fin 1024 → ℝ) : k0_pay35 (rows .f32 fun r => xhat (res W (x r))) (rows .f32 fun r => err W (x r) (y r)) (line a) =
    line fun k => a k + ∑ r, dnorm2 W (x r) (y r) k * xhat (res W (x r)) k := by
  rw [k0_pay35, pay34]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay36 (a : Fin 1024 → ℝ) : k0_pay36 (rows .f32 fun r => err W (x r) (y r)) (line a) =
    line fun k => a k + ∑ r, dnorm2 W (x r) (y r) k := by
  rw [k0_pay36, pay34]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay52 (a : Fin 1024 → ℝ) : k0_pay52 (rows .f32 fun r => xhat (x r)) (rows .f32 fun r k => ((alpha * dres W (x r) (y r) k + back W (x r) (y r) 0 k) + back W (x r) (y r) 1 k) + back W (x r) (y r) 2 k)
      (dupCols W x y .bf16 3) (slab1 W 3) (line a) =
    line fun k => a k + ∑ r, dnorm1 W (x r) (y r) k * xhat (x r) k := by
  rw [k0_pay52, pay51]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

theorem pay53 (a : Fin 1024 → ℝ) : k0_pay53 (rows .f32 fun r k => ((alpha * dres W (x r) (y r) k + back W (x r) (y r) 0 k) + back W (x r) (y r) 1 k) + back W (x r) (y r) 2 k)
      (dupCols W x y .bf16 3) (slab1 W 3) (line a) =
    line fun k => a k + ∑ r, dnorm1 W (x r) (y r) k := by
  rw [k0_pay53, pay51]
  funext i
  idx_vars i
  pointwise [rows, line, column, slab1, slab2, reluCols, hidCols, dupCols]
  simp only [ofBits_1024, ofBits_inv_1024, ofBits_two, ofBits_eps, ofBits_alpha, ofBits_zero, div_real (by norm_num : (1024 : ℝ) ≠ 0),
    ← coe_max, ← EReal.coe_mul, ← EReal.coe_add, ← EReal.coe_sub, ← coe_sum]

end Cert.KernelIdeal.Block
-- ==== Proof.Point.lean ====
module

public import proofs.«01_k».proof.Proof.Block
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.KernelIdeal.Point

open Idealize.ShloMosaic Idealize.ShloMosaic.TcCoe Idealize.SL.Sem Cert.KernelIdeal Cert.KernelIdeal.Gen Cert.Reals Cert.Row Cert.KernelIdeal.Block

/-- The first weight matrix as the kernel is given it: four blocks of columns. -/
def wide1 (W : Weights) : FVec Ideal S4x1024x1024 .bf16 := fun i => ((W.w1 (i 1) (col (i 0) (i 2)) : ℝ) : EReal)

def wide2 (W : Weights) : FVec Ideal S4096x1024 .bf16 := fun i => ((W.w2 (i 0) (i 1) : ℝ) : EReal)

/-- Block `j` of the first weight matrix's columns, loaded. -/
theorem ld1 (W : Weights) :
    View.ld (Val := Elt Ideal) (e' := .bf16) (wide1 W) (Rect.unit (s := S4x1024x1024) ![0, 0, 0] ![1, 1024, 1024] inb_S4x1024x1024_S1x1024x1024_0_0_0) = slab1 W 0 ∧
    View.ld (Val := Elt Ideal) (e' := .bf16) (wide1 W) (Rect.unit (s := S4x1024x1024) ![1, 0, 0] ![1, 1024, 1024] inb_S4x1024x1024_S1x1024x1024_1_0_0) = slab1 W 1 ∧
    View.ld (Val := Elt Ideal) (e' := .bf16) (wide1 W) (Rect.unit (s := S4x1024x1024) ![2, 0, 0] ![1, 1024, 1024] inb_S4x1024x1024_S1x1024x1024_2_0_0) = slab1 W 2 ∧
    View.ld (Val := Elt Ideal) (e' := .bf16) (wide1 W) (Rect.unit (s := S4x1024x1024) ![3, 0, 0] ![1, 1024, 1024] inb_S4x1024x1024_S1x1024x1024_3_0_0) = slab1 W 3 := by
  refine ⟨?_, ?_, ?_, ?_⟩ <;>
  · funext i
    idx_vars i
    pointwise [wide1, slab1]

/-- Block `j` of the second weight matrix's rows, loaded. -/
theorem ld2 (W : Weights) :
    View.ld (Val := Elt Ideal) (e' := .bf16) (wide2 W) (Rect.unit (s := S4096x1024) ![0, 0] ![1024, 1024] inb_S4096x1024_S1024x1024_0_0) = slab2 W 0 ∧
    View.ld (Val := Elt Ideal) (e' := .bf16) (wide2 W) (Rect.unit (s := S4096x1024) ![1024, 0] ![1024, 1024] inb_S4096x1024_S1024x1024_1024_0) = slab2 W 1 ∧
    View.ld (Val := Elt Ideal) (e' := .bf16) (wide2 W) (Rect.unit (s := S4096x1024) ![2048, 0] ![1024, 1024] inb_S4096x1024_S1024x1024_2048_0) = slab2 W 2 ∧
    View.ld (Val := Elt Ideal) (e' := .bf16) (wide2 W) (Rect.unit (s := S4096x1024) ![3072, 0] ![1024, 1024] inb_S4096x1024_S1024x1024_3072_0) = slab2 W 3 := by
  refine ⟨?_, ?_, ?_, ?_⟩ <;>
  · funext i
    idx_vars i
    pointwise [wide2, slab2]
    refine congrArg (fun j => ((W.w2 j i1 : ℝ) : EReal)) (Fin.ext ?_)
    simp [col]

/-! ## Eight rows of sums -/

/-- Eight rows of reals. -/
def sums (a : Fin 8 → Fin 1024 → ℝ) : FVec Ideal S8x1024 .f32 := fun i => ((a (i 0) (i 1) : ℝ) : EReal)

/-- What the rows of a block add to the eight rows of sums. -/
def rowSums (W : Weights) (x y : Fin 256 → Fin 1024 → ℝ) : Fin 8 → Fin 1024 → ℝ :=
  ![fun k => ∑ r, dnorm1 W (x r) (y r) k * xhat (x r) k, fun k => ∑ r, dnorm1 W (x r) (y r) k,
    fun k => ∑ r, dnorm2 W (x r) (y r) k * xhat (res W (x r)) k, fun k => ∑ r, dnorm2 W (x r) (y r) k,
    fun k => ∑ r, err W (x r) (y r) k * err W (x r) (y r) k, 0, 0, 0]

/-- A row of the sums, loaded. -/
theorem ld_sums (a : Fin 8 → Fin 1024 → ℝ) (o : ℕ) (ho : o < 8) (inb : ∀ d, ![o, 0] d + ![1, 1024] d ≤ S8x1024.size d) :
    View.ld (Val := Elt Ideal) (e' := .f32) (sums a) (Rect.unit (s := S8x1024) ![o, 0] ![1, 1024] inb) = line (a ⟨o, ho⟩) := by
  funext i
  have h0 : (i 0).val = 0 := Nat.lt_one_iff.mp (i 0).isLt
  refine congrArg (fun r : ℝ => (r : EReal)) (congrArg₂ a (Fin.ext ?_) (Fin.ext ?_))
  · show o + 1 * (i 0).val = o
    omega
  · show 0 + 1 * (i 1).val = (i 1).val
    omega

/-- A row of the sums, stored. -/
theorem store_sums {sig : RefSig} {κ : Kind} {sp : Space} (v : View sig κ sp S8x1024 .f32) (f : v.ty.Contents (Elt Ideal)) (o : ℕ) (ho : o < 8)
    (inb : ∀ d, ![o, 0] d + ![1, 1024] d ≤ S8x1024.size d) (b : Fin 1024 → ℝ) (L : List (View.Piece (Elt Ideal) S8x1024 .f32))
    (a : Fin 8 → Fin 1024 → ℝ) (h : v.read (Elt Ideal) (v.writes (Elt Ideal) f L) = sums a) :
    v.read (Elt Ideal) (v.writes (Elt Ideal) f ((⟨Rect.unit (s := S8x1024) ![o, 0] ![1, 1024] inb, line b⟩ : View.Piece (Elt Ideal) S8x1024 .f32) :: L)) =
      sums (Function.update a ⟨o, ho⟩ b) := by
  funext i
  by_cases e : i 0 = ⟨o, ho⟩
  · rw [View.read_writes_cons_rows_of_mem v f (o := o) inb (line b) L i (ix2 0 (i 1)) rfl (by rw [e]; rfl) rfl]
    exact congrArg (fun f : Fin 1024 → ℝ => ((f (i 1) : ℝ) : EReal))
      ((Function.update_self (⟨o, ho⟩ : Fin 8) b a).symm.trans (congrArg (Function.update a ⟨o, ho⟩ b) e.symm))
  · rw [View.read_writes_cons_rows_of_not_mem v f (o := o) (W := 1) inb (line b) L i rfl rfl, h]
    · exact congrArg (fun f : Fin 1024 → ℝ => ((f (i 1) : ℝ) : EReal)) (Function.update_of_ne (a := i 0) (a' := (⟨o, ho⟩ : Fin 8)) e b a).symm
    · have : (i 0).val ≠ o := fun h => e (Fin.ext h)
      omega

/-- The five rows that the kernel adds to, and the three that it leaves alone. -/
theorem update_rowSums (W : Weights) (x y : Fin 256 → Fin 1024 → ℝ) (a : Fin 8 → Fin 1024 → ℝ) :
    Function.update (Function.update (Function.update (Function.update (Function.update a 4 (a 4 + rowSums W x y 4))
      2 (a 2 + rowSums W x y 2)) 3 (a 3 + rowSums W x y 3)) 0 (a 0 + rowSums W x y 0)) 1 (a 1 + rowSums W x y 1) = a + rowSums W x y := by
  funext i
  fin_cases i <;> simp [Function.update, rowSums]

/-- The sums before the first block. -/
theorem pay5 : (k0_pay5 : FVec Ideal S8x1024 .f32) = sums 0 := by
  funext i
  idx_vars i
  pointwise [k0_pay5, sums]
  exact EReal.coe_zero.symm

/-- Four blocks of columns, stored side by side. -/
theorem four (f : Fin 256 → Fin 4096 → ℝ) (w : Fin 4 → FVec Ideal S256x1024 .bf16)
    (hw : ∀ j, w j = fun i => ((f (i 0) (col j (i 1)) : ℝ) : EReal)) :
    View.canon (Val := Elt Ideal) (s := S256x4096) (e := .bf16)
      [⟨Rect.unit ![0, 3072] ![256, 1024] inb_S256x4096_S256x1024_0_3072, w 3⟩,
        ⟨Rect.unit ![0, 2048] ![256, 1024] inb_S256x4096_S256x1024_0_2048, w 2⟩,
        ⟨Rect.unit ![0, 1024] ![256, 1024] inb_S256x4096_S256x1024_0_1024, w 1⟩,
        ⟨Rect.unit ![0, 0] ![256, 1024] inb_S256x4096_S256x1024_0_0, w 0⟩] = fun i => ((f (i 0) (i 1) : ℝ) : EReal) := by
  funext i
  canon_tiles i h
  all_goals
    refine (congrFun (hw _) _).trans (congrArg₂ (fun r k => ((f r k : ℝ) : EReal)) (Fin.ext (by omega)) (Fin.ext ?_))
    simp only [col]
    simp
    omega

/-- The first eight rows of a block. -/
theorem first (f : Fin 256 → Fin 1024 → ℝ) :
    k0_pay3 (F := Ideal) (View.ld (Val := Elt Ideal) (e' := .f32) (rows .f32 f) (Rect.unit (s := S256x1024) ![0, 0] ![8, 1024] inb_S256x1024_S8x1024_0_0)) =
      fun i => ((f ⟨(i 1).val, lt_trans (i 1).isLt (by decide)⟩ (i 2) : ℝ) : EReal) := by
  funext i
  idx_vars i
  pointwise [k0_pay3, rows]

/-- The last eight rows of a block. -/
theorem last (f : Fin 256 → Fin 1024 → ℝ) :
    k0_pay4 (F := Ideal) (View.ld (Val := Elt Ideal) (e' := .f32) (rows .f32 f) (Rect.unit (s := S256x1024) ![248, 0] ![8, 1024] inb_S256x1024_S8x1024_248_0)) =
      fun i => ((f ⟨248 + (i 1).val, Nat.add_lt_add_left (i 1).isLt 248⟩ (i 2) : ℝ) : EReal) := by
  funext i
  idx_vars i
  pointwise [k0_pay4, rows]

/-- The first and the last eight rows of a block, stored one after the other. -/
theorem two (f : Fin 256 → Fin 1024 → ℝ) :
    View.canon (Val := Elt Ideal) (s := S1x16x1024) (e := .f32)
      [⟨Rect.unit ![0, 8, 0] ![1, 8, 1024] inb_S1x16x1024_S1x8x1024_0_8_0,
          k0_pay4 (F := Ideal) (View.ld (Val := Elt Ideal) (e' := .f32) (rows .f32 f) (Rect.unit (s := S256x1024) ![248, 0] ![8, 1024] inb_S256x1024_S8x1024_248_0))⟩,
        ⟨Rect.unit ![0, 0, 0] ![1, 8, 1024] inb_S1x16x1024_S1x8x1024_0_0_0,
          k0_pay3 (F := Ideal) (View.ld (Val := Elt Ideal) (e' := .f32) (rows .f32 f) (Rect.unit (s := S256x1024) ![0, 0] ![8, 1024] inb_S256x1024_S8x1024_0_0))⟩] =
      fun i => ((f (edgeRow (i 1)) (i 2) : ℝ) : EReal) := by
  funext i
  canon_tiles z h
  · refine (congrFun (last f) _).trans (congrArg₂ (fun r k => ((f r k : ℝ) : EReal)) (Fin.ext ?_) (Fin.ext (by omega)))
    simp only [edgeRow]
    rw [if_neg (by omega)]
    omega
  · refine (congrFun (first f) _).trans (congrArg₂ (fun r k => ((f r k : ℝ) : EReal)) (Fin.ext ?_) (Fin.ext (by omega)))
    simp only [edgeRow]
    rw [if_pos (by omega)]
    omega

variable (W : Weights) (x y : Fin 256 → Fin 1024 → ℝ) (c : Dev nD) (t : Fin cfg0.N) (m : (ℓ : Loc nD τ sig) → Buf (Elt Ideal) ℓ)

/-- The blocks of a grid point are real: the rows `x` and `y` and the weights. -/
structure RealAt : Prop where
  h0 : iblk m c 0 t = rows .f32 x
  h1 : iblk m c 1 t = rows .f32 y
  h2 : iblk m c 2 t = wide1 W
  h3 : iblk m c 3 t = wide2 W
  h4 : iblk m c 4 t = line W.g1
  h5 : iblk m c 5 t = line W.b1
  h6 : iblk m c 6 t = line W.g2
  h7 : iblk m c 7 t = line W.b2

variable (h : RealAt W x y c t m)

include h in
theorem out8 : (outsAt0 m c t.val t.isLt).1 = rows .f32 fun r => dx W (x r) (y r) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

include h in
theorem out9 : (outsAt0 m c t.val t.isLt).2.1 = rows .bf16 fun r => dx W (x r) (y r) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

include h in
theorem out10 : (outsAt0 m c t.val t.isLt).2.2.1 = fun i => ((dx W (x (edgeRow (i 1))) (y (edgeRow (i 1))) (i 2) : ℝ) : EReal) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]
    exact two fun r => dx W (x r) (y r)
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]
    exact two fun r => dx W (x r) (y r)

include h in
theorem out11 : (outsAt0 m c t.val t.isLt).2.2.2.1 = rows .bf16 fun r => norm1 W (x r) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

include h in
theorem out12 : (outsAt0 m c t.val t.isLt).2.2.2.2.1 = fun i => ((hid W (x (i 0)) (i 1) : ℝ) : EReal) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]
    exact four (fun r => hid W (x r)) (hidCols W x .bf16) fun _ => rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]
    exact four (fun r => hid W (x r)) (hidCols W x .bf16) fun _ => rfl

include h in
theorem out13 : (outsAt0 m c t.val t.isLt).2.2.2.2.2.1 = fun i => ((dup W (x (i 0)) (y (i 0)) (i 1) : ℝ) : EReal) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]
    exact four (fun r => dup W (x r) (y r)) (dupCols W x y .bf16) fun _ => rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]
    exact four (fun r => dup W (x r) (y r)) (dupCols W x y .bf16) fun _ => rfl

include h in
theorem out14 : (outsAt0 m c t.val t.isLt).2.2.2.2.2.2.1 = rows .bf16 fun r => dres W (x r) (y r) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40]

include h in
theorem out15 (a : Fin 8 → Fin 1024 → ℝ)
    (ha : ∀ h0 : ¬ t.val % 64 = 0, (outsAt0 m c (t.val - 1) (Nat.lt_of_le_of_lt (Nat.sub_le _ _) t.isLt)).2.2.2.2.2.2.2 = sums a) : (outsAt0 m c t.val t.isLt).2.2.2.2.2.2.2 = sums ((if t.val % 64 = 0 then 0 else a) + rowSums W x y) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40, pay5, ld_sums _ 0 (by decide), ld_sums _ 1 (by decide), ld_sums _ 2 (by decide), ld_sums _ 3 (by decide), ld_sums _ 4 (by decide), pay33, pay35, pay36, pay52, pay53]
    rw [if_pos h0]
    rw [← View.read_writes_junk_eq_canon (ms0_15 t).view]
    refine (store_sums _ _ 1 (by decide) _ _ _ _ (store_sums _ _ 0 (by decide) _ _ _ _ (store_sums _ _ 3 (by decide) _ _ _ _
      (store_sums _ _ 2 (by decide) _ _ _ _ (store_sums _ _ 4 (by decide) _ _ _ 0 ?_))))).trans (congrArg sums (update_rowSums W x y 0))
    rw [View.read_writes_junk_eq_canon]
    exact View.canon_unit_zero (by decide) _ _
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, (ld1 W).1, (ld1 W).2.1, (ld1 W).2.2.1, (ld1 W).2.2.2,
      (ld2 W).1, (ld2 W).2.1, (ld2 W).2.2.1, (ld2 W).2.2.2, pay1, pay2, pay8, pay7, pay9, pay10, pay14, pay15, pay16, pay17, pay18, pay19, pay20, pay21, pay23, pay24, pay25, pay27, pay28, pay29, pay30, pay31, pay32, pay38, pay39, pay41, pay42, pay43, pay46, pay47, pay48, pay50, pay51, pay54, pay55, pay40, ha h0, ld_sums _ 0 (by decide), ld_sums _ 1 (by decide), ld_sums _ 2 (by decide), ld_sums _ 3 (by decide), ld_sums _ 4 (by decide), pay33, pay35, pay36, pay52, pay53]
    rw [if_neg h0]
    refine (store_sums _ _ 1 (by decide) _ _ _ _ (store_sums _ _ 0 (by decide) _ _ _ _ (store_sums _ _ 3 (by decide) _ _ _ _
      (store_sums _ _ 2 (by decide) _ _ _ _ (store_sums _ _ 4 (by decide) _ _ _ a ?_))))).trans (congrArg sums (update_rowSums W x y a))
    rw [View.writes_nil]
    exact Memref.IsWhole.read_unread _ _

end Cert.KernelIdeal.Point
-- ==== Proof.Arrays.lean ====
module

public import proofs.«01_k».proof.Proof.Point
public import Idealize.ShloMosaic.Lib.StableHlo.Run

@[expose] public section

set_option maxRecDepth 16384

noncomputable section

namespace Cert.KernelIdeal.Arrays

open Idealize.ShloMosaic Idealize.ShloMosaic.TcCoe Idealize.SL.Sem Cert.KernelIdeal Cert.KernelIdeal.Gen Cert.Reals Cert.Row Cert.KernelIdeal.Block Cert.KernelIdeal.Point

variable (W : Weights) (X Y : Fin 16384 → Fin 1024 → ℝ) (c : Dev nD) (m : (ℓ : Loc nD τ sig) → Buf (Elt Ideal) ℓ)

/-- The arguments are the real rows `X` and `Y` and the weights. -/
structure RealArgs : Prop where
  a0 : m ((c : Thread nD τ).loc main_arg0) = (fun i => ((X (i 1) (i 2) : ℝ) : EReal) : FVec Ideal S1x16384x1024 .f32)
  a1 : m ((c : Thread nD τ).loc main_arg1) = (fun i => ((W.w1 (i 1) (i 2) : ℝ) : EReal) : FVec Ideal S1x1024x4096 .f32)
  a2 : m ((c : Thread nD τ).loc main_arg2) = (fun i => ((W.w2 (i 1) (i 2) : ℝ) : EReal) : FVec Ideal S1x4096x1024 .f32)
  a3 : m ((c : Thread nD τ).loc main_arg3) = (line W.g1 : FVec Ideal S1x1024 .f32)
  a4 : m ((c : Thread nD τ).loc main_arg4) = (line W.b1 : FVec Ideal S1x1024 .f32)
  a5 : m ((c : Thread nD τ).loc main_arg5) = (line W.g2 : FVec Ideal S1x1024 .f32)
  a6 : m ((c : Thread nD τ).loc main_arg6) = (line W.b2 : FVec Ideal S1x1024 .f32)
  a7 : m ((c : Thread nD τ).loc main_arg7) = (fun i => ((Y (i 1) (i 2) : ℝ) : EReal) : FVec Ideal S1x16384x1024 .f32)

variable (h : RealArgs W X Y c m)

include h in
theorem entry_rows : V m c main_v7 = (fun i => ((X (i 0) (i 1) : ℝ) : EReal) : FVec Ideal S16384x1024 .f32) := by
  dsimp only [V]
  after_results
  rw [h.a0]
  funext i
  idx_vars i
  pointwise []

include h in
theorem entry_w1 : V m c main_v4 = wide1 W := by
  dsimp only [V]
  after_results
  rw [h.a1]
  funext i
  idx_vars i
  pointwise [wide1]
  refine congrArg (fun j => ((W.w1 i1 j : ℝ) : EReal)) (Fin.ext ?_)
  simp only [col]
  omega

include h in
theorem entry_w2 : V m c main_v6 = wide2 W := by
  dsimp only [V]
  after_results
  rw [h.a2]
  funext i
  idx_vars i
  pointwise [wide2]

include h in
theorem entry_tgt : V m c main_v0 = (fun i => ((Y (i 0) (i 1) : ℝ) : EReal) : FVec Ideal S16384x1024 .f32) := by
  dsimp only [V]
  after_results
  rw [h.a7]
  funext i
  idx_vars i
  pointwise []

/-- A grid point's block number. -/
theorem index_rows : ∀ t : Fin cfg0.N, win0_0.index t = ![t.val, 0] ∧ win0_1.index t = ![t.val, 0] ∧ win0_2.index t = ![0, 0, 0] ∧
    win0_3.index t = ![0, 0] ∧ win0_4.index t = ![0, 0] ∧ win0_5.index t = ![0, 0] ∧ win0_6.index t = ![0, 0] ∧ win0_7.index t = ![0, 0] := by
  decide +kernel

theorem index_out : ∀ t : Fin cfg0.N, win0_8.index t = ![t.val, 0] ∧ win0_9.index t = ![t.val, 0] ∧ win0_10.index t = ![t.val, 0, 0] ∧
    win0_11.index t = ![t.val, 0] ∧ win0_12.index t = ![t.val, 0] ∧ win0_13.index t = ![t.val, 0] ∧ win0_14.index t = ![t.val, 0] := by
  decide +kernel

include h in
/-- The blocks of every grid point are real. -/
theorem realAt (t : Fin cfg0.N) : RealAt W (fun r => X (at64 t r)) (fun r => Y (at64 t r)) c t m where
  h0 := by
    funext i
    blk_simp [iblk]
    rw [entry_rows W X Y c m h]
    refine congrArg₂ (fun r k => ((X r k : ℝ) : EReal)) (Fin.ext ?_) (Fin.ext ?_) <;> blk_simp [(index_rows t).1, at64] <;> simp [at64] <;> omega
  h1 := by
    funext i
    blk_simp [iblk]
    rw [entry_tgt W X Y c m h]
    refine congrArg₂ (fun r k => ((Y r k : ℝ) : EReal)) (Fin.ext ?_) (Fin.ext ?_) <;> blk_simp [(index_rows t).2.1, at64] <;> simp [at64] <;> omega
  h2 := by
    funext i
    blk_simp [iblk]
    rw [entry_w1 W X Y c m h]
    exact congrArg (wide1 W) (by blk_ext [(index_rows t).2.2.1])
  h3 := by
    funext i
    blk_simp [iblk]
    rw [entry_w2 W X Y c m h]
    exact congrArg (wide2 W) (by blk_ext [(index_rows t).2.2.2.1])
  h4 := by
    funext i
    blk_simp [iblk]
    rw [V_main_arg3, h.a3]
    exact congrArg (line W.g1) (by blk_ext [(index_rows t).2.2.2.2.1])
  h5 := by
    funext i
    blk_simp [iblk]
    rw [V_main_arg4, h.a4]
    exact congrArg (line W.b1) (by blk_ext [(index_rows t).2.2.2.2.2.1])
  h6 := by
    funext i
    blk_simp [iblk]
    rw [V_main_arg5, h.a5]
    exact congrArg (line W.g2) (by blk_ext [(index_rows t).2.2.2.2.2.2.1])
  h7 := by
    funext i
    blk_simp [iblk]
    rw [V_main_arg6, h.a6]
    exact congrArg (line W.b2) (by blk_ext [(index_rows t).2.2.2.2.2.2.2])

include h in
theorem array8 : (dats m 0 c).arrAt 8 cfg0.N = (fun i => ((dx W (X (i 0)) (Y (i 0)) (i 1) : ℝ) : EReal) : FVec Ideal S16384x1024 .f32) := by
  refine (dats m 0 c).arrAt_eq_of_covers 8 _ (by decide +kernel) fun t hf y => ?_
  blk_simp
  refine (congrFun (out8 W _ _ c t m (realAt W X Y c m h t)) y).trans ?_
  refine congrArg₂ (fun r k => ((dx W (X r) (Y r) k : ℝ) : EReal)) (Fin.ext ?_) (Fin.ext ?_) <;> blk_simp [(index_out t).1, at64] <;> simp [at64] <;> omega

include h in
theorem array9 : (dats m 0 c).arrAt 9 cfg0.N = (fun i => ((dx W (X (i 0)) (Y (i 0)) (i 1) : ℝ) : EReal) : FVec Ideal S16384x1024 .bf16) := by
  refine (dats m 0 c).arrAt_eq_of_covers 9 _ (by decide +kernel) fun t hf y => ?_
  blk_simp
  refine (congrFun (out9 W _ _ c t m (realAt W X Y c m h t)) y).trans ?_
  refine congrArg₂ (fun r k => ((dx W (X r) (Y r) k : ℝ) : EReal)) (Fin.ext ?_) (Fin.ext ?_) <;> blk_simp [(index_out t).2.1, at64] <;> simp [at64] <;> omega

include h in
theorem array11 : (dats m 0 c).arrAt 11 cfg0.N = (fun i => ((norm1 W (X (i 0)) (i 1) : ℝ) : EReal) : FVec Ideal S16384x1024 .bf16) := by
  refine (dats m 0 c).arrAt_eq_of_covers 11 _ (by decide +kernel) fun t hf y => ?_
  blk_simp
  refine (congrFun (out11 W _ _ c t m (realAt W X Y c m h t)) y).trans ?_
  refine congrArg₂ (fun r k => ((norm1 W (X r) k : ℝ) : EReal)) (Fin.ext ?_) (Fin.ext ?_) <;> blk_simp [(index_out t).2.2.2.1, at64] <;> simp [at64] <;> omega

include h in
theorem array12 : (dats m 0 c).arrAt 12 cfg0.N = (fun i => ((hid W (X (i 0)) (i 1) : ℝ) : EReal) : FVec Ideal S16384x4096 .bf16) := by
  refine (dats m 0 c).arrAt_eq_of_covers 12 _ (by decide +kernel) fun t hf y => ?_
  blk_simp
  refine (congrFun (out12 W _ _ c t m (realAt W X Y c m h t)) y).trans ?_
  refine congrArg₂ (fun r k => ((hid W (X r) k : ℝ) : EReal)) (Fin.ext ?_) (Fin.ext ?_) <;> blk_simp [(index_out t).2.2.2.2.1, at64] <;> simp [at64] <;> omega

include h in
theorem array13 : (dats m 0 c).arrAt 13 cfg0.N = (fun i => ((dup W (X (i 0)) (Y (i 0)) (i 1) : ℝ) : EReal) : FVec Ideal S16384x4096 .bf16) := by
  refine (dats m 0 c).arrAt_eq_of_covers 13 _ (by decide +kernel) fun t hf y => ?_
  blk_simp
  refine (congrFun (out13 W _ _ c t m (realAt W X Y c m h t)) y).trans ?_
  refine congrArg₂ (fun r k => ((dup W (X r) (Y r) k : ℝ) : EReal)) (Fin.ext ?_) (Fin.ext ?_) <;> blk_simp [(index_out t).2.2.2.2.2.1, at64] <;> simp [at64] <;> omega

include h in
theorem array14 : (dats m 0 c).arrAt 14 cfg0.N = (fun i => ((dres W (X (i 0)) (Y (i 0)) (i 1) : ℝ) : EReal) : FVec Ideal S16384x1024 .bf16) := by
  refine (dats m 0 c).arrAt_eq_of_covers 14 _ (by decide +kernel) fun t hf y => ?_
  blk_simp
  refine (congrFun (out14 W _ _ c t m (realAt W X Y c m h t)) y).trans ?_
  refine congrArg₂ (fun r k => ((dres W (X r) (Y r) k : ℝ) : EReal)) (Fin.ext ?_) (Fin.ext ?_) <;> blk_simp [(index_out t).2.2.2.2.2.2, at64] <;> simp [at64] <;> omega

include h in
theorem array10 : (dats m 0 c).arrAt 10 cfg0.N =
    (fun i => ((dx W (X (at64 (i 0) (edgeRow (i 1)))) (Y (at64 (i 0) (edgeRow (i 1)))) (i 2) : ℝ) : EReal) : FVec Ideal S64x16x1024 .f32) := by
  refine (dats m 0 c).arrAt_eq_of_covers 10 _ (by decide +kernel) fun t hf y => ?_
  blk_simp
  refine (congrFun (out10 W _ _ c t m (realAt W X Y c m h t)) y).trans ?_
  have e0 : (win0_10.blk t).view.emb y 0 = t := Fin.ext (by blk_simp [(index_out t).2.2.1])
  have e1 : (win0_10.blk t).view.emb y 1 = y 1 := Fin.ext (by blk_simp [(index_out t).2.2.1])
  have e2 : (win0_10.blk t).view.emb y 2 = y 2 := Fin.ext (by blk_simp [(index_out t).2.2.1])
  rw [e0, e1, e2]

/-- What the rows of block `t` add to the sums. -/
def blockSums (t : Fin 64) : Fin 8 → Fin 1024 → ℝ := rowSums W (fun r => X (at64 t r)) (fun r => Y (at64 t r))

/-- The sums after block `n`. -/
def sumsUpTo (n : ℕ) : Fin 8 → Fin 1024 → ℝ := ∑ t ∈ Finset.range (n + 1), if h : t < 64 then blockSums W X Y ⟨t, h⟩ else 0

include h in
theorem sums_after : ∀ (n : ℕ) (hn : n < cfg0.N), (outsAt0 m c n hn).2.2.2.2.2.2.2 = sums (sumsUpTo W X Y n)
  | 0, hn => by
    have e := out15 W _ _ c ⟨0, hn⟩ m (realAt W X Y c m h ⟨0, hn⟩) 0 (fun h0 => absurd rfl h0)
    simp only [ite_self, zero_add] at e
    refine e.trans (congrArg sums ?_)
    rw [sumsUpTo, Finset.sum_range_one, dif_pos (by decide)]
    rfl
  | n + 1, hn => by
    have h64 : n + 1 < 64 := hn
    have h0 : ¬ (n + 1) % 64 = 0 := by omega
    have e := out15 W _ _ c ⟨n + 1, hn⟩ m (realAt W X Y c m h ⟨n + 1, hn⟩) (sumsUpTo W X Y n) (fun _ => sums_after n (Nat.lt_of_succ_lt hn))
    rw [if_neg h0] at e
    refine e.trans (congrArg sums ?_)
    rw [sumsUpTo, sumsUpTo, Finset.sum_range_succ _ (n + 1), dif_pos h64]
    rfl

theorem rowSums_eq (W : Weights) (x y : Fin 256 → Fin 1024 → ℝ) (i : Fin 8) (k : Fin 1024) :
    rowSums W x y i k = ∑ r, rowTerm W (x r) (y r) i k := by
  revert i
  simp [Fin.forall_fin_succ, rowSums, rowTerm]

/-- The sums over all rows. -/
def total : Fin 8 → Fin 1024 → ℝ := fun i k => ∑ r, rowTerm W (X r) (Y r) i k

theorem sum_blocks (f : Fin 16384 → ℝ) : ∑ t : Fin 64, ∑ r : Fin 256, f (at64 t r) = ∑ i, f i := by
  rw [← Fin.sum_mul_add_fin 64 256 f]
  exact Finset.sum_congr rfl fun t _ => Finset.sum_congr rfl fun r _ => congrArg f (Fin.ext (by simp only [at64]; omega))

theorem sumsUpTo_last : sumsUpTo W X Y 63 = total W X Y := by
  have e : sumsUpTo W X Y 63 = ∑ t : Fin 64, blockSums W X Y t := by
    rw [sumsUpTo, Finset.sum_range]
    exact Finset.sum_congr rfl fun t _ => dif_pos t.isLt
  rw [e]
  funext i k
  rw [Finset.sum_apply, Finset.sum_apply]
  refine (Finset.sum_congr rfl fun t _ => rowSums_eq W _ _ i k).trans ?_
  exact sum_blocks fun r => rowTerm W (X r) (Y r) i k

/-- The sums are written back once, after the last block. -/
theorem flush_sums : ∀ t : Fin cfg0.N, (cfg0.win 15).flush t = true → t.val = 63 ∧ win0_15.index t = ![0, 0] := by
  decide +kernel

include h in
theorem array15 : (dats m 0 c).arrAt 15 cfg0.N = (sums (total W X Y) : FVec Ideal S8x1024 .f32) := by
  refine (dats m 0 c).arrAt_eq_of_covers 15 _ (by decide +kernel) fun t hf y => ?_
  blk_simp
  refine (congrFun (sums_after W X Y c m h t.val t.isLt) y).trans ?_
  rw [(flush_sums t hf).1, sumsUpTo_last]
  exact congrArg (sums (total W X Y)) (by blk_ext [(flush_sums t hf).2])

end Cert.KernelIdeal.Arrays
-- ==== Proof.RowAlgebra.lean ====
module

public import proofs.«01_k».proof.Proof.Spec

@[expose] public section

/-! # The gradient of a layer norm, in its parts -/

noncomputable section

namespace Cert.Row

open Cert.Reals

theorem sum_cen (v : Fin 1024 → ℝ) : ∑ k, cen v k = 0 := by
  simp only [cen, mean, Finset.sum_sub_distrib, Finset.sum_const, Finset.card_univ, Fintype.card_fin, nsmul_eq_mul]
  push_cast
  ring

theorem rstd_sq (v : Fin 1024 → ℝ) : rstd v * rstd v = (var v + eps)⁻¹ := by
  rw [rstd, ← mul_inv, Real.mul_self_sqrt (var_eps_pos v).le]

/-- The gradient's part through the variance. -/
def viaVar (v d : Fin 1024 → ℝ) (k : Fin 1024) : ℝ :=
  (∑ i, cen v i * d i) * (-(1 / 2) * (rstd v / (var v + eps))) / 1024 * (2 * cen v k)

/-- The direct part, the part through the variance and the part through the mean add up to the gradient. -/
theorem normGrad_parts (v d : Fin 1024 → ℝ) (k : Fin 1024) :
    d k * rstd v + viaVar v d k + (∑ i, -(d i * rstd v) + ∑ i, -(viaVar v d i)) / 1024 = normGrad v d k := by
  have e1 : ∑ i, -(viaVar v d i) = 0 := by
    simp only [viaVar, Finset.sum_neg_distrib, ← Finset.mul_sum, sum_cen, mul_zero, neg_zero]
  have e2 : ∑ i, -(d i * rstd v) = -((∑ i, d i) * rstd v) := by
    rw [Finset.sum_neg_distrib, Finset.sum_mul]
  have e3 : ∑ i, d i * xhat v i = (∑ i, cen v i * d i) * rstd v := by
    rw [Finset.sum_mul]
    exact Finset.sum_congr rfl fun i _ => by rw [xhat]; ring
  have e4 := rstd_sq v
  rw [e1, e2, normGrad, mean, mean, e3, viaVar, xhat, div_eq_mul_inv (rstd v), ← e4]
  ring

theorem dup_of_pos (W : Weights) (x y : Fin 1024 → ℝ) (j : Fin 4096) :
    dup W x y j = if 0 < up W x j then (∑ k, dres W x y k * W.w2 j k) * (2 * relu W x j) else 0 := by
  split
  · rfl
  · next h => rw [dup, relu, max_eq_right (not_lt.mp h)]; ring

end Cert.Row
-- ==== Proof.Ref.lean ====
module

public import proofs.«01_k».proof.Proof.RowAlgebra
public import proofs.«01_k».proof.Proof.Gen.ReferenceIdeal.Run

@[expose] public section

/-! # The reference's values on real arguments -/

set_option maxRecDepth 16384

noncomputable section

namespace Cert.ReferenceIdeal.Ref

open Idealize.ShloMosaic Idealize.ShloMosaic.TcCoe Cert.ReferenceIdeal Cert.ReferenceIdeal.Gen Cert.ReferenceIdeal.Value Cert.Reals Cert.Row

/-! ## The pieces of a layer norm and of its gradient, on real rows -/

/-- All rows of a real array. -/
def cube (f : Fin 16384 → Fin 1024 → ℝ) : FVec Ideal S1x16384x1024 .f32 := fun i => ((f (i 1) (i 2) : ℝ) : EReal)

/-- All rows of the hidden width. -/
def wide (f : Fin 16384 → Fin 4096 → ℝ) : FVec Ideal S1x16384x4096 .f32 := fun i => ((f (i 1) (i 2) : ℝ) : EReal)

/-- One real per row. -/
def tall (f : Fin 16384 → ℝ) : FVec Ideal S1x16384x1 .f32 := fun i => ((f (i 1) : ℝ) : EReal)

/-- One real per column. -/
def flat (g : Fin 1024 → ℝ) : FVec Ideal S1x1x1024 .f32 := fun i => ((g (i 2) : ℝ) : EReal)

def overRow (a : FVec Ideal S1x16384x1 .f32) : FVec Ideal S1x16384x1024 .f32 :=
  broadcastInDim S1x16384x1024 ![0, 1, 2] bcast_S1x16384x1_S1x16384x1024_0_1_2 a

def meanOf (a : FVec Ideal S1x16384x1024 .f32) : FVec Ideal S1x16384x1 .f32 :=
  Host.divf (broadcastInDim S1x16384x1 ![0, 1] bcast_S1x16384_S1x16384x1_0_1 (Host.reduceAdd a (constant S_ .f32 0x00000000#32) reducesTo_S1x16384x1024_S1x16384_d2 h_S_)) (broadcastInDim S1x16384x1 ![] bcast_S_S1x16384x1 (constant S_ .f32 0x44800000#32))

def varOf (a : FVec Ideal S1x16384x1024 .f32) : FVec Ideal S1x16384x1 .f32 :=
  addf (meanOf (mulf a a)) (broadcastInDim S1x16384x1 ![] bcast_S_S1x16384x1 (constant S_ .f32 0x3727C5AC#32))

/-- The sum of each row's entry over the axes of length one. -/
def squeezed (a : FVec Ideal S1x16384x1 .f32) : FVec Ideal S1x16384x1024 .f32 :=
  broadcastInDim S1x16384x1024 ![0, 1] bcast_S1x16384_S1x16384x1024_0_1 (broadcastInDim S1x16384 ![1] bcast_S16384_S1x16384_1 (Host.reduceAdd (Host.divf a (broadcastInDim S1x16384x1 ![] bcast_S_S1x16384x1 (constant S_ .f32 0x44800000#32))) (constant S_ .f32 0x00000000#32) reducesTo_S1x16384x1_S16384_d0_2 h_S_))

def rowSum (a : FVec Ideal S1x16384x1024 .f32) : FVec Ideal S1x16384x1 .f32 :=
  shapeCast _ (Host.reduceAdd a (constant S_ .f32 0x00000000#32) reducesTo_S1x16384x1024_S1x16384_d2 h_S_) shapeCasts_S1x16384_S1x16384x1

/-- The gradient's part through the variance. -/
def throughVar (c d : FVec Ideal S1x16384x1024 .f32) (r v : FVec Ideal S1x16384x1 .f32) : FVec Ideal S1x16384x1024 .f32 :=
  mulf (squeezed (mulf (rowSum (mulf c d)) (mulf (broadcastInDim S1x16384x1 ![] bcast_S_S1x16384x1 (constant S_ .f32 0xBF000000#32)) (Host.divf r v)))) (mulf (broadcastInDim S1x16384x1024 ![] bcast_S_S1x16384x1024 (constant S_ .f32 0x40000000#32)) c)

/-- The gradient: the direct part, the part through the variance, and the part through the mean. -/
def allParts (p q : FVec Ideal S1x16384x1024 .f32) : FVec Ideal S1x16384x1024 .f32 :=
  addf (addf p q) (squeezed (addf (rowSum (Host.negf p)) (rowSum (Host.negf q))))

/-- A sum over a first and a last axis of length one. -/
theorem sum_outer (v : S1x16384x1.Idx → EReal) (r : Fin 16384) :
    Ideal.hostReduceAdd reducesTo_S1x16384x1_S16384_d0_2 v 0 (ix1 r) = v (ix3 0 r 0) := by
  rw [Ideal.hostReduceAdd, zero_add]
  refine Finset.sum_eq_single_of_mem _ (Finset.mem_filter.mpr ⟨Finset.mem_univ _, ?_⟩) fun i hi ne => absurd ?_ ne
  · funext a
    fin_cases a
    rfl
  · have e : i 1 = r := congrFun (Finset.mem_filter.mp hi).2 0
    have e0 : (i 0).val = 0 := Nat.lt_one_iff.mp (i 0).isLt
    have e2 : (i 2).val = 0 := Nat.lt_one_iff.mp (i 2).isLt
    funext a
    fin_cases a
    · exact Fin.ext e0
    · exact e
    · exact Fin.ext e2

/-- A sum over two leading axes of length one. -/
theorem sum_leading (v : S1x1x1024.Idx → EReal) (k : Fin 1024) :
    Ideal.hostReduceAdd reducesTo_S1x1x1024_S1024_d0_1 v 0 (ix1 k) = v (ix3 0 0 k) := by
  rw [Ideal.hostReduceAdd, zero_add]
  refine Finset.sum_eq_single_of_mem _ (Finset.mem_filter.mpr ⟨Finset.mem_univ _, ?_⟩) fun i hi ne => absurd ?_ ne
  · funext a
    fin_cases a
    rfl
  · have e : i 2 = k := congrFun (Finset.mem_filter.mp hi).2 0
    have e0 : (i 0).val = 0 := Nat.lt_one_iff.mp (i 0).isLt
    have e1 : (i 1).val = 0 := Nat.lt_one_iff.mp (i 1).isLt
    funext a
    fin_cases a
    · exact Fin.ext e0
    · exact Fin.ext e1
    · exact e

variable (f g : Fin 16384 → Fin 1024 → ℝ) (a : Fin 16384 → ℝ)

theorem meanOf_real : meanOf (cube f) = tall fun r => mean (f r) := by
  funext i
  idx_vars i
  pointwise [meanOf, cube, tall]
  simp only [ofBits_1024, ofBits_zero, div_real (by norm_num : (1024 : ℝ) ≠ 0), ← EReal.coe_mul, ← EReal.coe_add, ← EReal.coe_sub, ← coe_sum]
  rfl

theorem squeezed_real : squeezed (tall a) = cube fun r _ => a r / 1024 := by
  funext i
  idx_vars i
  pointwise [squeezed, cube]
  rw [sum_outer]
  pointwise [tall]
  simp only [ofBits_1024, div_real (by norm_num : (1024 : ℝ) ≠ 0)]

theorem rowSum_real : rowSum (cube f) = tall fun r => ∑ k, f r k := by
  funext i
  idx_vars i
  pointwise [rowSum, cube, tall]
  simp only [ofBits_1024, ofBits_zero, ← coe_sum]

theorem overRow_real : overRow (tall a) = cube fun r _ => a r := by
  funext i
  idx_vars i
  pointwise [overRow, cube, tall]

theorem mulf_real : mulf (cube f) (cube g) = cube fun r k => f r k * g r k := by
  funext i
  idx_vars i
  pointwise [cube]
  simp only [← EReal.coe_mul]

theorem negf_real : Host.negf (cube f) = cube fun r k => -(f r k) := by
  funext i
  idx_vars i
  pointwise [cube]
  simp only [← EReal.coe_neg]

theorem cen_real : subf (cube f) (overRow (meanOf (cube f))) = cube fun r => cen (f r) := by
  rw [meanOf_real, overRow_real]
  funext i
  idx_vars i
  pointwise [cube]
  simp only [← EReal.coe_sub]
  rfl

theorem varOf_real : varOf (cube fun r => cen (f r)) = tall fun r => var (f r) + eps := by
  rw [varOf, mulf_real, meanOf_real]
  funext i
  idx_vars i
  pointwise [tall]
  simp only [ofBits_eps, ← EReal.coe_add]
  rfl

theorem rstd_real : Host.rsqrt (tall fun r => var (f r) + eps) = tall fun r => rstd (f r) := by
  funext i
  idx_vars i
  pointwise [tall]
  exact rsqrt_pos (var_eps_pos _)

theorem xhat_real : mulf (cube fun r => cen (f r)) (overRow (tall fun r => rstd (f r))) = cube fun r => xhat (f r) := by
  rw [overRow_real, mulf_real]
  rfl

theorem throughVar_real : throughVar (cube fun r => cen (f r)) (cube g) (tall fun r => rstd (f r)) (tall fun r => var (f r) + eps) =
    cube fun r => viaVar (f r) (g r) := by
  rw [throughVar, mulf_real, rowSum_real]
  rw [show mulf (tall fun r => ∑ k, cen (f r) k * g r k) (mulf (broadcastInDim S1x16384x1 ![] bcast_S_S1x16384x1 (constant S_ .f32 0xBF000000#32))
      (Host.divf (tall fun r => rstd (f r)) (tall fun r => var (f r) + eps))) =
      tall fun r => (∑ k, cen (f r) k * g r k) * (-(1 / 2) * (rstd (f r) / (var (f r) + eps))) by
    funext i
    idx_vars i
    pointwise [tall]
    simp only [ofBits_neg_half, div_real (var_eps_pos _).ne', ← EReal.coe_mul]]
  rw [squeezed_real]
  funext i
  idx_vars i
  pointwise [cube]
  simp only [ofBits_two, ← EReal.coe_mul]
  rfl

theorem allParts_real : allParts (cube f) (cube g) = cube fun r k => f r k + g r k + (∑ i, -(f r i) + ∑ i, -(g r i)) / 1024 := by
  rw [allParts, negf_real, negf_real, rowSum_real, rowSum_real]
  rw [show addf (tall fun r => ∑ i, -(f r i)) (tall fun r => ∑ i, -(g r i)) = tall fun r => ∑ i, -(f r i) + ∑ i, -(g r i) by
    funext i
    idx_vars i
    pointwise [tall]
    simp only [← EReal.coe_add]]
  rw [squeezed_real]
  funext i
  idx_vars i
  pointwise [cube]
  simp only [← EReal.coe_add]

/-- The gradient of a layer norm, from its parts. -/
theorem grad_real : allParts (mulf (cube g) (overRow (tall fun r => rstd (f r))))
    (throughVar (cube fun r => cen (f r)) (cube g) (tall fun r => rstd (f r)) (tall fun r => var (f r) + eps)) =
    cube fun r => normGrad (f r) (g r) := by
  rw [overRow_real, mulf_real, throughVar_real, allParts_real]
  exact congrArg cube (funext fun r => funext fun k => normGrad_parts (f r) (g r) k)

/-! ## The values -/

variable (W : Weights) (X Y : Fin 16384 → Fin 1024 → ℝ) (V0 : Valuation τ sig (Elt Ideal))

/-- The arguments are the real rows `X` and `Y` and the weights. -/
structure RealArgs : Prop where
  a0 : V0 (Proc.devRef .tc main_arg0) = cube X
  a1 : V0 (Proc.devRef .tc main_arg1) = (fun i => ((W.w1 (i 1) (i 2) : ℝ) : EReal) : FVec Ideal S1x1024x4096 .f32)
  a2 : V0 (Proc.devRef .tc main_arg2) = (fun i => ((W.w2 (i 1) (i 2) : ℝ) : EReal) : FVec Ideal S1x4096x1024 .f32)
  a3 : V0 (Proc.devRef .tc main_arg3) = (fun i => ((W.g1 (i 1) : ℝ) : EReal) : FVec Ideal S1x1024 .f32)
  a4 : V0 (Proc.devRef .tc main_arg4) = (fun i => ((W.b1 (i 1) : ℝ) : EReal) : FVec Ideal S1x1024 .f32)
  a5 : V0 (Proc.devRef .tc main_arg5) = (fun i => ((W.g2 (i 1) : ℝ) : EReal) : FVec Ideal S1x1024 .f32)
  a6 : V0 (Proc.devRef .tc main_arg6) = (fun i => ((W.b2 (i 1) : ℝ) : EReal) : FVec Ideal S1x1024 .f32)
  a7 : V0 (Proc.devRef .tc main_arg7) = cube Y

variable (h : RealArgs W X Y V0)

include h in
theorem v2 : res_main_v2 V0 = (fun i => ((W.w1 (i 0) (i 1) : ℝ) : EReal) : FVec Ideal S1024x4096 .f32) := by
  rw [res_main_v2, h.a1]
  funext i
  idx_vars i
  pointwise []

include h in
theorem v40 : res_main_v40 V0 = (fun i => ((W.w2 (i 0) (i 1) : ℝ) : EReal) : FVec Ideal S4096x1024 .f32) := by
  rw [res_main_v40, h.a2]
  funext i
  idx_vars i
  pointwise []

include h in
theorem v26 : res_main_v26 V0 = flat W.g1 := by
  rw [res_main_v26, h.a3]
  funext i
  idx_vars i
  pointwise [flat]

include h in
theorem v70 : res_main_v70 V0 = flat W.g2 := by
  rw [res_main_v70, h.a5]
  funext i
  idx_vars i
  pointwise [flat]

include h in
theorem v8 : res_main_v8 V0 = cube fun r => cen (X r) := by
  rw [res_main_v8, res_main_v6, h.a0]
  exact cen_real _

include h in
theorem v17 : res_main_v17 V0 = cube fun r => cen (X r) := v8 W X Y V0 h

include h in
theorem v19 : res_main_v19 V0 = tall fun r => var (X r) + eps := by
  rw [res_main_v19, v8 W X Y V0 h]
  exact varOf_real _

include h in
theorem v20 : res_main_v20 V0 = tall fun r => rstd (X r) := by
  rw [res_main_v20, v19 W X Y V0 h]
  exact rstd_real _

include h in
theorem v25 : res_main_v25 V0 = cube fun r => xhat (X r) := by
  rw [res_main_v25, v17 W X Y V0 h, v20 W X Y V0 h]
  exact xhat_real _

include h in
theorem v31 : res_main_v31 V0 = cube fun r => norm1 W (X r) := by
  rw [res_main_v31, v25 W X Y V0 h, v26 W X Y V0 h, h.a4]
  funext i
  idx_vars i
  pointwise [cube, flat]
  simp only [← EReal.coe_mul, ← EReal.coe_add]
  rfl

include h in
theorem v32 : res_main_v32 V0 = wide fun r => up W (X r) := by
  rw [res_main_v32, v31 W X Y V0 h, v2 W X Y V0 h]
  funext i
  idx_vars i
  pointwise [cube, wide]
  simp only [← EReal.coe_mul, ← coe_sum]
  rfl

include h in
theorem v33 : res_main_v33 V0 = wide fun r => relu W (X r) := by
  rw [res_main_v33, v32 W X Y V0 h]
  funext i
  idx_vars i
  pointwise [wide]
  rfl

include h in
theorem v37 : res_main_v37 V0 = wide fun r => hid W (X r) := by
  rw [res_main_v37, v33 W X Y V0 h]
  funext i
  idx_vars i
  pointwise [wide]
  simp only [← EReal.coe_mul]
  rfl

include h in
theorem v44 : res_main_v44 V0 = cube fun r => res W (X r) := by
  rw [res_main_v44, v31 W X Y V0 h, v37 W X Y V0 h, v40 W X Y V0 h]
  funext i
  idx_vars i
  pointwise [cube, wide]
  simp only [ofBits_alpha, ← EReal.coe_mul, ← EReal.coe_add, ← coe_sum]
  rfl

include h in
theorem v52 : res_main_v52 V0 = cube fun r => cen (res W (X r)) := by
  rw [res_main_v52, res_main_v50, v44 W X Y V0 h]
  exact cen_real _

include h in
theorem v61 : res_main_v61 V0 = cube fun r => cen (res W (X r)) := v52 W X Y V0 h

include h in
theorem v63 : res_main_v63 V0 = tall fun r => var (res W (X r)) + eps := by
  rw [res_main_v63, v52 W X Y V0 h]
  exact varOf_real _

include h in
theorem v64 : res_main_v64 V0 = tall fun r => rstd (res W (X r)) := by
  rw [res_main_v64, v63 W X Y V0 h]
  exact rstd_real _

include h in
theorem v69 : res_main_v69 V0 = cube fun r => xhat (res W (X r)) := by
  rw [res_main_v69, v61 W X Y V0 h, v64 W X Y V0 h]
  exact xhat_real _

include h in
theorem v76 : res_main_v76 V0 = cube fun r => err W (X r) (Y r) := by
  rw [res_main_v76, v69 W X Y V0 h, v70 W X Y V0 h, h.a6, h.a7]
  funext i
  idx_vars i
  pointwise [cube, flat]
  simp only [← EReal.coe_mul, ← EReal.coe_add, ← EReal.coe_sub]
  rfl

include h in
theorem v90 : res_main_v90 V0 = cube fun r => dnorm2 W (X r) (Y r) := by
  rw [res_main_v90, v76 W X Y V0 h]
  funext i
  idx_vars i
  pointwise [cube]
  simp only [ofBits_1024, ofBits_two, ofBits_half, Ideal.ofBits_one_f32, mul_one, div_real (by norm_num : (1024 : ℝ) ≠ 0), ← EReal.coe_mul]
  exact congrArg _ (by rw [dnorm2]; ring)

include h in
theorem v98 : res_main_v98 V0 = cube fun r k => dnorm2 W (X r) (Y r) k * W.g2 k := by
  rw [res_main_v98, v90 W X Y V0 h, v70 W X Y V0 h]
  funext i
  idx_vars i
  pointwise [cube, flat]
  simp only [← EReal.coe_mul]

include h in
theorem v125 : res_main_v125 V0 = cube fun r => dres W (X r) (Y r) := by
  rw [res_main_v125, res_main_v104, res_main_v114, v98 W X Y V0 h, v61 W X Y V0 h, v52 W X Y V0 h, v63 W X Y V0 h, v64 W X Y V0 h]
  exact grad_real (fun r => res W (X r)) fun r k => dnorm2 W (X r) (Y r) k * W.g2 k

include h in
theorem v131 : res_main_v131 V0 = wide fun r => dup W (X r) (Y r) := by
  rw [res_main_v131, v32 W X Y V0 h, v125 W X Y V0 h, v40 W X Y V0 h, v33 W X Y V0 h]
  funext i
  idx_vars i
  pointwise [cube, wide]
  simp only [ofBits_two, ofBits_zero, ← EReal.coe_mul, ← coe_sum]
  rw [dup_of_pos]
  split
  · next hp => rw [if_pos (EReal.coe_pos.mp hp)]
  · next hp => rw [if_neg fun hq => hp (EReal.coe_pos.mpr hq), EReal.coe_zero]

include h in
theorem v133 : res_main_v133 V0 = cube fun r => dnorm1 W (X r) (Y r) := by
  rw [res_main_v133, v125 W X Y V0 h, v131 W X Y V0 h, v2 W X Y V0 h]
  funext i
  idx_vars i
  pointwise [cube, wide]
  simp only [ofBits_alpha, ← EReal.coe_mul, ← EReal.coe_add, ← coe_sum]
  rfl

include h in
theorem v141 : res_main_v141 V0 = cube fun r k => dnorm1 W (X r) (Y r) k * W.g1 k := by
  rw [res_main_v141, v133 W X Y V0 h, v26 W X Y V0 h]
  funext i
  idx_vars i
  pointwise [cube, flat]
  simp only [← EReal.coe_mul]

include h in
theorem v168 : res_main_v168 V0 = cube fun r => dx W (X r) (Y r) := by
  rw [res_main_v168, res_main_v147, res_main_v157, v141 W X Y V0 h, v17 W X Y V0 h, v8 W X Y V0 h, v19 W X Y V0 h, v20 W X Y V0 h]
  exact grad_real X fun r k => dnorm1 W (X r) (Y r) k * W.g1 k

end Cert.ReferenceIdeal.Ref
-- ==== Proof.Results.lean ====
module

public import proofs.«01_k».proof.Proof.Ref

@[expose] public section

set_option maxRecDepth 16384

noncomputable section

namespace Cert.ReferenceIdeal.Ref

open Idealize.ShloMosaic Idealize.ShloMosaic.TcCoe Idealize.SL.Sem Cert.ReferenceIdeal Cert.ReferenceIdeal.Gen Cert.ReferenceIdeal.Value Cert.Reals Cert.Row

/-- A sum over the batch of one and the rows. -/
theorem sum_rows (v : S1x16384x1024.Idx → EReal) (k : Fin 1024) :
    Ideal.hostReduceAdd reducesTo_S1x16384x1024_S1024_d0_1 v 0 (ix1 k) = ∑ r : Fin 16384, v (ix3 0 r k) := by
  rw [Ideal.hostReduceAdd, zero_add]
  refine Finset.sum_nbij' (fun i => i 1) (fun r => ix3 0 r k) (fun _ _ => Finset.mem_univ _) (fun r _ => ?_) (fun i hi => ?_) (fun _ _ => rfl) fun i hi => ?_
  · refine Finset.mem_filter.mpr ⟨Finset.mem_univ _, ?_⟩
    funext a
    fin_cases a
    rfl
  all_goals
    have e : i 2 = k := congrFun (Finset.mem_filter.mp hi).2 0
    have e0 : (i 0).val = 0 := Nat.lt_one_iff.mp (i 0).isLt
    have : ix3 0 (i 1) k = i := by
      funext a
      fin_cases a
      · exact Fin.ext e0.symm
      · rfl
      · exact e.symm
    first
      | exact this
      | exact congrArg v this.symm

/-- The sum of all rows, as one row. -/
def sumRow (v : FVec Ideal S1x16384x1024 .f32) : FVec Ideal S1x1024 .f32 :=
  broadcastInDim S1x1024 ![1] bcast_S1024_S1x1024_1 (Host.reduceAdd (shapeCast _ (Host.reduceAdd v (constant S_ .f32 0x00000000#32)
    reducesTo_S1x16384x1024_S1x1024_d1 h_S_) shapeCasts_S1x1024_S1x1x1024) (constant S_ .f32 0x00000000#32) reducesTo_S1x1x1024_S1024_d0_1 h_S_)

/-- The same, summed in one step. -/
def sumRow' (v : FVec Ideal S1x16384x1024 .f32) : FVec Ideal S1x1024 .f32 :=
  broadcastInDim S1x1024 ![1] bcast_S1024_S1x1024_1 (Host.reduceAdd v (constant S_ .f32 0x00000000#32) reducesTo_S1x16384x1024_S1024_d0_1 h_S_)

variable (f : Fin 16384 → Fin 1024 → ℝ)

theorem sumRow_real : sumRow (cube f) = fun i => ((∑ r, f r (i 1) : ℝ) : EReal) := by
  funext i
  idx_vars i
  pointwise [sumRow]
  rw [sum_leading]
  pointwise [cube]
  simp only [← coe_sum]

theorem sumRow'_real : sumRow' (cube f) = fun i => ((∑ r, f r (i 1) : ℝ) : EReal) := by
  funext i
  idx_vars i
  pointwise [sumRow']
  rw [sum_rows]
  pointwise [cube]
  simp only [← coe_sum]

variable (W : Weights) (X Y : Fin 16384 → Fin 1024 → ℝ) (V0 : Valuation τ sig (Elt Ideal)) (h : RealArgs W X Y V0)

include h in
/-- The gradient of the rows. -/
theorem result_dx : shapeCast _ (res_main_v168 V0) shapeCasts_S1x16384x1024_S16384x1024 =
    (fun i => ((dx W (X (i 0)) (Y (i 0)) (i 1) : ℝ) : EReal) : FVec Ideal S16384x1024 .f32) := by
  rw [v168 W X Y V0 h]
  funext i
  idx_vars i
  pointwise [cube]

include h in
/-- The same in the narrow type. -/
theorem result_dx_cast : truncf .bf16 (shapeCast _ (res_main_v168 V0) shapeCasts_S1x16384x1024_S16384x1024) bitsLt_bf16_f32 =
    (fun i => ((dx W (X (i 0)) (Y (i 0)) (i 1) : ℝ) : EReal) : FVec Ideal S16384x1024 .bf16) := by
  rw [v168 W X Y V0 h]
  funext i
  idx_vars i
  pointwise [cube]

include h in
/-- The normed rows. -/
theorem result_norm : truncf .bf16 (shapeCast _ (res_main_v31 V0) shapeCasts_S1x16384x1024_S16384x1024) bitsLt_bf16_f32 =
    (fun i => ((norm1 W (X (i 0)) (i 1) : ℝ) : EReal) : FVec Ideal S16384x1024 .bf16) := by
  rw [v31 W X Y V0 h]
  funext i
  idx_vars i
  pointwise [cube]

include h in
/-- The hidden rows. -/
theorem result_hid : truncf .bf16 (shapeCast _ (res_main_v37 V0) shapeCasts_S1x16384x4096_S16384x4096) bitsLt_bf16_f32 =
    (fun i => ((hid W (X (i 0)) (i 1) : ℝ) : EReal) : FVec Ideal S16384x4096 .bf16) := by
  rw [v37 W X Y V0 h]
  funext i
  idx_vars i
  pointwise [wide]

include h in
/-- The gradient before the activation. -/
theorem result_dup : truncf .bf16 (shapeCast _ (res_main_v131 V0) shapeCasts_S1x16384x4096_S16384x4096) bitsLt_bf16_f32 =
    (fun i => ((dup W (X (i 0)) (Y (i 0)) (i 1) : ℝ) : EReal) : FVec Ideal S16384x4096 .bf16) := by
  rw [v131 W X Y V0 h]
  funext i
  idx_vars i
  pointwise [wide]

include h in
/-- The gradient of the second sum. -/
theorem result_dres : truncf .bf16 (shapeCast _ (res_main_v125 V0) shapeCasts_S1x16384x1024_S16384x1024) bitsLt_bf16_f32 =
    (fun i => ((dres W (X (i 0)) (Y (i 0)) (i 1) : ℝ) : EReal) : FVec Ideal S16384x1024 .bf16) := by
  rw [v125 W X Y V0 h]
  funext i
  idx_vars i
  pointwise [cube]

include h in
/-- The first and last eight rows of every block of the gradient. -/
theorem result_edge : concatenate S64x16x1024 1 [⟨S64x8x1024, extractStridedSlice S64x8x1024 ![0, 0, 0] (res_main_v169 V0) slices_S64x256x1024_S64x8x1024_0_0_0⟩,
      ⟨S64x8x1024, extractStridedSlice S64x8x1024 ![0, 248, 0] (res_main_v169 V0) slices_S64x256x1024_S64x8x1024_0_248_0⟩] concatenates_S64x8x1024_S64x8x1024_S64x16x1024_d1 =
    (fun i => ((dx W (X (at64 (i 0) (edgeRow (i 1)))) (Y (at64 (i 0) (edgeRow (i 1)))) (i 2) : ℝ) : EReal) : FVec Ideal S64x16x1024 .f32) := by
  rw [res_main_v169, v168 W X Y V0 h]
  funext i
  idx_vars i
  pointwise [cube]
  split
  · next hj =>
    have e : (⟨i0.val * 256 + i1.val, by omega⟩ : Fin 16384) = at64 i0 (edgeRow i1) := Fin.ext (by simp only [at64, edgeRow, if_pos hj]; omega)
    rw [← e]
  · next hj =>
    have e : (⟨i0.val * 256 + (248 + (i1.val - 8)), by omega⟩ : Fin 16384) = at64 i0 (edgeRow i1) := Fin.ext (by simp only [at64, edgeRow, if_neg hj]; omega)
    rw [← e]

include h in
theorem v77 : res_main_v77 V0 = cube fun r k => err W (X r) (Y r) k * err W (X r) (Y r) k := by
  rw [res_main_v77, v76 W X Y V0 h]
  exact mulf_real _ _

include h in
/-- The sums over all rows: the gradients of the gains and of the biases, and the squared errors. -/
theorem result_sums : (concatenate S8x1024 0 [⟨S1x1024, (sumRow (mulf (res_main_v25 V0) (res_main_v133 V0)) : (⟨S1x1024, .f32⟩ : BufTy).Contents (Elt Ideal))⟩,
      ⟨S1x1024, (sumRow (res_main_v133 V0) : (⟨S1x1024, .f32⟩ : BufTy).Contents (Elt Ideal))⟩,
      ⟨S1x1024, (sumRow (mulf (res_main_v69 V0) (res_main_v90 V0)) : (⟨S1x1024, .f32⟩ : BufTy).Contents (Elt Ideal))⟩,
      ⟨S1x1024, (sumRow (res_main_v90 V0) : (⟨S1x1024, .f32⟩ : BufTy).Contents (Elt Ideal))⟩,
      ⟨S1x1024, (sumRow' (res_main_v77 V0) : (⟨S1x1024, .f32⟩ : BufTy).Contents (Elt Ideal))⟩,
      ⟨S3x1024, (broadcastInDim S3x1024 ![] bcast_S_S3x1024 (constant (F := Ideal) S_ .f32 0x00000000#32) : (⟨S3x1024, .f32⟩ : BufTy).Contents (Elt Ideal))⟩]
      concatenates_S1x1024_S1x1024_S1x1024_S1x1024_S1x1024_S3x1024_S8x1024_d0 : (⟨S8x1024, .f32⟩ : BufTy).Contents (Elt Ideal)) =
    (fun i => ((∑ r, rowTerm W (X r) (Y r) (i 0) (i 1) : ℝ) : EReal) : FVec Ideal S8x1024 .f32) := by
  rw [v25 W X Y V0 h, v133 W X Y V0 h, v69 W X Y V0 h, v90 W X Y V0 h, v77 W X Y V0 h, mulf_real, mulf_real, sumRow_real, sumRow_real, sumRow_real, sumRow_real, sumRow'_real]
  funext i
  idx_vars i
  pointwise []
  simp only [mul_comm (xhat _ _)]
  revert i0
  simp [Fin.forall_fin_succ, rowTerm]

end Cert.ReferenceIdeal.Ref
-- ==== Proof.Finite.lean ====
module

public import proofs.«01_k».proof.Defs
public import Idealize.ShloMosaic.Lib.ReduceAll
public import Idealize.ShloMosaic.Lib.Pointwise

@[expose] public section

noncomputable section

namespace Cert.Pre_finite

open Idealize.ShloMosaic Idealize.ShloMosaic.TcCoe Idealize.SL.Sem

/-- The shape relations of the precondition. -/
theorem facts : Facts where
  bcast_S_S1x16384x1024 := by decide
  reducesTo_S1x16384x1024_S_d0_1_2 := by decide
  h_S_ := by decide
  bcast_S_S1x1024x4096 := by decide
  reducesTo_S1x1024x4096_S_d0_1_2 := by decide
  bcast_S_S1x4096x1024 := by decide
  reducesTo_S1x4096x1024_S_d0_1_2 := by decide
  bcast_S_S1x1024 := by decide
  reducesTo_S1x1024_S_d0_1 := by decide

theorem real_of_abs_lt (x : EReal) (h : max x (-x) < ⊤) : ((x.toReal : ℝ) : EReal) = x := by
  refine EReal.coe_toReal (fun e => ?_) fun e => ?_ <;> simp [e] at h

/-- An array of which every entry is below infinity in absolute value is real. -/
theorem real_of_all {s : Shape} {axes : List (Fin s.rank)} (x : FVec Ideal s .f32) (hb : S_.BroadcastsInDim s (![] : Fin 0 → Fin s.rank))
    (hr : s.ReducesTo axes S_) (hn : 0 < S_.numel) (j : S_.Idx)
    (e : Host.reduce IntOp.andi (cmpf .olt (Host.absf x) (broadcastInDim s ![] hb (constant S_ .f32 0x7F800000#32))) (constantI S_ 1 1#1) hr hn j = 1#1) :
    ∃ f : s.Idx → ℝ, x = fun i => ((f i : ℝ) : EReal) := by
  haveI : Subsingleton S_.Idx := ⟨fun a b => funext fun k => k.elim0⟩
  refine ⟨fun i => (x i).toReal, funext fun i => (real_of_abs_lt (x i) ?_).symm⟩
  have lt : BitVec.ofBool (decide (max (x i) (-(x i)) < Ideal.ofBits .f32 0x7F800000#32)) = 1#1 := Host.reduce_andi_all _ _ _ _ j e i
  have top : Ideal.ofBits .f32 0x7F800000#32 = ⊤ := by simp [Ideal.ofBits, Ideal.ieee]
  rw [← top]
  by_contra ge
  rw [decide_eq_false ge] at lt
  exact absurd lt (by decide)

/-- The precondition: every argument is real. -/
theorem real (a0 a7 : FVec Ideal S1x16384x1024 .f32) (a1 : FVec Ideal S1x1024x4096 .f32) (a2 : FVec Ideal S1x4096x1024 .f32)
    (a3 a4 a5 a6 : FVec Ideal S1x1024 .f32) (j : S_.Idx) (e : @fn facts Ideal _ a0 a1 a2 a3 a4 a5 a6 a7 j = 1#1) :
    ((∃ f : S1x16384x1024.Idx → ℝ, a0 = fun i => ((f i : ℝ) : EReal)) ∧ (∃ f : S1x1024x4096.Idx → ℝ, a1 = fun i => ((f i : ℝ) : EReal)) ∧
      (∃ f : S1x4096x1024.Idx → ℝ, a2 = fun i => ((f i : ℝ) : EReal)) ∧ (∃ f : S1x1024.Idx → ℝ, a3 = fun i => ((f i : ℝ) : EReal)) ∧
      (∃ f : S1x1024.Idx → ℝ, a4 = fun i => ((f i : ℝ) : EReal)) ∧ (∃ f : S1x1024.Idx → ℝ, a5 = fun i => ((f i : ℝ) : EReal)) ∧
      (∃ f : S1x1024.Idx → ℝ, a6 = fun i => ((f i : ℝ) : EReal)) ∧ ∃ f : S1x16384x1024.Idx → ℝ, a7 = fun i => ((f i : ℝ) : EReal)) := by
  haveI := facts
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ _ j h0, real_of_all _ _ _ _ j h1, real_of_all _ _ _ _ j h2, real_of_all _ _ _ _ j h3, real_of_all _ _ _ _ j h4,
    real_of_all _ _ _ _ j h5, real_of_all _ _ _ _ j h6, real_of_all _ _ _ _ j h7⟩

end Cert.Pre_finite
-- ==== Proof.Mix.Spec.lean ====
module

public import proofs.«01_k».proof.Proof.RowAlgebra

@[expose] public section

/-! # The mixing layer and its gradient, over the reals

A row `p` of projections holds three channels of a short gated convolution, the two channels of a spatial gate and the
logits of two sigmoid gates.  The two branches are projected, gated and summed.  What depends on one row only is written
for one row; the convolution looks at the rows next to a row, and the spatial gate mixes the rows of a chunk of 128. -/

noncomputable section

namespace Cert.Mix

open Cert.Reals Cert.Row

/-- The weights of the layer. -/
structure Weights where
  bg : Fin 2048 → ℝ
  cw : Fin 3 → Fin 1536 → ℝ
  vg : Fin 1024 → ℝ
  vb : Fin 1024 → ℝ
  ws : Fin 8 → Fin 128 → Fin 128 → ℝ
  bs : Fin 8 → Fin 128 → ℝ
  wpa : Fin 1536 → Fin 1024 → ℝ
  wpb : Fin 1024 → Fin 1024 → ℝ
  wo : Fin 1024 → Fin 1024 → ℝ

/-! ## The columns of a row -/

/-- The column `o + k` of a row of projections. -/
def at8704 (o : ℕ) {n : ℕ} (h : o + n ≤ 8704) (k : Fin n) : Fin 8704 := ⟨o + k.val, by have := k.isLt; omega⟩

/-- The column of the first or of the second gate. -/
def lo (k : Fin 1024) : Fin 2048 := ⟨k.val, by have := k.isLt; omega⟩

def hi (k : Fin 1024) : Fin 2048 := ⟨1024 + k.val, by have := k.isLt; omega⟩

/-- The head of a column of the spatial gate. -/
def head (k : Fin 1024) : Fin 8 := ⟨k.val / 128, by have := k.isLt; omega⟩

/-- Column `d` of head `h`. -/
def headCol (h : Fin 8) (d : Fin 128) : Fin 1024 := ⟨128 * h.val + d.val, by have := h.isLt; have := d.isLt; omega⟩

/-- The position of a row in its chunk. -/
def pos (r : Fin 16384) : Fin 128 := ⟨r.val % 128, Nat.mod_lt _ (by decide)⟩

/-- Row `i` of the chunk of row `r`. -/
def inChunk (r : Fin 16384) (i : Fin 128) : Fin 16384 := ⟨128 * (r.val / 128) + i.val, by have := r.isLt; have := i.isLt; omega⟩

/-- Row `i` of chunk `q`. -/
def chunkRow (q : Fin 128) (i : Fin 128) : Fin 16384 := ⟨128 * q.val + i.val, by have := q.isLt; have := i.isLt; omega⟩

/-! ## The activation -/

/-- The rational that the rounded `√(2/π)` is. -/
def root : ℝ := 6693141 / 8388608

/-- The coefficient of the cube. -/
def cubic : ℝ := 8943 / 200000

def gtanh (x : ℝ) : ℝ := Real.tanh (root * (x + cubic * (x * x * x)))

def gelu (x : ℝ) : ℝ := 1 / 2 * x * (1 + gtanh x)

def geluGrad (x : ℝ) : ℝ :=
  1 / 2 * (1 + gtanh x) + 1 / 2 * x * (1 - gtanh x * gtanh x) * (root * (1 + 26829 / 200000 * (x * x)))

/-- The sigmoid. -/
def sigm (x : ℝ) : ℝ := (1 + Real.exp (-x))⁻¹

/-! ## What depends on one row -/

section Row

variable (W : Weights) (p : Fin 8704 → ℝ) (d : Fin 1024 → ℝ)

def chanB (c : Fin 1536) : ℝ := p (at8704 0 (by decide) c)

def chanC (c : Fin 1536) : ℝ := p (at8704 1536 (by decide) c)

def chanH (c : Fin 1536) : ℝ := p (at8704 3072 (by decide) c)

def chanU (k : Fin 1024) : ℝ := p (at8704 4608 (by decide) k)

def chanV (k : Fin 1024) : ℝ := p (at8704 5632 (by decide) k)

/-- What the convolution is applied to. -/
def ch (c : Fin 1536) : ℝ := chanC p c * chanH p c

def gate (j : Fin 2048) : ℝ := sigm (p (at8704 6656 (by decide) j) + W.bg j)

def ga (k : Fin 1024) : ℝ := gate W p (lo k)

def gb (k : Fin 1024) : ℝ := gate W p (hi k)

def gu (k : Fin 1024) : ℝ := gelu (chanU p k)

def gv (k : Fin 1024) : ℝ := gelu (chanV p k)

/-- The normed rows of the spatial gate. -/
def vn (k : Fin 1024) : ℝ := xhat (gv p) k * W.vg k + W.vb k

/-- The gradient of the gated sum. -/
def dz (k : Fin 1024) : ℝ := ∑ e, d e * W.wo k e

def dya (k : Fin 1024) : ℝ := dz W d k * ga W p k

def dyb (k : Fin 1024) : ℝ := dz W d k * gb W p k

def da (c : Fin 1536) : ℝ := ∑ k, dya W p d k * W.wpa c k

/-- The gradient of the convolution's output. -/
def dcv (c : Fin 1536) : ℝ := da W p d c * chanB p c

def dbb (c : Fin 1024) : ℝ := ∑ k, dyb W p d k * W.wpb c k

def dmixed (k : Fin 1024) : ℝ := dbb W p d k * gu p k

end Row

/-! ## Rows next to a row -/

section Next

variable {C : Type} (f : Fin 16384 → C → ℝ)

/-- The row before, zero before the first. -/
def before (r : Fin 16384) (c : C) : ℝ := if r.val = 0 then 0 else f ⟨r.val - 1, by have := r.isLt; omega⟩ c

/-- The row after, zero after the last. -/
def after (r : Fin 16384) (c : C) : ℝ := if h : r.val + 1 < 16384 then f ⟨r.val + 1, h⟩ c else 0

end Next

section All

variable (W : Weights) (P : Fin 16384 → Fin 8704 → ℝ) (D : Fin 16384 → Fin 1024 → ℝ) (r : Fin 16384)

/-- The rows the convolution is applied to. -/
def chs (r : Fin 16384) : Fin 1536 → ℝ := ch (P r)

/-- The convolution. -/
def cv (c : Fin 1536) : ℝ := W.cw 0 c * before (chs P) r c + W.cw 1 c * chs P r c + W.cw 2 c * after (chs P) r c

def a (c : Fin 1536) : ℝ := chanB (P r) c * cv W P r c

def mixed (k : Fin 1024) : ℝ := ∑ j, W.ws (head k) (pos r) j * vn W (P (inChunk r j)) k + W.bs (head k) (pos r)

def bb (k : Fin 1024) : ℝ := gu (P r) k * mixed W P r k

def ya (k : Fin 1024) : ℝ := ∑ c, a W P r c * W.wpa c k

def yb (k : Fin 1024) : ℝ := ∑ c, bb W P r c * W.wpb c k

def z (k : Fin 1024) : ℝ := ga W (P r) k * ya W P r k + gb W (P r) k * yb W P r k

/-! ## The gradient -/

def dga (k : Fin 1024) : ℝ := dz W (D r) k * ya W P r k * ga W (P r) k * (1 - ga W (P r) k)

def dgb (k : Fin 1024) : ℝ := dz W (D r) k * yb W P r k * gb W (P r) k * (1 - gb W (P r) k)

def dcvs (r : Fin 16384) : Fin 1536 → ℝ := dcv W (P r) (D r)

def dch (c : Fin 1536) : ℝ :=
  W.cw 0 c * after (dcvs W P D) r c + W.cw 1 c * dcvs W P D r c + W.cw 2 c * before (dcvs W P D) r c

def du (k : Fin 1024) : ℝ := dbb W (P r) (D r) k * mixed W P r k * geluGrad (chanU (P r) k)

def dvn (k : Fin 1024) : ℝ := ∑ i, W.ws (head k) i (pos r) * dmixed W (P (inChunk r i)) (D (inChunk r i)) k

def dv (k : Fin 1024) : ℝ := normGrad (gv (P r)) (fun k => dvn W P D r k * W.vg k) k * geluGrad (chanV (P r) k)

/-! ## The sums over the rows -/

/-- What one row adds to the gradient of the gates' bias. -/
def gateTerm (j : Fin 2048) : ℝ :=
  if h : j.val < 1024 then dga W P D r ⟨j.val, h⟩ else dgb W P D r ⟨j.val - 1024, by have := j.isLt; omega⟩

/-- The same, in the first of eight rows. -/
def gateRows (i : Fin 8) (j : Fin 2048) : ℝ := if i.val = 0 then gateTerm W P D r j else 0

/-- The gradient of a row of projections, piece by piece. -/
def dp (j : Fin 8704) : ℝ :=
  if h : j.val < 1536 then da W (P r) (D r) ⟨j.val, h⟩ * cv W P r ⟨j.val, h⟩
  else if h : j.val < 3072 then dch W P D r ⟨j.val - 1536, by omega⟩ * chanH (P r) ⟨j.val - 1536, by omega⟩
  else if h : j.val < 4608 then dch W P D r ⟨j.val - 3072, by omega⟩ * chanC (P r) ⟨j.val - 3072, by omega⟩
  else if h : j.val < 5632 then du W P D r ⟨j.val - 4608, by omega⟩
  else if h : j.val < 6656 then dv W P D r ⟨j.val - 5632, by omega⟩
  else gateTerm W P D r ⟨j.val - 6656, by have := j.isLt; omega⟩

/-- What one row adds to the gradient of the convolution's weights. -/
def convTerm : Fin 8 → Fin 1536 → ℝ :=
  ![fun c => dcvs W P D r c * before (chs P) r c, fun c => dcvs W P D r c * chs P r c, fun c => dcvs W P D r c * after (chs P) r c, 0, 0, 0, 0, 0]

/-- What one row adds to the gradient of the norm's gain and bias. -/
def normTerm : Fin 8 → Fin 1024 → ℝ :=
  ![fun k => dvn W P D r k * xhat (gv (P r)) k, fun k => dvn W P D r k, 0, 0, 0, 0, 0, 0]

/-- What one chunk adds to the gradient of the spatial weights. -/
def spatialTerm (q : Fin 128) (h : Fin 8) (i j : Fin 128) : ℝ :=
  ∑ e, dmixed W (P (chunkRow q i)) (D (chunkRow q i)) (headCol h e) * vn W (P (chunkRow q j)) (headCol h e)

/-- What one chunk adds to the gradient of the spread spatial bias. -/
def biasTerm (q i : Fin 128) (k : Fin 1024) : ℝ := dmixed W (P (chunkRow q i)) (D (chunkRow q i)) k

end All

end Cert.Mix
-- ==== Proof.Mix.Scalars.lean ====
module

public import proofs.«01_k».proof.Proof.Mix.Spec

@[expose] public section

/-! # The layer's scalars in the extended reals -/

noncomputable section

namespace Cert.Mix

open Idealize.ShloMosaic Cert.Reals Cert.Row

theorem ofBits_one : Ideal.ofBits .f32 0x3F800000#32 = ((1 : ℝ) : EReal) := by
  rw [Ideal.ofBits_one_f32]; rfl

theorem ofBits_three : Ideal.ofBits .f32 0x40400000#32 = ((3 : ℝ) : EReal) := by
  simp [Ideal.ofBits, Ideal.ieee, -EReal.coe_mul]; norm_num

theorem ofBits_root : Ideal.ofBits .f32 0x3F4C422A#32 = ((root : ℝ) : EReal) := by
  simp [Ideal.ofBits, Ideal.ieee, root, -EReal.coe_mul]; norm_num

theorem ofBits_44715 : Ideal.ofBits .f32 0x472EAB00#32 = ((44715 : ℝ) : EReal) := by
  simp [Ideal.ofBits, Ideal.ieee, -EReal.coe_mul]; norm_num

theorem ofBits_million : Ideal.ofBits .f32 0x49742400#32 = ((1000000 : ℝ) : EReal) := by
  simp [Ideal.ofBits, Ideal.ieee, -EReal.coe_mul]; norm_num

/-- The coefficient of the cube as a quotient. -/
theorem cubic_div : Ideal.div (Ideal.ofBits .f32 0x472EAB00#32) (Ideal.ofBits .f32 0x49742400#32) = ((cubic : ℝ) : EReal) := by
  rw [ofBits_44715, ofBits_million, div_real (by norm_num)]
  exact congrArg _ (by rw [cubic]; norm_num)

/-- The sigmoid as a quotient. -/
theorem sigm_div (x : ℝ) : Ideal.div 1 (1 + Ideal.exp (-(x : EReal))) = ((sigm x : ℝ) : EReal) := by
  rw [← EReal.coe_neg, Ideal.exp_coe, ← EReal.coe_one, ← EReal.coe_add, div_real (add_pos one_pos (Real.exp_pos _)).ne', sigm, one_div]

theorem sigm_logistic (x : ℝ) : Ideal.logistic (x : EReal) = ((sigm x : ℝ) : EReal) := Ideal.logistic_coe x

end Cert.Mix
-- ==== Proof.Mix.Block.lean ====
module

public import proofs.«01_k».proof.Proof.Gen.Kernel2Ideal.Skeleton
public import Idealize.ShloMosaic.Lib.Pointwise
public import Idealize.ShloMosaic.Lib.KernelVsHost
public import proofs.«01_k».proof.Proof.Mix.Scalars

@[expose] public section

/-! # One grid point's arithmetic in the mixing layer

A grid point has a block of 256 rows with eight rows before it and eight after it, 272 in all.  What each payload of the
kernel is when what it is applied to is real. -/

set_option maxRecDepth 16384

noncomputable section

namespace Cert.Kernel2Ideal.Block

open Idealize.ShloMosaic Idealize.ShloMosaic.TcCoe Cert.Kernel2Ideal Cert.Kernel2Ideal.Gen Cert.Reals Cert.Row Cert.Mix

/-! ## Arrays of reals, by their shapes -/

def rows (φ : FTy) (f : Fin 256 → Fin 1024 → ℝ) : FVec Ideal S256x1024 φ := fun i => ((f (i 0) (i 1) : ℝ) : EReal)

def wide (φ : FTy) (f : Fin 256 → Fin 1536 → ℝ) : FVec Ideal S256x1536 φ := fun i => ((f (i 0) (i 1) : ℝ) : EReal)

def extd (f : Fin 272 → Fin 1024 → ℝ) : FVec Ideal S272x1024 .f32 := fun i => ((f (i 0) (i 1) : ℝ) : EReal)

def extw (f : Fin 272 → Fin 1536 → ℝ) : FVec Ideal S272x1536 .f32 := fun i => ((f (i 0) (i 1) : ℝ) : EReal)

def line (f : Fin 1024 → ℝ) : FVec Ideal S1x1024 .f32 := fun i => ((f (i 1) : ℝ) : EReal)

def long (f : Fin 1536 → ℝ) : FVec Ideal S1x1536 .f32 := fun i => ((f (i 1) : ℝ) : EReal)

def edge (f : Fin 1536 → ℝ) : FVec Ideal S1x1x1536 .f32 := fun i => ((f (i 2) : ℝ) : EReal)

def halo (f : Fin 8 → Fin 1024 → ℝ) : FVec Ideal S1x8x1024 .f32 := fun i => ((f (i 1) (i 2) : ℝ) : EReal)

def halow (f : Fin 8 → Fin 1536 → ℝ) : FVec Ideal S1x8x1536 .f32 := fun i => ((f (i 1) (i 2) : ℝ) : EReal)

def eight (f : Fin 8 → Fin 1024 → ℝ) : FVec Ideal S8x1024 .f32 := fun i => ((f (i 0) (i 1) : ℝ) : EReal)

def vec (f : Fin 256 → ℝ) : FVec Ideal S256 .f32 := fun i => ((f (i 0) : ℝ) : EReal)

def column (f : Fin 256 → ℝ) : FVec Ideal S256x1 .f32 := fun i => ((f (i 0) : ℝ) : EReal)

def square (f : Fin 1024 → Fin 1024 → ℝ) : FVec Ideal S1024x1024 .bf16 := fun i => ((f (i 0) (i 1) : ℝ) : EReal)

def oblong (f : Fin 1536 → Fin 1024 → ℝ) : FVec Ideal S1536x1024 .bf16 := fun i => ((f (i 0) (i 1) : ℝ) : EReal)

def tile (φ : FTy) (f : Fin 128 → Fin 128 → ℝ) : FVec Ideal S128x128 φ := fun i => ((f (i 0) (i 1) : ℝ) : EReal)

def slab (φ : FTy) (f : Fin 128 → Fin 128 → ℝ) : FVec Ideal S1x128x128 φ := fun i => ((f (i 1) (i 2) : ℝ) : EReal)

def chunk (f : Fin 128 → Fin 1024 → ℝ) : FVec Ideal S128x1024 .f32 := fun i => ((f (i 0) (i 1) : ℝ) : EReal)

/-! ## Rows of a block among its 272 rows -/

def pre (j : Fin 8) : Fin 272 := ⟨j.val, by omega⟩

def mid (r : Fin 256) : Fin 272 := ⟨8 + r.val, by omega⟩

def post (j : Fin 8) : Fin 272 := ⟨264 + j.val, by omega⟩

def down (r : Fin 256) : Fin 272 := ⟨7 + r.val, by omega⟩

def up (r : Fin 256) : Fin 272 := ⟨9 + r.val, by omega⟩

def loRow (i : Fin 128) : Fin 256 := ⟨i.val, by omega⟩

def hiRow (i : Fin 128) : Fin 256 := ⟨128 + i.val, by omega⟩

/-- The 272 rows with the eight before scaled by one number and the eight after by another. -/
def masked {C : Type} (sp sn : ℝ) (f : Fin 272 → C → ℝ) (j : Fin 272) (c : C) : ℝ :=
  if j.val < 8 then f j c * sp else if j.val < 264 then f j c else f j c * sn

def chanA (p : Fin 8704 → ℝ) (k : Fin 1024) : ℝ := p (at8704 6656 (by decide) (lo k))

def chanG (p : Fin 8704 → ℝ) (k : Fin 1024) : ℝ := p (at8704 6656 (by decide) (hi k))

variable (W : Cert.Mix.Weights) (X : Fin 272 → Fin 8704 → ℝ) (Y : Fin 272 → Fin 1024 → ℝ) (sp sn : ℝ)

def chm : Fin 272 → Fin 1536 → ℝ := masked sp sn fun j => ch (X j)

/-- The convolution of the block's rows. -/
def cvB (r : Fin 256) (c : Fin 1536) : ℝ :=
  W.cw 0 c * chm X sp sn (down r) c + W.cw 1 c * ch (X (mid r)) c + W.cw 2 c * chm X sp sn (up r) c

/-- The gradient of what the convolution is applied to. -/
def dchB (r : Fin 256) (c : Fin 1536) : ℝ :=
  W.cw 0 c * dcv W (X (up r)) (Y (up r)) c + W.cw 1 c * dcv W (X (mid r)) (Y (mid r)) c + W.cw 2 c * dcv W (X (down r)) (Y (down r)) c

/-! ## Constants -/

theorem named_cubic (b : BitVec 32) : (Named.named κ "gelu_cubic" b : Ideal .f32) = ((cubic : ℝ) : EReal) := by
  simp [Named.named, κ, cubic]

theorem named_cubic_grad (b : BitVec 32) : (Named.named κ "gelu_cubic_grad" b : Ideal .f32) = ((26829 / 200000 : ℝ) : EReal) := by
  simp [Named.named, κ]

/-! ## The parts of the 272 rows, put together -/

theorem masked_pre {C : Type} (f : Fin 272 → C → ℝ) (j : Fin 272) (c : C) (h : j.val < 8) : masked sp sn f j c = f (pre ⟨j.val, h⟩) c * sp := by
  rw [masked, if_pos h]; rfl

theorem masked_mid {C : Type} (f : Fin 272 → C → ℝ) (j : Fin 272) (c : C) (h0 : ¬j.val < 8) (h : j.val - 8 < 256) :
    masked sp sn f j c = f (mid ⟨j.val - 8, h⟩) c := by
  rw [masked, if_neg h0, if_pos (by omega)]
  exact congrArg (fun j => f j c) (Fin.ext (by show j.val = 8 + (j.val - 8); omega))

theorem masked_post {C : Type} (f : Fin 272 → C → ℝ) (j : Fin 272) (c : C) (h0 : ¬j.val < 8) (h : ¬j.val - 8 < 256) :
    masked sp sn f j c = f (post ⟨j.val - 8 - 256, by omega⟩) c * sn := by
  rw [masked, if_neg h0, if_neg (by omega)]
  exact congrArg (fun j => f j c * sn) (Fin.ext (by show j.val = 264 + (j.val - 8 - 256); omega))

/-- The parts of `f`, one below another. -/
theorem parts {C : Type} (f : Fin 272 → C → ℝ) (j : Fin 272) (c : C) :
    (if h : j.val < 8 then ((f (pre ⟨j.val, h⟩) c : ℝ) : EReal) else if h : j.val - 8 < 256 then ((f (mid ⟨j.val - 8, h⟩) c : ℝ) : EReal)
      else ((f (post ⟨j.val - 8 - 256, by omega⟩) c : ℝ) : EReal)) = ((f j c : ℝ) : EReal) := by
  split_ifs with h0 h1
  · rfl
  · exact congrArg (fun j => ((f j c : ℝ) : EReal)) (Fin.ext (by show 8 + (j.val - 8) = j.val; omega))
  · exact congrArg (fun j => ((f j c : ℝ) : EReal)) (Fin.ext (by show 264 + (j.val - 8 - 256) = j.val; omega))

theorem parts_masked {C : Type} (f : Fin 272 → C → ℝ) (j : Fin 272) (c : C) :
    (if h : j.val < 8 then ((f (pre ⟨j.val, h⟩) c : ℝ) : EReal) * sp else if h : j.val - 8 < 256 then ((f (mid ⟨j.val - 8, h⟩) c : ℝ) : EReal)
      else ((f (post ⟨j.val - 8 - 256, by omega⟩) c : ℝ) : EReal) * sn) = ((masked sp sn f j c : ℝ) : EReal) := by
  split_ifs with h0 h1
  · rw [masked_pre sp sn f j c h0, EReal.coe_mul]
  · rw [masked_mid sp sn f j c h0 h1]
  · rw [masked_post sp sn f j c h0 h1, EReal.coe_mul]

/-- A choice by a row's number. -/
theorem select_row (a b : ℕ) (ha : a < 256) (hb : b < 256) (x y : EReal) :
    Scalar.select (IntOp.cmpi CmpIPredicate.eq (BitVec.ofNat 32 a) (BitVec.ofNat 32 b)) x y = if a = b then x else y := by
  have e : (BitVec.ofNat 32 a = BitVec.ofNat 32 b) ↔ a = b :=
    ⟨fun h => by have := congrArg BitVec.toNat h; simp at this; omega, fun h => by rw [h]⟩
  by_cases h : a = b
  · simp [Scalar.select, IntOp.cmpi, h]
  · simp [Scalar.select, IntOp.cmpi, h, beq_eq_false_iff_ne.mpr fun h' => h (e.mp h')]

/-! ## The short convolution -/

theorem pay9 (v : FVec Ideal S256x1536 .f32) : k0_pay9 v = v := shapeCast_self _ _

theorem pay10 (v : FVec Ideal S256x1536 .f32) : k0_pay10 v = v := shapeCast_self _ _

theorem pay16 (v : FVec Ideal S256x1536 .f32) : k0_pay16 v = v := shapeCast_self _ _

theorem pay11 : k0_pay11 (wide .f32 fun r => chanC (X (mid r))) (wide .f32 fun r => chanH (X (mid r))) = wide .f32 fun r => ch (X (mid r)) := by
  rw [k0_pay11, pay9, pay10]
  funext i
  idx_vars i
  pointwise [wide]
  rfl

theorem pay12 (t : grid0.Coords) (hn : k0_pay8 (F := Ideal) t = (sn : EReal)) :
    k0_pay12 t (edge (chanC (X (post 0)))) (edge (chanH (X (post 0)))) = long fun c => ch (X (post 0)) c * sn := by
  rw [k0_pay12, hn]
  funext i
  idx_vars i
  pointwise [edge, long]
  rfl

theorem pay13 (t : grid0.Coords) (hp : k0_pay7 (F := Ideal) t = (sp : EReal)) :
    k0_pay13 t (wide .f32 fun r => chanC (X (mid r))) (wide .f32 fun r => chanH (X (mid r))) (edge (chanC (X (pre 7)))) (edge (chanH (X (pre 7)))) =
      wide .f32 fun r => chm X sp sn (down r) := by
  rw [k0_pay13, hp, pay11]
  funext i
  idx_vars i
  pointwise [edge, long, wide]
  refine (select_row i0.val 0 i0.isLt (by omega) _ _).trans ?_
  rw [chm]
  by_cases h : i0.val = 0
  · rw [if_pos h, masked_pre sp sn _ _ _ (by show 7 + i0.val < 8; omega), ← EReal.coe_mul, ← EReal.coe_mul]
    exact congrArg (fun j => ((ch (X j) i1 * sp : ℝ) : EReal)) (Fin.ext (by show 7 = 7 + i0.val; omega))
  · rw [if_neg h, masked_mid sp sn _ _ _ (by show ¬7 + i0.val < 8; omega) (by show 7 + i0.val - 8 < 256; omega)]
    exact congrArg (fun j => ((ch (X (mid j)) i1 : ℝ) : EReal)) (Fin.ext (by show (i0.val + 256 - 1) % 256 = 7 + i0.val - 8; omega))

theorem pay14 : k0_pay14 (wide .f32 fun r => ch (X (mid r))) (long fun c => ch (X (post 0)) c * sn) (iota .tc S256x1536 32 [0] iota_S256x1536_d0_w32) 255#32 =
      wide .f32 fun r => chm X sp sn (up r) := by
  rw [k0_pay14]
  funext i
  idx_vars i
  pointwise [edge, long, wide]
  refine (select_row i0.val 255 i0.isLt (by omega) _ _).trans ?_
  rw [chm]
  by_cases h : i0.val = 255
  · rw [if_pos h, masked_post sp sn _ _ _ (by show ¬9 + i0.val < 8; omega) (by show ¬9 + i0.val - 8 < 256; omega)]
    exact congrArg (fun j => ((ch (X j) i1 * sn : ℝ) : EReal)) (Fin.ext (by show 264 = 264 + (9 + i0.val - 8 - 256); omega))
  · rw [if_neg h, masked_mid sp sn _ _ _ (by show ¬9 + i0.val < 8; omega) (by show 9 + i0.val - 8 < 256; omega)]
    exact congrArg (fun j => ((ch (X (mid j)) i1 : ℝ) : EReal)) (Fin.ext (by show (i0.val + 256 - 255) % 256 = 9 + i0.val - 8; omega))

theorem pay15 : k0_pay15 (wide .f32 fun r => ch (X (mid r))) (long fun c => ch (X (post 0)) c * sn) (iota .tc S256x1536 32 [0] iota_S256x1536_d0_w32)
      (wide .f32 fun r => chm X sp sn (down r)) 255#32 (long (W.cw 0)) (long (W.cw 1)) (long (W.cw 2)) =
      wide .f32 (cvB W X sp sn) := by
  rw [k0_pay15, pay14 X sp sn]
  funext i
  idx_vars i
  pointwise [edge, long, wide]
  rfl

theorem pay17 : k0_pay17 (wide .f32 fun r => ch (X (mid r))) (long fun c => ch (X (post 0)) c * sn) (iota .tc S256x1536 32 [0] iota_S256x1536_d0_w32)
      (wide .f32 fun r => chm X sp sn (down r)) 255#32 (long (W.cw 0)) (long (W.cw 1)) (long (W.cw 2)) (wide .f32 fun r => chanB (X (mid r))) =
      wide .bf16 fun r c => chanB (X (mid r)) c * cvB W X sp sn r c := by
  rw [k0_pay17, pay15, pay16]
  funext i
  idx_vars i
  pointwise [edge, long, wide]
  simp only [← EReal.coe_mul]

/-! ## The activation and the norm -/

theorem pay18 (v : FVec Ideal S256x1024 .f32) : k0_pay18 v = v := shapeCast_self _ _

theorem pay46 (v : FVec Ideal S256x1024 .f32) : k0_pay46 v = v := shapeCast_self _ _

theorem pay19 (f : Fin 256 → Fin 1024 → ℝ) : k0_pay19 (rows .f32 f) = rows .f32 fun r k => gtanh (f r k) := by
  rw [k0_pay19, pay18, named_cubic]
  funext i
  idx_vars i
  pointwise [rows]
  simp only [ofBits_root, ← EReal.coe_mul, ← EReal.coe_add, Ideal.tanh_coe]
  rfl

theorem pay47 (f : Fin 256 → Fin 1024 → ℝ) : k0_pay47 (rows .f32 f) = rows .f32 fun r k => gtanh (f r k) := pay19 f

theorem pay20 (f : Fin 256 → Fin 1024 → ℝ) : k0_pay20 (rows .f32 f) = rows .f32 fun r k => gelu (f r k) := by
  rw [k0_pay20, pay18, pay19]
  funext i
  idx_vars i
  pointwise [rows]
  simp only [ofBits_half, ← EReal.coe_one, ← EReal.coe_mul, ← EReal.coe_add]
  rfl

theorem pay48 (f : Fin 256 → Fin 1024 → ℝ) : k0_pay48 (rows .f32 f) = rows .f32 fun r k => gelu (f r k) := pay20 f

theorem pay21 (f : Fin 256 → Fin 1024 → ℝ) : k0_pay21 (rows .f32 f) = vec fun r => ∑ k, gelu (f r k) := by
  rw [k0_pay21, pay20]
  funext i
  idx_vars i
  pointwise [rows, vec]
  simp only [← coe_sum]

theorem pay22 (f : Fin 256 → Fin 1024 → ℝ) : k0_pay22 (rows .f32 f) (vec fun r => ∑ k, f r k) = rows .f32 fun r => cen (f r) := by
  funext i
  idx_vars i
  pointwise [k0_pay22, rows, vec]
  simp only [ofBits_1024, div_real (by norm_num : (1024 : ℝ) ≠ 0), ← EReal.coe_sub, ← coe_sum]
  rfl

theorem pay23 (f : Fin 256 → Fin 1024 → ℝ) : k0_pay23 (rows .f32 f) (vec fun r => ∑ k, f r k) = column fun r => rstd (f r) := by
  rw [k0_pay23, pay22]
  funext i
  idx_vars i
  pointwise [rows, vec, column]
  simp only [ofBits_1024, ofBits_eps, div_real (by norm_num : (1024 : ℝ) ≠ 0), ← EReal.coe_mul, ← EReal.coe_add, ← coe_sum]
  exact rsqrt_pos (var_eps_pos _)

theorem pay24 (f : Fin 256 → Fin 1024 → ℝ) : k0_pay24 (rows .f32 f) (vec fun r => ∑ k, f r k) = rows .f32 fun r => xhat (f r) := by
  rw [k0_pay24, pay22, pay23]
  funext i
  idx_vars i
  pointwise [rows, vec, column]
  rfl

theorem pay25 (f : Fin 256 → Fin 1024 → ℝ) (g b : Fin 1024 → ℝ) :
    k0_pay25 (rows .f32 f) (vec fun r => ∑ k, f r k) (line g) (line b) = rows .bf16 fun r k => xhat (f r) k * g k + b k := by
  rw [k0_pay25, pay24]
  funext i
  idx_vars i
  pointwise [rows, line]
  simp only [← EReal.coe_mul, ← EReal.coe_add]

/-! ## The spatial gate -/

theorem pay26 (w v b : Fin 128 → Fin 128 → ℝ) :
    k0_pay26 (slab .bf16 w) (tile .bf16 v) (tile .f32 b) = tile .f32 fun i j => ∑ e, w i e * v e j + b i j := by
  funext i
  idx_vars i
  pointwise [k0_pay26, tile, slab]
  simp only [← EReal.coe_mul, ← EReal.coe_add, ← coe_sum]

theorem pay49 (f m : Fin 256 → Fin 1024 → ℝ) : k0_pay49 (rows .f32 f) (rows .f32 m) = rows .bf16 fun r k => gelu (f r k) * m r k := by
  rw [k0_pay49, pay48]
  funext i
  idx_vars i
  pointwise [rows]
  simp only [← EReal.coe_mul]

theorem pay90 (a : Fin 128 → Fin 128 → ℝ) (d v : Fin 128 → Fin 128 → ℝ) :
    k0_pay90 (slab .f32 a) (tile .bf16 d) (tile .bf16 v) = slab .f32 fun i j => a i j + ∑ e, d i e * v j e := by
  funext i
  idx_vars i
  pointwise [k0_pay90, tile, slab]
  simp only [← EReal.coe_mul, ← EReal.coe_add, ← coe_sum]

theorem pay89 (w d : Fin 128 → Fin 128 → ℝ) : k0_pay89 (slab .bf16 w) (tile .bf16 d) = tile .f32 fun i j => ∑ e, w e i * d e j := by
  funext i
  idx_vars i
  pointwise [k0_pay89, tile, slab]
  simp only [← EReal.coe_mul, ← EReal.coe_add, ← coe_sum]

/-! ## The gates and the gated sum -/

theorem pay50 : k0_pay50 (line fun k => W.bg (lo k)) (rows .f32 fun r => chanA (X (mid r))) = rows .f32 fun r => ga W (X (mid r)) := by
  funext i
  idx_vars i
  pointwise [k0_pay50, rows, line]
  simp only [← EReal.coe_add, sigm_logistic]
  rfl

theorem pay51 (v : FVec Ideal S256x1024 .f32) : k0_pay51 v = v := shapeCast_self _ _

theorem pay54 (v : FVec Ideal S256x1024 .f32) : k0_pay54 v = v := shapeCast_self _ _

theorem pay55 (v : FVec Ideal S256x1024 .f32) : k0_pay55 v = v := shapeCast_self _ _

theorem pay53 : k0_pay53 (rows .f32 fun r => chanG (X (mid r))) (k0_pay52 (line fun k => W.bg (hi k))) = rows .f32 fun r => gb W (X (mid r)) := by
  funext i
  idx_vars i
  pointwise [k0_pay53, k0_pay52, rows, line]
  simp only [← EReal.coe_add, sigm_logistic]
  rfl

theorem pay56 (y1 y2 : Fin 256 → Fin 1024 → ℝ) :
    k0_pay56 (rows .f32 fun r => ga W (X (mid r))) (rows .f32 fun r => chanG (X (mid r))) (k0_pay52 (line fun k => W.bg (hi k))) (rows .f32 y1) (rows .f32 y2) =
      rows .bf16 fun r k => ga W (X (mid r)) k * y1 r k + gb W (X (mid r)) k * y2 r k := by
  rw [k0_pay56, pay53, pay54, pay55]
  funext i
  idx_vars i
  pointwise [rows]
  simp only [← EReal.coe_mul, ← EReal.coe_add]

/-! ## The gradient of the gated sum and of the short convolution -/

theorem pay57 : k0_pay57 ((sp : ℝ) : EReal) ((sn : ℝ) : EReal) (halo fun j => Y (pre j)) (rows .f32 fun r => Y (mid r)) (halo fun j => Y (post j)) (square W.wo) =
    extd fun j => dz W (masked sp sn Y j) := by
  funext i
  idx_vars i
  pointwise [k0_pay57, halo, rows, square, extd]
  simp only [parts_masked]
  simp only [← EReal.coe_mul, ← coe_sum]
  rfl

theorem pay58 : k0_pay58 (line fun k => W.bg (lo k)) (halo fun j => chanA (X (pre j))) = eight fun j => ga W (X (pre j)) := by
  funext i
  idx_vars i
  pointwise [k0_pay58, halo, eight, line]
  simp only [← EReal.coe_add, sigm_logistic]
  rfl

theorem pay59 : k0_pay59 (line fun k => W.bg (lo k)) (halo fun j => chanA (X (post j))) = eight fun j => ga W (X (post j)) := by
  funext i
  idx_vars i
  pointwise [k0_pay59, halo, eight, line]
  simp only [← EReal.coe_add, sigm_logistic]
  rfl

theorem pay60 : k0_pay60 (rows .f32 fun r => ga W (X (mid r))) (extd fun j => dz W (Y j)) (eight fun j => ga W (X (pre j))) (eight fun j => ga W (X (post j))) =
    extd fun j => dya W (X j) (Y j) := by
  funext i
  idx_vars i
  pointwise [k0_pay60, rows, extd, eight]
  rw [parts fun j => ga W (X j)]
  rfl

theorem pay61 : k0_pay61 (rows .f32 fun r => ga W (X (mid r))) (extd fun j => dz W (Y j)) (eight fun j => ga W (X (pre j))) (eight fun j => ga W (X (post j))) =
    rows .bf16 fun r => dya W (X (mid r)) (Y (mid r)) := by
  rw [k0_pay61, pay60]
  funext i
  idx_vars i
  pointwise [rows, extd]
  rfl

theorem pay62 : k0_pay62 (rows .f32 fun r => ga W (X (mid r))) (extd fun j => dz W (Y j)) (eight fun j => ga W (X (pre j))) (eight fun j => ga W (X (post j))) (oblong W.wpa) =
    extw fun j => da W (X j) (Y j) := by
  rw [k0_pay62, pay60]
  funext i
  idx_vars i
  pointwise [oblong, extd, extw]
  simp only [← EReal.coe_mul, ← coe_sum]
  rfl

theorem pay63 : k0_pay63 (wide .f32 fun r => chanB (X (mid r))) (rows .f32 fun r => ga W (X (mid r))) (extd fun j => dz W (Y j)) (eight fun j => ga W (X (pre j)))
      (eight fun j => ga W (X (post j))) (oblong W.wpa) (halow fun j => chanB (X (pre j))) (halow fun j => chanB (X (post j))) =
    extw fun j => dcv W (X j) (Y j) := by
  rw [k0_pay63, pay62]
  funext i
  idx_vars i
  pointwise [halow, wide, extw]
  rw [parts fun j => chanB (X j)]
  rfl

theorem pay64 : k0_pay64 (wide .f32 fun r => chanB (X (mid r))) (rows .f32 fun r => ga W (X (mid r))) (extd fun j => dz W (Y j)) (eight fun j => ga W (X (pre j)))
      (eight fun j => ga W (X (post j))) (oblong W.wpa) (halow fun j => chanB (X (pre j))) (halow fun j => chanB (X (post j))) =
    wide .f32 fun r => dcv W (X (mid r)) (Y (mid r)) := by
  rw [k0_pay64, pay63]
  funext i
  idx_vars i
  pointwise [wide, extw]
  rfl

theorem pay65 : k0_pay65 (wide .f32 fun r => chanB (X (mid r))) (rows .f32 fun r => ga W (X (mid r))) (extd fun j => dz W (Y j)) (eight fun j => ga W (X (pre j)))
      (eight fun j => ga W (X (post j))) (oblong W.wpa) (halow fun j => chanB (X (pre j))) (halow fun j => chanB (X (post j))) (long (W.cw 0)) (long (W.cw 1)) (long (W.cw 2)) =
    wide .f32 (dchB W X Y) := by
  rw [k0_pay65, pay63, pay64]
  funext i
  idx_vars i
  pointwise [wide, extw, long]
  have e1 : (⟨(8 + i0.val + 272 - 271) % 272, Nat.mod_lt _ (by decide)⟩ : Fin 272) = up i0 := Fin.ext (by show (8 + i0.val + 272 - 271) % 272 = 9 + i0.val; omega)
  have e2 : (⟨(8 + i0.val + 272 - 1) % 272, Nat.mod_lt _ (by decide)⟩ : Fin 272) = down i0 := Fin.ext (by show (8 + i0.val + 272 - 1) % 272 = 7 + i0.val; omega)
  rw [e1, e2]
  rfl

theorem pay66 (g : Fin 256 → Fin 1536 → ℝ) : k0_pay66 (wide .f32 g) (rows .f32 fun r => ga W (X (mid r))) (extd fun j => dz W (Y j)) (eight fun j => ga W (X (pre j)))
      (eight fun j => ga W (X (post j))) (oblong W.wpa) =
    wide .bf16 fun r c => da W (X (mid r)) (Y (mid r)) c * g r c := by
  rw [k0_pay66, pay62]
  funext i
  idx_vars i
  pointwise [wide, extw]
  rfl

theorem pay67 (f g : Fin 256 → Fin 1536 → ℝ) : k0_pay67 (wide .f32 f) (wide .f32 g) = wide .bf16 fun r c => g r c * f r c := by
  funext i
  idx_vars i
  pointwise [k0_pay67, wide]
  simp only [← EReal.coe_mul]

theorem pay68 (f g : Fin 256 → Fin 1536 → ℝ) : k0_pay68 (wide .f32 f) (wide .f32 g) = wide .bf16 fun r c => g r c * f r c := pay67 f g

theorem pay69 (f g : Fin 256 → Fin 1536 → ℝ) (a : Fin 1536 → ℝ) : k0_pay69 (wide .f32 f) (wide .f32 g) (long a) = long fun c => a c + ∑ r, g r c * f r c := by
  funext i
  idx_vars i
  pointwise [k0_pay69, wide, long]
  simp only [← EReal.coe_mul, ← EReal.coe_add, ← coe_sum]

theorem pay70 (f g : Fin 256 → Fin 1536 → ℝ) (a : Fin 1536 → ℝ) : k0_pay70 (wide .f32 f) (wide .f32 g) (long a) = long fun c => a c + ∑ r, g r c * f r c := pay69 f g a

theorem pay71 (f g : Fin 256 → Fin 1536 → ℝ) (a : Fin 1536 → ℝ) : k0_pay71 (wide .f32 f) (wide .f32 g) (long a) = long fun c => a c + ∑ r, g r c * f r c := pay69 f g a

/-! ## The gradients of the gates -/

theorem pay72 (f : Fin 272 → Fin 1024 → ℝ) : k0_pay72 (extd f) = rows .f32 fun r => f (mid r) := by
  funext i
  idx_vars i
  pointwise [k0_pay72, extd, rows]
  rfl

theorem pay73 (g y : Fin 256 → Fin 1024 → ℝ) (f : Fin 272 → Fin 1024 → ℝ) :
    k0_pay73 (rows .f32 g) (rows .f32 y) (extd f) = rows .f32 fun r k => f (mid r) k * y r k * g r k * (1 - g r k) := by
  rw [k0_pay73, pay72]
  funext i
  idx_vars i
  pointwise [rows]
  simp only [← EReal.coe_one, ← EReal.coe_mul, ← EReal.coe_sub]

theorem pay74 (y : Fin 256 → Fin 1024 → ℝ) (f : Fin 272 → Fin 1024 → ℝ) : k0_pay74 (rows .f32 y) (extd f) = rows .f32 fun r k => f (mid r) k * y r k := by
  rw [k0_pay74, pay72]
  funext i
  idx_vars i
  pointwise [rows]
  simp only [← EReal.coe_mul]

theorem pay75 (g f : Fin 256 → Fin 1024 → ℝ) : k0_pay75 (rows .f32 g) (rows .f32 f) = rows .f32 fun r k => f r k * g r k * (1 - g r k) := by
  funext i
  idx_vars i
  pointwise [k0_pay75, rows]
  simp only [← EReal.coe_one, ← EReal.coe_mul, ← EReal.coe_sub]

theorem pay76 (f : Fin 256 → Fin 1024 → ℝ) : k0_pay76 (rows .f32 f) = rows .bf16 f := rfl

theorem pay77 (g f : Fin 256 → Fin 1024 → ℝ) : k0_pay77 (rows .f32 g) (rows .f32 f) = rows .bf16 fun r k => f r k * g r k * (1 - g r k) := by
  rw [k0_pay77, pay75]
  rfl

theorem pay78 (f : Fin 256 → Fin 1024 → ℝ) (a : Fin 1024 → ℝ) : k0_pay78 (rows .f32 f) (line a) = line fun k => a k + ∑ r, f r k := by
  funext i
  idx_vars i
  pointwise [k0_pay78, rows, line]
  simp only [← EReal.coe_add, ← coe_sum]

theorem pay79 (g f : Fin 256 → Fin 1024 → ℝ) (a : Fin 1024 → ℝ) :
    k0_pay79 (rows .f32 g) (rows .f32 f) (line a) = line fun k => a k + ∑ r, f r k * g r k * (1 - g r k) := by
  rw [k0_pay79, pay75]
  exact pay78 _ a

theorem pay80 (g f : Fin 256 → Fin 1024 → ℝ) : k0_pay80 (rows .f32 g) (rows .f32 f) = rows .bf16 fun r k => f r k * g r k := by
  funext i
  idx_vars i
  pointwise [k0_pay80, rows]
  simp only [← EReal.coe_mul]

/-! ## The gradients of the spatial gate's two factors -/

theorem pay81 (f : Fin 256 → Fin 1024 → ℝ) (w : Fin 1024 → Fin 1024 → ℝ) : k0_pay81 (rows .bf16 f) (square w) = rows .f32 fun r c => ∑ k, f r k * w c k := by
  funext i
  idx_vars i
  pointwise [k0_pay81, rows, square]
  simp only [← EReal.coe_mul, ← coe_sum]

theorem pay82 (f m : Fin 256 → Fin 1024 → ℝ) (w : Fin 1024 → Fin 1024 → ℝ) :
    k0_pay82 (rows .bf16 f) (square w) (rows .f32 m) = rows .f32 fun r c => (∑ k, f r k * w c k) * m r c := by
  rw [k0_pay82, pay81]
  funext i
  idx_vars i
  pointwise [rows]
  simp only [← EReal.coe_mul]

theorem pay83 (x f : Fin 256 → Fin 1024 → ℝ) :
    k0_pay83 (rows .f32 x) (rows .f32 fun r k => gtanh (x r k)) (rows .f32 f) ((FloatOps.ofBits .f32 0x3F800000#32 : Ideal .f32)) = rows .bf16 fun r k => f r k * geluGrad (x r k) := by
  rw [k0_pay83, named_cubic_grad]
  funext i
  idx_vars i
  pointwise [rows]
  simp only [ofBits_half, ofBits_root, ← EReal.coe_one, ← EReal.coe_mul, ← EReal.coe_add, ← EReal.coe_sub]
  rfl

theorem pay84 (g f : Fin 256 → Fin 1024 → ℝ) : k0_pay84 (rows .f32 g) (rows .f32 f) = rows .f32 fun r k => f r k * g r k := by
  funext i
  idx_vars i
  pointwise [k0_pay84, rows]
  simp only [← EReal.coe_mul]

theorem pay85 (g f : Fin 256 → Fin 1024 → ℝ) : k0_pay85 (rows .f32 g) (rows .f32 f) = rows .bf16 fun r k => f r k * g r k := by
  rw [k0_pay85, pay84]
  exact shapeCast_self _ _

theorem pay86 (g f : Fin 256 → Fin 1024 → ℝ) (a : Fin 128 → Fin 1024 → ℝ) :
    k0_pay86 (rows .f32 g) (rows .f32 f) (chunk a) = chunk fun i k => a i k + f (loRow i) k * g (loRow i) k := by
  rw [k0_pay86, pay84]
  funext i
  idx_vars i
  pointwise [rows, chunk]
  simp only [← EReal.coe_mul, ← EReal.coe_add]
  rfl

theorem pay107 (f : Fin 256 → Fin 1024 → ℝ) (a : Fin 128 → Fin 1024 → ℝ) :
    k0_pay107 (rows .f32 f) (chunk a) = chunk fun i k => a i k + f (hiRow i) k := by
  funext i
  idx_vars i
  pointwise [k0_pay107, rows, chunk]
  simp only [← EReal.coe_mul, ← EReal.coe_add]
  rfl

/-! ## The gradient of the norm -/

theorem pay129 (f d : Fin 256 → Fin 1024 → ℝ) (a : Fin 1024 → ℝ) :
    k0_pay129 (k0_pay127 (line a)) (k0_pay128 (rows .f32 f) (rows .f32 d)) = line fun k => a k + ∑ r, d r k * f r k := by
  funext i
  idx_vars i
  pointwise [k0_pay129, k0_pay127, k0_pay128, rows, line]
  simp only [← EReal.coe_mul, ← EReal.coe_add, ← coe_sum]

theorem pay130 (d : Fin 256 → Fin 1024 → ℝ) (a : Fin 1024 → ℝ) : k0_pay130 (rows .f32 d) (line a) = line fun k => a k + ∑ r, d r k := pay78 d a

theorem pay131 (v d : Fin 256 → Fin 1024 → ℝ) (g : Fin 1024 → ℝ) :
    k0_pay131 (column fun r => rstd (v r)) (rows .f32 fun r => xhat (v r)) (rows .f32 d) (line g) = rows .f32 fun r => normGrad (v r) fun k => d r k * g k := by
  funext i
  idx_vars i
  pointwise [k0_pay131, column, rows, line]
  simp only [ofBits_1024, div_real (by norm_num : (1024 : ℝ) ≠ 0), ← EReal.coe_mul, ← EReal.coe_sub, ← coe_sum]
  rfl

theorem pay1 (n x : Fin 256 → Fin 1024 → ℝ) :
    k0_pay1 (rows .f32 n) (k0_pay132 (rows .f32 fun r k => gtanh (x r k))) (k0_pay133 (rows .f32 x) (rows .f32 fun r k => gtanh (x r k))) (k0_pay134 (rows .f32 x))
      (Named.named κ "gelu_cubic_grad" 0x3E095D4F#32) = rows .bf16 fun r k => n r k * geluGrad (x r k) := by
  rw [k0_pay1, named_cubic_grad]
  funext i
  idx_vars i
  pointwise [k0_pay132, k0_pay133, k0_pay134, rows]
  simp only [ofBits_half, ofBits_root, ← EReal.coe_one, ← EReal.coe_mul, ← EReal.coe_add, ← EReal.coe_sub]
  rfl

end Cert.Kernel2Ideal.Block
-- ==== Proof.Mix.Loads.lean ====
module

public import proofs.«01_k».proof.Proof.Mix.Block
public import Idealize.ShloMosaic.Lib.Pipeline.ReadBack
public import Idealize.ShloMosaic.Lib.Pipeline.ValueKit
public import Idealize.ShloMosaic.Lib.WritesUnit

@[expose] public section

/-! # Loads and stores of real arrays in the mixing layer's kernel -/

set_option maxRecDepth 16384

noncomputable section

namespace Cert.Kernel2Ideal.Loads

open Idealize.ShloMosaic Idealize.ShloMosaic.TcCoe Idealize.SL.Sem Cert.Kernel2Ideal Cert.Kernel2Ideal.Gen Cert.Reals Cert.Row Cert.Mix Cert.Kernel2Ideal.Block

/-! ## The windows' blocks -/

variable (W : Cert.Mix.Weights) (X : Fin 272 → Fin 8704 → ℝ)

def blockP : FVec Ideal S256x8704 .f32 := fun i => ((X (mid (i 0)) (i 1) : ℝ) : EReal)

def prevP : FVec Ideal S1x8x8704 .f32 := fun i => ((X (pre (i 1)) (i 2) : ℝ) : EReal)

def nextP : FVec Ideal S1x8x8704 .f32 := fun i => ((X (post (i 1)) (i 2) : ℝ) : EReal)

def spatial : FVec Ideal S8x128x128 .bf16 := fun i => ((W.ws (i 0) (i 1) (i 2) : ℝ) : EReal)

def spreadBias : FVec Ideal S128x1024 .f32 := fun i => ((W.bs (head (i 1)) (i 0) : ℝ) : EReal)

def gateBias : FVec Ideal S1x2048 .f32 := fun i => ((W.bg (i 1) : ℝ) : EReal)

def taps : FVec Ideal S3x1536 .f32 := fun i => ((W.cw (i 0) (i 1) : ℝ) : EReal)

/-- The channels of the block's rows. -/
theorem ld_block :
    View.ld (Val := Elt Ideal) (e' := .f32) (blockP X) (Rect.unit (s := S256x8704) ![0, 0] ![256, 1536] inb_S256x8704_S256x1536_0_0) = (wide .f32 fun r => chanB (X (mid r))) ∧
    View.ld (Val := Elt Ideal) (e' := .f32) (blockP X) (Rect.unit (s := S256x8704) ![0, 1536] ![256, 1536] inb_S256x8704_S256x1536_0_1536) = (wide .f32 fun r => chanC (X (mid r))) ∧
    View.ld (Val := Elt Ideal) (e' := .f32) (blockP X) (Rect.unit (s := S256x8704) ![0, 3072] ![256, 1536] inb_S256x8704_S256x1536_0_3072) = (wide .f32 fun r => chanH (X (mid r))) ∧
    View.ld (Val := Elt Ideal) (e' := .f32) (blockP X) (Rect.unit (s := S256x8704) ![0, 4608] ![256, 1024] inb_S256x8704_S256x1024_0_4608) = (rows .f32 fun r => chanU (X (mid r))) ∧
    View.ld (Val := Elt Ideal) (e' := .f32) (blockP X) (Rect.unit (s := S256x8704) ![0, 5632] ![256, 1024] inb_S256x8704_S256x1024_0_5632) = (rows .f32 fun r => chanV (X (mid r))) ∧
    View.ld (Val := Elt Ideal) (e' := .f32) (blockP X) (Rect.unit (s := S256x8704) ![0, 6656] ![256, 1024] inb_S256x8704_S256x1024_0_6656) = (rows .f32 fun r => chanA (X (mid r))) ∧
    View.ld (Val := Elt Ideal) (e' := .f32) (blockP X) (Rect.unit (s := S256x8704) ![0, 7680] ![256, 1024] inb_S256x8704_S256x1024_0_7680) = (rows .f32 fun r => chanG (X (mid r))) := by
  refine ⟨?_, ?_, ?_, ?_, ?_, ?_, ?_⟩ <;>
  · funext i
    idx_vars i
    pointwise [blockP, wide, rows, chanB, chanC, chanH, chanU, chanV, chanA, chanG, at8704, lo, hi]
    try exact congrArg (fun k => ((X (mid i0) k : ℝ) : EReal)) (Fin.ext (by simp; omega))

/-- The channels of the rows before the block. -/
theorem ld_prev :
    View.ld (Val := Elt Ideal) (e' := .f32) (prevP X) (Rect.unit (s := S1x8x8704) ![0, 7, 1536] ![1, 1, 1536] inb_S1x8x8704_S1x1x1536_0_7_1536) = edge (chanC (X (pre 7))) ∧
    View.ld (Val := Elt Ideal) (e' := .f32) (prevP X) (Rect.unit (s := S1x8x8704) ![0, 7, 3072] ![1, 1, 1536] inb_S1x8x8704_S1x1x1536_0_7_3072) = edge (chanH (X (pre 7))) ∧
    View.ld (Val := Elt Ideal) (e' := .f32) (prevP X) (Rect.unit (s := S1x8x8704) ![0, 0, 0] ![1, 8, 1536] inb_S1x8x8704_S1x8x1536_0_0_0) = (halow fun j => chanB (X (pre j))) ∧
    View.ld (Val := Elt Ideal) (e' := .f32) (prevP X) (Rect.unit (s := S1x8x8704) ![0, 0, 6656] ![1, 8, 1024] inb_S1x8x8704_S1x8x1024_0_0_6656) = (halo fun j => chanA (X (pre j))) := by
  refine ⟨?_, ?_, ?_, ?_⟩ <;>
  · funext i
    idx_vars i
    pointwise [prevP, edge, halow, halo, chanB, chanC, chanH, chanA, at8704, lo]
    try rfl

/-- The channels of the rows after the block. -/
theorem ld_next :
    View.ld (Val := Elt Ideal) (e' := .f32) (nextP X) (Rect.unit (s := S1x8x8704) ![0, 0, 1536] ![1, 1, 1536] inb_S1x8x8704_S1x1x1536_0_0_1536) = edge (chanC (X (post 0))) ∧
    View.ld (Val := Elt Ideal) (e' := .f32) (nextP X) (Rect.unit (s := S1x8x8704) ![0, 0, 3072] ![1, 1, 1536] inb_S1x8x8704_S1x1x1536_0_0_3072) = edge (chanH (X (post 0))) ∧
    View.ld (Val := Elt Ideal) (e' := .f32) (nextP X) (Rect.unit (s := S1x8x8704) ![0, 0, 0] ![1, 8, 1536] inb_S1x8x8704_S1x8x1536_0_0_0) = (halow fun j => chanB (X (post j))) ∧
    View.ld (Val := Elt Ideal) (e' := .f32) (nextP X) (Rect.unit (s := S1x8x8704) ![0, 0, 6656] ![1, 8, 1024] inb_S1x8x8704_S1x8x1024_0_0_6656) = (halo fun j => chanA (X (post j))) := by
  refine ⟨?_, ?_, ?_, ?_⟩ <;>
  · funext i
    idx_vars i
    pointwise [nextP, edge, halow, halo, chanB, chanC, chanH, chanA, at8704, lo]
    try rfl

/-- The heads' spatial weights. -/
theorem ld_spatial :
    View.ld (Val := Elt Ideal) (e' := .bf16) (spatial W) (Rect.unit (s := S8x128x128) ![0, 0, 0] ![1, 128, 128] inb_S8x128x128_S1x128x128_0_0_0) = slab .bf16 (W.ws 0) ∧
    View.ld (Val := Elt Ideal) (e' := .bf16) (spatial W) (Rect.unit (s := S8x128x128) ![1, 0, 0] ![1, 128, 128] inb_S8x128x128_S1x128x128_1_0_0) = slab .bf16 (W.ws 1) ∧
    View.ld (Val := Elt Ideal) (e' := .bf16) (spatial W) (Rect.unit (s := S8x128x128) ![2, 0, 0] ![1, 128, 128] inb_S8x128x128_S1x128x128_2_0_0) = slab .bf16 (W.ws 2) ∧
    View.ld (Val := Elt Ideal) (e' := .bf16) (spatial W) (Rect.unit (s := S8x128x128) ![3, 0, 0] ![1, 128, 128] inb_S8x128x128_S1x128x128_3_0_0) = slab .bf16 (W.ws 3) ∧
    View.ld (Val := Elt Ideal) (e' := .bf16) (spatial W) (Rect.unit (s := S8x128x128) ![4, 0, 0] ![1, 128, 128] inb_S8x128x128_S1x128x128_4_0_0) = slab .bf16 (W.ws 4) ∧
    View.ld (Val := Elt Ideal) (e' := .bf16) (spatial W) (Rect.unit (s := S8x128x128) ![5, 0, 0] ![1, 128, 128] inb_S8x128x128_S1x128x128_5_0_0) = slab .bf16 (W.ws 5) ∧
    View.ld (Val := Elt Ideal) (e' := .bf16) (spatial W) (Rect.unit (s := S8x128x128) ![6, 0, 0] ![1, 128, 128] inb_S8x128x128_S1x128x128_6_0_0) = slab .bf16 (W.ws 6) ∧
    View.ld (Val := Elt Ideal) (e' := .bf16) (spatial W) (Rect.unit (s := S8x128x128) ![7, 0, 0] ![1, 128, 128] inb_S8x128x128_S1x128x128_7_0_0) = slab .bf16 (W.ws 7) := by
  refine ⟨?_, ?_, ?_, ?_, ?_, ?_, ?_, ?_⟩ <;>
  · funext i
    idx_vars i
    pointwise [spatial, slab]
    try rfl

/-- The spatial bias of one head, the same in all its columns. -/
def headBias (h : Fin 8) : FVec Ideal S128x128 .f32 := tile .f32 fun i _ => W.bs h i

/-- The heads' columns of the spread bias. -/
theorem ld_bias :
    View.ld (Val := Elt Ideal) (e' := .f32) (spreadBias W) (Rect.unit (s := S128x1024) ![0, 0] ![128, 128] inb_S128x1024_S128x128_0_0) = headBias W 0 ∧
    View.ld (Val := Elt Ideal) (e' := .f32) (spreadBias W) (Rect.unit (s := S128x1024) ![0, 128] ![128, 128] inb_S128x1024_S128x128_0_128) = headBias W 1 ∧
    View.ld (Val := Elt Ideal) (e' := .f32) (spreadBias W) (Rect.unit (s := S128x1024) ![0, 256] ![128, 128] inb_S128x1024_S128x128_0_256) = headBias W 2 ∧
    View.ld (Val := Elt Ideal) (e' := .f32) (spreadBias W) (Rect.unit (s := S128x1024) ![0, 384] ![128, 128] inb_S128x1024_S128x128_0_384) = headBias W 3 ∧
    View.ld (Val := Elt Ideal) (e' := .f32) (spreadBias W) (Rect.unit (s := S128x1024) ![0, 512] ![128, 128] inb_S128x1024_S128x128_0_512) = headBias W 4 ∧
    View.ld (Val := Elt Ideal) (e' := .f32) (spreadBias W) (Rect.unit (s := S128x1024) ![0, 640] ![128, 128] inb_S128x1024_S128x128_0_640) = headBias W 5 ∧
    View.ld (Val := Elt Ideal) (e' := .f32) (spreadBias W) (Rect.unit (s := S128x1024) ![0, 768] ![128, 128] inb_S128x1024_S128x128_0_768) = headBias W 6 ∧
    View.ld (Val := Elt Ideal) (e' := .f32) (spreadBias W) (Rect.unit (s := S128x1024) ![0, 896] ![128, 128] inb_S128x1024_S128x128_0_896) = headBias W 7 := by
  refine ⟨?_, ?_, ?_, ?_, ?_, ?_, ?_, ?_⟩ <;>
  · funext i
    idx_vars i
    pointwise [spreadBias, headBias, tile, head]
    exact congrArg (fun h : Fin 8 => ((W.bs h i0 : ℝ) : EReal)) (Fin.ext (by simp; try omega))

/-- The two gates' biases. -/
theorem ld_gates :
    View.ld (Val := Elt Ideal) (e' := .f32) (gateBias W) (Rect.unit (s := S1x2048) ![0, 0] ![1, 1024] inb_S1x2048_S1x1024_0_0) = (line fun k => W.bg (lo k)) ∧
    View.ld (Val := Elt Ideal) (e' := .f32) (gateBias W) (Rect.unit (s := S1x2048) ![0, 1024] ![1, 1024] inb_S1x2048_S1x1024_0_1024) = (line fun k => W.bg (hi k)) := by
  refine ⟨?_, ?_⟩ <;>
  · funext i
    idx_vars i
    pointwise [gateBias, line, lo, hi]
    try rfl

/-- The three taps. -/
theorem ld_taps :
    View.ld (Val := Elt Ideal) (e' := .f32) (taps W) (Rect.unit (s := S3x1536) ![0, 0] ![1, 1536] inb_S3x1536_S1x1536_0_0) = long (W.cw 0) ∧
    View.ld (Val := Elt Ideal) (e' := .f32) (taps W) (Rect.unit (s := S3x1536) ![1, 0] ![1, 1536] inb_S3x1536_S1x1536_1_0) = long (W.cw 1) ∧
    View.ld (Val := Elt Ideal) (e' := .f32) (taps W) (Rect.unit (s := S3x1536) ![2, 0] ![1, 1536] inb_S3x1536_S1x1536_2_0) = long (W.cw 2) := by
  refine ⟨?_, ?_, ?_⟩ <;>
  · funext i
    idx_vars i
    pointwise [taps, long]
    try rfl

/-! ## Chunks and heads -/

/-- Row `i` of a block's chunk `q`. -/
def chunkOf (q : Fin 2) (i : Fin 128) : Fin 256 := ⟨128 * q.val + i.val, by omega⟩

/-- The tile of one chunk and one head. -/
def piece (φ : FTy) (f : Fin 256 → Fin 1024 → ℝ) (q : Fin 2) (h : Fin 8) : FVec Ideal S128x128 φ := tile φ fun i j => f (chunkOf q i) (headCol h j)

/-- A row's chunk and its position there. -/
def quotB (r : Fin 256) : Fin 2 := ⟨r.val / 128, by omega⟩

def posB (r : Fin 256) : Fin 128 := ⟨r.val % 128, by omega⟩

theorem quotB_chunkOf (q : Fin 2) (i : Fin 128) : quotB (chunkOf q i) = q := Fin.ext (by show (128 * q.val + i.val) / 128 = q.val; omega)

theorem posB_chunkOf (q : Fin 2) (i : Fin 128) : posB (chunkOf q i) = i := Fin.ext (by show (128 * q.val + i.val) % 128 = i.val; omega)

theorem head_headCol (h : Fin 8) (j : Fin 128) : head (headCol h j) = h := Fin.ext (by show (128 * h.val + j.val) / 128 = h.val; omega)

theorem ld_piece (f : Fin 256 → Fin 1024 → ℝ) (q : Fin 2) (h : Fin 8) (o p : ℕ) (ho : o = 128 * q.val) (hp : p = 128 * h.val)
    (inb : ∀ d, ![o, p] d + ![128, 128] d ≤ S256x1024.size d) :
    View.ld (Val := Elt Ideal) (e' := .bf16) (rows .bf16 f) (Rect.unit (s := S256x1024) ![o, p] ![128, 128] inb) = piece .bf16 f q h := by
  subst ho hp
  funext i
  refine congrArg (fun r : ℝ => (r : EReal)) (congrArg₂ f (Fin.ext ?_) (Fin.ext ?_))
  · show 128 * q.val + 1 * (i 0).val = 128 * q.val + (i 0).val
    omega
  · show 128 * h.val + 1 * (i 1).val = 128 * h.val + (i 1).val
    omega

/-- The sixteen tiles of a block. -/
theorem ld_pieces (f : Fin 256 → Fin 1024 → ℝ) :
    View.ld (Val := Elt Ideal) (e' := .bf16) (rows .bf16 f) (Rect.unit (s := S256x1024) ![0, 0] ![128, 128] inb_S256x1024_S128x128_0_0) = piece .bf16 f 0 0 ∧
    View.ld (Val := Elt Ideal) (e' := .bf16) (rows .bf16 f) (Rect.unit (s := S256x1024) ![0, 128] ![128, 128] inb_S256x1024_S128x128_0_128) = piece .bf16 f 0 1 ∧
    View.ld (Val := Elt Ideal) (e' := .bf16) (rows .bf16 f) (Rect.unit (s := S256x1024) ![0, 256] ![128, 128] inb_S256x1024_S128x128_0_256) = piece .bf16 f 0 2 ∧
    View.ld (Val := Elt Ideal) (e' := .bf16) (rows .bf16 f) (Rect.unit (s := S256x1024) ![0, 384] ![128, 128] inb_S256x1024_S128x128_0_384) = piece .bf16 f 0 3 ∧
    View.ld (Val := Elt Ideal) (e' := .bf16) (rows .bf16 f) (Rect.unit (s := S256x1024) ![0, 512] ![128, 128] inb_S256x1024_S128x128_0_512) = piece .bf16 f 0 4 ∧
    View.ld (Val := Elt Ideal) (e' := .bf16) (rows .bf16 f) (Rect.unit (s := S256x1024) ![0, 640] ![128, 128] inb_S256x1024_S128x128_0_640) = piece .bf16 f 0 5 ∧
    View.ld (Val := Elt Ideal) (e' := .bf16) (rows .bf16 f) (Rect.unit (s := S256x1024) ![0, 768] ![128, 128] inb_S256x1024_S128x128_0_768) = piece .bf16 f 0 6 ∧
    View.ld (Val := Elt Ideal) (e' := .bf16) (rows .bf16 f) (Rect.unit (s := S256x1024) ![0, 896] ![128, 128] inb_S256x1024_S128x128_0_896) = piece .bf16 f 0 7 ∧
    View.ld (Val := Elt Ideal) (e' := .bf16) (rows .bf16 f) (Rect.unit (s := S256x1024) ![128, 0] ![128, 128] inb_S256x1024_S128x128_128_0) = piece .bf16 f 1 0 ∧
    View.ld (Val := Elt Ideal) (e' := .bf16) (rows .bf16 f) (Rect.unit (s := S256x1024) ![128, 128] ![128, 128] inb_S256x1024_S128x128_128_128) = piece .bf16 f 1 1 ∧
    View.ld (Val := Elt Ideal) (e' := .bf16) (rows .bf16 f) (Rect.unit (s := S256x1024) ![128, 256] ![128, 128] inb_S256x1024_S128x128_128_256) = piece .bf16 f 1 2 ∧
    View.ld (Val := Elt Ideal) (e' := .bf16) (rows .bf16 f) (Rect.unit (s := S256x1024) ![128, 384] ![128, 128] inb_S256x1024_S128x128_128_384) = piece .bf16 f 1 3 ∧
    View.ld (Val := Elt Ideal) (e' := .bf16) (rows .bf16 f) (Rect.unit (s := S256x1024) ![128, 512] ![128, 128] inb_S256x1024_S128x128_128_512) = piece .bf16 f 1 4 ∧
    View.ld (Val := Elt Ideal) (e' := .bf16) (rows .bf16 f) (Rect.unit (s := S256x1024) ![128, 640] ![128, 128] inb_S256x1024_S128x128_128_640) = piece .bf16 f 1 5 ∧
    View.ld (Val := Elt Ideal) (e' := .bf16) (rows .bf16 f) (Rect.unit (s := S256x1024) ![128, 768] ![128, 128] inb_S256x1024_S128x128_128_768) = piece .bf16 f 1 6 ∧
    View.ld (Val := Elt Ideal) (e' := .bf16) (rows .bf16 f) (Rect.unit (s := S256x1024) ![128, 896] ![128, 128] inb_S256x1024_S128x128_128_896) = piece .bf16 f 1 7 :=
  ⟨ld_piece f 0 0 0 0 rfl rfl _, ld_piece f 0 1 0 128 rfl rfl _, ld_piece f 0 2 0 256 rfl rfl _, ld_piece f 0 3 0 384 rfl rfl _, ld_piece f 0 4 0 512 rfl rfl _, ld_piece f 0 5 0 640 rfl rfl _, ld_piece f 0 6 0 768 rfl rfl _, ld_piece f 0 7 0 896 rfl rfl _, ld_piece f 1 0 128 0 rfl rfl _, ld_piece f 1 1 128 128 rfl rfl _, ld_piece f 1 2 128 256 rfl rfl _, ld_piece f 1 3 128 384 rfl rfl _, ld_piece f 1 4 128 512 rfl rfl _, ld_piece f 1 5 128 640 rfl rfl _, ld_piece f 1 6 128 768 rfl rfl _, ld_piece f 1 7 128 896 rfl rfl _⟩

/-- Sixteen tiles, stored one after the other and loaded together. -/
theorem sixteen {sig : RefSig} {κ : Kind} {sp : Space} (v : View sig κ sp S256x1024 .f32) (f : Fin 256 → Fin 1024 → ℝ) :
    View.readCov (Val := Elt Ideal) v
        [⟨Rect.unit ![128, 896] ![128, 128] inb_S256x1024_S128x128_128_896, piece .f32 f 1 7⟩,
          ⟨Rect.unit ![128, 768] ![128, 128] inb_S256x1024_S128x128_128_768, piece .f32 f 1 6⟩,
          ⟨Rect.unit ![128, 640] ![128, 128] inb_S256x1024_S128x128_128_640, piece .f32 f 1 5⟩,
          ⟨Rect.unit ![128, 512] ![128, 128] inb_S256x1024_S128x128_128_512, piece .f32 f 1 4⟩,
          ⟨Rect.unit ![128, 384] ![128, 128] inb_S256x1024_S128x128_128_384, piece .f32 f 1 3⟩,
          ⟨Rect.unit ![128, 256] ![128, 128] inb_S256x1024_S128x128_128_256, piece .f32 f 1 2⟩,
          ⟨Rect.unit ![128, 128] ![128, 128] inb_S256x1024_S128x128_128_128, piece .f32 f 1 1⟩,
          ⟨Rect.unit ![128, 0] ![128, 128] inb_S256x1024_S128x128_128_0, piece .f32 f 1 0⟩,
          ⟨Rect.unit ![0, 896] ![128, 128] inb_S256x1024_S128x128_0_896, piece .f32 f 0 7⟩,
          ⟨Rect.unit ![0, 768] ![128, 128] inb_S256x1024_S128x128_0_768, piece .f32 f 0 6⟩,
          ⟨Rect.unit ![0, 640] ![128, 128] inb_S256x1024_S128x128_0_640, piece .f32 f 0 5⟩,
          ⟨Rect.unit ![0, 512] ![128, 128] inb_S256x1024_S128x128_0_512, piece .f32 f 0 4⟩,
          ⟨Rect.unit ![0, 384] ![128, 128] inb_S256x1024_S128x128_0_384, piece .f32 f 0 3⟩,
          ⟨Rect.unit ![0, 256] ![128, 128] inb_S256x1024_S128x128_0_256, piece .f32 f 0 2⟩,
          ⟨Rect.unit ![0, 128] ![128, 128] inb_S256x1024_S128x128_0_128, piece .f32 f 0 1⟩,
          ⟨Rect.unit ![0, 0] ![128, 128] inb_S256x1024_S128x128_0_0, piece .f32 f 0 0⟩]
        (Rect.unit ![0, 0] ![256, 1024] inb_S256x1024_S256x1024_0_0).toLoadRect = rows .f32 f := by
  rw [View.readCov_eq_canon']
  funext i
  refine Eq.trans (b := View.canon (Val := Elt Ideal) (s := S256x1024) (e := .f32) _ i) (congrArg _ (funext fun a => Fin.ext ?_)) ?_
  · fin_cases a
    · show 0 + 1 * (i 0).val = (i 0).val
      omega
    · show 0 + 1 * (i 1).val = (i 1).val
      omega
  canon_tiles i h
  all_goals
    refine congrArg (fun r : ℝ => (r : EReal)) (congrArg₂ f (Fin.ext ?_) (Fin.ext ?_))
    · simp only [chunkOf]
      simp
      omega
    · simp only [headCol]
      simp
      omega

/-! ## The accumulators -/

/-- Eight rows of reals. -/
def grid8 {N : ℕ} (a : Fin 8 → Fin N → ℝ) : FVec Ideal (⟨2, ![8, N]⟩ : Shape) .f32 := fun i => ((a (i 0) (i 1) : ℝ) : EReal)

/-- A piece of a row of reals. -/
def bar {w : ℕ} (b : Fin w → ℝ) : FVec Ideal (⟨2, ![1, w]⟩ : Shape) .f32 := fun i => ((b (i 1) : ℝ) : EReal)

/-- The eight rows with `b` put into row `o` from column `p` on. -/
def put {N w : ℕ} (a : Fin 8 → Fin N → ℝ) (o p : ℕ) (b : Fin w → ℝ) (i : Fin 8) (j : Fin N) : ℝ :=
  if h : i.val = o ∧ p ≤ j.val ∧ j.val < p + w then b ⟨j.val - p, by omega⟩ else a i j

theorem put_of_mem {N w : ℕ} (a : Fin 8 → Fin N → ℝ) (o p : ℕ) (b : Fin w → ℝ) (i : Fin 8) (j : Fin N) (h : i.val = o ∧ p ≤ j.val ∧ j.val < p + w) :
    put a o p b i j = b ⟨j.val - p, by omega⟩ := dif_pos h

theorem put_of_not_mem {N w : ℕ} (a : Fin 8 → Fin N → ℝ) (o p : ℕ) (b : Fin w → ℝ) (i : Fin 8) (j : Fin N) (h : ¬(i.val = o ∧ p ≤ j.val ∧ j.val < p + w)) :
    put a o p b i j = a i j := dif_neg h

theorem store8 {N w : ℕ} {sig : RefSig} {κ : Kind} {sp : Space} (v : View sig κ sp (⟨2, ![8, N]⟩ : Shape) .f32) (f : v.ty.Contents (Elt Ideal)) (o p : ℕ)
    (inb : ∀ d, ![o, p] d + ![1, w] d ≤ (⟨2, ![8, N]⟩ : Shape).size d) (b : Fin w → ℝ) (L : List (View.Piece (Elt Ideal) (⟨2, ![8, N]⟩ : Shape) .f32))
    (a : Fin 8 → Fin N → ℝ) (h : v.read (Elt Ideal) (v.writes (Elt Ideal) f L) = grid8 a) :
    v.read (Elt Ideal) (v.writes (Elt Ideal) f ((⟨Rect.unit (s := (⟨2, ![8, N]⟩ : Shape)) ![o, p] ![1, w] inb, bar b⟩ : View.Piece (Elt Ideal) (⟨2, ![8, N]⟩ : Shape) .f32) :: L)) =
      grid8 (put a o p b) := by
  funext i
  by_cases e : (i 0).val = o ∧ p ≤ (i 1).val ∧ (i 1).val < p + w
  · rw [View.read_writes_cons_unit_of_mem v f (off' := ![o, p]) inb (bar b) L i (ix2 0 ⟨(i 1).val - p, by omega⟩) rfl
      (Fin.forall_fin_two.mpr ⟨e.1, (Nat.add_sub_cancel' e.2.1).symm⟩)]
    exact congrArg (fun r : ℝ => (r : EReal)) (put_of_mem a o p b _ _ e).symm
  · refine Eq.trans ?_ ((congrFun h i).trans (congrArg (fun r : ℝ => (r : EReal)) (put_of_not_mem a o p b _ _ e).symm))
    by_cases e0 : (i 0).val = o
    · exact View.read_writes_cons_unit_of_not_mem v f (off' := ![o, p]) inb (bar b) L i rfl 1 (by
        show (i 1).val < p ∨ p + w ≤ (i 1).val
        omega)
    · exact View.read_writes_cons_unit_of_not_mem v f (off' := ![o, p]) inb (bar b) L i rfl 0 (by
        show (i 0).val < o ∨ o + 1 ≤ (i 0).val
        omega)

/-- The spatial weights' gradient. -/
def cube8 (a : Fin 8 → Fin 128 → Fin 128 → ℝ) : FVec Ideal S8x128x128 .f32 := fun i => ((a (i 0) (i 1) (i 2) : ℝ) : EReal)

/-- Its heads. -/
theorem ld_cube (a : Fin 8 → Fin 128 → Fin 128 → ℝ) :
    View.ld (Val := Elt Ideal) (e' := .f32) (cube8 a) (Rect.unit (s := S8x128x128) ![0, 0, 0] ![1, 128, 128] inb_S8x128x128_S1x128x128_0_0_0) = slab .f32 (a 0) ∧
    View.ld (Val := Elt Ideal) (e' := .f32) (cube8 a) (Rect.unit (s := S8x128x128) ![1, 0, 0] ![1, 128, 128] inb_S8x128x128_S1x128x128_1_0_0) = slab .f32 (a 1) ∧
    View.ld (Val := Elt Ideal) (e' := .f32) (cube8 a) (Rect.unit (s := S8x128x128) ![2, 0, 0] ![1, 128, 128] inb_S8x128x128_S1x128x128_2_0_0) = slab .f32 (a 2) ∧
    View.ld (Val := Elt Ideal) (e' := .f32) (cube8 a) (Rect.unit (s := S8x128x128) ![3, 0, 0] ![1, 128, 128] inb_S8x128x128_S1x128x128_3_0_0) = slab .f32 (a 3) ∧
    View.ld (Val := Elt Ideal) (e' := .f32) (cube8 a) (Rect.unit (s := S8x128x128) ![4, 0, 0] ![1, 128, 128] inb_S8x128x128_S1x128x128_4_0_0) = slab .f32 (a 4) ∧
    View.ld (Val := Elt Ideal) (e' := .f32) (cube8 a) (Rect.unit (s := S8x128x128) ![5, 0, 0] ![1, 128, 128] inb_S8x128x128_S1x128x128_5_0_0) = slab .f32 (a 5) ∧
    View.ld (Val := Elt Ideal) (e' := .f32) (cube8 a) (Rect.unit (s := S8x128x128) ![6, 0, 0] ![1, 128, 128] inb_S8x128x128_S1x128x128_6_0_0) = slab .f32 (a 6) ∧
    View.ld (Val := Elt Ideal) (e' := .f32) (cube8 a) (Rect.unit (s := S8x128x128) ![7, 0, 0] ![1, 128, 128] inb_S8x128x128_S1x128x128_7_0_0) = slab .f32 (a 7) := by
  refine ⟨?_, ?_, ?_, ?_, ?_, ?_, ?_, ?_⟩ <;>
  · funext i
    idx_vars i
    pointwise [cube8, slab]
    try rfl

/-- Rows of the accumulators. -/
theorem ld_gate8 (a : Fin 8 → Fin 2048 → ℝ) :
    View.ld (Val := Elt Ideal) (e' := .f32) (grid8 a) (Rect.unit (s := S8x2048) ![0, 0] ![1, 1024] inb_S8x2048_S1x1024_0_0) = (line fun k => a 0 (lo k)) ∧
    View.ld (Val := Elt Ideal) (e' := .f32) (grid8 a) (Rect.unit (s := S8x2048) ![0, 1024] ![1, 1024] inb_S8x2048_S1x1024_0_1024) = (line fun k => a 0 (hi k)) := by
  refine ⟨?_, ?_⟩ <;>
  · funext i
    idx_vars i
    pointwise [grid8, line, lo, hi]
    try rfl

/-- Rows of the accumulators. -/
theorem ld_conv8 (a : Fin 8 → Fin 1536 → ℝ) :
    View.ld (Val := Elt Ideal) (e' := .f32) (grid8 a) (Rect.unit (s := S8x1536) ![0, 0] ![1, 1536] inb_S8x1536_S1x1536_0_0) = long (a 0) ∧
    View.ld (Val := Elt Ideal) (e' := .f32) (grid8 a) (Rect.unit (s := S8x1536) ![1, 0] ![1, 1536] inb_S8x1536_S1x1536_1_0) = long (a 1) ∧
    View.ld (Val := Elt Ideal) (e' := .f32) (grid8 a) (Rect.unit (s := S8x1536) ![2, 0] ![1, 1536] inb_S8x1536_S1x1536_2_0) = long (a 2) := by
  refine ⟨?_, ?_, ?_⟩ <;>
  · funext i
    idx_vars i
    pointwise [grid8, long]
    try rfl

/-- Rows of the accumulators. -/
theorem ld_norm8 (a : Fin 8 → Fin 1024 → ℝ) :
    View.ld (Val := Elt Ideal) (e' := .f32) (grid8 a) (Rect.unit (s := S8x1024) ![0, 0] ![1, 1024] inb_S8x1024_S1x1024_0_0) = line (a 0) ∧
    View.ld (Val := Elt Ideal) (e' := .f32) (grid8 a) (Rect.unit (s := S8x1024) ![1, 0] ![1, 1024] inb_S8x1024_S1x1024_1_0) = line (a 1) := by
  refine ⟨?_, ?_⟩ <;>
  · funext i
    idx_vars i
    pointwise [grid8, line]
    try rfl

/-- The head stored last. -/
theorem canon_slab (a : Fin 8 → Fin 128 → Fin 128 → ℝ) (h : Fin 8) (o : ℕ) (ho : o = h.val) (inb : ∀ d, ![o, 0, 0] d + ![1, 128, 128] d ≤ S8x128x128.size d)
    (L : List (View.Piece (Elt Ideal) S8x128x128 .f32)) (i : S8x128x128.Idx) (H : (i 0).val ≠ o → View.canon L i = cube8 a i) :
    View.canon ((⟨Rect.unit (s := S8x128x128) ![o, 0, 0] ![1, 128, 128] inb, slab .f32 (a h)⟩ : View.Piece (Elt Ideal) S8x128x128 .f32) :: L) i = cube8 a i := by
  subst ho
  by_cases e : (i 0).val = h.val
  · refine (congrArg (View.canon _) (?_ : i = (Rect.unit (s := S8x128x128) ![h.val, 0, 0] ![1, 128, 128] inb).emb (ix3 0 (i 1) (i 2)))).trans
      ((View.canon_cons_emb _ _ _ _).trans (congrArg (fun k : Fin 8 => ((a k (i 1) (i 2) : ℝ) : EReal)) (Fin.ext e).symm))
    funext d
    refine Fin.ext ?_
    fin_cases d
    · show (i 0).val = h.val + 1 * 0
      omega
    · show (i 1).val = 0 + 1 * (i 1).val
      omega
    · show (i 2).val = 0 + 1 * (i 2).val
      omega
  · refine (View.canon_cons_of_not_mem _ _ fun hm => ?_).trans (H e)
    have h1 : h.val ≤ (i 0).val ∧ (i 0).val < h.val + 1 := (Rect.mem_set_unit (s := S8x128x128) (off := ![h.val, 0, 0]) (size := ![1, 128, 128]) (inb := inb)).mp hm 0
    omega

/-- Eight heads, stored one after the other over anything. -/
theorem eight_slabs (a : Fin 8 → Fin 128 → Fin 128 → ℝ) (L : List (View.Piece (Elt Ideal) S8x128x128 .f32)) :
    View.canon ([⟨Rect.unit ![7, 0, 0] ![1, 128, 128] inb_S8x128x128_S1x128x128_7_0_0, slab .f32 (a 7)⟩, ⟨Rect.unit ![6, 0, 0] ![1, 128, 128] inb_S8x128x128_S1x128x128_6_0_0, slab .f32 (a 6)⟩, ⟨Rect.unit ![5, 0, 0] ![1, 128, 128] inb_S8x128x128_S1x128x128_5_0_0, slab .f32 (a 5)⟩, ⟨Rect.unit ![4, 0, 0] ![1, 128, 128] inb_S8x128x128_S1x128x128_4_0_0, slab .f32 (a 4)⟩, ⟨Rect.unit ![3, 0, 0] ![1, 128, 128] inb_S8x128x128_S1x128x128_3_0_0, slab .f32 (a 3)⟩, ⟨Rect.unit ![2, 0, 0] ![1, 128, 128] inb_S8x128x128_S1x128x128_2_0_0, slab .f32 (a 2)⟩, ⟨Rect.unit ![1, 0, 0] ![1, 128, 128] inb_S8x128x128_S1x128x128_1_0_0, slab .f32 (a 1)⟩, ⟨Rect.unit ![0, 0, 0] ![1, 128, 128] inb_S8x128x128_S1x128x128_0_0_0, slab .f32 (a 0)⟩] ++ L) = cube8 a := by
  funext i
  refine canon_slab a 7 7 rfl _ _ i fun e7 =>  canon_slab a 6 6 rfl _ _ i fun e6 =>  canon_slab a 5 5 rfl _ _ i fun e5 =>  canon_slab a 4 4 rfl _ _ i fun e4 =>  canon_slab a 3 3 rfl _ _ i fun e3 =>  canon_slab a 2 2 rfl _ _ i fun e2 =>  canon_slab a 1 1 rfl _ _ i fun e1 =>  canon_slab a 0 0 rfl _ _ i fun e0 => absurd (i 0).isLt ?_
  show ¬(i 0).val < 8
  omega

/-- The accumulators before the first block. -/
theorem zeros : (k0_pay2 : FVec Ideal S8x2048 .f32) = grid8 0 ∧ (k0_pay3 : FVec Ideal S8x1536 .f32) = grid8 0 ∧ (k0_pay4 : FVec Ideal S8x1024 .f32) = grid8 0 ∧
    (k0_pay5 : FVec Ideal S8x128x128 .f32) = cube8 0 ∧ (k0_pay6 : FVec Ideal S128x1024 .f32) = chunk 0 := by
  refine ⟨?_, ?_, ?_, ?_, ?_⟩ <;>
  · funext i
    idx_vars i
    pointwise [k0_pay2, k0_pay3, k0_pay4, k0_pay5, k0_pay6, grid8, cube8, chunk]
    exact EReal.coe_zero.symm

end Cert.Kernel2Ideal.Loads
-- ==== Proof.Mix.Point.lean ====
module

public import proofs.«01_k».proof.Proof.Mix.Loads
public import proofs.«01_k».proof.Proof.Gen.Kernel2Ideal.Value

@[expose] public section

/-! # The mixing layer's kernel at one grid point

What a grid point writes, for any contents of the buffers before it: eleven arrays, of which five are sums added to. -/

set_option maxRecDepth 16384

noncomputable section

namespace Cert.Kernel2Ideal.Point

open Idealize.ShloMosaic Idealize.ShloMosaic.TcCoe Idealize.SL.Sem Cert.Kernel2Ideal Cert.Kernel2Ideal.Gen Cert.Reals Cert.Row Cert.Mix Cert.Kernel2Ideal.Block Cert.Kernel2Ideal.Loads

/-- The tiles of the spatial gate are computed alike. -/
theorem same_mix :
    (∀ a b c, k0_pay27 (F := Ideal) a b c = k0_pay26 a b c) ∧
    (∀ a b c, k0_pay28 (F := Ideal) a b c = k0_pay26 a b c) ∧
    (∀ a b c, k0_pay29 (F := Ideal) a b c = k0_pay26 a b c) ∧
    (∀ a b c, k0_pay30 (F := Ideal) a b c = k0_pay26 a b c) ∧
    (∀ a b c, k0_pay31 (F := Ideal) a b c = k0_pay26 a b c) ∧
    (∀ a b c, k0_pay34 (F := Ideal) a b c = k0_pay26 a b c) ∧
    (∀ a b c, k0_pay35 (F := Ideal) a b c = k0_pay26 a b c) ∧
    (∀ a b c, k0_pay38 (F := Ideal) a b c = k0_pay26 a b c) ∧
    (∀ a b c, k0_pay39 (F := Ideal) a b c = k0_pay26 a b c) ∧
    (∀ a b c, k0_pay42 (F := Ideal) a b c = k0_pay26 a b c) ∧
    (∀ a b c, k0_pay43 (F := Ideal) a b c = k0_pay26 a b c) ∧
    (∀ a b c, k0_pay33 (F := Ideal) (k0_pay32 a b c) = k0_pay26 a b c) ∧
    (∀ a b c, k0_pay37 (F := Ideal) (k0_pay36 a b c) = k0_pay26 a b c) ∧
    (∀ a b c, k0_pay41 (F := Ideal) (k0_pay40 a b) c = k0_pay26 a b c) ∧
    (∀ a b c, k0_pay45 (F := Ideal) (k0_pay44 a) b (constant S128x128 .f32 0x00000000#32) c = k0_pay26 a b c) :=
  ⟨fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl⟩

/-- And so are the spatial weights' gradients. -/
theorem same_sum :
    (∀ a b c, k0_pay93 (F := Ideal) a b c = k0_pay90 a b c) ∧
    (∀ a b c, k0_pay95 (F := Ideal) a b c = k0_pay90 a b c) ∧
    (∀ a b c, k0_pay97 (F := Ideal) a b c = k0_pay90 a b c) ∧
    (∀ a b c, k0_pay102 (F := Ideal) a b c = k0_pay90 a b c) ∧
    (∀ a b c, k0_pay105 (F := Ideal) a b c = k0_pay90 a b c) ∧
    (∀ a b c, k0_pay111 (F := Ideal) a b c = k0_pay90 a b c) ∧
    (∀ a b c, k0_pay114 (F := Ideal) a b c = k0_pay90 a b c) ∧
    (∀ a b c, k0_pay119 (F := Ideal) a b c = k0_pay90 a b c) ∧
    (∀ a b c, k0_pay121 (F := Ideal) a b c = k0_pay90 a b c) ∧
    (∀ a b c, k0_pay123 (F := Ideal) a b c = k0_pay90 a b c) ∧
    (∀ a b c, k0_pay125 (F := Ideal) a b c = k0_pay90 a b c) ∧
    (∀ a b c, k0_pay88 (F := Ideal) (k0_pay87 a) b c = k0_pay90 a b c) ∧
    (∀ a b c, k0_pay100 (F := Ideal) (k0_pay99 a) b c = k0_pay90 a b c) ∧
    (∀ a b c, k0_pay109 (F := Ideal) (k0_pay108 a) b c = k0_pay90 a b c) ∧
    (∀ a b c, k0_pay117 (F := Ideal) (k0_pay116 a b c) = k0_pay90 a b c) :=
  ⟨fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl, fun _ _ _ => rfl⟩

/-- And the gradients of the normed rows. -/
theorem same_back :
    (∀ a b, k0_pay94 (F := Ideal) a b = k0_pay89 a b) ∧
    (∀ a b, k0_pay96 (F := Ideal) a b = k0_pay89 a b) ∧
    (∀ a b, k0_pay98 (F := Ideal) a b = k0_pay89 a b) ∧
    (∀ a b, k0_pay101 (F := Ideal) a b = k0_pay89 a b) ∧
    (∀ a b, k0_pay106 (F := Ideal) a b = k0_pay89 a b) ∧
    (∀ a b, k0_pay110 (F := Ideal) a b = k0_pay89 a b) ∧
    (∀ a b, k0_pay115 (F := Ideal) a b = k0_pay89 a b) ∧
    (∀ a b, k0_pay118 (F := Ideal) a b = k0_pay89 a b) ∧
    (∀ a b, k0_pay120 (F := Ideal) a b = k0_pay89 a b) ∧
    (∀ a b, k0_pay122 (F := Ideal) a b = k0_pay89 a b) ∧
    (∀ a b, k0_pay124 (F := Ideal) a b = k0_pay89 a b) ∧
    (∀ a b, k0_pay126 (F := Ideal) a b = k0_pay89 a b) ∧
    (∀ a b, k0_pay92 (F := Ideal) (k0_pay91 a b) = k0_pay89 a b) ∧
    (∀ a b, k0_pay104 (F := Ideal) (k0_pay103 a) b = k0_pay89 a b) ∧
    (∀ a b, k0_pay113 (F := Ideal) (k0_pay112 a) b = k0_pay89 a b) :=
  ⟨fun _ _ => rfl, fun _ _ => rfl, fun _ _ => rfl, fun _ _ => rfl, fun _ _ => rfl, fun _ _ => rfl, fun _ _ => rfl, fun _ _ => rfl, fun _ _ => rfl, fun _ _ => rfl, fun _ _ => rfl, fun _ _ => rfl, fun _ _ => rfl, fun _ _ => rfl, fun _ _ => rfl⟩

variable (W : Cert.Mix.Weights) (X : Fin 272 → Fin 8704 → ℝ) (Y : Fin 272 → Fin 1024 → ℝ) (sp sn : ℝ)

/-! ## The spatial gate of a block -/

/-- Row `i` of the chunk of row `r`. -/
def sameChunk (r : Fin 256) (i : Fin 128) : Fin 256 := chunkOf (quotB r) i

theorem sameChunk_chunkOf (q : Fin 2) (i e : Fin 128) : sameChunk (chunkOf q i) e = chunkOf q e := by
  rw [sameChunk, quotB_chunkOf]

def mixB (v : Fin 256 → Fin 1024 → ℝ) (r : Fin 256) (k : Fin 1024) : ℝ :=
  ∑ e, W.ws (head k) (posB r) e * v (sameChunk r e) k + W.bs (head k) (posB r)

def backB (d : Fin 256 → Fin 1024 → ℝ) (r : Fin 256) (k : Fin 1024) : ℝ := ∑ e, W.ws (head k) e (posB r) * d (sameChunk r e) k

/-- What one chunk adds to the spatial weights' gradient. -/
def spatialB (d v : Fin 256 → Fin 1024 → ℝ) (q : Fin 2) (h : Fin 8) (i j : Fin 128) : ℝ :=
  ∑ e, d (chunkOf q i) (headCol h e) * v (chunkOf q j) (headCol h e)

theorem mix_piece (v : Fin 256 → Fin 1024 → ℝ) (q : Fin 2) (h : Fin 8) :
    k0_pay26 (slab .bf16 (W.ws h)) (piece .bf16 v q h) (headBias W h) = piece .f32 (mixB W v) q h := by
  rw [headBias, Loads.piece, pay26]
  refine congrArg (tile .f32) (funext fun i => funext fun j => ?_)
  simp only [mixB, sameChunk_chunkOf, posB_chunkOf, head_headCol]

theorem back_piece (d : Fin 256 → Fin 1024 → ℝ) (q : Fin 2) (h : Fin 8) :
    k0_pay89 (slab .bf16 (W.ws h)) (piece .bf16 d q h) = piece .f32 (backB W d) q h := by
  rw [Loads.piece, pay89]
  refine congrArg (tile .f32) (funext fun i => funext fun j => ?_)
  simp only [backB, sameChunk_chunkOf, posB_chunkOf, head_headCol]

theorem sum_piece (a : Fin 128 → Fin 128 → ℝ) (d v : Fin 256 → Fin 1024 → ℝ) (q : Fin 2) (h : Fin 8) :
    k0_pay90 (slab .f32 a) (piece .bf16 d q h) (piece .bf16 v q h) = slab .f32 fun i j => a i j + spatialB d v q h i j :=
  pay90 a _ _

theorem normed : k0_pay25 (rows .f32 fun r k => gelu (chanV (X (mid r)) k)) (vec fun r => ∑ k, gelu (chanV (X (mid r)) k)) (line W.vg) (line W.vb) =
    rows .bf16 fun r => vn W (X (mid r)) := pay25 (fun r => gv (X (mid r))) W.vg W.vb

theorem normed24 : k0_pay24 (rows .f32 fun r k => gelu (chanV (X (mid r)) k)) (vec fun r => ∑ k, gelu (chanV (X (mid r)) k)) =
    rows .f32 fun r => xhat (gv (X (mid r))) := pay24 fun r => gv (X (mid r))

theorem normed23 : k0_pay23 (rows .f32 fun r k => gelu (chanV (X (mid r)) k)) (vec fun r => ∑ k, gelu (chanV (X (mid r)) k)) =
    column fun r => rstd (gv (X (mid r))) := pay23 fun r => gv (X (mid r))

/-- The spatial gate's input to the layer, and the gradient with respect to it and to the normed rows. -/
def mixX (r : Fin 256) (k : Fin 1024) : ℝ := mixB W (fun r => vn W (X (mid r))) r k

def dmB (r : Fin 256) (k : Fin 1024) : ℝ := dmixed W (X (mid r)) (masked sp sn Y (mid r)) k

def dvnB (r : Fin 256) (k : Fin 1024) : ℝ := backB W (dmB W X Y sp sn) r k

variable (c : Dev nD) (t : Fin cfg0.N) (m : (ℓ : Loc nD τ sig) → Buf (Elt Ideal) ℓ) (y1 y2 : Fin 256 → Fin 1024 → ℝ)

/-- The blocks of a grid point are real. -/
structure RealAt : Prop where
  h0 : iblk m c 0 t = blockP X
  h1 : iblk m c 1 t = prevP X
  h2 : iblk m c 2 t = nextP X
  h3 : iblk m c 3 t = rows .f32 fun r => Y (mid r)
  h4 : iblk m c 4 t = halo fun j => Y (pre j)
  h5 : iblk m c 5 t = halo fun j => Y (post j)
  h6 : iblk m c 6 t = rows .f32 y1
  h7 : iblk m c 7 t = rows .f32 y2
  h8 : iblk m c 8 t = oblong W.wpa
  h9 : iblk m c 9 t = square W.wpb
  h10 : iblk m c 10 t = square W.wo
  h11 : iblk m c 11 t = spatial W
  h12 : iblk m c 12 t = spreadBias W
  h13 : iblk m c 13 t = gateBias W
  h14 : iblk m c 14 t = taps W
  h15 : iblk m c 15 t = line W.vg
  h16 : iblk m c 16 t = line W.vb
  hp : k0_pay7 (F := Ideal) (grid0.coords t) = (sp : EReal)
  hn : k0_pay8 (F := Ideal) (grid0.coords t) = (sn : EReal)

variable (h : RealAt W X Y sp sn c t m y1 y2)

/-! ## What a grid point adds to the sums -/

def dgaB (r : Fin 256) (k : Fin 1024) : ℝ := dz W (masked sp sn Y (mid r)) k * y1 r k * ga W (X (mid r)) k * (1 - ga W (X (mid r)) k)

def dgbB (r : Fin 256) (k : Fin 1024) : ℝ := dz W (masked sp sn Y (mid r)) k * y2 r k * gb W (X (mid r)) k * (1 - gb W (X (mid r)) k)

def gateB (i : Fin 8) (j : Fin 2048) : ℝ :=
  if i.val = 0 then if h : j.val < 1024 then ∑ r, dgaB W X Y sp sn y1 r ⟨j.val, h⟩ else ∑ r, dgbB W X Y sp sn y2 r ⟨j.val - 1024, by omega⟩ else 0

def convB : Fin 8 → Fin 1536 → ℝ :=
  ![fun c => ∑ r, dcv W (X (mid r)) (masked sp sn Y (mid r)) c * chm X sp sn (down r) c,
    fun c => ∑ r, dcv W (X (mid r)) (masked sp sn Y (mid r)) c * ch (X (mid r)) c,
    fun c => ∑ r, dcv W (X (mid r)) (masked sp sn Y (mid r)) c * chm X sp sn (up r) c, 0, 0, 0, 0, 0]

def normB : Fin 8 → Fin 1024 → ℝ :=
  ![fun k => ∑ r, dvnB W X Y sp sn r k * xhat (gv (X (mid r))) k, fun k => ∑ r, dvnB W X Y sp sn r k, 0, 0, 0, 0, 0, 0]

def cubeB (h : Fin 8) (i j : Fin 128) : ℝ :=
  spatialB (dmB W X Y sp sn) (fun r => vn W (X (mid r))) 0 h i j + spatialB (dmB W X Y sp sn) (fun r => vn W (X (mid r))) 1 h i j

def biasB (i : Fin 128) (k : Fin 1024) : ℝ := dmB W X Y sp sn (loRow i) k + dmB W X Y sp sn (hiRow i) k

theorem store_gate {sig : RefSig} {κ : Kind} {sp : Space} (v : View sig κ sp S8x2048 .f32) (f : v.ty.Contents (Elt Ideal)) (o p : ℕ)
    (inb : ∀ d, ![o, p] d + ![1, 1024] d ≤ S8x2048.size d) (b : Fin 1024 → ℝ) (L : List (View.Piece (Elt Ideal) S8x2048 .f32))
    (a : Fin 8 → Fin 2048 → ℝ) (h : v.read (Elt Ideal) (v.writes (Elt Ideal) f L) = grid8 a) :
    v.read (Elt Ideal) (v.writes (Elt Ideal) f ((⟨Rect.unit (s := S8x2048) ![o, p] ![1, 1024] inb, line b⟩ : View.Piece (Elt Ideal) S8x2048 .f32) :: L)) =
      grid8 (put a o p b) := store8 v f o p inb b L a h

theorem store_conv {sig : RefSig} {κ : Kind} {sp : Space} (v : View sig κ sp S8x1536 .f32) (f : v.ty.Contents (Elt Ideal)) (o p : ℕ)
    (inb : ∀ d, ![o, p] d + ![1, 1536] d ≤ S8x1536.size d) (b : Fin 1536 → ℝ) (L : List (View.Piece (Elt Ideal) S8x1536 .f32))
    (a : Fin 8 → Fin 1536 → ℝ) (h : v.read (Elt Ideal) (v.writes (Elt Ideal) f L) = grid8 a) :
    v.read (Elt Ideal) (v.writes (Elt Ideal) f ((⟨Rect.unit (s := S8x1536) ![o, p] ![1, 1536] inb, long b⟩ : View.Piece (Elt Ideal) S8x1536 .f32) :: L)) =
      grid8 (put a o p b) := store8 v f o p inb b L a h

theorem store_norm {sig : RefSig} {κ : Kind} {sp : Space} (v : View sig κ sp S8x1024 .f32) (f : v.ty.Contents (Elt Ideal)) (o p : ℕ)
    (inb : ∀ d, ![o, p] d + ![1, 1024] d ≤ S8x1024.size d) (b : Fin 1024 → ℝ) (L : List (View.Piece (Elt Ideal) S8x1024 .f32))
    (a : Fin 8 → Fin 1024 → ℝ) (h : v.read (Elt Ideal) (v.writes (Elt Ideal) f L) = grid8 a) :
    v.read (Elt Ideal) (v.writes (Elt Ideal) f ((⟨Rect.unit (s := S8x1024) ![o, p] ![1, 1024] inb, line b⟩ : View.Piece (Elt Ideal) S8x1024 .f32) :: L)) =
      grid8 (put a o p b) := store8 v f o p inb b L a h

/-- A whole row put in. -/
theorem put_row {N : ℕ} (a : Fin 8 → Fin N → ℝ) (o : Fin 8) (b : Fin N → ℝ) : put a o.val 0 b = Function.update a o b := by
  funext i j
  by_cases e : i = o
  · subst e
    rw [put_of_mem _ _ _ _ _ _ ⟨rfl, Nat.zero_le _, by have := j.isLt; omega⟩, Function.update_self]
    rfl
  · rw [put_of_not_mem _ _ _ _ _ _ fun h => e (Fin.ext h.1), Function.update_of_ne e]

theorem put_gate (a : Fin 8 → Fin 2048 → ℝ) :
    put (put a 0 0 fun k => a 0 (lo k) + ∑ r, dgaB W X Y sp sn y1 r k) 0 1024 (fun k => a 0 (hi k) + ∑ r, dgbB W X Y sp sn y2 r k) = a + gateB W X Y sp sn y1 y2 := by
  funext i j
  have hj := j.isLt
  show _ = a i j + gateB W X Y sp sn y1 y2 i j
  by_cases hi0 : i.val = 0
  · have e : i = 0 := Fin.ext hi0
    subst e
    by_cases h : j.val < 1024
    · rw [put_of_not_mem _ 0 1024 _ 0 j (by omega), put_of_mem a 0 0 _ 0 j ⟨rfl, Nat.zero_le _, by omega⟩, gateB, if_pos hi0, dif_pos h]
      rfl
    · rw [put_of_mem _ 0 1024 _ 0 j ⟨rfl, by omega, by omega⟩, gateB, if_pos hi0, dif_neg h]
      exact congrArg₂ (· + ·) (congrArg (a 0) (Fin.ext (by show 1024 + (j.val - 1024) = j.val; omega))) rfl
  · rw [put_of_not_mem _ _ _ _ _ _ (by omega), put_of_not_mem _ _ _ _ _ _ (by omega), gateB, if_neg hi0, add_zero]

theorem put_conv (a : Fin 8 → Fin 1536 → ℝ) :
    put (put (put a 0 0 fun c => a 0 c + convB W X Y sp sn 0 c) 1 0 fun c => a 1 c + convB W X Y sp sn 1 c) 2 0 (fun c => a 2 c + convB W X Y sp sn 2 c) =
      a + convB W X Y sp sn := by
  refine ((put_row _ 2 _).trans (congrArg (fun a' => Function.update a' 2 _) ((put_row _ 1 _).trans (congrArg (fun a' => Function.update a' 1 _) (put_row a 0 _))))).trans ?_
  funext i
  fin_cases i <;> funext j <;> simp [Function.update, convB]

theorem put_norm (a : Fin 8 → Fin 1024 → ℝ) :
    put (put a 0 0 fun k => a 0 k + normB W X Y sp sn 0 k) 1 0 (fun k => a 1 k + normB W X Y sp sn 1 k) = a + normB W X Y sp sn := by
  refine ((put_row _ 1 _).trans (congrArg (fun a' => Function.update a' 1 _) (put_row a 0 _))).trans ?_
  funext i
  fin_cases i <;> funext j <;> simp [Function.update, normB]

include h in
theorem out18 : (outsAt0 m c t.val t.isLt).2.1 = wide .bf16 fun r c => chanB (X (mid r)) c * cvB W X sp sn r c := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl

include h in
theorem out19 : (outsAt0 m c t.val t.isLt).2.2.1 = rows .bf16 fun r k => gu (X (mid r)) k * mixX W X r k := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl

include h in
theorem out20 : (outsAt0 m c t.val t.isLt).2.2.2.1 = rows .bf16 fun r k => ga W (X (mid r)) k * y1 r k + gb W (X (mid r)) k * y2 r k := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl

include h in
theorem out21 : (outsAt0 m c t.val t.isLt).2.2.2.2.1 = rows .bf16 fun r => dya W (X (mid r)) (masked sp sn Y (mid r)) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl

include h in
theorem out22 : (outsAt0 m c t.val t.isLt).2.2.2.2.2.1 = rows .bf16 fun r => dyb W (X (mid r)) (masked sp sn Y (mid r)) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    try rfl

include h in
theorem out23 (a : Fin 8 → Fin 2048 → ℝ) (ha : ¬t.val % 64 = 0 → (outsAt0 m c (t.val - 1) (Nat.lt_of_le_of_lt (Nat.sub_le _ _) t.isLt)).2.2.2.2.2.2.1 = grid8 a) :
    (outsAt0 m c t.val t.isLt).2.2.2.2.2.2.1 = grid8 ((if t.val % 64 = 0 then 0 else a) + gateB W X Y sp sn y1 y2) := by
  by_cases h0 : t.val % 64 = 0
  · rw [if_pos h0]
    rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    rw [← View.read_writes_junk_eq_canon (ms0_23 t).view]
    refine (store_gate _ _ 0 1024 _ (fun k => (0 : Fin 8 → Fin 2048 → ℝ) 0 (hi k) + ∑ r, dgbB W X Y sp sn y2 r k) _ _ (store_gate _ _ 0 0 _ (fun k => (0 : Fin 8 → Fin 2048 → ℝ) 0 (lo k) + ∑ r, dgaB W X Y sp sn y1 r k) _ (0 : Fin 8 → Fin 2048 → ℝ) ?_)).trans (congrArg grid8 (put_gate W X Y sp sn y1 y2 (0 : Fin 8 → Fin 2048 → ℝ)))
    rw [View.read_writes_junk_eq_canon]
    exact View.canon_unit_zero (by decide) _ _
  · rw [if_neg h0]
    rw [outsAt0_B m c t h0]
    frame_open
    simp (disch := decide) only [↓ View.readCov_skip, ↓ View.readCov_cons_toLoadRect, ↓ View.readCov_fill]
    frame_out
    simp only [ha h0, h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    refine (store_gate _ _ 0 1024 _ (fun k => a 0 (hi k) + ∑ r, dgbB W X Y sp sn y2 r k) _ _ (store_gate _ _ 0 0 _ (fun k => a 0 (lo k) + ∑ r, dgaB W X Y sp sn y1 r k) _ a ?_)).trans (congrArg grid8 (put_gate W X Y sp sn y1 y2 a))
    rw [View.writes_nil]
    exact Memref.IsWhole.read_unread _ _

include h in
theorem out24 (a : Fin 8 → Fin 1536 → ℝ) (ha : ¬t.val % 64 = 0 → (outsAt0 m c (t.val - 1) (Nat.lt_of_le_of_lt (Nat.sub_le _ _) t.isLt)).2.2.2.2.2.2.2.1 = grid8 a) :
    (outsAt0 m c t.val t.isLt).2.2.2.2.2.2.2.1 = grid8 ((if t.val % 64 = 0 then 0 else a) + convB W X Y sp sn) := by
  by_cases h0 : t.val % 64 = 0
  · rw [if_pos h0]
    rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    rw [← View.read_writes_junk_eq_canon (ms0_24 t).view]
    refine (store_conv _ _ 2 0 _ (fun c => (0 : Fin 8 → Fin 1536 → ℝ) 2 c + convB W X Y sp sn 2 c) _ _ (store_conv _ _ 1 0 _ (fun c => (0 : Fin 8 → Fin 1536 → ℝ) 1 c + convB W X Y sp sn 1 c) _ _ (store_conv _ _ 0 0 _ (fun c => (0 : Fin 8 → Fin 1536 → ℝ) 0 c + convB W X Y sp sn 0 c) _ (0 : Fin 8 → Fin 1536 → ℝ) ?_))).trans (congrArg grid8 (put_conv W X Y sp sn (0 : Fin 8 → Fin 1536 → ℝ)))
    rw [View.read_writes_junk_eq_canon]
    exact View.canon_unit_zero (by decide) _ _
  · rw [if_neg h0]
    rw [outsAt0_B m c t h0]
    frame_open
    simp (disch := decide) only [↓ View.readCov_skip, ↓ View.readCov_cons_toLoadRect, ↓ View.readCov_fill]
    frame_out
    simp only [ha h0, h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    refine (store_conv _ _ 2 0 _ (fun c => a 2 c + convB W X Y sp sn 2 c) _ _ (store_conv _ _ 1 0 _ (fun c => a 1 c + convB W X Y sp sn 1 c) _ _ (store_conv _ _ 0 0 _ (fun c => a 0 c + convB W X Y sp sn 0 c) _ a ?_))).trans (congrArg grid8 (put_conv W X Y sp sn a))
    rw [View.writes_nil]
    exact Memref.IsWhole.read_unread _ _

include h in
theorem out25 (a : Fin 8 → Fin 1024 → ℝ) (ha : ¬t.val % 64 = 0 → (outsAt0 m c (t.val - 1) (Nat.lt_of_le_of_lt (Nat.sub_le _ _) t.isLt)).2.2.2.2.2.2.2.2.1 = grid8 a) :
    (outsAt0 m c t.val t.isLt).2.2.2.2.2.2.2.2.1 = grid8 ((if t.val % 64 = 0 then 0 else a) + normB W X Y sp sn) := by
  by_cases h0 : t.val % 64 = 0
  · rw [if_pos h0]
    rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    rw [← View.read_writes_junk_eq_canon (ms0_25 t).view]
    refine (store_norm _ _ 1 0 _ (fun k => (0 : Fin 8 → Fin 1024 → ℝ) 1 k + normB W X Y sp sn 1 k) _ _ (store_norm _ _ 0 0 _ (fun k => (0 : Fin 8 → Fin 1024 → ℝ) 0 k + normB W X Y sp sn 0 k) _ (0 : Fin 8 → Fin 1024 → ℝ) ?_)).trans (congrArg grid8 (put_norm W X Y sp sn (0 : Fin 8 → Fin 1024 → ℝ)))
    rw [View.read_writes_junk_eq_canon]
    exact View.canon_unit_zero (by decide) _ _
  · rw [if_neg h0]
    rw [outsAt0_B m c t h0]
    frame_open
    simp (disch := decide) only [↓ View.readCov_skip, ↓ View.readCov_cons_toLoadRect, ↓ View.readCov_fill]
    frame_out
    simp only [ha h0, h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    refine (store_norm _ _ 1 0 _ (fun k => a 1 k + normB W X Y sp sn 1 k) _ _ (store_norm _ _ 0 0 _ (fun k => a 0 k + normB W X Y sp sn 0 k) _ a ?_)).trans (congrArg grid8 (put_norm W X Y sp sn a))
    rw [View.writes_nil]
    exact Memref.IsWhole.read_unread _ _

include h in
theorem out26 (a : Fin 8 → Fin 128 → Fin 128 → ℝ) (ha : ¬t.val % 64 = 0 → (outsAt0 m c (t.val - 1) (Nat.lt_of_le_of_lt (Nat.sub_le _ _) t.isLt)).2.2.2.2.2.2.2.2.2.1 = cube8 a) :
    (outsAt0 m c t.val t.isLt).2.2.2.2.2.2.2.2.2.1 = cube8 ((if t.val % 64 = 0 then 0 else a) + cubeB W X Y sp sn) := by
  by_cases h0 : t.val % 64 = 0
  · rw [if_pos h0]
    rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    simp only [add_assoc]
    first
    | exact eight_slabs ((0 : Fin 8 → Fin 128 → Fin 128 → ℝ) + cubeB W X Y sp sn) _
    | (rw [View.read_writes_eq_canon]; exact eight_slabs ((0 : Fin 8 → Fin 128 → Fin 128 → ℝ) + cubeB W X Y sp sn) _)
  · rw [if_neg h0]
    rw [outsAt0_B m c t h0]
    frame_open
    simp (disch := decide) only [↓ View.readCov_skip, ↓ View.readCov_cons_toLoadRect, ↓ View.readCov_fill]
    frame_out
    simp only [ha h0, h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    simp only [add_assoc]
    first
    | exact eight_slabs (a + cubeB W X Y sp sn) _
    | (rw [View.read_writes_eq_canon]; exact eight_slabs (a + cubeB W X Y sp sn) _)

include h in
theorem out27 (a : Fin 128 → Fin 1024 → ℝ) (ha : ¬t.val % 64 = 0 → (outsAt0 m c (t.val - 1) (Nat.lt_of_le_of_lt (Nat.sub_le _ _) t.isLt)).2.2.2.2.2.2.2.2.2.2 = chunk a) :
    (outsAt0 m c t.val t.isLt).2.2.2.2.2.2.2.2.2.2 = chunk ((if t.val % 64 = 0 then 0 else a) + biasB W X Y sp sn) := by
  by_cases h0 : t.val % 64 = 0
  · rw [if_pos h0]
    rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    simp only [add_assoc]
    rfl
  · rw [if_neg h0]
    rw [outsAt0_B m c t h0]
    frame_open
    simp (disch := decide) only [↓ View.readCov_skip, ↓ View.readCov_cons_toLoadRect, ↓ View.readCov_fill]
    frame_out
    simp only [ha h0, h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1, ld_cube, ld_gate8, ld_conv8, ld_norm8, zeros]
    simp only [add_assoc]
    rfl

/-! ## The gradient of the projections -/

/-- Seven pieces of a row, side by side. -/
def beside (f0 f1 f2 : Fin 256 → Fin 1536 → ℝ) (f3 f4 f5 f6 : Fin 256 → Fin 1024 → ℝ) (r : Fin 256) (j : Fin 8704) : ℝ :=
  if h : j.val < 1536 then f0 r ⟨j.val, h⟩
  else if h : j.val < 3072 then f1 r ⟨j.val - 1536, by omega⟩
  else if h : j.val < 4608 then f2 r ⟨j.val - 3072, by omega⟩
  else if h : j.val < 5632 then f3 r ⟨j.val - 4608, by omega⟩
  else if h : j.val < 6656 then f4 r ⟨j.val - 5632, by omega⟩
  else if h : j.val < 7680 then f5 r ⟨j.val - 6656, by omega⟩
  else f6 r ⟨j.val - 7680, by omega⟩

/-- Seven pieces, stored one after the other. -/
theorem seven (f0 f1 f2 : Fin 256 → Fin 1536 → ℝ) (f3 f4 f5 f6 : Fin 256 → Fin 1024 → ℝ) :
    View.canon (Val := Elt Ideal) (s := S256x8704) (e := .bf16)
      [⟨Rect.unit ![0, 5632] ![256, 1024] inb_S256x8704_S256x1024_0_5632, rows .bf16 f4⟩,
        ⟨Rect.unit ![0, 4608] ![256, 1024] inb_S256x8704_S256x1024_0_4608, rows .bf16 f3⟩,
        ⟨Rect.unit ![0, 7680] ![256, 1024] inb_S256x8704_S256x1024_0_7680, rows .bf16 f6⟩,
        ⟨Rect.unit ![0, 6656] ![256, 1024] inb_S256x8704_S256x1024_0_6656, rows .bf16 f5⟩,
        ⟨Rect.unit ![0, 3072] ![256, 1536] inb_S256x8704_S256x1536_0_3072, wide .bf16 f2⟩,
        ⟨Rect.unit ![0, 1536] ![256, 1536] inb_S256x8704_S256x1536_0_1536, wide .bf16 f1⟩,
        ⟨Rect.unit ![0, 0] ![256, 1536] inb_S256x8704_S256x1536_0_0, wide .bf16 f0⟩] =
      fun i => ((beside f0 f1 f2 f3 f4 f5 f6 (i 0) (i 1) : ℝ) : EReal) := by
  funext i
  have h0 : (i 0).val < 256 := (i 0).isLt
  have h1 : (i 1).val < 8704 := (i 1).isLt
  have strip (o w : ℕ) (inb : ∀ d, ![0, o] d + ![256, w] d ≤ S256x8704.size d) (hm : o ≤ (i 1).val ∧ (i 1).val < o + w) :
      i ∈ (Rect.unit (s := S256x8704) ![0, o] ![256, w] inb).set :=
    Rect.mem_set_unit.mpr (Fin.forall_fin_two.mpr ⟨⟨Nat.zero_le _, by show (i 0).val < 0 + 256; omega⟩, hm⟩)
  canon_tiles z h using (by
    simp only [List.mem_cons, List.not_mem_nil, or_false, exists_eq_or_imp, exists_eq_left]
    by_cases e1 : (i 1).val < 1536
    · exact .inr (.inr (.inr (.inr (.inr (.inr (strip _ _ _ (by omega)))))))
    by_cases e2 : (i 1).val < 3072
    · exact .inr (.inr (.inr (.inr (.inr (.inl (strip _ _ _ (by omega)))))))
    by_cases e3 : (i 1).val < 4608
    · exact .inr (.inr (.inr (.inr (.inl (strip _ _ _ (by omega))))))
    by_cases e4 : (i 1).val < 5632
    · exact .inr (.inl (strip _ _ _ (by omega)))
    by_cases e5 : (i 1).val < 6656
    · exact .inl (strip _ _ _ (by omega))
    by_cases e6 : (i 1).val < 7680
    · exact .inr (.inr (.inr (.inl (strip _ _ _ (by omega)))))
    · exact .inr (.inr (.inl (strip _ _ _ (by omega)))))
  all_goals
    refine congrArg (fun r : ℝ => (r : EReal)) (?_ : _ = beside f0 f1 f2 f3 f4 f5 f6 _ _)
    unfold beside
    split_ifs <;> first
    | omega
    | exact congrArg₂ f0 (Fin.ext (by simp; try omega)) (Fin.ext (by simp; try omega))
    | exact congrArg₂ f1 (Fin.ext (by simp; try omega)) (Fin.ext (by simp; try omega))
    | exact congrArg₂ f2 (Fin.ext (by simp; try omega)) (Fin.ext (by simp; try omega))
    | exact congrArg₂ f3 (Fin.ext (by simp; try omega)) (Fin.ext (by simp; try omega))
    | exact congrArg₂ f4 (Fin.ext (by simp; try omega)) (Fin.ext (by simp; try omega))
    | exact congrArg₂ f5 (Fin.ext (by simp; try omega)) (Fin.ext (by simp; try omega))
    | exact congrArg₂ f6 (Fin.ext (by simp; try omega)) (Fin.ext (by simp; try omega))

def dpB : Fin 256 → Fin 8704 → ℝ :=
  beside (fun r c => da W (X (mid r)) (masked sp sn Y (mid r)) c * cvB W X sp sn r c) (fun r c => dchB W X (masked sp sn Y) r c * chanH (X (mid r)) c)
    (fun r c => dchB W X (masked sp sn Y) r c * chanC (X (mid r)) c)
    (fun r k => dbb W (X (mid r)) (masked sp sn Y (mid r)) k * mixX W X r k * geluGrad (chanU (X (mid r)) k))
    (fun r k => normGrad (gv (X (mid r))) (fun k => dvnB W X Y sp sn r k * W.vg k) k * geluGrad (chanV (X (mid r)) k))
    (dgaB W X Y sp sn y1) (dgbB W X Y sp sn y2)

include h in
theorem out17 : (outsAt0 m c t.val t.isLt).1 = fun i => ((dpB W X Y sp sn y1 y2 (i 0) (i 1) : ℝ) : EReal) := by
  by_cases h0 : t.val % 64 = 0
  · rw [outsAt0_A m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    exact seven _ _ _ _ _ _ _
  · rw [outsAt0_B m c t h0]
    frame_open
    simp (disch := decide) only [↓ View.readCov_skip, ↓ View.readCov_cons_toLoadRect, ↓ View.readCov_fill]
    frame_out
    simp only [h.h0, h.h1, h.h2, h.h3, h.h4, h.h5, h.h6, h.h7, h.h8, h.h9, h.h10, h.h11, h.h12, h.h13, h.h14, h.h15, h.h16, ld_block X, ld_prev X, ld_next X, ld_spatial W, ld_bias W, ld_gates W, ld_taps W, ld_pieces,
      same_mix, same_sum, same_back, mix_piece W, back_piece W, sum_piece, sixteen, h.hp, h.hn, pay9, pay10, pay16, pay18, pay46, pay51, pay54, pay55,
      pay11 X, pay12 X sn _ h.hn, pay13 X sp sn _ h.hp, pay14 X sp sn, pay15 W X sp sn, pay17 W X sp sn, pay19, pay47, pay20, pay48, pay21, normed W X, normed24 X, normed23 X, pay49,
      pay50 W X, pay53 W X, pay56 W X y1 y2, pay57 W Y sp sn, pay58 W X, pay59 W X, pay60 W X, pay61 W X, pay62 W X, pay63 W X, pay64 W X, pay65 W X, pay66 W X, pay67, pay68, pay69, pay70, pay71,
      pay72, pay73, pay74, pay75, pay76, pay77, pay78, pay79, pay80, pay81, pay82, pay83, pay84, pay85, pay86, pay107, pay129, pay130, pay131, pay1]
    exact seven _ _ _ _ _ _ _

end Cert.Kernel2Ideal.Point
-- ==== Proof.Mix.Connect.lean ====
module

public import proofs.«01_k».proof.Proof.Mix.Point

@[expose] public section

/-! # A block's rows among all rows -/

noncomputable section

namespace Cert.Kernel2Ideal.Arrays

open Idealize.ShloMosaic Cert.Reals Cert.Row Cert.Mix Cert.Kernel2Ideal.Block Cert.Kernel2Ideal.Loads Cert.Kernel2Ideal.Point

/-- Row `e` of the sixteen edge rows of block `t`: its first eight rows and its last eight. -/
def edgeOf (t : Fin 64) (e : Fin 16) : Fin 16384 := if e.val < 8 then ⟨256 * t.val + e.val, by omega⟩ else ⟨256 * t.val + 240 + e.val, by omega⟩

/-- Row `j` of the 272 that block `t` reads: the eight before it, its own and the eight after it. -/
def rowAt (t : Fin 64) (j : Fin 272) : Fin 16384 :=
  if j.val < 8 then ⟨256 * (t.val - 1) + 248 + j.val % 8, by omega⟩
  else if j.val < 264 then ⟨256 * t.val + (j.val - 8) % 256, by omega⟩ else ⟨256 * min (t.val + 1) 63 + (j.val - 264) % 8, by omega⟩

/-- Whether there is a block before, and a block after. -/
def isPrev (t : Fin 64) : ℝ := if t.val = 0 then 0 else 1

def isNext (t : Fin 64) : ℝ := if t.val = 63 then 0 else 1

theorem isPrev_zero (t : Fin 64) (h : t.val = 0) : isPrev t = 0 := if_pos h

theorem isPrev_one (t : Fin 64) (h : ¬t.val = 0) : isPrev t = 1 := if_neg h

theorem isNext_zero (t : Fin 64) (h : t.val = 63) : isNext t = 0 := if_pos h

theorem isNext_one (t : Fin 64) (h : ¬t.val = 63) : isNext t = 1 := if_neg h

theorem rowAt_mid (t : Fin 64) (r : Fin 256) : rowAt t (mid r) = at64 t r := by
  rw [rowAt, if_neg (by show ¬8 + r.val < 8; omega), if_pos (by show 8 + r.val < 264; omega)]
  exact Fin.ext (by show 256 * t.val + (8 + r.val - 8) % 256 = 256 * t.val + r.val; omega)

section Rows

variable {C : Type} (F : Fin 16384 → C → ℝ) (t : Fin 64) (r : Fin 256) (c : C)

theorem at_mid (f : Fin 272 → C → ℝ) (sp sn : ℝ) : masked sp sn f (mid r) = f (mid r) := by
  funext c
  rw [masked, if_neg (by show ¬8 + r.val < 8; omega), if_pos (by show 8 + r.val < 264; omega)]

theorem at_down : masked (isPrev t) (isNext t) (fun j => F (rowAt t j)) (down r) c = before F (at64 t r) c := by
  rw [masked, before]
  by_cases h : r.val = 0
  · rw [if_pos (by show 7 + r.val < 8; omega)]
    by_cases h0 : t.val = 0
    · rw [isPrev, if_pos h0, mul_zero, if_pos (by show 256 * t.val + r.val = 0; omega)]
    · rw [isPrev, if_neg h0, mul_one, if_neg (by show ¬256 * t.val + r.val = 0; omega), rowAt, if_pos (by show 7 + r.val < 8; omega)]
      exact congrArg (fun r => F r c) (Fin.ext (by show 256 * (t.val - 1) + 248 + (7 + r.val) % 8 = 256 * t.val + r.val - 1; omega))
  · rw [if_neg (by show ¬7 + r.val < 8; omega), if_pos (by show 7 + r.val < 264; omega), if_neg (by show ¬256 * t.val + r.val = 0; omega), rowAt,
      if_neg (by show ¬7 + r.val < 8; omega), if_pos (by show 7 + r.val < 264; omega)]
    exact congrArg (fun r => F r c) (Fin.ext (by show 256 * t.val + (7 + r.val - 8) % 256 = 256 * t.val + r.val - 1; omega))

theorem at_up : masked (isPrev t) (isNext t) (fun j => F (rowAt t j)) (up r) c = after F (at64 t r) c := by
  rw [masked, after, if_neg (by show ¬9 + r.val < 8; omega)]
  by_cases h : r.val = 255
  · rw [if_neg (by show ¬9 + r.val < 264; omega)]
    by_cases h0 : t.val = 63
    · rw [isNext, if_pos h0, mul_zero, dif_neg (by show ¬256 * t.val + r.val + 1 < 16384; omega)]
    · rw [isNext, if_neg h0, mul_one, dif_pos (by show 256 * t.val + r.val + 1 < 16384; omega), rowAt, if_neg (by show ¬9 + r.val < 8; omega),
        if_neg (by show ¬9 + r.val < 264; omega)]
      exact congrArg (fun r => F r c) (Fin.ext (by show 256 * min (t.val + 1) 63 + (9 + r.val - 264) % 8 = 256 * t.val + r.val + 1; omega))
  · rw [if_pos (by show 9 + r.val < 264; omega), dif_pos (by show 256 * t.val + r.val + 1 < 16384; omega), rowAt, if_neg (by show ¬9 + r.val < 8; omega),
      if_pos (by show 9 + r.val < 264; omega)]
    exact congrArg (fun r => F r c) (Fin.ext (by show 256 * t.val + (9 + r.val - 8) % 256 = 256 * t.val + r.val + 1; omega))

end Rows

theorem pos_at64 (t : Fin 64) (r : Fin 256) : pos (at64 t r) = posB r :=
  Fin.ext (by show (256 * t.val + r.val) % 128 = r.val % 128; omega)

theorem inChunk_at64 (t : Fin 64) (r : Fin 256) (i : Fin 128) : inChunk (at64 t r) i = at64 t (sameChunk r i) :=
  Fin.ext (by show 128 * ((256 * t.val + r.val) / 128) + i.val = 256 * t.val + (128 * (r.val / 128) + i.val); omega)

/-- Chunk `q` of block `t` among all chunks. -/
def chunkAt (t : Fin 64) (q : Fin 2) : Fin 128 := ⟨2 * t.val + q.val, by omega⟩

theorem at64_chunkOf (t : Fin 64) (q : Fin 2) (i : Fin 128) : at64 t (chunkOf q i) = chunkRow (chunkAt t q) i :=
  Fin.ext (by show 256 * t.val + (128 * q.val + i.val) = 128 * (2 * t.val + q.val) + i.val; omega)

variable (W : Cert.Mix.Weights) (P : Fin 16384 → Fin 8704 → ℝ) (D : Fin 16384 → Fin 1024 → ℝ) (t : Fin 64)

/-- The rows a block reads. -/
def rowsP (j : Fin 272) : Fin 8704 → ℝ := P (rowAt t j)

def rowsD (j : Fin 272) : Fin 1024 → ℝ := D (rowAt t j)

theorem rowsP_mid (r : Fin 256) : rowsP P t (mid r) = P (at64 t r) := by rw [rowsP, rowAt_mid]

theorem masked_rowsD (r : Fin 256) : masked (isPrev t) (isNext t) (rowsD D t) (mid r) = D (at64 t r) := by
  rw [at_mid, rowsD, rowAt_mid]

/-- The block before and the block after, or the block itself at an end. -/
def prevBlock (t : Fin 64) : Fin 64 := ⟨t.val - 1, by omega⟩

def nextBlock (t : Fin 64) : Fin 64 := ⟨min (t.val + 1) 63, by omega⟩

def lastEdge (j : Fin 8) : Fin 16 := ⟨8 + j.val, by omega⟩

def firstEdge (j : Fin 8) : Fin 16 := ⟨j.val, by omega⟩

theorem rowAt_pre (j : Fin 8) : rowAt t (pre j) = edgeOf (prevBlock t) (lastEdge j) := by
  rw [rowAt, if_pos (by show j.val < 8; omega), edgeOf, if_neg (by show ¬8 + j.val < 8; omega)]
  exact Fin.ext (by show 256 * (t.val - 1) + 248 + j.val % 8 = 256 * (t.val - 1) + 240 + (8 + j.val); omega)

theorem rowAt_post (j : Fin 8) : rowAt t (post j) = edgeOf (nextBlock t) (firstEdge j) := by
  rw [rowAt, if_neg (by show ¬264 + j.val < 8; omega), if_neg (by show ¬264 + j.val < 264; omega), edgeOf, if_pos (by show j.val < 8; omega)]
  exact Fin.ext (by show 256 * min (t.val + 1) 63 + (264 + j.val - 264) % 8 = 256 * min (t.val + 1) 63 + j.val; omega)

theorem own_p : blockP (rowsP P t) = fun i => ((P (at64 t (i 0)) (i 1) : ℝ) : EReal) :=
  funext fun i => congrArg (fun r => ((P r (i 1) : ℝ) : EReal)) (rowAt_mid t (i 0))

theorem prev_p : prevP (rowsP P t) = fun i => ((P (edgeOf (prevBlock t) (lastEdge (i 1))) (i 2) : ℝ) : EReal) :=
  funext fun i => congrArg (fun r => ((P r (i 2) : ℝ) : EReal)) (rowAt_pre t (i 1))

theorem next_p : nextP (rowsP P t) = fun i => ((P (edgeOf (nextBlock t) (firstEdge (i 1))) (i 2) : ℝ) : EReal) :=
  funext fun i => congrArg (fun r => ((P r (i 2) : ℝ) : EReal)) (rowAt_post t (i 1))

theorem own_d : (rows .f32 fun r => rowsD D t (mid r)) = fun i => ((D (at64 t (i 0)) (i 1) : ℝ) : EReal) :=
  funext fun i => congrArg (fun r => ((D r (i 1) : ℝ) : EReal)) (rowAt_mid t (i 0))

theorem prev_d : (halo fun j => rowsD D t (pre j)) = fun i => ((D (edgeOf (prevBlock t) (lastEdge (i 1))) (i 2) : ℝ) : EReal) :=
  funext fun i => congrArg (fun r => ((D r (i 2) : ℝ) : EReal)) (rowAt_pre t (i 1))

theorem next_d : (halo fun j => rowsD D t (post j)) = fun i => ((D (edgeOf (nextBlock t) (firstEdge (i 1))) (i 2) : ℝ) : EReal) :=
  funext fun i => congrArg (fun r => ((D r (i 2) : ℝ) : EReal)) (rowAt_post t (i 1))

theorem dcv_scaled (p : Fin 8704 → ℝ) (d : Fin 1024 → ℝ) (s : ℝ) (c : Fin 1536) : dcv W p (fun k => d k * s) c = dcv W p d c * s := by
  have e : ∀ k, dya W p (fun k => d k * s) k = dya W p d k * s := fun k => by
    simp only [dya, dz, Finset.sum_mul]
    exact Finset.sum_congr rfl fun e _ => by ring
  simp only [dcv, da, e, Finset.sum_mul]
  exact Finset.sum_congr rfl fun k _ => by ring

theorem masked_dcv (j : Fin 272) (c : Fin 1536) : dcv W (rowsP P t j) (masked (isPrev t) (isNext t) (rowsD D t) j) c =
    masked (isPrev t) (isNext t) (fun j => dcvs W P D (rowAt t j)) j c := by
  by_cases h : j.val < 8
  · have e : masked (isPrev t) (isNext t) (rowsD D t) j = fun k => rowsD D t j k * isPrev t := funext fun k => if_pos h
    rw [e, dcv_scaled, masked, if_pos h]
    rfl
  · by_cases h1 : j.val < 264
    · have e : masked (isPrev t) (isNext t) (rowsD D t) j = rowsD D t j := funext fun k => (if_neg h).trans (if_pos h1)
      rw [e, masked, if_neg h, if_pos h1]
      rfl
    · have e : masked (isPrev t) (isNext t) (rowsD D t) j = fun k => rowsD D t j k * isNext t := funext fun k => (if_neg h).trans (if_neg h1)
      rw [e, dcv_scaled, masked, if_neg h, if_neg h1]
      rfl

theorem chm_down (r : Fin 256) (c : Fin 1536) : chm (rowsP P t) (isPrev t) (isNext t) (down r) c = before (chs P) (at64 t r) c := at_down (chs P) t r c

theorem chm_up (r : Fin 256) (c : Fin 1536) : chm (rowsP P t) (isPrev t) (isNext t) (up r) c = after (chs P) (at64 t r) c := at_up (chs P) t r c

theorem cv_block (r : Fin 256) (c : Fin 1536) : cvB W (rowsP P t) (isPrev t) (isNext t) r c = cv W P (at64 t r) c := by
  rw [cvB, chm_down, chm_up, rowsP_mid]
  rfl

theorem dch_block (r : Fin 256) (c : Fin 1536) :
    dchB W (rowsP P t) (masked (isPrev t) (isNext t) (rowsD D t)) r c = dch W P D (at64 t r) c := by
  rw [dchB, masked_dcv, masked_dcv, masked_dcv, at_down (dcvs W P D), at_up (dcvs W P D), at_mid, rowAt_mid]
  rfl

theorem mix_block (r : Fin 256) (k : Fin 1024) : mixX W (rowsP P t) r k = mixed W P (at64 t r) k := by
  simp only [mixX, mixB, mixed, rowsP_mid, pos_at64, inChunk_at64]

theorem dm_block (r : Fin 256) (k : Fin 1024) :
    dmB W (rowsP P t) (rowsD D t) (isPrev t) (isNext t) r k = dmixed W (P (at64 t r)) (D (at64 t r)) k := by
  rw [dmB, rowsP_mid, masked_rowsD]

theorem dvn_block (r : Fin 256) (k : Fin 1024) :
    dvnB W (rowsP P t) (rowsD D t) (isPrev t) (isNext t) r k = dvn W P D (at64 t r) k := by
  simp only [dvnB, backB, dvn, dm_block, pos_at64, inChunk_at64]

/-- The forward's branches at the block's rows. -/
def rowsYa (r : Fin 256) : Fin 1024 → ℝ := ya W P (at64 t r)

def rowsYb (r : Fin 256) : Fin 1024 → ℝ := yb W P (at64 t r)

theorem dga_block (r : Fin 256) (k : Fin 1024) :
    dgaB W (rowsP P t) (rowsD D t) (isPrev t) (isNext t) (rowsYa W P t) r k = dga W P D (at64 t r) k := by
  rw [dgaB, rowsP_mid, masked_rowsD]
  rfl

theorem dgb_block (r : Fin 256) (k : Fin 1024) :
    dgbB W (rowsP P t) (rowsD D t) (isPrev t) (isNext t) (rowsYb W P t) r k = dgb W P D (at64 t r) k := by
  rw [dgbB, rowsP_mid, masked_rowsD]
  rfl

theorem dp_block (r : Fin 256) (j : Fin 8704) :
    dpB W (rowsP P t) (rowsD D t) (isPrev t) (isNext t) (rowsYa W P t) (rowsYb W P t) r j = dp W P D (at64 t r) j := by
  unfold dpB beside dp
  simp only [rowsP_mid, masked_rowsD, cv_block, dch_block, mix_block, dvn_block, dga_block, dgb_block, du, dv, gateTerm]
  by_cases h0 : j.val < 1536
  · rw [dif_pos h0, dif_pos h0]
  rw [dif_neg h0, dif_neg h0]
  by_cases h1 : j.val < 3072
  · rw [dif_pos h1, dif_pos h1]
  rw [dif_neg h1, dif_neg h1]
  by_cases h2 : j.val < 4608
  · rw [dif_pos h2, dif_pos h2]
  rw [dif_neg h2, dif_neg h2]
  by_cases h3 : j.val < 5632
  · rw [dif_pos h3, dif_pos h3]
  rw [dif_neg h3, dif_neg h3]
  by_cases h4 : j.val < 6656
  · rw [dif_pos h4, dif_pos h4]
  rw [dif_neg h4, dif_neg h4]
  by_cases h5 : j.val < 7680
  · rw [dif_pos h5, dif_pos (by omega)]
  rw [dif_neg h5, dif_neg (by omega)]
  exact congrArg (dgb W P D (at64 t r)) (Fin.ext (by show j.val - 7680 = j.val - 6656 - 1024; omega))

theorem a_block : (fun r c => chanB (rowsP P t (mid r)) c * cvB W (rowsP P t) (isPrev t) (isNext t) r c) = fun r => a W P (at64 t r) := by
  funext r c
  rw [rowsP_mid, cv_block]
  rfl

theorem bb_block : (fun r k => gu (rowsP P t (mid r)) k * mixX W (rowsP P t) r k) = fun r => bb W P (at64 t r) := by
  funext r k
  rw [rowsP_mid, mix_block]
  rfl

theorem z_block : (fun r k => ga W (rowsP P t (mid r)) k * rowsYa W P t r k + gb W (rowsP P t (mid r)) k * rowsYb W P t r k) = fun r => z W P (at64 t r) := by
  funext r k
  rw [rowsP_mid]
  rfl

theorem dya_block : (fun r => dya W (rowsP P t (mid r)) (masked (isPrev t) (isNext t) (rowsD D t) (mid r))) = fun r => dya W (P (at64 t r)) (D (at64 t r)) := by
  funext r
  rw [rowsP_mid, masked_rowsD]

theorem dyb_block : (fun r => dyb W (rowsP P t (mid r)) (masked (isPrev t) (isNext t) (rowsD D t) (mid r))) = fun r => dyb W (P (at64 t r)) (D (at64 t r)) := by
  funext r
  rw [rowsP_mid, masked_rowsD]

/-! ## What a block adds to the sums -/

theorem gate_block : gateB W (rowsP P t) (rowsD D t) (isPrev t) (isNext t) (rowsYa W P t) (rowsYb W P t) = ∑ r, gateRows W P D (at64 t r) := by
  funext i j
  rw [Finset.sum_apply, Finset.sum_apply]
  unfold gateB gateRows gateTerm
  simp only [dga_block, dgb_block]
  split_ifs <;> simp

theorem conv_block : convB W (rowsP P t) (rowsD D t) (isPrev t) (isNext t) = ∑ r, convTerm W P D (at64 t r) := by
  funext i c
  rw [Finset.sum_apply, Finset.sum_apply]
  revert i
  simp [Fin.forall_fin_succ, convB, convTerm, rowsP_mid, masked_rowsD, chm_down, chm_up, dcvs, chs]

theorem norm_block : normB W (rowsP P t) (rowsD D t) (isPrev t) (isNext t) = ∑ r, normTerm W P D (at64 t r) := by
  funext i c
  rw [Finset.sum_apply, Finset.sum_apply]
  revert i
  simp [Fin.forall_fin_succ, normB, normTerm, rowsP_mid, dvn_block]

theorem cube_block : cubeB W (rowsP P t) (rowsD D t) (isPrev t) (isNext t) = ∑ q, spatialTerm W P D (chunkAt t q) := by
  funext h i j
  rw [Fin.sum_univ_two]
  simp only [cubeB, spatialB, dm_block, rowsP_mid, at64_chunkOf]
  rfl

theorem bias_block : biasB W (rowsP P t) (rowsD D t) (isPrev t) (isNext t) = ∑ q, biasTerm W P D (chunkAt t q) := by
  funext i k
  rw [Fin.sum_univ_two]
  have e0 : loRow i = chunkOf 0 i := Fin.ext (by show i.val = 128 * 0 + i.val; omega)
  have e1 : hiRow i = chunkOf 1 i := Fin.ext (by show 128 + i.val = 128 * 1 + i.val; omega)
  simp only [biasB, dm_block, e0, e1, at64_chunkOf]
  rfl

/-! ## Sums over the blocks -/

theorem sum_rows {A : Type} [AddCommMonoid A] (f : Fin 16384 → A) : ∑ t : Fin 64, ∑ r : Fin 256, f (at64 t r) = ∑ i, f i := by
  rw [← Fin.sum_mul_add_fin 64 256 f]
  exact Finset.sum_congr rfl fun t _ => Finset.sum_congr rfl fun r _ => congrArg f (Fin.ext (by simp only [at64]; omega))

theorem sum_chunks {A : Type} [AddCommMonoid A] (f : Fin 128 → A) : ∑ t : Fin 64, ∑ q : Fin 2, f (chunkAt t q) = ∑ i, f i := by
  rw [← Fin.sum_mul_add_fin 64 2 f]
  exact Finset.sum_congr rfl fun t _ => Finset.sum_congr rfl fun r _ => congrArg f (Fin.ext (by simp only [chunkAt]; omega))

/-- What the blocks up to block `n` add. -/
def upTo {A : Type} [AddCommMonoid A] (b : Fin 64 → A) (n : ℕ) : A := ∑ t ∈ Finset.range (n + 1), if h : t < 64 then b ⟨t, h⟩ else 0

theorem upTo_last {A : Type} [AddCommMonoid A] (b : Fin 64 → A) : upTo b 63 = ∑ t, b t := by
  rw [upTo, Finset.sum_range]
  exact Finset.sum_congr rfl fun t _ => dif_pos t.isLt

/-- A buffer that starts from nothing at the first block and adds at each block holds the sums. -/
theorem sums_after {A S : Type} [AddCommMonoid A] (shape : A → S) (out : (n : ℕ) → n < 64 → S) (b : Fin 64 → A)
    (step : ∀ (t : Fin 64) (a : A), (¬t.val % 64 = 0 → out (t.val - 1) (Nat.lt_of_le_of_lt (Nat.sub_le _ _) t.isLt) = shape a) →
      out t.val t.isLt = shape ((if t.val % 64 = 0 then 0 else a) + b t)) : ∀ (n : ℕ) (hn : n < 64), out n hn = shape (upTo b n)
  | 0, hn => by
    have e := step ⟨0, hn⟩ 0 (fun h0 => absurd rfl h0)
    simp only [ite_self, zero_add] at e
    rw [upTo, Finset.sum_range_one, dif_pos hn]
    exact e
  | n + 1, hn => by
    have e := step ⟨n + 1, hn⟩ (upTo b n) (fun _ => sums_after shape out b step n (Nat.lt_of_succ_lt hn))
    rw [if_neg (by show ¬(n + 1) % 64 = 0; omega)] at e
    rw [upTo, Finset.sum_range_succ _ (n + 1), dif_pos hn]
    exact e

theorem grid8_sum {n N : ℕ} (f : Fin n → Fin 8 → Fin N → ℝ) : grid8 (∑ r, f r) = fun i => ((∑ r, f r (i 0) (i 1) : ℝ) : EReal) := by
  have e : ∑ r, f r = fun a b => ∑ r, f r a b := by
    funext a b
    simp only [Finset.sum_apply]
  rw [e]
  rfl

theorem cube8_sum {n : ℕ} (f : Fin n → Fin 8 → Fin 128 → Fin 128 → ℝ) : cube8 (∑ r, f r) = fun i => ((∑ r, f r (i 0) (i 1) (i 2) : ℝ) : EReal) := by
  have e : ∑ r, f r = fun a b c => ∑ r, f r a b c := by
    funext a b c
    simp only [Finset.sum_apply]
  rw [e]
  rfl

theorem chunk_sum {n : ℕ} (f : Fin n → Fin 128 → Fin 1024 → ℝ) : chunk (∑ r, f r) = fun i => ((∑ r, f r (i 0) (i 1) : ℝ) : EReal) := by
  have e : ∑ r, f r = fun a b => ∑ r, f r a b := by
    funext a b
    simp only [Finset.sum_apply]
  rw [e]
  rfl

end Cert.Kernel2Ideal.Arrays
-- ==== Proof.Mix.Ref.lean ====
module

public import proofs.«01_k».proof.Proof.Mix.Scalars
public import proofs.«01_k».proof.Proof.Ref
public import proofs.«01_k».proof.Proof.Gen.Reference2Ideal.Run
public import Idealize.ShloMosaic.Lib.KernelVsHost

@[expose] public section

/-! # The reference's values on real arguments -/

set_option maxRecDepth 100000

noncomputable section

namespace Cert.Reference2Ideal.Ref

open Idealize.ShloMosaic Idealize.ShloMosaic.TcCoe Cert.Reference2Ideal Cert.Reference2Ideal.Gen Cert.Reference2Ideal.Value Cert.Reals Cert.Row Cert.Mix

/-- All rows of a real array. -/
def cube (f : Fin 16384 → Fin 1024 → ℝ) : FVec Ideal S1x16384x1024 .f32 := fun i => ((f (i 1) (i 2) : ℝ) : EReal)

/-- All rows of the convolution's channels. -/
def wide (f : Fin 16384 → Fin 1536 → ℝ) : FVec Ideal S1x16384x1536 .f32 := fun i => ((f (i 1) (i 2) : ℝ) : EReal)

/-- All rows of both gates. -/
def both (f : Fin 16384 → Fin 2048 → ℝ) : FVec Ideal S1x16384x2048 .f32 := fun i => ((f (i 1) (i 2) : ℝ) : EReal)

/-- One real per row. -/
def tall (f : Fin 16384 → ℝ) : FVec Ideal S1x16384x1 .f32 := fun i => ((f (i 1) : ℝ) : EReal)

/-- All rows, by chunk and head. -/
def chunks (f : Fin 16384 → Fin 1024 → ℝ) : FVec Ideal S1x128x128x8x128 .f32 :=
  fun i => ((f (chunkRow (i 1) (i 2)) (headCol (i 3) (i 4)) : ℝ) : EReal)

/-- A row of weights of the convolution. -/
def tap (g : Fin 1536 → ℝ) : FVec Ideal S1x1x1536 .f32 := fun i => ((g (i 2) : ℝ) : EReal)

variable (f g : Fin 16384 → Fin 1024 → ℝ)

theorem chunks_cast : shapeCast _ (cube f) shapeCasts_S1x16384x1024_S1x128x128x8x128 = chunks f := by
  funext i
  idx_vars i
  pointwise [cube, chunks]
  exact congrArg _ (congrArg₂ f (Fin.ext (by simp only [chunkRow]; omega)) (Fin.ext (by simp only [headCol]; omega)))

theorem mulf_cube : mulf (cube f) (cube g) = cube fun r k => f r k * g r k := by
  funext i
  idx_vars i
  pointwise [cube]
  simp only [← EReal.coe_mul]

theorem mulf_wide (f g : Fin 16384 → Fin 1536 → ℝ) : mulf (wide f) (wide g) = wide fun r k => f r k * g r k := by
  funext i
  idx_vars i
  pointwise [wide]
  simp only [← EReal.coe_mul]

/-- A padded array of real rows. -/
theorem pad_real {m n M N : ℕ} (l1 l2 h1 h2 : ℕ) (f : Fin m → Fin n → ℝ)
    (hp : (⟨3, ![1, m, n]⟩ : Shape).Pads ![0, l1, l2] ![0, h1, h2] ![0, 0, 0] ⟨3, ![1, M, N]⟩) (hu : 0 < S_.numel) (i : (⟨3, ![1, M, N]⟩ : Shape).Idx) :
    pad (⟨3, ![1, M, N]⟩ : Shape) ![0, l1, l2] ![0, h1, h2] ![0, 0, 0] ((fun i => ((f (i 1) (i 2) : ℝ) : EReal)) : FVec Ideal ⟨3, ![1, m, n]⟩ .f32)
        (constant (F := Ideal) S_ .f32 0x00000000#32) hp hu i =
      ((if h : (l1 ≤ (i 1).val ∧ (i 1).val - l1 < m) ∧ (l2 ≤ (i 2).val ∧ (i 2).val - l2 < n) then
        f ⟨(i 1).val - l1, h.1.2⟩ ⟨(i 2).val - l2, h.2.2⟩ else 0 : ℝ) : EReal) := by
  by_cases h : (l1 ≤ (i 1).val ∧ (i 1).val - l1 < m) ∧ (l2 ≤ (i 2).val ∧ (i 2).val - l2 < n)
  · rw [dif_pos h]
    refine pad_apply_of_inside _ _ _ _ _ hp hu _ (ix3 0 ⟨(i 1).val - l1, h.1.2⟩ ⟨(i 2).val - l2, h.2.2⟩) fun a => ?_
    fin_cases a
    · exact Nat.lt_one_iff.mp (i 0).isLt
    · show (i 1).val = l1 + ((i 1).val - l1) * (0 + 1)
      omega
    · show (i 2).val = l2 + ((i 2).val - l2) * (0 + 1)
      omega
  · rw [dif_neg h]
    refine Eq.trans ?_ ofBits_zero
    by_cases h1 : l1 ≤ (i 1).val ∧ (i 1).val - l1 < m
    · exact pad_apply_of_not_inside _ _ _ _ _ hp hu _ 2 fun e => h ⟨h1, e.1, by have := e.2.2; rwa [show (![0, 0, 0] : Fin 3 → ℕ) 2 + 1 = 1 from rfl, Nat.div_one] at this⟩
    · exact pad_apply_of_not_inside _ _ _ _ _ hp hu _ 1 fun e => h1 ⟨e.1, by have := e.2.2; rwa [show (![0, 0, 0] : Fin 3 → ℕ) 1 + 1 = 1 from rfl, Nat.div_one] at this⟩

theorem pad_rows (l h : ℕ) (f : Fin 16384 → Fin 1536 → ℝ) (hp : S1x16384x1536.Pads ![0, l, 0] ![0, h, 0] ![0, 0, 0] S1x16386x1536) :
    pad S1x16386x1536 ![0, l, 0] ![0, h, 0] ![0, 0, 0] (wide f) (constant (F := Ideal) S_ .f32 0x00000000#32) hp h_S_ =
      fun i => ((if h : l ≤ (i 1).val ∧ (i 1).val - l < 16384 then f ⟨(i 1).val - l, h.2⟩ (i 2) else 0 : ℝ) : EReal) := by
  funext i
  refine (pad_real l 0 h 0 f hp h_S_ i).trans (congrArg _ ?_)
  by_cases h1 : l ≤ (i 1).val ∧ (i 1).val - l < 16384
  · rw [dif_pos ⟨h1, Nat.zero_le _, (i 2).isLt⟩, dif_pos h1]
    rfl
  · rw [dif_neg fun e => h1 e.1, dif_neg h1]

theorem pad_cols {n N : ℕ} (l h : ℕ) (f : Fin 16384 → Fin n → ℝ)
    (hp : (⟨3, ![1, 16384, n]⟩ : Shape).Pads ![0, 0, l] ![0, 0, h] ![0, 0, 0] ⟨3, ![1, 16384, N]⟩) :
    pad (⟨3, ![1, 16384, N]⟩ : Shape) ![0, 0, l] ![0, 0, h] ![0, 0, 0] ((fun i => ((f (i 1) (i 2) : ℝ) : EReal)) : FVec Ideal ⟨3, ![1, 16384, n]⟩ .f32)
        (constant (F := Ideal) S_ .f32 0x00000000#32) hp h_S_ =
      fun i => ((if h : l ≤ (i 2).val ∧ (i 2).val - l < n then f (i 1) ⟨(i 2).val - l, h.2⟩ else 0 : ℝ) : EReal) := by
  funext i
  refine (pad_real 0 l 0 h f hp h_S_ i).trans (congrArg _ ?_)
  by_cases h1 : l ≤ (i 2).val ∧ (i 2).val - l < n
  · rw [dif_pos ⟨⟨Nat.zero_le _, (i 1).isLt⟩, h1⟩, dif_pos h1]
    rfl
  · rw [dif_neg fun e => h1 e.2, dif_neg h1]

theorem pad_cube {N : ℕ} (l h : ℕ) (f : Fin 16384 → Fin 1024 → ℝ) (hp : S1x16384x1024.Pads ![0, 0, l] ![0, 0, h] ![0, 0, 0] ⟨3, ![1, 16384, N]⟩) :
    pad (⟨3, ![1, 16384, N]⟩ : Shape) ![0, 0, l] ![0, 0, h] ![0, 0, 0] (cube f) (constant (F := Ideal) S_ .f32 0x00000000#32) hp h_S_ =
      fun i => ((if h : l ≤ (i 2).val ∧ (i 2).val - l < 1024 then f (i 1) ⟨(i 2).val - l, h.2⟩ else 0 : ℝ) : EReal) := pad_cols l h f hp

theorem pad_wide {N : ℕ} (l h : ℕ) (f : Fin 16384 → Fin 1536 → ℝ) (hp : S1x16384x1536.Pads ![0, 0, l] ![0, 0, h] ![0, 0, 0] ⟨3, ![1, 16384, N]⟩) :
    pad (⟨3, ![1, 16384, N]⟩ : Shape) ![0, 0, l] ![0, 0, h] ![0, 0, 0] (wide f) (constant (F := Ideal) S_ .f32 0x00000000#32) hp h_S_ =
      fun i => ((if h : l ≤ (i 2).val ∧ (i 2).val - l < 1536 then f (i 1) ⟨(i 2).val - l, h.2⟩ else 0 : ℝ) : EReal) := pad_cols l h f hp

theorem pad_both {N : ℕ} (l h : ℕ) (f : Fin 16384 → Fin 2048 → ℝ) (hp : S1x16384x2048.Pads ![0, 0, l] ![0, 0, h] ![0, 0, 0] ⟨3, ![1, 16384, N]⟩) :
    pad (⟨3, ![1, 16384, N]⟩ : Shape) ![0, 0, l] ![0, 0, h] ![0, 0, 0] (both f) (constant (F := Ideal) S_ .f32 0x00000000#32) hp h_S_ =
      fun i => ((if h : l ≤ (i 2).val ∧ (i 2).val - l < 2048 then f (i 1) ⟨(i 2).val - l, h.2⟩ else 0 : ℝ) : EReal) := pad_cols l h f hp

/-! ## The values -/

variable (W : Cert.Mix.Weights) (P : Fin 16384 → Fin 8704 → ℝ) (D : Fin 16384 → Fin 1024 → ℝ) (V0 : Valuation τ sig (Elt Ideal))

/-- The arguments are the real rows `P` and `D` and the weights. -/
structure RealArgs : Prop where
  a0 : V0 (Proc.devRef .tc main_arg0) = (fun i => ((P (i 1) (i 2) : ℝ) : EReal) : FVec Ideal S1x16384x8704 .f32)
  a1 : V0 (Proc.devRef .tc main_arg1) = (fun i => ((W.bg (i 1) : ℝ) : EReal) : FVec Ideal S1x2048 .f32)
  a2 : V0 (Proc.devRef .tc main_arg2) = (fun i => ((W.cw (i 1) (i 2) : ℝ) : EReal) : FVec Ideal S1x3x1536 .f32)
  a3 : V0 (Proc.devRef .tc main_arg3) = (fun i => ((W.vg (i 1) : ℝ) : EReal) : FVec Ideal S1x1024 .f32)
  a4 : V0 (Proc.devRef .tc main_arg4) = (fun i => ((W.vb (i 1) : ℝ) : EReal) : FVec Ideal S1x1024 .f32)
  a5 : V0 (Proc.devRef .tc main_arg5) = (fun i => ((W.ws (i 1) (i 2) (i 3) : ℝ) : EReal) : FVec Ideal S1x8x128x128 .f32)
  a6 : V0 (Proc.devRef .tc main_arg6) = (fun i => ((W.bs (i 1) (i 2) : ℝ) : EReal) : FVec Ideal S1x8x128 .f32)
  a7 : V0 (Proc.devRef .tc main_arg7) = (fun i => ((W.wpa (i 1) (i 2) : ℝ) : EReal) : FVec Ideal S1x1536x1024 .f32)
  a8 : V0 (Proc.devRef .tc main_arg8) = (fun i => ((W.wpb (i 1) (i 2) : ℝ) : EReal) : FVec Ideal S1x1024x1024 .f32)
  a9 : V0 (Proc.devRef .tc main_arg9) = (fun i => ((W.wo (i 1) (i 2) : ℝ) : EReal) : FVec Ideal S1x1024x1024 .f32)
  a10 : V0 (Proc.devRef .tc main_arg10) = cube D

variable (h : RealArgs W P D V0)

theorem headCol_head (k : Fin 1024) (h1 : k.val / 128 < 8) (h2 : k.val % 128 < 128) : headCol ⟨k.val / 128, h1⟩ ⟨k.val % 128, h2⟩ = k :=
  Fin.ext (Nat.div_add_mod k.val 128)

include h in
theorem v4 : res_main_v4 V0 = wide fun r => chanB (P r) := by
  rw [res_main_v4, h.a0]
  funext i
  idx_vars i
  pointwise [wide]
  exact congrArg _ (congrArg (P i1) (Fin.ext (by simp only [at8704]; omega)))

include h in
theorem v5 : res_main_v5 V0 = wide fun r => chanC (P r) := by
  rw [res_main_v5, h.a0]
  funext i
  idx_vars i
  pointwise [wide]
  rfl

include h in
theorem v6 : res_main_v6 V0 = wide fun r => chanH (P r) := by
  rw [res_main_v6, h.a0]
  funext i
  idx_vars i
  pointwise [wide]
  rfl

include h in
theorem v7 : res_main_v7 V0 = cube fun r => chanU (P r) := by
  rw [res_main_v7, h.a0]
  funext i
  idx_vars i
  pointwise [cube]
  rfl

include h in
theorem v8 : res_main_v8 V0 = cube fun r => chanV (P r) := by
  rw [res_main_v8, h.a0]
  funext i
  idx_vars i
  pointwise [cube]
  rfl

include h in
theorem v19 : res_main_v19 V0 = both fun r => gate W (P r) := by
  rw [res_main_v19, h.a0, h.a1]
  funext i
  idx_vars i
  pointwise [both]
  simp only [Ideal.ofBits_one_f32, ← EReal.coe_add, sigm_div]
  rfl

include h in
theorem v23 : res_main_v23 V0 = cube fun r => ga W (P r) := by
  rw [res_main_v23, v19 W P D V0 h]
  funext i
  idx_vars i
  pointwise [cube, both]
  exact congrArg _ (congrArg (gate W (P i1)) (Fin.ext (by simp only [lo])))

include h in
theorem v24 : res_main_v24 V0 = cube fun r => gb W (P r) := by
  rw [res_main_v24, v19 W P D V0 h]
  funext i
  idx_vars i
  pointwise [cube, both]
  rfl

include h in
theorem v25 : res_main_v25 V0 = wide (chs P) := by
  rw [res_main_v25, v5 W P D V0 h, v6 W P D V0 h, mulf_wide]
  rfl

include h in
theorem v35 : res_main_v35 V0 = tap (W.cw 0) := by
  rw [res_main_v35, res_main_v26, h.a2]
  funext i
  idx_vars i
  pointwise [tap]

include h in
theorem v41 : res_main_v41 V0 = tap (W.cw 1) := by
  rw [res_main_v41, res_main_v26, h.a2]
  funext i
  idx_vars i
  pointwise [tap]

include h in
theorem v48 : res_main_v48 V0 = tap (W.cw 2) := by
  rw [res_main_v48, res_main_v26, h.a2]
  funext i
  idx_vars i
  pointwise [tap]

include h in
theorem v32 : res_main_v32 V0 = wide (before (chs P)) := by
  rw [res_main_v32, res_main_v29, res_main_v28, v25 W P D V0 h]
  funext i
  idx_vars i
  pointwise [wide]
  rw [before]
  by_cases h0 : i1.val = 0
  · rw [if_pos h0, dif_pos (by omega), EReal.coe_zero]
  · rw [if_neg h0, dif_neg (by omega), dif_pos (by omega)]

include h in
theorem v38 : res_main_v38 V0 = wide (chs P) := by
  rw [res_main_v38, res_main_v29, res_main_v28, v25 W P D V0 h]
  funext i
  idx_vars i
  pointwise [wide]

include h in
theorem v45 : res_main_v45 V0 = wide (after (chs P)) := by
  rw [res_main_v45, res_main_v29, res_main_v28, v25 W P D V0 h]
  funext i
  idx_vars i
  pointwise [wide]
  rw [after, dif_neg (by omega)]
  by_cases h1 : i1.val + 1 < 16384
  · rw [dif_pos h1, dif_pos (by omega)]
    exact congrArg _ (congrArg (fun r => chs P r i2) (Fin.ext (by show 2 + i1.val - 1 = i1.val + 1; omega)))
  · rw [dif_neg h1, dif_neg (by omega), EReal.coe_zero]

include h in
theorem v51 : res_main_v51 V0 = wide (cv W P) := by
  rw [res_main_v51, v32 W P D V0 h, v38 W P D V0 h, v45 W P D V0 h, v35 W P D V0 h, v41 W P D V0 h, v48 W P D V0 h]
  funext i
  idx_vars i
  pointwise [wide, tap]
  simp only [← EReal.coe_mul, ← EReal.coe_add]
  exact congrArg _ (by rw [cv]; ring)

include h in
theorem v52 : res_main_v52 V0 = wide (a W P) := by
  rw [res_main_v52, v4 W P D V0 h, v51 W P D V0 h, mulf_wide]
  rfl

theorem v53 : res_main_v53 V0 = fun _ => ((cubic : ℝ) : EReal) := by
  rw [res_main_v53]
  funext i
  pointwise []
  exact cubic_div

theorem v75 : res_main_v75 V0 = fun _ => ((cubic : ℝ) : EReal) := v53 V0

include h in
theorem v64 : res_main_v64 V0 = cube fun r k => gtanh (chanU (P r) k) := by
  rw [res_main_v64, v7 W P D V0 h, v53 V0]
  funext i
  idx_vars i
  pointwise [cube]
  simp only [ofBits_root, ← EReal.coe_mul, ← EReal.coe_add, Ideal.tanh_coe]
  rfl

include h in
theorem v86 : res_main_v86 V0 = cube fun r k => gtanh (chanV (P r) k) := by
  rw [res_main_v86, v8 W P D V0 h, v75 V0]
  funext i
  idx_vars i
  pointwise [cube]
  simp only [ofBits_root, ← EReal.coe_mul, ← EReal.coe_add, Ideal.tanh_coe]
  rfl

include h in
theorem v73 : res_main_v73 V0 = cube fun r k => 1 / 2 * (1 + gtanh (chanU (P r) k)) := by
  rw [res_main_v73, v64 W P D V0 h]
  funext i
  idx_vars i
  pointwise [cube]
  simp only [ofBits_half, ← EReal.coe_one, ← EReal.coe_mul, ← EReal.coe_add]

include h in
theorem v95 : res_main_v95 V0 = cube fun r k => 1 / 2 * (1 + gtanh (chanV (P r) k)) := by
  rw [res_main_v95, v86 W P D V0 h]
  funext i
  idx_vars i
  pointwise [cube]
  simp only [ofBits_half, ← EReal.coe_one, ← EReal.coe_mul, ← EReal.coe_add]

theorem gelu_eq (x : ℝ) : x * (1 / 2 * (1 + gtanh x)) = gelu x := by rw [gelu]; ring

include h in
theorem v74 : res_main_v74 V0 = cube fun r => gu (P r) := by
  rw [res_main_v74, v7 W P D V0 h, v73 W P D V0 h, mulf_cube]
  simp only [gelu_eq]
  rfl

include h in
theorem v96 : res_main_v96 V0 = cube fun r => gv (P r) := by
  rw [res_main_v96, v8 W P D V0 h, v95 W P D V0 h, mulf_cube]
  simp only [gelu_eq]
  rfl

include h in
theorem v105 : res_main_v105 V0 = cube fun r => cen (gv (P r)) := by
  rw [res_main_v105, res_main_v103, v96 W P D V0 h]
  exact Cert.ReferenceIdeal.Ref.cen_real fun r => gv (P r)

include h in
theorem v114 : res_main_v114 V0 = cube fun r => cen (gv (P r)) := v105 W P D V0 h

include h in
theorem v116 : res_main_v116 V0 = tall fun r => var (gv (P r)) + eps := by
  rw [res_main_v116, v105 W P D V0 h]
  exact Cert.ReferenceIdeal.Ref.varOf_real fun r => gv (P r)

include h in
theorem v117 : res_main_v117 V0 = tall fun r => rstd (gv (P r)) := by
  rw [res_main_v117, v116 W P D V0 h]
  exact Cert.ReferenceIdeal.Ref.rstd_real fun r => gv (P r)

include h in
theorem v122 : res_main_v122 V0 = cube fun r => xhat (gv (P r)) := by
  rw [res_main_v122, v114 W P D V0 h, v117 W P D V0 h]
  exact Cert.ReferenceIdeal.Ref.xhat_real fun r => gv (P r)

include h in
theorem v123 : res_main_v123 V0 = (fun i => ((W.vg (i 2) : ℝ) : EReal) : FVec Ideal S1x1x1024 .f32) := by
  rw [res_main_v123, h.a3]
  funext i
  idx_vars i
  pointwise []

include h in
theorem v129 : res_main_v129 V0 = chunks fun r => vn W (P r) := by
  rw [res_main_v129, v122 W P D V0 h, v123 W P D V0 h, h.a4]
  refine (congrArg (fun x => shapeCast _ x _) ?_).trans (chunks_cast _)
  funext i
  idx_vars i
  pointwise [cube]
  simp only [← EReal.coe_mul, ← EReal.coe_add]
  rfl

include h in
theorem v99 : res_main_v99 V0 = (fun i => ((W.ws (i 0) (i 1) (i 2) : ℝ) : EReal) : FVec Ideal S8x128x128 .f32) := by
  rw [res_main_v99, h.a5]
  funext i
  idx_vars i
  pointwise []

include h in
theorem v135 : res_main_v135 V0 = cube (mixed W P) := by
  rw [res_main_v135, v129 W P D V0 h, v99 W P D V0 h, h.a6]
  funext i
  idx_vars i
  pointwise [cube, chunks]
  simp only [← EReal.coe_mul, ← EReal.coe_add, ← coe_sum]
  refine congrArg _ (congrArg (· + _) (Finset.sum_congr rfl fun j _ => ?_))
  rw [headCol_head, mul_comm]
  rfl

include h in
theorem v136 : res_main_v136 V0 = cube (bb W P) := by
  rw [res_main_v136, v74 W P D V0 h, v135 W P D V0 h, mulf_cube]
  rfl

include h in
theorem v137 : res_main_v137 V0 = (fun i => ((W.wpa (i 0) (i 1) : ℝ) : EReal) : FVec Ideal S1536x1024 .f32) := by
  rw [res_main_v137, h.a7]
  funext i
  idx_vars i
  pointwise []

include h in
theorem v139 : res_main_v139 V0 = (fun i => ((W.wpb (i 0) (i 1) : ℝ) : EReal) : FVec Ideal S1024x1024 .f32) := by
  rw [res_main_v139, h.a8]
  funext i
  idx_vars i
  pointwise []

include h in
theorem v144 : res_main_v144 V0 = (fun i => ((W.wo (i 0) (i 1) : ℝ) : EReal) : FVec Ideal S1024x1024 .f32) := by
  rw [res_main_v144, h.a9]
  funext i
  idx_vars i
  pointwise []

include h in
theorem v138 : res_main_v138 V0 = cube (ya W P) := by
  rw [res_main_v138, v52 W P D V0 h, v137 W P D V0 h]
  funext i
  idx_vars i
  pointwise [cube, wide]
  simp only [← EReal.coe_mul, ← coe_sum]
  rfl

include h in
theorem v140 : res_main_v140 V0 = cube (yb W P) := by
  rw [res_main_v140, v136 W P D V0 h, v139 W P D V0 h]
  funext i
  idx_vars i
  pointwise [cube]
  simp only [← EReal.coe_mul, ← coe_sum]
  rfl

include h in
theorem v143 : res_main_v143 V0 = cube (z W P) := by
  rw [res_main_v143, v23 W P D V0 h, v24 W P D V0 h, v138 W P D V0 h, v140 W P D V0 h]
  funext i
  idx_vars i
  pointwise [cube]
  simp only [← EReal.coe_mul, ← EReal.coe_add]
  rfl

include h in
theorem v146 : res_main_v146 V0 = cube fun r => dz W (D r) := by
  rw [res_main_v146, h.a10, v144 W P D V0 h]
  funext i
  idx_vars i
  pointwise [cube]
  simp only [← EReal.coe_mul, ← coe_sum]
  rfl

include h in
theorem v147 : res_main_v147 V0 = cube fun r => dyb W (P r) (D r) := by
  rw [res_main_v147, v24 W P D V0 h, v146 W P D V0 h, mulf_cube]
  simp only [mul_comm (gb _ _ _)]
  rfl

include h in
theorem v149 : res_main_v149 V0 = cube fun r => dya W (P r) (D r) := by
  rw [res_main_v149, v23 W P D V0 h, v146 W P D V0 h, mulf_cube]
  simp only [mul_comm (ga _ _ _)]
  rfl

include h in
theorem v151 : res_main_v151 V0 = cube fun r => dbb W (P r) (D r) := by
  rw [res_main_v151, v147 W P D V0 h, v139 W P D V0 h]
  funext i
  idx_vars i
  pointwise [cube]
  simp only [← EReal.coe_mul, ← coe_sum]
  rfl

include h in
theorem v152 : res_main_v152 V0 = wide fun r => da W (P r) (D r) := by
  rw [res_main_v152, v149 W P D V0 h, v137 W P D V0 h]
  funext i
  idx_vars i
  pointwise [cube, wide]
  simp only [← EReal.coe_mul, ← coe_sum]
  rfl

include h in
theorem v154 : res_main_v154 V0 = cube fun r k => dbb W (P r) (D r) k * mixed W P r k := by
  rw [res_main_v154, v151 W P D V0 h, v135 W P D V0 h, mulf_cube]

include h in
theorem v155 : res_main_v155 V0 = chunks fun r => dmixed W (P r) (D r) := by
  rw [res_main_v155, v74 W P D V0 h, v151 W P D V0 h, mulf_cube]
  simp only [mul_comm (gu _ _)]
  exact chunks_cast _

include h in
theorem v163 : res_main_v163 V0 = cube (dvn W P D) := by
  rw [res_main_v163, res_main_v159, v155 W P D V0 h, v99 W P D V0 h]
  funext i
  idx_vars i
  pointwise [cube, chunks]
  simp only [← EReal.coe_mul, ← coe_sum]
  refine congrArg _ (Finset.sum_congr rfl fun j _ => ?_)
  rw [headCol_head, mul_comm]
  rfl

include h in
theorem v171 : res_main_v171 V0 = cube fun r k => dvn W P D r k * W.vg k := by
  rw [res_main_v171, v163 W P D V0 h, v123 W P D V0 h]
  funext i
  idx_vars i
  pointwise [cube]
  simp only [← EReal.coe_mul]

/-- The gradient of the norm's argument. -/
def dgv (r : Fin 16384) : Fin 1024 → ℝ := normGrad (gv (P r)) fun k => dvn W P D r k * W.vg k

include h in
theorem v198 : res_main_v198 V0 = cube (dgv W P D) := by
  rw [res_main_v198, res_main_v177, res_main_v187, v171 W P D V0 h, v114 W P D V0 h, v105 W P D V0 h, v116 W P D V0 h, v117 W P D V0 h]
  exact Cert.ReferenceIdeal.Ref.grad_real (fun r => gv (P r)) fun r k => dvn W P D r k * W.vg k

/-- The gradient of an activation in the reference's form: through the factor, and through the polynomial under the `tanh`. -/
def viaTanh (x d : ℝ) : ℝ := root * (1 / 2 * (x * d) * ((1 + gtanh x) * (1 - gtanh x)))

theorem gelu_parts (x d : ℝ) : d * (1 / 2 * (1 + gtanh x)) + viaTanh x d + cubic * viaTanh x d * (3 * (x * x)) = d * geluGrad x := by
  rw [viaTanh, geluGrad, cubic]
  ring

include h in
theorem v208 : res_main_v208 V0 = cube fun r k => viaTanh (chanV (P r) k) (dgv W P D r k) := by
  rw [res_main_v208, v8 W P D V0 h, v198 W P D V0 h, v86 W P D V0 h]
  funext i
  idx_vars i
  pointwise [cube]
  simp only [ofBits_half, ofBits_root, ← EReal.coe_one, ← EReal.coe_mul, ← EReal.coe_add, ← EReal.coe_sub]
  rfl

include h in
theorem v220 : res_main_v220 V0 = cube fun r k => viaTanh (chanU (P r) k) (dbb W (P r) (D r) k * mixed W P r k) := by
  rw [res_main_v220, v7 W P D V0 h, v154 W P D V0 h, v64 W P D V0 h]
  funext i
  idx_vars i
  pointwise [cube]
  simp only [ofBits_half, ofBits_root, ← EReal.coe_one, ← EReal.coe_mul, ← EReal.coe_add, ← EReal.coe_sub]
  rfl

/-- The three parts of an activation's gradient, added up. -/
theorem parts_cube (x d : Fin 16384 → Fin 1024 → ℝ) :
    addf (addf (mulf (cube d) (cube fun r k => 1 / 2 * (1 + gtanh (x r k)))) (cube fun r k => viaTanh (x r k) (d r k)))
      (mulf (mulf (broadcastInDim S1x16384x1024 ![] bcast_S_S1x16384x1024 ((fun _ => ((cubic : ℝ) : EReal)) : FVec Ideal S_ .f32)) (cube fun r k => viaTanh (x r k) (d r k)))
        (mulf (broadcastInDim S1x16384x1024 ![] bcast_S_S1x16384x1024 (constant S_ .f32 0x40400000#32)) (mulf (cube x) (cube x)))) =
      cube fun r k => d r k * geluGrad (x r k) := by
  funext i
  idx_vars i
  pointwise [cube]
  simp only [ofBits_three, ← EReal.coe_mul, ← EReal.coe_add]
  exact congrArg _ (gelu_parts _ _)

include h in
theorem v226 : res_main_v226 V0 = wide (dcvs W P D) := by
  rw [res_main_v226, v4 W P D V0 h, v152 W P D V0 h, mulf_wide]
  simp only [mul_comm (chanB _ _)]
  rfl

theorem tapped (f : Fin 16384 → Fin 1536 → ℝ) (g : Fin 1536 → ℝ) :
    mulf (wide f) (broadcastInDim S1x16384x1536 ![0, 1, 2] bcast_S1x1x1536_S1x16384x1536_0_1_2 (tap g)) = wide fun r c => f r c * g c := by
  funext i
  idx_vars i
  pointwise [wide, tap]
  simp only [← EReal.coe_mul]

include h in
theorem v260 : res_main_v260 V0 = wide (dch W P D) := by
  rw [res_main_v260, res_main_v258, v226 W P D V0 h, v35 W P D V0 h, v41 W P D V0 h, v48 W P D V0 h, tapped, tapped, tapped, pad_rows, pad_rows, pad_rows]
  funext i
  idx_vars i
  pointwise [wide]
  simp only [← EReal.coe_add]
  refine congrArg _ ?_
  rw [dch, after, before]
  by_cases h0 : i1.val = 0
  · rw [if_pos h0, dif_neg (by omega), dif_pos (by omega), dif_pos (by omega), zero_add, mul_zero, add_zero]
    rw [add_comm, mul_comm, mul_comm (W.cw 1 i2)]
    simp only [add_comm 1 i1.val]
  · by_cases h1 : i1.val + 1 < 16384
    · rw [if_neg h0, dif_pos (by omega), dif_pos (by omega), dif_pos h1]
      simp only [add_comm 1 i1.val, show i1.val + 1 - 2 = i1.val - 1 by omega]
      ring
    · rw [if_neg h0, dif_pos (by omega), dif_neg (by omega), dif_neg h1]
      simp only [show 1 + i1.val - 2 = i1.val - 1 by omega]
      ring

include h in
theorem v268 : res_main_v268 V0 = both (gateTerm W P D) := by
  rw [res_main_v268, v146 W P D V0 h, v140 W P D V0 h, v138 W P D V0 h, v19 W P D V0 h, mulf_cube, mulf_cube, pad_cube, pad_cube]
  funext i
  idx_vars i
  pointwise [both]
  simp only [← EReal.coe_one, ← EReal.coe_add, ← EReal.coe_sub, ← EReal.coe_mul]
  refine congrArg _ ?_
  rw [gateTerm]
  by_cases h1 : i2.val < 1024
  · have e : lo ⟨i2.val, h1⟩ = i2 := rfl
    rw [dif_neg (by omega), dif_pos h1, dif_pos h1, zero_add, dga, ga, e]
    ring
  · have e : ∀ q, hi ⟨i2.val - 1024, q⟩ = i2 := fun q => Fin.ext (by simp only [hi]; omega)
    rw [dif_pos (by omega), dif_neg h1, dif_neg h1, add_zero, dgb, gb, e]
    ring

end Cert.Reference2Ideal.Ref
-- ==== Proof.Mix.Entries.lean ====
module

public import proofs.«01_k».proof.Proof.Mix.Connect
public import proofs.«01_k».proof.Proof.Mix.Ref
public import Idealize.ShloMosaic.Lib.StableHlo.Run
public import Idealize.ShloMosaic.Lib.StableHlo.RunRead

@[expose] public section

/-! # What the kernel's call finds in its operands -/

set_option maxRecDepth 100000

noncomputable section

namespace Cert.Kernel2Ideal.Arrays

open Idealize.ShloMosaic Idealize.ShloMosaic.TcCoe Idealize.SL.Sem Cert.Kernel2Ideal Cert.Kernel2Ideal.Gen Cert.Reals Cert.Row Cert.Mix Cert.Kernel2Ideal.Block Cert.Kernel2Ideal.Loads Cert.Kernel2Ideal.Point

theorem inBlock (t : Fin 64) (o : ℕ) (e : Fin 8) (ho : o ≤ 248) : 256 * t.val + (o + e.val) < 16384 := by omega

variable (W : Cert.Mix.Weights) (P : Fin 16384 → Fin 8704 → ℝ) (D : Fin 16384 → Fin 1024 → ℝ) (c : Dev nD) (m : (ℓ : Loc nD τ sig) → Buf (Elt Ideal) ℓ)

/-- The arguments are the real rows `P` and `D` and the weights. -/
structure RealArgs : Prop where
  a0 : m ((c : Thread nD τ).loc main_arg0) = (fun i => ((P (i 1) (i 2) : ℝ) : EReal) : FVec Ideal S1x16384x8704 .f32)
  a1 : m ((c : Thread nD τ).loc main_arg1) = (fun i => ((W.bg (i 1) : ℝ) : EReal) : FVec Ideal S1x2048 .f32)
  a2 : m ((c : Thread nD τ).loc main_arg2) = (fun i => ((W.cw (i 1) (i 2) : ℝ) : EReal) : FVec Ideal S1x3x1536 .f32)
  a3 : m ((c : Thread nD τ).loc main_arg3) = (line W.vg : FVec Ideal S1x1024 .f32)
  a4 : m ((c : Thread nD τ).loc main_arg4) = (line W.vb : FVec Ideal S1x1024 .f32)
  a5 : m ((c : Thread nD τ).loc main_arg5) = (fun i => ((W.ws (i 1) (i 2) (i 3) : ℝ) : EReal) : FVec Ideal S1x8x128x128 .f32)
  a6 : m ((c : Thread nD τ).loc main_arg6) = (fun i => ((W.bs (i 1) (i 2) : ℝ) : EReal) : FVec Ideal S1x8x128 .f32)
  a7 : m ((c : Thread nD τ).loc main_arg7) = (fun i => ((W.wpa (i 1) (i 2) : ℝ) : EReal) : FVec Ideal S1x1536x1024 .f32)
  a8 : m ((c : Thread nD τ).loc main_arg8) = (fun i => ((W.wpb (i 1) (i 2) : ℝ) : EReal) : FVec Ideal S1x1024x1024 .f32)
  a9 : m ((c : Thread nD τ).loc main_arg9) = (fun i => ((W.wo (i 1) (i 2) : ℝ) : EReal) : FVec Ideal S1x1024x1024 .f32)
  a10 : m ((c : Thread nD τ).loc main_arg10) = (fun i => ((D (i 1) (i 2) : ℝ) : EReal) : FVec Ideal S1x16384x1024 .f32)

variable (h : RealArgs W P D c m) (V0 : Valuation Cert.Reference2Ideal.τ Cert.Reference2Ideal.sig (Elt Ideal)) (h' : Cert.Reference2Ideal.Ref.RealArgs W P D V0)

/-- What the host's first `n` operations leave in a buffer. -/
abbrev UpTo (n : ℕ) (b : Ref sig .tc) := StableHlo.upto hostOps0 (fun b => m (c, b)) n (no_index (Proc.devRef .tc b))

include h h' in
theorem at_ya : UpTo c m 155 main_v124 = Cert.Reference2Ideal.Value.res_main_v138 V0 := by
  dsimp only [UpTo]
  after_reads_simp
  have e0 : StableHlo.upto hostOps0 (fun b => m (c, b)) 41 (Proc.tc.devRef (![main_v37, main_v34, main_v37] 0)) = Cert.Reference2Ideal.Value.res_main_v28 V0 := by
    show StableHlo.upto hostOps0 (fun b => m (c, b)) 41 (Proc.tc.devRef main_v37) = _
    after_reads_simp
    rfl
  have e1 : StableHlo.upto hostOps0 (fun b => m (c, b)) 41 (Proc.tc.devRef (![main_v37, main_v34, main_v37] 1)) = Cert.Reference2Ideal.Value.res_main_v25 V0 := by
    show StableHlo.upto hostOps0 (fun b => m (c, b)) 41 (Proc.tc.devRef main_v34) = _
    after_reads_simp
    rw [h.a0]
    unfold Cert.Reference2Ideal.Value.res_main_v25 Cert.Reference2Ideal.Value.res_main_v5 Cert.Reference2Ideal.Value.res_main_v6
    rw [h'.a0]
  have e2 : StableHlo.upto hostOps0 (fun b => m (c, b)) 41 (Proc.tc.devRef (![main_v37, main_v34, main_v37] 2)) = Cert.Reference2Ideal.Value.res_main_v28 V0 := e0
  rw [e0, e1, e2, h.a0, h.a2, h.a7]
  unfold Cert.Reference2Ideal.Value.res_main_v138 Cert.Reference2Ideal.Value.res_main_v137 Cert.Reference2Ideal.Value.res_main_v52 Cert.Reference2Ideal.Value.res_main_v51 Cert.Reference2Ideal.Value.res_main_v48 Cert.Reference2Ideal.Value.res_main_v45 Cert.Reference2Ideal.Value.res_main_v41 Cert.Reference2Ideal.Value.res_main_v38 Cert.Reference2Ideal.Value.res_main_v35 Cert.Reference2Ideal.Value.res_main_v32 Cert.Reference2Ideal.Value.res_main_v29 Cert.Reference2Ideal.Value.res_main_v26 Cert.Reference2Ideal.Value.res_main_v4
  rw [h'.a0, h'.a2, h'.a7]
  rfl

include h h' in
theorem at_gu : UpTo c m 140 main_v73 = Cert.Reference2Ideal.Value.res_main_v74 V0 := by
  dsimp only [UpTo]
  after_reads_simp
  rw [h.a0]
  unfold Cert.Reference2Ideal.Value.res_main_v74 Cert.Reference2Ideal.Value.res_main_v73 Cert.Reference2Ideal.Value.res_main_v64 Cert.Reference2Ideal.Value.res_main_v53 Cert.Reference2Ideal.Value.res_main_v7
  rw [h'.a0]

include h h' in
theorem at_gv : UpTo c m 105 main_v87 = Cert.Reference2Ideal.Value.res_main_v96 V0 ∧ UpTo c m 111 main_v87 = Cert.Reference2Ideal.Value.res_main_v96 V0 ∧ UpTo c m 120 main_v87 = Cert.Reference2Ideal.Value.res_main_v96 V0 := by
  refine ⟨?_, ?_, ?_⟩ <;>
  · dsimp only [UpTo]
    after_reads_simp
    rw [h.a0]
    unfold Cert.Reference2Ideal.Value.res_main_v96 Cert.Reference2Ideal.Value.res_main_v95 Cert.Reference2Ideal.Value.res_main_v86 Cert.Reference2Ideal.Value.res_main_v75 Cert.Reference2Ideal.Value.res_main_v8
    rw [h'.a0]

include h h' in
theorem at_yb : UpTo c m 156 main_v126 = Cert.Reference2Ideal.Value.res_main_v140 V0 := by
  obtain ⟨g0, g1, g2⟩ := at_gv W P D c m h V0 h'
  have g3 := at_gu W P D c m h V0 h'
  dsimp only [UpTo]
  after_reads_simp [g0, g1, g2, g3]
  rw [h.a3, h.a4, h.a5, h.a6, h.a8]
  unfold Cert.Reference2Ideal.Value.res_main_v140 Cert.Reference2Ideal.Value.res_main_v139 Cert.Reference2Ideal.Value.res_main_v136 Cert.Reference2Ideal.Value.res_main_v135 Cert.Reference2Ideal.Value.res_main_v129 Cert.Reference2Ideal.Value.res_main_v123 Cert.Reference2Ideal.Value.res_main_v122 Cert.Reference2Ideal.Value.res_main_v117 Cert.Reference2Ideal.Value.res_main_v116 Cert.Reference2Ideal.Value.res_main_v114 Cert.Reference2Ideal.Value.res_main_v105 Cert.Reference2Ideal.Value.res_main_v103 Cert.Reference2Ideal.Value.res_main_v99
  rw [h'.a3, h'.a4, h'.a5, h'.a6, h'.a8]
  rfl

include h h' in
theorem entry_ya : V m c main_v137 = (fun i => ((ya W P (i 0) (i 1) : ℝ) : EReal) : FVec Ideal S16384x1024 .f32) := by
  have g := (at_ya W P D c m h V0 h').trans (Cert.Reference2Ideal.Ref.v138 W P D V0 h')
  dsimp only [V]
  after_reads_simp [g]
  funext i
  idx_vars i
  pointwise [Cert.Reference2Ideal.Ref.cube]

include h h' in
theorem entry_yb : V m c main_v138 = (fun i => ((yb W P (i 0) (i 1) : ℝ) : EReal) : FVec Ideal S16384x1024 .f32) := by
  have g := (at_yb W P D c m h V0 h').trans (Cert.Reference2Ideal.Ref.v140 W P D V0 h')
  dsimp only [V]
  after_reads_simp [g]
  funext i
  idx_vars i
  pointwise [Cert.Reference2Ideal.Ref.cube]

include h in
theorem entry_p : V m c main_v127 = (fun i => ((P (i 0) (i 1) : ℝ) : EReal) : FVec Ideal S16384x8704 .f32) := by
  dsimp only [V]
  after_reads_simp
  rw [h.a0]
  funext i
  idx_vars i
  pointwise []

include h in
theorem entry_d : V m c main_v128 = (fun i => ((D (i 0) (i 1) : ℝ) : EReal) : FVec Ideal S16384x1024 .f32) := by
  dsimp only [V]
  after_reads_simp
  rw [h.a10]
  funext i
  idx_vars i
  pointwise []

include h in
theorem entry_wpa : V m c main_v1 = (oblong W.wpa : FVec Ideal S1536x1024 .bf16) := by
  dsimp only [V]
  after_reads_simp
  rw [h.a7]
  funext i
  idx_vars i
  pointwise [oblong]

include h in
theorem entry_wpb : V m c main_v3 = (square W.wpb : FVec Ideal S1024x1024 .bf16) := by
  dsimp only [V]
  after_reads_simp
  rw [h.a8]
  funext i
  idx_vars i
  pointwise [square]

include h in
theorem entry_wo : V m c main_v5 = (square W.wo : FVec Ideal S1024x1024 .bf16) := by
  dsimp only [V]
  after_reads_simp
  rw [h.a9]
  funext i
  idx_vars i
  pointwise [square]

include h in
theorem entry_ws : V m c main_v7 = (spatial W : FVec Ideal S8x128x128 .bf16) := by
  dsimp only [V]
  after_reads_simp
  rw [h.a5]
  funext i
  idx_vars i
  pointwise [spatial]

include h in
theorem entry_bs : V m c main_v11 = (spreadBias W : FVec Ideal S128x1024 .f32) := by
  dsimp only [V]
  after_reads_simp
  rw [h.a6]
  funext i
  idx_vars i
  pointwise [spreadBias]
  rfl

include h in
theorem entry_cw : V m c main_v139 = (taps W : FVec Ideal S3x1536 .f32) := by
  dsimp only [V]
  after_reads_simp
  rw [h.a2]
  funext i
  idx_vars i
  pointwise [taps]

include h in
theorem entry_pe : V m c main_v132 = (fun i => ((P (edgeOf (i 0) (i 1)) (i 2) : ℝ) : EReal) : FVec Ideal S64x16x8704 .f32) := by
  dsimp only [V]
  after_reads_simp
  have e0 : StableHlo.upto hostOps0 (fun b => m (c, b)) 150 (Proc.tc.devRef main_v130) = (fun i => ((P ⟨256 * (i 0).val + (0 + (i 1).val), inBlock (i 0) 0 (i 1) (by decide)⟩ (i 2) : ℝ) : EReal) : FVec Ideal S64x8x8704 .f32) := by
    after_reads_simp
    rw [h.a0]
    funext i
    idx_vars i
    pointwise []
    exact congrArg (fun r => ((P r i2 : ℝ) : EReal)) (Fin.ext (by dsimp only; omega))
  have e1 : StableHlo.upto hostOps0 (fun b => m (c, b)) 150 (Proc.tc.devRef main_v131) = (fun i => ((P ⟨256 * (i 0).val + (248 + (i 1).val), inBlock (i 0) 248 (i 1) (by decide)⟩ (i 2) : ℝ) : EReal) : FVec Ideal S64x8x8704 .f32) := by
    after_reads_simp
    rw [h.a0]
    funext i
    idx_vars i
    pointwise []
    exact congrArg (fun r => ((P r i2 : ℝ) : EReal)) (Fin.ext (by dsimp only; omega))
  rw [e0, e1]
  funext i
  idx_vars i
  by_cases h8 : i1.val < 8
  · pointwise [edgeOf, h8]
  · pointwise [edgeOf, h8]
    exact congrArg (fun r => ((P r i2 : ℝ) : EReal)) (Fin.ext (by dsimp only; omega))

include h in
theorem entry_de : V m c main_v136 = (fun i => ((D (edgeOf (i 0) (i 1)) (i 2) : ℝ) : EReal) : FVec Ideal S64x16x1024 .f32) := by
  dsimp only [V]
  after_reads_simp
  have e0 : StableHlo.upto hostOps0 (fun b => m (c, b)) 154 (Proc.tc.devRef main_v134) = (fun i => ((D ⟨256 * (i 0).val + (0 + (i 1).val), inBlock (i 0) 0 (i 1) (by decide)⟩ (i 2) : ℝ) : EReal) : FVec Ideal S64x8x1024 .f32) := by
    after_reads_simp
    rw [h.a10]
    funext i
    idx_vars i
    pointwise []
    exact congrArg (fun r => ((D r i2 : ℝ) : EReal)) (Fin.ext (by dsimp only; omega))
  have e1 : StableHlo.upto hostOps0 (fun b => m (c, b)) 154 (Proc.tc.devRef main_v135) = (fun i => ((D ⟨256 * (i 0).val + (248 + (i 1).val), inBlock (i 0) 248 (i 1) (by decide)⟩ (i 2) : ℝ) : EReal) : FVec Ideal S64x8x1024 .f32) := by
    after_reads_simp
    rw [h.a10]
    funext i
    idx_vars i
    pointwise []
    exact congrArg (fun r => ((D r i2 : ℝ) : EReal)) (Fin.ext (by dsimp only; omega))
  rw [e0, e1]
  funext i
  idx_vars i
  by_cases h8 : i1.val < 8
  · pointwise [edgeOf, h8]
  · pointwise [edgeOf, h8]
    exact congrArg (fun r => ((D r i2 : ℝ) : EReal)) (Fin.ext (by dsimp only; omega))

theorem index_in : ∀ t : Fin cfg0.N, win0_0.index t = ![t.val, 0] ∧ win0_1.index t = ![t.val - 1, 1, 0] ∧ win0_2.index t = ![min (t.val + 1) 63, 0, 0] ∧
    win0_3.index t = ![t.val, 0] ∧ win0_4.index t = ![t.val - 1, 1, 0] ∧ win0_5.index t = ![min (t.val + 1) 63, 0, 0] ∧
    win0_6.index t = ![t.val, 0] ∧ win0_7.index t = ![t.val, 0] := by
  decide +kernel

theorem index_whole : ∀ t : Fin cfg0.N, win0_8.index t = ![0, 0] ∧ win0_9.index t = ![0, 0] ∧ win0_10.index t = ![0, 0] ∧ win0_11.index t = ![0, 0, 0] ∧
    win0_12.index t = ![0, 0] ∧ win0_13.index t = ![0, 0] ∧ win0_14.index t = ![0, 0] ∧ win0_15.index t = ![0, 0] ∧ win0_16.index t = ![0, 0] := by
  decide +kernel

end Cert.Kernel2Ideal.Arrays
-- ==== Proof.Mix.Arrays.lean ====
module

public import proofs.«01_k».proof.Proof.Mix.Entries
public import proofs.«01_k».proof.Proof.Gen.Kernel2Ideal.Value

@[expose] public section

/-! # The kernel's results on real arguments -/

set_option maxRecDepth 16384

noncomputable section

namespace Cert.Kernel2Ideal.Arrays

open Idealize.ShloMosaic Idealize.ShloMosaic.TcCoe Idealize.SL.Sem Cert.Kernel2Ideal Cert.Kernel2Ideal.Gen Cert.Reals Cert.Row Cert.Mix Cert.Kernel2Ideal.Block Cert.Kernel2Ideal.Loads Cert.Kernel2Ideal.Point

/-- Whether there is a block before, as the kernel finds it from the grid point. -/
theorem isPrev_at : ∀ t : Fin cfg0.N, k0_pay7 (F := Ideal) (grid0.coords t) = ((isPrev t : ℝ) : EReal) := fun t => by
  have e : (grid0.coords t 0).val = t.val := by revert t; decide +kernel
  by_cases h : t.val = 0
  · have hb : BitVec.ofNat 32 (grid0.coords t 0).val = 0#32 := by rw [e, h]
    refine Eq.trans ?_ (congrArg (fun s : ℝ => (s : EReal)) (isPrev_zero t h)).symm
    dsimp only [k0_pay7]
    rw [hb]
    pointwise []
    have z : (Scalar.extui (Scalar.cmpi .sgt 0#32 0#32) : BitVec 32).toInt = 0 := by decide
    rw [z]
    simp
  · have hb : Scalar.cmpi .sgt (BitVec.ofNat 32 (grid0.coords t 0).val) 0#32 = 1#1 := by rw [e]; revert t; decide +kernel
    refine Eq.trans ?_ (congrArg (fun s : ℝ => (s : EReal)) (isPrev_one t h)).symm
    dsimp only [k0_pay7]
    rw [hb]
    pointwise []
    have z : (Scalar.extui (1#1) : BitVec 32).toInt = 1 := by decide
    rw [z]
    simp

theorem isNext_at : ∀ t : Fin cfg0.N, k0_pay8 (F := Ideal) (grid0.coords t) = ((isNext t : ℝ) : EReal) := fun t => by
  have e : (grid0.coords t 0).val = t.val := by revert t; decide +kernel
  by_cases h : t.val = 63
  · have hb : BitVec.ofNat 32 (grid0.coords t 0).val = 63#32 := by rw [e, h]
    refine Eq.trans ?_ (congrArg (fun s : ℝ => (s : EReal)) (isNext_zero t h)).symm
    dsimp only [k0_pay8]
    rw [hb]
    pointwise []
    have z : (Scalar.extui (Scalar.cmpi .slt 63#32 63#32) : BitVec 32).toInt = 0 := by decide
    rw [z]
    simp
  · have hb : Scalar.cmpi .slt (BitVec.ofNat 32 (grid0.coords t 0).val) 63#32 = 1#1 := by rw [e]; revert t; decide +kernel
    refine Eq.trans ?_ (congrArg (fun s : ℝ => (s : EReal)) (isNext_one t h)).symm
    dsimp only [k0_pay8]
    rw [hb]
    pointwise []
    have z : (Scalar.extui (1#1) : BitVec 32).toInt = 1 := by decide
    rw [z]
    simp

variable (W : Cert.Mix.Weights) (P : Fin 16384 → Fin 8704 → ℝ) (D : Fin 16384 → Fin 1024 → ℝ) (c : Dev nD) (m : (ℓ : Loc nD τ sig) → Buf (Elt Ideal) ℓ)
  (h : RealArgs W P D c m) (V0 : Valuation Cert.Reference2Ideal.τ Cert.Reference2Ideal.sig (Elt Ideal)) (h' : Cert.Reference2Ideal.Ref.RealArgs W P D V0)

include h in
theorem input0 (t : Fin cfg0.N) : iblk m c 0 t = blockP (rowsP P t) := by
  refine Eq.trans ?_ (own_p P t).symm
  funext i
  blk_simp [iblk]
  rw [entry_p W P D c m h]
  refine congrArg₂ (fun r k => ((P r k : ℝ) : EReal)) (Fin.ext ?_) (Fin.ext ?_) <;> blk_simp [(index_in t).1, at64] <;> simp [at64] <;> omega

include h in
theorem input1 (t : Fin cfg0.N) : iblk m c 1 t = prevP (rowsP P t) := by
  refine Eq.trans ?_ (prev_p P t).symm
  funext i
  blk_simp [iblk]
  rw [entry_pe W P D c m h]
  refine congrArg₂ (fun r k => ((P r k : ℝ) : EReal)) (congrArg₂ edgeOf (Fin.ext ?_) (Fin.ext ?_)) (Fin.ext ?_) <;>
    blk_simp [(index_in t).2.1, prevBlock, lastEdge] <;> simp [prevBlock, lastEdge] <;> omega

include h in
theorem input2 (t : Fin cfg0.N) : iblk m c 2 t = nextP (rowsP P t) := by
  refine Eq.trans ?_ (next_p P t).symm
  funext i
  blk_simp [iblk]
  rw [entry_pe W P D c m h]
  refine congrArg₂ (fun r k => ((P r k : ℝ) : EReal)) (congrArg₂ edgeOf (Fin.ext ?_) (Fin.ext ?_)) (Fin.ext ?_) <;>
    blk_simp [(index_in t).2.2.1, nextBlock, firstEdge] <;> simp [nextBlock, firstEdge] <;> omega

include h in
theorem input3 (t : Fin cfg0.N) : iblk m c 3 t = (rows .f32 fun r => rowsD D t (mid r)) := by
  refine Eq.trans ?_ (own_d D t).symm
  funext i
  blk_simp [iblk]
  rw [entry_d W P D c m h]
  refine congrArg₂ (fun r k => ((D r k : ℝ) : EReal)) (Fin.ext ?_) (Fin.ext ?_) <;> blk_simp [(index_in t).2.2.2.1, at64] <;> simp [at64] <;> omega

include h in
theorem input4 (t : Fin cfg0.N) : iblk m c 4 t = (halo fun j => rowsD D t (pre j)) := by
  refine Eq.trans ?_ (prev_d D t).symm
  funext i
  blk_simp [iblk]
  rw [entry_de W P D c m h]
  refine congrArg₂ (fun r k => ((D r k : ℝ) : EReal)) (congrArg₂ edgeOf (Fin.ext ?_) (Fin.ext ?_)) (Fin.ext ?_) <;>
    blk_simp [(index_in t).2.2.2.2.1, prevBlock, lastEdge] <;> simp [prevBlock, lastEdge] <;> omega

include h in
theorem input5 (t : Fin cfg0.N) : iblk m c 5 t = (halo fun j => rowsD D t (post j)) := by
  refine Eq.trans ?_ (next_d D t).symm
  funext i
  blk_simp [iblk]
  rw [entry_de W P D c m h]
  refine congrArg₂ (fun r k => ((D r k : ℝ) : EReal)) (congrArg₂ edgeOf (Fin.ext ?_) (Fin.ext ?_)) (Fin.ext ?_) <;>
    blk_simp [(index_in t).2.2.2.2.2.1, nextBlock, firstEdge] <;> simp [nextBlock, firstEdge] <;> omega

include h h' in
theorem input6 (t : Fin cfg0.N) : iblk m c 6 t = rows .f32 (rowsYa W P t) := by
  funext i
  blk_simp [iblk]
  rw [entry_ya W P D c m h V0 h']
  refine congrArg₂ (fun r k => ((ya W P r k : ℝ) : EReal)) (Fin.ext ?_) (Fin.ext ?_) <;> blk_simp [(index_in t).2.2.2.2.2.2.1, at64] <;> simp [at64] <;> omega

include h h' in
theorem input7 (t : Fin cfg0.N) : iblk m c 7 t = rows .f32 (rowsYb W P t) := by
  funext i
  blk_simp [iblk]
  rw [entry_yb W P D c m h V0 h']
  refine congrArg₂ (fun r k => ((yb W P r k : ℝ) : EReal)) (Fin.ext ?_) (Fin.ext ?_) <;> blk_simp [(index_in t).2.2.2.2.2.2.2, at64] <;> simp [at64] <;> omega

include h in
theorem input8 (t : Fin cfg0.N) : iblk m c 8 t = oblong W.wpa := by
  funext i
  blk_simp [iblk]
  rw [entry_wpa W P D c m h]
  exact congrArg (oblong W.wpa) (by blk_ext [(index_whole t).1])

include h in
theorem input9 (t : Fin cfg0.N) : iblk m c 9 t = square W.wpb := by
  funext i
  blk_simp [iblk]
  rw [entry_wpb W P D c m h]
  exact congrArg (square W.wpb) (by blk_ext [(index_whole t).2.1])

include h in
theorem input10 (t : Fin cfg0.N) : iblk m c 10 t = square W.wo := by
  funext i
  blk_simp [iblk]
  rw [entry_wo W P D c m h]
  exact congrArg (square W.wo) (by blk_ext [(index_whole t).2.2.1])

include h in
theorem input11 (t : Fin cfg0.N) : iblk m c 11 t = spatial W := by
  funext i
  blk_simp [iblk]
  rw [entry_ws W P D c m h]
  exact congrArg (spatial W) (by blk_ext [(index_whole t).2.2.2.1])

include h in
theorem input12 (t : Fin cfg0.N) : iblk m c 12 t = spreadBias W := by
  funext i
  blk_simp [iblk]
  rw [entry_bs W P D c m h]
  exact congrArg (spreadBias W) (by blk_ext [(index_whole t).2.2.2.2.1])

include h in
theorem input13 (t : Fin cfg0.N) : iblk m c 13 t = gateBias W := by
  funext i
  blk_simp [iblk]
  rw [V_main_arg1, h.a1]
  exact congrArg (gateBias W) (by blk_ext [(index_whole t).2.2.2.2.2.1])

include h in
theorem input14 (t : Fin cfg0.N) : iblk m c 14 t = taps W := by
  funext i
  blk_simp [iblk]
  rw [entry_cw W P D c m h]
  exact congrArg (taps W) (by blk_ext [(index_whole t).2.2.2.2.2.2.1])

include h in
theorem input15 (t : Fin cfg0.N) : iblk m c 15 t = line W.vg := by
  funext i
  blk_simp [iblk]
  rw [V_main_arg3, h.a3]
  exact congrArg (line W.vg) (by blk_ext [(index_whole t).2.2.2.2.2.2.2.1])

include h in
theorem input16 (t : Fin cfg0.N) : iblk m c 16 t = line W.vb := by
  funext i
  blk_simp [iblk]
  rw [V_main_arg4, h.a4]
  exact congrArg (line W.vb) (by blk_ext [(index_whole t).2.2.2.2.2.2.2.2])

include h h' in
/-- The blocks of every grid point are real. -/
theorem realAt (t : Fin cfg0.N) : RealAt W (rowsP P t) (rowsD D t) (isPrev t) (isNext t) c t m (rowsYa W P t) (rowsYb W P t) where
  h0 := input0 W P D c m h t
  h1 := input1 W P D c m h t
  h2 := input2 W P D c m h t
  h3 := input3 W P D c m h t
  h4 := input4 W P D c m h t
  h5 := input5 W P D c m h t
  h6 := input6 W P D c m h V0 h' t
  h7 := input7 W P D c m h V0 h' t
  h8 := input8 W P D c m h t
  h9 := input9 W P D c m h t
  h10 := input10 W P D c m h t
  h11 := input11 W P D c m h t
  h12 := input12 W P D c m h t
  h13 := input13 W P D c m h t
  h14 := input14 W P D c m h t
  h15 := input15 W P D c m h t
  h16 := input16 W P D c m h t
  hp := isPrev_at t
  hn := isNext_at t

theorem index_rows : ∀ t : Fin cfg0.N, win0_17.index t = ![t.val, 0] ∧ win0_18.index t = ![t.val, 0] ∧ win0_19.index t = ![t.val, 0] ∧
    win0_20.index t = ![t.val, 0] ∧ win0_21.index t = ![t.val, 0] ∧ win0_22.index t = ![t.val, 0] := by
  decide +kernel

include h h' in
theorem array17 : (dats m 0 c).arrAt 17 cfg0.N = (fun i => ((dp W P D (i 0) (i 1) : ℝ) : EReal) : FVec Ideal S16384x8704 .bf16) := by
  refine (dats m 0 c).arrAt_eq_of_covers 17 _ (by decide +kernel) fun t hf y => ?_
  blk_simp
  refine (congrFun ((out17 _ _ _ _ _ c t m _ _ (realAt W P D c m h V0 h' t)).trans (funext fun i => congrArg _ (dp_block W P D t (i 0) (i 1)))) y).trans ?_
  refine congrArg₂ (fun r k => ((dp W P D r k : ℝ) : EReal)) (Fin.ext ?_) (Fin.ext ?_) <;> blk_simp [(index_rows t).1, at64] <;> simp [at64] <;> omega

include h h' in
theorem array18 : (dats m 0 c).arrAt 18 cfg0.N = (fun i => ((a W P (i 0) (i 1) : ℝ) : EReal) : FVec Ideal S16384x1536 .bf16) := by
  refine (dats m 0 c).arrAt_eq_of_covers 18 _ (by decide +kernel) fun t hf y => ?_
  blk_simp
  refine (congrFun ((out18 _ _ _ _ _ c t m _ _ (realAt W P D c m h V0 h' t)).trans (congrArg (wide .bf16) (a_block W P t))) y).trans ?_
  refine congrArg₂ (fun r k => ((a W P r k : ℝ) : EReal)) (Fin.ext ?_) (Fin.ext ?_) <;> blk_simp [(index_rows t).2.1, at64] <;> simp [at64] <;> omega

include h h' in
theorem array19 : (dats m 0 c).arrAt 19 cfg0.N = (fun i => ((bb W P (i 0) (i 1) : ℝ) : EReal) : FVec Ideal S16384x1024 .bf16) := by
  refine (dats m 0 c).arrAt_eq_of_covers 19 _ (by decide +kernel) fun t hf y => ?_
  blk_simp
  refine (congrFun ((out19 _ _ _ _ _ c t m _ _ (realAt W P D c m h V0 h' t)).trans (congrArg (rows .bf16) (bb_block W P t))) y).trans ?_
  refine congrArg₂ (fun r k => ((bb W P r k : ℝ) : EReal)) (Fin.ext ?_) (Fin.ext ?_) <;> blk_simp [(index_rows t).2.2.1, at64] <;> simp [at64] <;> omega

include h h' in
theorem array20 : (dats m 0 c).arrAt 20 cfg0.N = (fun i => ((z W P (i 0) (i 1) : ℝ) : EReal) : FVec Ideal S16384x1024 .bf16) := by
  refine (dats m 0 c).arrAt_eq_of_covers 20 _ (by decide +kernel) fun t hf y => ?_
  blk_simp
  refine (congrFun ((out20 _ _ _ _ _ c t m _ _ (realAt W P D c m h V0 h' t)).trans (congrArg (rows .bf16) (z_block W P t))) y).trans ?_
  refine congrArg₂ (fun r k => ((z W P r k : ℝ) : EReal)) (Fin.ext ?_) (Fin.ext ?_) <;> blk_simp [(index_rows t).2.2.2.1, at64] <;> simp [at64] <;> omega

include h h' in
theorem array21 : (dats m 0 c).arrAt 21 cfg0.N = (fun i => ((dya W (P (i 0)) (D (i 0)) (i 1) : ℝ) : EReal) : FVec Ideal S16384x1024 .bf16) := by
  refine (dats m 0 c).arrAt_eq_of_covers 21 _ (by decide +kernel) fun t hf y => ?_
  blk_simp
  refine (congrFun ((out21 _ _ _ _ _ c t m _ _ (realAt W P D c m h V0 h' t)).trans (congrArg (rows .bf16) (dya_block W P D t))) y).trans ?_
  refine congrArg₂ (fun r k => ((dya W (P r) (D r) k : ℝ) : EReal)) (Fin.ext ?_) (Fin.ext ?_) <;> blk_simp [(index_rows t).2.2.2.2.1, at64] <;> simp [at64] <;> omega

include h h' in
theorem array22 : (dats m 0 c).arrAt 22 cfg0.N = (fun i => ((dyb W (P (i 0)) (D (i 0)) (i 1) : ℝ) : EReal) : FVec Ideal S16384x1024 .bf16) := by
  refine (dats m 0 c).arrAt_eq_of_covers 22 _ (by decide +kernel) fun t hf y => ?_
  blk_simp
  refine (congrFun ((out22 _ _ _ _ _ c t m _ _ (realAt W P D c m h V0 h' t)).trans (congrArg (rows .bf16) (dyb_block W P D t))) y).trans ?_
  refine congrArg₂ (fun r k => ((dyb W (P r) (D r) k : ℝ) : EReal)) (Fin.ext ?_) (Fin.ext ?_) <;> blk_simp [(index_rows t).2.2.2.2.2, at64] <;> simp [at64] <;> omega

/-- The sums are written back once, after the last block. -/
theorem flush_sums : ∀ t : Fin cfg0.N, ((cfg0.win 23).flush t = true ∨ (cfg0.win 24).flush t = true ∨ (cfg0.win 25).flush t = true ∨
    (cfg0.win 26).flush t = true ∨ (cfg0.win 27).flush t = true) → t.val = 63 ∧ win0_23.index t = ![0, 0] ∧ win0_24.index t = ![0, 0] ∧ win0_25.index t = ![0, 0] ∧
    win0_26.index t = ![0, 0, 0] ∧ win0_27.index t = ![0, 0] := by
  decide +kernel

include h h' in
theorem array23 : (dats m 0 c).arrAt 23 cfg0.N = (fun i => ((∑ r, gateRows W P D r (i 0) (i 1) : ℝ) : EReal) : FVec Ideal S8x2048 .f32) := by
  refine (dats m 0 c).arrAt_eq_of_covers 23 _ (by decide +kernel) fun t hf y => ?_
  blk_simp
  have fl := flush_sums t (Or.inl hf)
  have e := sums_after (A := Fin 8 → Fin 2048 → ℝ) grid8 (fun n hn => (outsAt0 m c n hn).2.2.2.2.2.2.1)
    (fun t => gateB W (rowsP P t) (rowsD D t) (isPrev t) (isNext t) (rowsYa W P t) (rowsYb W P t)) (fun t a ha => out23 _ _ _ _ _ c t m _ _ (realAt W P D c m h V0 h' t) a ha) t.val t.isLt
  refine (congrFun e y).trans ?_
  rw [fl.1, upTo_last]
  have ey := (congrArg grid8 ((Finset.sum_congr rfl fun t _ => gate_block W P D t).trans (sum_rows (gateRows W P D)))).trans (grid8_sum (gateRows W P D))
  refine (congrFun ey y).trans ?_
  exact congrArg (fun i : S8x2048.Idx => ((∑ r, gateRows W P D r (i 0) (i 1) : ℝ) : EReal)) (by blk_ext [fl.2.1])

include h h' in
theorem array24 : (dats m 0 c).arrAt 24 cfg0.N = (fun i => ((∑ r, convTerm W P D r (i 0) (i 1) : ℝ) : EReal) : FVec Ideal S8x1536 .f32) := by
  refine (dats m 0 c).arrAt_eq_of_covers 24 _ (by decide +kernel) fun t hf y => ?_
  blk_simp
  have fl := flush_sums t (Or.inr (Or.inl hf))
  have e := sums_after (A := Fin 8 → Fin 1536 → ℝ) grid8 (fun n hn => (outsAt0 m c n hn).2.2.2.2.2.2.2.1)
    (fun t => convB W (rowsP P t) (rowsD D t) (isPrev t) (isNext t) ) (fun t a ha => out24 _ _ _ _ _ c t m _ _ (realAt W P D c m h V0 h' t) a ha) t.val t.isLt
  refine (congrFun e y).trans ?_
  rw [fl.1, upTo_last]
  have ey := (congrArg grid8 ((Finset.sum_congr rfl fun t _ => conv_block W P D t).trans (sum_rows (convTerm W P D)))).trans (grid8_sum (convTerm W P D))
  refine (congrFun ey y).trans ?_
  exact congrArg (fun i : S8x1536.Idx => ((∑ r, convTerm W P D r (i 0) (i 1) : ℝ) : EReal)) (by blk_ext [fl.2.2.1])

include h h' in
theorem array25 : (dats m 0 c).arrAt 25 cfg0.N = (fun i => ((∑ r, normTerm W P D r (i 0) (i 1) : ℝ) : EReal) : FVec Ideal S8x1024 .f32) := by
  refine (dats m 0 c).arrAt_eq_of_covers 25 _ (by decide +kernel) fun t hf y => ?_
  blk_simp
  have fl := flush_sums t (Or.inr (Or.inr (Or.inl hf)))
  have e := sums_after (A := Fin 8 → Fin 1024 → ℝ) grid8 (fun n hn => (outsAt0 m c n hn).2.2.2.2.2.2.2.2.1)
    (fun t => normB W (rowsP P t) (rowsD D t) (isPrev t) (isNext t) ) (fun t a ha => out25 _ _ _ _ _ c t m _ _ (realAt W P D c m h V0 h' t) a ha) t.val t.isLt
  refine (congrFun e y).trans ?_
  rw [fl.1, upTo_last]
  have ey := (congrArg grid8 ((Finset.sum_congr rfl fun t _ => norm_block W P D t).trans (sum_rows (normTerm W P D)))).trans (grid8_sum (normTerm W P D))
  refine (congrFun ey y).trans ?_
  exact congrArg (fun i : S8x1024.Idx => ((∑ r, normTerm W P D r (i 0) (i 1) : ℝ) : EReal)) (by blk_ext [fl.2.2.2.1])

include h h' in
theorem array26 : (dats m 0 c).arrAt 26 cfg0.N = (fun i => ((∑ r, spatialTerm W P D r (i 0) (i 1) (i 2) : ℝ) : EReal) : FVec Ideal S8x128x128 .f32) := by
  refine (dats m 0 c).arrAt_eq_of_covers 26 _ (by decide +kernel) fun t hf y => ?_
  blk_simp
  have fl := flush_sums t (Or.inr (Or.inr (Or.inr (Or.inl hf))))
  have e := sums_after (A := Fin 8 → Fin 128 → Fin 128 → ℝ) cube8 (fun n hn => (outsAt0 m c n hn).2.2.2.2.2.2.2.2.2.1)
    (fun t => cubeB W (rowsP P t) (rowsD D t) (isPrev t) (isNext t) ) (fun t a ha => out26 _ _ _ _ _ c t m _ _ (realAt W P D c m h V0 h' t) a ha) t.val t.isLt
  refine (congrFun e y).trans ?_
  rw [fl.1, upTo_last]
  have ey := (congrArg cube8 ((Finset.sum_congr rfl fun t _ => cube_block W P D t).trans (sum_chunks (spatialTerm W P D)))).trans (cube8_sum (spatialTerm W P D))
  refine (congrFun ey y).trans ?_
  exact congrArg (fun i : S8x128x128.Idx => ((∑ r, spatialTerm W P D r (i 0) (i 1) (i 2) : ℝ) : EReal)) (by blk_ext [fl.2.2.2.2.1])

include h h' in
theorem array27 : (dats m 0 c).arrAt 27 cfg0.N = (fun i => ((∑ r, biasTerm W P D r (i 0) (i 1) : ℝ) : EReal) : FVec Ideal S128x1024 .f32) := by
  refine (dats m 0 c).arrAt_eq_of_covers 27 _ (by decide +kernel) fun t hf y => ?_
  blk_simp
  have fl := flush_sums t (Or.inr (Or.inr (Or.inr (Or.inr (hf)))))
  have e := sums_after (A := Fin 128 → Fin 1024 → ℝ) chunk (fun n hn => (outsAt0 m c n hn).2.2.2.2.2.2.2.2.2.2)
    (fun t => biasB W (rowsP P t) (rowsD D t) (isPrev t) (isNext t) ) (fun t a ha => out27 _ _ _ _ _ c t m _ _ (realAt W P D c m h V0 h' t) a ha) t.val t.isLt
  refine (congrFun e y).trans ?_
  rw [fl.1, upTo_last]
  have ey := (congrArg chunk ((Finset.sum_congr rfl fun t _ => bias_block W P D t).trans (sum_chunks (biasTerm W P D)))).trans (chunk_sum (biasTerm W P D))
  refine (congrFun ey y).trans ?_
  exact congrArg (fun i : S128x1024.Idx => ((∑ r, biasTerm W P D r (i 0) (i 1) : ℝ) : EReal)) (by blk_ext [fl.2.2.2.2.2])

end Cert.Kernel2Ideal.Arrays
-- ==== Proof.Mix.Results.lean ====
module

public import proofs.«01_k».proof.Proof.Mix.Ref

@[expose] public section

/-! # The reference's results -/

set_option maxRecDepth 100000

noncomputable section

namespace Cert.Reference2Ideal.Ref

open Idealize.ShloMosaic Idealize.ShloMosaic.TcCoe Idealize.SL.Sem Cert.Reference2Ideal Cert.Reference2Ideal.Gen Cert.Reference2Ideal.Value Cert.Reals Cert.Row Cert.Mix

/-- A sum whose result index is reached from one index only. -/
theorem sum_one {s t : Shape} {axes : List (Fin s.rank)} (hr : s.ReducesTo axes t) (v : s.Idx → EReal) (j : t.Idx) (i : s.Idx)
    (h0 : hr.drop i = j) (h1 : ∀ k, hr.drop k = j → k = i) : Ideal.hostReduceAdd hr v 0 j = v i := by
  rw [Ideal.hostReduceAdd, zero_add]
  exact Finset.sum_eq_single_of_mem i (Finset.mem_filter.mpr ⟨Finset.mem_univ _, h0⟩) fun k hk ne => absurd (h1 k (Finset.mem_filter.mp hk).2) ne

theorem sum_leading {n : ℕ} (hr : (⟨3, ![1, 1, n]⟩ : Shape).ReducesTo [0, 1] ⟨1, ![n]⟩) (v : (⟨3, ![1, 1, n]⟩ : Shape).Idx → EReal) (k : Fin n) :
    Ideal.hostReduceAdd hr v 0 (ix1 k) = v (ix3 0 0 k) := by
  refine sum_one hr v _ _ ?_ fun i e => ?_
  · funext a
    fin_cases a
    rfl
  · have e2 : i 2 = k := congrFun e 0
    have e0 : (i 0).val = 0 := Nat.lt_one_iff.mp (i 0).isLt
    have e1 : (i 1).val = 0 := Nat.lt_one_iff.mp (i 1).isLt
    funext a
    fin_cases a
    · exact Fin.ext e0
    · exact Fin.ext e1
    · exact e2

theorem sum_leading5 (v : S1x1x128x8x128.Idx → EReal) (a : Fin 128) (b : Fin 8) (c : Fin 128) :
    Ideal.hostReduceAdd reducesTo_S1x1x128x8x128_S128x8x128_d0_1 v 0 (ix3 a b c) = v (ix5 0 0 a b c) := by
  refine sum_one _ v _ _ ?_ fun i e => ?_
  · funext a
    fin_cases a <;> rfl
  · have e2 : i 2 = a := congrFun e 0
    have e3 : i 3 = b := congrFun e 1
    have e4 : i 4 = c := congrFun e 2
    have e0 : (i 0).val = 0 := Nat.lt_one_iff.mp (i 0).isLt
    have e1 : (i 1).val = 0 := Nat.lt_one_iff.mp (i 1).isLt
    funext a
    fin_cases a
    · exact Fin.ext e0
    · exact Fin.ext e1
    · exact e2
    · exact e3
    · exact e4

variable (W : Cert.Mix.Weights) (P : Fin 16384 → Fin 8704 → ℝ) (D : Fin 16384 → Fin 1024 → ℝ) (V0 : Valuation τ sig (Elt Ideal)) (h : RealArgs W P D V0)

include h in
theorem du_tower : addf (addf (mulf (res_main_v154 V0) (res_main_v73 V0)) (res_main_v220 V0)) (mulf (mulf (broadcastInDim S1x16384x1024 ![] bcast_S_S1x16384x1024 (res_main_v53 V0)) (res_main_v220 V0)) (mulf (broadcastInDim S1x16384x1024 ![] bcast_S_S1x16384x1024 (constant S_ .f32 0x40400000#32)) (mulf (res_main_v7 V0) (res_main_v7 V0)))) =
    cube (du W P D) := by
  rw [v220 W P D V0 h, v154 W P D V0 h, v73 W P D V0 h, v53 V0, v7 W P D V0 h]
  exact parts_cube _ _

include h in
theorem dv_tower : addf (addf (mulf (res_main_v198 V0) (res_main_v95 V0)) (res_main_v208 V0)) (mulf (mulf (broadcastInDim S1x16384x1024 ![] bcast_S_S1x16384x1024 (res_main_v75 V0)) (res_main_v208 V0)) (mulf (broadcastInDim S1x16384x1024 ![] bcast_S_S1x16384x1024 (constant S_ .f32 0x40400000#32)) (mulf (res_main_v8 V0) (res_main_v8 V0)))) =
    cube (dv W P D) := by
  rw [v208 W P D V0 h, v198 W P D V0 h, v95 W P D V0 h, v75 V0, v8 W P D V0 h]
  exact parts_cube _ _

/-- The part of a row that starts at column `l`. -/
def part (l : ℕ) {n : ℕ} (f : Fin n → ℝ) (j : ℕ) : ℝ := if h : l ≤ j ∧ j - l < n then f ⟨j - l, h.2⟩ else 0

theorem part_in {l n j : ℕ} (f : Fin n → ℝ) (h : l ≤ j ∧ j - l < n) : part l f j = f ⟨j - l, h.2⟩ := dif_pos h

theorem part_out {l n j : ℕ} (f : Fin n → ℝ) (h : ¬(l ≤ j ∧ j - l < n)) : part l f j = 0 := dif_neg h

/-- Six padded parts added up. -/
theorem six_parts (f1 f2 f3 : Fin 16384 → Fin 1536 → ℝ) (f4 f5 : Fin 16384 → Fin 1024 → ℝ) (f6 : Fin 16384 → Fin 2048 → ℝ) :
    truncf .bf16 (shapeCast _ (addf (addf (addf (addf (addf (pad S1x16384x8704 ![0, 0, 6656] ![0, 0, 0] ![0, 0, 0] (both f6) (constant S_ .f32 0x00000000#32) pads_S1x16384x2048_S1x16384x8704_000_000_665600 h_S_) (pad S1x16384x8704 ![0, 0, 5632] ![0, 0, 2048] ![0, 0, 0] (cube f5) (constant S_ .f32 0x00000000#32) pads_S1x16384x1024_S1x16384x8704_000_000_563220480 h_S_)) (pad S1x16384x8704 ![0, 0, 4608] ![0, 0, 3072] ![0, 0, 0] (cube f4) (constant S_ .f32 0x00000000#32) pads_S1x16384x1024_S1x16384x8704_000_000_460830720 h_S_)) (pad S1x16384x8704 ![0, 0, 3072] ![0, 0, 4096] ![0, 0, 0] (wide f3) (constant S_ .f32 0x00000000#32) pads_S1x16384x1536_S1x16384x8704_000_000_307240960 h_S_)) (pad S1x16384x8704 ![0, 0, 1536] ![0, 0, 5632] ![0, 0, 0] (wide f2) (constant S_ .f32 0x00000000#32) pads_S1x16384x1536_S1x16384x8704_000_000_153656320 h_S_)) (pad S1x16384x8704 ![0, 0, 0] ![0, 0, 7168] ![0, 0, 0] (wide f1) (constant S_ .f32 0x00000000#32) pads_S1x16384x1536_S1x16384x8704_000_000_071680 h_S_)) shapeCasts_S1x16384x8704_S16384x8704) bitsLt_bf16_f32 =
    (fun i => ((part 6656 (f6 (i 0)) (i 1).val + part 5632 (f5 (i 0)) (i 1).val + part 4608 (f4 (i 0)) (i 1).val + part 3072 (f3 (i 0)) (i 1).val
      + part 1536 (f2 (i 0)) (i 1).val + part 0 (f1 (i 0)) (i 1).val : ℝ) : EReal) : FVec Ideal S16384x8704 .bf16) := by
  rw [pad_both, pad_cube, pad_cube, pad_wide, pad_wide, pad_wide]
  funext i
  idx_vars i
  pointwise []
  simp only [← EReal.coe_add]
  simp only [part, Nat.zero_le, true_and, Nat.sub_zero]

theorem dp_parts (r : Fin 16384) (j : Fin 8704) :
    part 6656 (gateTerm W P D r) j.val + part 5632 (dv W P D r) j.val + part 4608 (du W P D r) j.val
      + part 3072 (fun c => chanC (P r) c * dch W P D r c) j.val + part 1536 (fun c => dch W P D r c * chanH (P r) c) j.val
      + part 0 (fun c => da W (P r) (D r) c * cv W P r c) j.val = dp W P D r j := by
  have hj := j.isLt
  rw [dp]
  by_cases h1 : j.val < 1536
  · rw [dif_pos h1, part_out _ (by omega), part_out _ (by omega), part_out _ (by omega), part_out _ (by omega), part_out _ (by omega), part_in _ ⟨Nat.zero_le _, h1⟩]
    simp only [zero_add]
    rfl
  rw [dif_neg h1, part_out (l := 0) _ (by omega)]
  by_cases h2 : j.val < 3072
  · rw [dif_pos h2, part_out _ (by omega), part_out _ (by omega), part_out _ (by omega), part_out _ (by omega), part_in _ ⟨by omega, by omega⟩]
    simp only [zero_add, add_zero]
  rw [dif_neg h2, part_out (l := 1536) _ (by omega)]
  by_cases h3 : j.val < 4608
  · rw [dif_pos h3, part_out _ (by omega), part_out _ (by omega), part_out _ (by omega), part_in _ ⟨by omega, by omega⟩]
    simp only [zero_add, add_zero, mul_comm]
  rw [dif_neg h3, part_out (l := 3072) _ (by omega)]
  by_cases h4 : j.val < 5632
  · rw [dif_pos h4, part_out _ (by omega), part_out _ (by omega), part_in _ ⟨by omega, by omega⟩]
    simp only [zero_add, add_zero]
  rw [dif_neg h4, part_out (l := 4608) _ (by omega)]
  by_cases h5 : j.val < 6656
  · rw [dif_pos h5, part_out _ (by omega), part_in _ ⟨by omega, by omega⟩]
    simp only [zero_add, add_zero]
  rw [dif_neg h5, part_out (l := 5632) _ (by omega), part_in _ ⟨by omega, by omega⟩]
  simp only [add_zero]

include h in
/-- The gradient of the projections. -/
theorem result_dp : truncf .bf16 (shapeCast _ (addf (addf (addf (addf (addf (pad S1x16384x8704 ![0, 0, 6656] ![0, 0, 0] ![0, 0, 0] (res_main_v268 V0) (constant S_ .f32 0x00000000#32) pads_S1x16384x2048_S1x16384x8704_000_000_665600 h_S_) (pad S1x16384x8704 ![0, 0, 5632] ![0, 0, 2048] ![0, 0, 0] (addf (addf (mulf (res_main_v198 V0) (res_main_v95 V0)) (res_main_v208 V0)) (mulf (mulf (broadcastInDim S1x16384x1024 ![] bcast_S_S1x16384x1024 (res_main_v75 V0)) (res_main_v208 V0)) (mulf (broadcastInDim S1x16384x1024 ![] bcast_S_S1x16384x1024 (constant S_ .f32 0x40400000#32)) (mulf (res_main_v8 V0) (res_main_v8 V0))))) (constant S_ .f32 0x00000000#32) pads_S1x16384x1024_S1x16384x8704_000_000_563220480 h_S_)) (pad S1x16384x8704 ![0, 0, 4608] ![0, 0, 3072] ![0, 0, 0] (addf (addf (mulf (res_main_v154 V0) (res_main_v73 V0)) (res_main_v220 V0)) (mulf (mulf (broadcastInDim S1x16384x1024 ![] bcast_S_S1x16384x1024 (res_main_v53 V0)) (res_main_v220 V0)) (mulf (broadcastInDim S1x16384x1024 ![] bcast_S_S1x16384x1024 (constant S_ .f32 0x40400000#32)) (mulf (res_main_v7 V0) (res_main_v7 V0))))) (constant S_ .f32 0x00000000#32) pads_S1x16384x1024_S1x16384x8704_000_000_460830720 h_S_)) (pad S1x16384x8704 ![0, 0, 3072] ![0, 0, 4096] ![0, 0, 0] (mulf (res_main_v5 V0) (res_main_v260 V0)) (constant S_ .f32 0x00000000#32) pads_S1x16384x1536_S1x16384x8704_000_000_307240960 h_S_)) (pad S1x16384x8704 ![0, 0, 1536] ![0, 0, 5632] ![0, 0, 0] (mulf (res_main_v260 V0) (res_main_v6 V0)) (constant S_ .f32 0x00000000#32) pads_S1x16384x1536_S1x16384x8704_000_000_153656320 h_S_)) (pad S1x16384x8704 ![0, 0, 0] ![0, 0, 7168] ![0, 0, 0] (mulf (res_main_v152 V0) (res_main_v51 V0)) (constant S_ .f32 0x00000000#32) pads_S1x16384x1536_S1x16384x8704_000_000_071680 h_S_)) shapeCasts_S1x16384x8704_S16384x8704) bitsLt_bf16_f32 =
    (fun i => ((dp W P D (i 0) (i 1) : ℝ) : EReal) : FVec Ideal S16384x8704 .bf16) := by
  rw [du_tower W P D V0 h, dv_tower W P D V0 h, v268 W P D V0 h, v5 W P D V0 h, v6 W P D V0 h, v260 W P D V0 h, v152 W P D V0 h, v51 W P D V0 h,
    mulf_wide, mulf_wide, mulf_wide]
  refine (six_parts _ _ _ _ _ _).trans ?_
  funext i
  exact congrArg _ (dp_parts W P D _ _)

include h in
theorem result_ab : truncf .bf16 (shapeCast _ (res_main_v52 V0) shapeCasts_S1x16384x1536_S16384x1536) bitsLt_bf16_f32 =
    (fun i => ((a W P (i 0) (i 1) : ℝ) : EReal) : FVec Ideal S16384x1536 .bf16) := by
  rw [v52 W P D V0 h]
  funext i
  idx_vars i
  pointwise [wide]

/-- The rows of a real array, without the axis of the batch. -/
theorem flat_cube (f : Fin 16384 → Fin 1024 → ℝ) : truncf .bf16 (shapeCast S16384x1024 (cube f) shapeCasts_S1x16384x1024_S16384x1024) bitsLt_bf16_f32 =
    (fun i => ((f (i 0) (i 1) : ℝ) : EReal) : FVec Ideal S16384x1024 .bf16) := by
  funext i
  idx_vars i
  pointwise [cube]

include h in
theorem result_bbb : truncf .bf16 (shapeCast _ (res_main_v136 V0) shapeCasts_S1x16384x1024_S16384x1024) bitsLt_bf16_f32 =
    (fun i => ((bb W P (i 0) (i 1) : ℝ) : EReal) : FVec Ideal S16384x1024 .bf16) := by
  rw [v136 W P D V0 h]
  exact flat_cube _

include h in
theorem result_zb : truncf .bf16 (shapeCast _ (res_main_v143 V0) shapeCasts_S1x16384x1024_S16384x1024) bitsLt_bf16_f32 =
    (fun i => ((z W P (i 0) (i 1) : ℝ) : EReal) : FVec Ideal S16384x1024 .bf16) := by
  rw [v143 W P D V0 h]
  exact flat_cube _

include h in
theorem result_dyab : truncf .bf16 (shapeCast _ (res_main_v149 V0) shapeCasts_S1x16384x1024_S16384x1024) bitsLt_bf16_f32 =
    (fun i => ((dya W (P (i 0)) (D (i 0)) (i 1) : ℝ) : EReal) : FVec Ideal S16384x1024 .bf16) := by
  rw [v149 W P D V0 h]
  exact flat_cube _

include h in
theorem result_dybb : truncf .bf16 (shapeCast _ (res_main_v147 V0) shapeCasts_S1x16384x1024_S16384x1024) bitsLt_bf16_f32 =
    (fun i => ((dyb W (P (i 0)) (D (i 0)) (i 1) : ℝ) : EReal) : FVec Ideal S16384x1024 .bf16) := by
  rw [v147 W P D V0 h]
  exact flat_cube _

include h in
/-- The gradient of the gates' bias. -/
theorem result_dbg : concatenate S8x2048 0 [⟨S1x2048, (broadcastInDim S1x2048 ![1] bcast_S2048_S1x2048_1 (Host.reduceAdd (shapeCast _ (Host.reduceAdd (res_main_v268 V0) (constant S_ .f32 0x00000000#32) reducesTo_S1x16384x2048_S1x2048_d1 h_S_) shapeCasts_S1x2048_S1x1x2048) (constant S_ .f32 0x00000000#32) reducesTo_S1x1x2048_S2048_d0_1 h_S_))⟩, ⟨S7x2048, (broadcastInDim S7x2048 ![] bcast_S_S7x2048 (constant S_ .f32 0x00000000#32))⟩] concatenates_S1x2048_S7x2048_S8x2048_d0 =
    (fun i => ((∑ r, gateRows W P D r (i 0) (i 1) : ℝ) : EReal) : FVec Ideal S8x2048 .f32) := by
  rw [v268 W P D V0 h]
  funext i
  idx_vars i
  pointwise []
  rw [sum_leading]
  pointwise [both]
  simp only [← coe_sum, gateRows]
  by_cases h0 : i0.val = 0
  · simp only [if_pos h0]
    rw [dif_pos (by omega)]
  · simp only [if_neg h0, Finset.sum_const_zero, EReal.coe_zero]
    rw [dif_neg (by omega)]

/-- One row of reals. -/
def lineOf (g : Fin 1536 → ℝ) : FVec Ideal S1x1536 .f32 := fun i => ((g (i 1) : ℝ) : EReal)

/-- The sum of all rows of the convolution's channels, as one row. -/
theorem wide_sum (f : Fin 16384 → Fin 1536 → ℝ) : broadcastInDim S1x1536 ![1] bcast_S1536_S1x1536_1 (Host.reduceAdd (shapeCast _ (Host.reduceAdd (wide f) (constant S_ .f32 0x00000000#32) reducesTo_S1x16384x1536_S1x1536_d1 h_S_) shapeCasts_S1x1536_S1x1x1536) (constant S_ .f32 0x00000000#32) reducesTo_S1x1x1536_S1536_d0_1 h_S_) =
    lineOf fun c => ∑ r, f r c := by
  funext i
  idx_vars i
  pointwise []
  rw [sum_leading]
  pointwise [wide, lineOf]
  simp only [← coe_sum]

/-- One row among three, zero elsewhere. -/
theorem pad_row (l h : ℕ) (g : Fin 1536 → ℝ) (hp : S1x1536.Pads ![l, 0] ![h, 0] ![0, 0] S3x1536) :
    pad S3x1536 ![l, 0] ![h, 0] ![0, 0] (lineOf g) (constant (F := Ideal) S_ .f32 0x00000000#32) hp h_S_ =
      (fun i => ((if (i 0).val = l then g (i 1) else 0 : ℝ) : EReal) : FVec Ideal S3x1536 .f32) := by
  funext i
  have hi : (i 1).val < 1536 := (i 1).isLt
  by_cases e : (i 0).val = l
  · rw [if_pos e]
    refine pad_apply_of_inside _ _ _ _ _ hp h_S_ _ (ix2 0 ⟨(i 1).val, hi⟩) fun a => ?_
    fin_cases a
    · exact e
    · show (i 1).val = 0 + (i 1).val * (0 + 1)
      omega
  · rw [if_neg e]
    refine Eq.trans ?_ ofBits_zero
    exact pad_apply_of_not_inside _ _ _ _ _ hp h_S_ _ 0 fun q => e (by
      have q1 : l ≤ (i 0).val := q.1
      have q2 : ((i 0).val - l) / (0 + 1) < 1 := q.2.2
      omega)

include h in
/-- The gradient of the convolution's weights. -/
theorem result_dcw : concatenate S8x1536 0 [⟨S3x1536, (shapeCast _ (broadcastInDim S1x3x1536 ![1, 2] bcast_S3x1536_S1x3x1536_1_2 (addf (addf (pad S3x1536 ![2, 0] ![0, 0] ![0, 0] (broadcastInDim S1x1536 ![1] bcast_S1536_S1x1536_1 (Host.reduceAdd (shapeCast _ (Host.reduceAdd (mulf (res_main_v45 V0) (res_main_v226 V0)) (constant S_ .f32 0x00000000#32) reducesTo_S1x16384x1536_S1x1536_d1 h_S_) shapeCasts_S1x1536_S1x1x1536) (constant S_ .f32 0x00000000#32) reducesTo_S1x1x1536_S1536_d0_1 h_S_)) (constant S_ .f32 0x00000000#32) pads_S1x1536_S3x1536_200_000 h_S_) (pad S3x1536 ![1, 0] ![1, 0] ![0, 0] (broadcastInDim S1x1536 ![1] bcast_S1536_S1x1536_1 (Host.reduceAdd (shapeCast _ (Host.reduceAdd (mulf (res_main_v38 V0) (res_main_v226 V0)) (constant S_ .f32 0x00000000#32) reducesTo_S1x16384x1536_S1x1536_d1 h_S_) shapeCasts_S1x1536_S1x1x1536) (constant S_ .f32 0x00000000#32) reducesTo_S1x1x1536_S1536_d0_1 h_S_)) (constant S_ .f32 0x00000000#32) pads_S1x1536_S3x1536_110_000 h_S_)) (pad S3x1536 ![0, 0] ![2, 0] ![0, 0] (broadcastInDim S1x1536 ![1] bcast_S1536_S1x1536_1 (Host.reduceAdd (shapeCast _ (Host.reduceAdd (mulf (res_main_v32 V0) (res_main_v226 V0)) (constant S_ .f32 0x00000000#32) reducesTo_S1x16384x1536_S1x1536_d1 h_S_) shapeCasts_S1x1536_S1x1x1536) (constant S_ .f32 0x00000000#32) reducesTo_S1x1x1536_S1536_d0_1 h_S_)) (constant S_ .f32 0x00000000#32) pads_S1x1536_S3x1536_020_000 h_S_))) shapeCasts_S1x3x1536_S3x1536)⟩, ⟨S5x1536, (broadcastInDim S5x1536 ![] bcast_S_S5x1536 (constant S_ .f32 0x00000000#32))⟩] concatenates_S3x1536_S5x1536_S8x1536_d0 =
    (fun i => ((∑ r, convTerm W P D r (i 0) (i 1) : ℝ) : EReal) : FVec Ideal S8x1536 .f32) := by
  rw [v45 W P D V0 h, v38 W P D V0 h, v32 W P D V0 h, v226 W P D V0 h, mulf_wide, mulf_wide, mulf_wide, wide_sum, wide_sum, wide_sum, pad_row, pad_row, pad_row]
  funext i
  idx_vars i
  pointwise []
  simp only [← EReal.coe_add]
  revert i0
  simp [Fin.forall_fin_succ, convTerm, mul_comm]

/-- The sum of all rows, as one row. -/
def sumRow (v : FVec Ideal S1x16384x1024 .f32) : FVec Ideal S1x1024 .f32 :=
  broadcastInDim S1x1024 ![1] bcast_S1024_S1x1024_1 (Host.reduceAdd (shapeCast _ (Host.reduceAdd v (constant S_ .f32 0x00000000#32)
    reducesTo_S1x16384x1024_S1x1024_d1 h_S_) shapeCasts_S1x1024_S1x1x1024) (constant S_ .f32 0x00000000#32) reducesTo_S1x1x1024_S1024_d0_1 h_S_)

theorem sumRow_real (f : Fin 16384 → Fin 1024 → ℝ) : sumRow (cube f) = fun i => ((∑ r, f r (i 1) : ℝ) : EReal) := by
  funext i
  idx_vars i
  pointwise [sumRow]
  rw [sum_leading]
  pointwise [cube]
  simp only [← coe_sum]

include h in
/-- The gradient of the norm's gain and bias. -/
theorem result_dvgb : (concatenate S8x1024 0 [⟨S1x1024, (sumRow (mulf (res_main_v122 V0) (res_main_v163 V0)) : (⟨S1x1024, .f32⟩ : BufTy).Contents (Elt Ideal))⟩, ⟨S1x1024, (sumRow (res_main_v163 V0) : (⟨S1x1024, .f32⟩ : BufTy).Contents (Elt Ideal))⟩, ⟨S6x1024, ((broadcastInDim S6x1024 ![] bcast_S_S6x1024 (constant (F := Ideal) S_ .f32 0x00000000#32)) : (⟨S6x1024, .f32⟩ : BufTy).Contents (Elt Ideal))⟩] concatenates_S1x1024_S1x1024_S6x1024_S8x1024_d0 : (⟨S8x1024, .f32⟩ : BufTy).Contents (Elt Ideal)) =
    (fun i => ((∑ r, normTerm W P D r (i 0) (i 1) : ℝ) : EReal) : FVec Ideal S8x1024 .f32) := by
  rw [v122 W P D V0 h, v163 W P D V0 h, mulf_cube, sumRow_real, sumRow_real]
  funext i
  idx_vars i
  pointwise []
  simp only [mul_comm (xhat _ _)]
  revert i0
  simp [Fin.forall_fin_succ, normTerm]

/-- The index of a chunk and a column of a head, among what the gradient of the spatial weights sums over. -/
def chunkIdx (p : Fin 128 × Fin 128) : dot_S8x1x128x128x128_S1x128x128x8x128_S8x128x128_123_014_4_2_0_3.contr.Idx
  | ⟨0, _⟩ => (0 : Fin 1)
  | ⟨1, _⟩ => p.1
  | ⟨2, _⟩ => p.2

include h in
/-- The gradient of the spatial weights. -/
theorem result_dws : shapeCast _ (broadcastInDim S1x8x128x128 ![1, 2, 3] bcast_S8x128x128_S1x8x128x128_1_2_3 (Host.dotGeneral dot_S8x1x128x128x128_S1x128x128x8x128_S8x128x128_123_014_4_2_0_3 (φ₂ := .f32) none (res_main_v159 V0) (res_main_v129 V0))) shapeCasts_S1x8x128x128_S8x128x128 =
    (fun i => ((∑ q, spatialTerm W P D q (i 0) (i 1) (i 2) : ℝ) : EReal) : FVec Ideal S8x128x128 .f32) := by
  rw [res_main_v159, v155 W P D V0 h, v129 W P D V0 h]
  funext i
  idx_vars i
  pointwise []
  rw [Ideal.matmul, zero_add]
  refine (Finset.sum_nbij' (t := Finset.univ) (g := fun p : Fin 128 × Fin 128 => ((dmixed W (P (chunkRow p.1 i1)) (D (chunkRow p.1 i1)) (headCol i0 p.2) * vn W (P (chunkRow p.1 i2)) (headCol i0 p.2) : ℝ) : EReal))
    (fun k => (⟨(k ⟨1, by decide⟩).val, (k ⟨1, by decide⟩).isLt⟩, ⟨(k ⟨2, by decide⟩).val, (k ⟨2, by decide⟩).isLt⟩)) (fun p => chunkIdx p) ?_ ?_ ?_ ?_ ?_).trans ?_
  · exact fun _ _ => Finset.mem_univ _
  · exact fun _ _ => Finset.mem_univ _
  · intro k _
    funext x
    fin_cases x
    · exact Subsingleton.elim (α := Fin 1) _ _
    · rfl
    · rfl
  · intro p _
    rfl
  · intro k _
    rw [EReal.coe_mul]
    rfl
  · rw [← coe_sum, Fintype.sum_prod_type]
    rfl

include h in
/-- The gradient of the spread bias. -/
theorem result_dbs : shapeCast _ (Host.reduceAdd (shapeCast _ (Host.reduceAdd (res_main_v155 V0) (constant S_ .f32 0x00000000#32) reducesTo_S1x128x128x8x128_S1x128x8x128_d1 h_S_) shapeCasts_S1x128x8x128_S1x1x128x8x128) (constant S_ .f32 0x00000000#32) reducesTo_S1x1x128x8x128_S128x8x128_d0_1 h_S_) shapeCasts_S128x8x128_S128x1024 =
    (fun i => ((∑ q, biasTerm W P D q (i 0) (i 1) : ℝ) : EReal) : FVec Ideal S128x1024 .f32) := by
  rw [v155 W P D V0 h]
  funext i
  idx_vars i
  pointwise []
  rw [sum_leading5]
  pointwise [chunks]
  simp only [← coe_sum, headCol_head]
  rfl

end Cert.Reference2Ideal.Ref
-- ==== Proof.Mix.Finite.lean ====
module

public import proofs.«01_k».proof.Proof.Finite

@[expose] public section

noncomputable section

namespace Cert.Pre_finite2

open Idealize.ShloMosaic Idealize.ShloMosaic.TcCoe Idealize.SL.Sem

/-- The shape relations of the precondition. -/
theorem facts : Facts where
  bcast_S_S1x16384x8704 := by decide
  reducesTo_S1x16384x8704_S_d0_1_2 := by decide
  h_S_ := by decide
  bcast_S_S1x2048 := by decide
  reducesTo_S1x2048_S_d0_1 := by decide
  bcast_S_S1x3x1536 := by decide
  reducesTo_S1x3x1536_S_d0_1_2 := by decide
  bcast_S_S1x1024 := by decide
  reducesTo_S1x1024_S_d0_1 := by decide
  bcast_S_S1x8x128x128 := by decide
  reducesTo_S1x8x128x128_S_d0_1_2_3 := by decide
  bcast_S_S1x8x128 := by decide
  reducesTo_S1x8x128_S_d0_1_2 := by decide
  bcast_S_S1x1536x1024 := by decide
  reducesTo_S1x1536x1024_S_d0_1_2 := by decide
  bcast_S_S1x1024x1024 := by decide
  reducesTo_S1x1024x1024_S_d0_1_2 := by decide
  bcast_S_S1x16384x1024 := by decide
  reducesTo_S1x16384x1024_S_d0_1_2 := by decide

/-- The precondition: every argument is real. -/
theorem real (a0 : FVec Ideal S1x16384x8704 .f32) (a1 : FVec Ideal S1x2048 .f32) (a2 : FVec Ideal S1x3x1536 .f32) (a3 : FVec Ideal S1x1024 .f32) (a4 : FVec Ideal S1x1024 .f32) (a5 : FVec Ideal S1x8x128x128 .f32) (a6 : FVec Ideal S1x8x128 .f32) (a7 : FVec Ideal S1x1536x1024 .f32) (a8 : FVec Ideal S1x1024x1024 .f32) (a9 : FVec Ideal S1x1024x1024 .f32) (a10 : FVec Ideal S1x16384x1024 .f32) (j : S_.Idx)
    (e : @fn facts Ideal _ a0 a1 a2 a3 a4 a5 a6 a7 a8 a9 a10 j = 1#1) :
      (∃ f : S1x16384x8704.Idx → ℝ, a0 = fun i => ((f i : ℝ) : EReal)) ∧
      (∃ f : S1x2048.Idx → ℝ, a1 = fun i => ((f i : ℝ) : EReal)) ∧
      (∃ f : S1x3x1536.Idx → ℝ, a2 = fun i => ((f i : ℝ) : EReal)) ∧
      (∃ f : S1x1024.Idx → ℝ, a3 = fun i => ((f i : ℝ) : EReal)) ∧
      (∃ f : S1x1024.Idx → ℝ, a4 = fun i => ((f i : ℝ) : EReal)) ∧
      (∃ f : S1x8x128x128.Idx → ℝ, a5 = fun i => ((f i : ℝ) : EReal)) ∧
      (∃ f : S1x8x128.Idx → ℝ, a6 = fun i => ((f i : ℝ) : EReal)) ∧
      (∃ f : S1x1536x1024.Idx → ℝ, a7 = fun i => ((f i : ℝ) : EReal)) ∧
      (∃ f : S1x1024x1024.Idx → ℝ, a8 = fun i => ((f i : ℝ) : EReal)) ∧
      (∃ f : S1x1024x1024.Idx → ℝ, a9 = fun i => ((f i : ℝ) : EReal)) ∧
      (∃ f : S1x16384x1024.Idx → ℝ, a10 = fun i => ((f i : ℝ) : EReal)) := by
  haveI := facts
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨Pre_finite.real_of_all _ _ _ _ j h0, Pre_finite.real_of_all _ _ _ _ j h1, Pre_finite.real_of_all _ _ _ _ j h2, Pre_finite.real_of_all _ _ _ _ j h3, Pre_finite.real_of_all _ _ _ _ j h4, Pre_finite.real_of_all _ _ _ _ j h5, Pre_finite.real_of_all _ _ _ _ j h6, Pre_finite.real_of_all _ _ _ _ j h7, Pre_finite.real_of_all _ _ _ _ j h8, Pre_finite.real_of_all _ _ _ _ j h9, Pre_finite.real_of_all _ _ _ _ j h10⟩

end Cert.Pre_finite2
-- ==== Proof.Pair.Cells.lean ====
module

public import proofs.«01_k».proof.Proof.Gen.Kernel4Ideal
public import proofs.«01_k».proof.Proof.Gen.Kernel4Ideal.Skeleton
public import Idealize.ShloMosaic.Lib.SparseCore.Quiescent
public import Idealize.ShloMosaic.Lib.StableHlo.Run
public import Idealize.ShloMosaic.Lib.Tactic
public import Idealize.ShloMosaic.Lib.Pipeline.Kit

@[expose] public section

/-! # The exchange with the sibling: the program as the launch theorem sees it, its arrays and its semaphore cells

Each device sends its sibling (the other core of its chip) the half of each array the sibling is to keep. Five cells
a device: the barrier, and for each of the two arrays the sender's semaphore and the receiver's. -/

noncomputable section

namespace Cert.Pair

open Cert.Kernel4Ideal Cert.Kernel4Ideal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the exchange's, one duty a cell -/

abbrev UH : Type := URounds (GSem nD τ sig) ℕ
abbrev UX : Type := URounds (GSem nD τ sig) Unit
abbrev UU : Type := UH × UX

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EX : Emb UX (MT nD τ sig (HIx 1) (Elt F) ℕ UU ℕ) :=
  (Emb.inr : Emb UX UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EX_landsIn : (EX : Emb UX 𝕄).LandsIn (upEmb : UEmb _ 𝕄) := by unfold EX; infer_instance

theorem ownU_pair (a : UH) (b : UX) : (ownU (a, b) : sProp 𝕄) ⊢ iprop(BI.own (EH a) ∗ BI.own (EX b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

variable (m : (ℓ : Loc nD τ sig) → Buf (Elt F) ℓ)
variable [FloatOps F] [∀ e, Nonempty (Elt F e)]

/-! ## Siblings and arrays -/

/-- The other core of the same chip. -/
def sib : Dev nD → Dev nD := ![1, 0, 3, 2, 5, 4, 7, 6]
theorem sib_sib : ∀ d, sib (sib d) = d := by decide
def sibEquiv : Dev nD ≃ Dev nD := ⟨sib, sib, sib_sib, sib_sib⟩
theorem dev1 (d : Dev nD) : (⟨k0_dev1 d, k0_dev1_lt d⟩ : Dev nD) = sib d := by revert d; decide +kernel
theorem dev2 (d : Dev nD) : (⟨k0_dev2 d, k0_dev2_lt d⟩ : Dev nD) = sib d := by revert d; decide +kernel
theorem dev3 (d : Dev nD) : (⟨k0_dev3 d, k0_dev3_lt d⟩ : Dev nD) = sib d := by revert d; decide +kernel

/-- The two arrays sent and the two received, on device `d`. -/
abbrev locX0 (d : Dev nD) : Loc nD τ sig := (SparseCore.T d).loc main_arg0
abbrev locX1 (d : Dev nD) : Loc nD τ sig := (SparseCore.T d).loc main_arg1
abbrev locY0 (d : Dev nD) : Loc nD τ sig := (SparseCore.T d).loc main_v3_0
abbrev locY1 (d : Dev nD) : Loc nD τ sig := (SparseCore.T d).loc main_v3_1
abbrev mX0 : Memref sig .scScalar .hbm S4x1024x1024 .f32 := Memref.whole main_arg0_scs
abbrev mX1 : Memref sig .scScalar .hbm S4x1024x1024 .f32 := Memref.whole main_arg1_scs
abbrev mY0 : Memref sig .scScalar .hbm S4x512x1024 .f32 := Memref.whole main_v3_0_scs
abbrev mY1 : Memref sig .scScalar .hbm S4x512x1024 .f32 := Memref.whole main_v3_1_scs

/-- The half device `d` sends: the rows its sibling keeps. -/
abbrev halfR (d : Dev nD) : Rect S4x1024x1024 := Rect.unit (s := S4x1024x1024) (k0_off1 d) S4x512x1024.size (k0_off1_inb d)
abbrev halfSet (d : Dev nD) : Finset S4x1024x1024.Idx := (halfR d).set
abbrev half (M : Memref sig .scScalar .hbm S4x1024x1024 .f32) (d : Dev nD) : Memref sig .scScalar .hbm S4x512x1024 .f32 := M.slice (halfR d) (fun _ => rfl)

theorem set_half0 (d : Dev nD) : (half mX0 d).view.set = halfSet d := View.set_slice_whole _ _
theorem set_half1 (d : Dev nD) : (half mX1 d).view.set = halfSet d := View.set_slice_whole _ _

/-- What one transfer credits. -/
abbrev N : ℕ := mY0.view.dmaCredit
theorem N_pos : 0 < N := View.dmaCredit_pos _ (by decide)
theorem N_y1 : mY1.view.dmaCredit = N := by decide
theorem N_x0 (d : Dev nD) : (half mX0 d).view.dmaCredit = N := by revert d; decide +kernel
theorem N_x1 (d : Dev nD) : (half mX1 d).view.dmaCredit = N := by revert d; decide +kernel

/-- What device `d` receives: its sibling's half. -/
def got0 (d : Dev nD) : Buf (Elt F) (locY0 d) := (half mX0 (sib d)).view.read (Elt F) (m (locX0 (sib d)))
def got1 (d : Dev nD) : Buf (Elt F) (locY1 d) := (half mX1 (sib d)).view.read (Elt F) (m (locX1 (sib d)))

/-! ## The kernel on SparseCore 0 -/

def coordsS (c : Fin (grid0.bound 0)) : grid0.Coords := fun | 0 => c | ⟨_ + 1, h⟩ => absurd h (Nat.not_lt.2 (Nat.le_add_left _ _))
abbrev L₀ : grid0.Coords := coordsS ⟨0, by decide⟩
/-- SparseCore 0, spelled as the kernel's own processor term. -/
abbrev c₀ : Fin τ.nSC := (L₀ 0).castLE hcore0
theorem c₀_val : c₀.val = 0 := by decide

theorem defs₀_scalar (c : Fin τ.nSC) :
    defs₀ (F := F) (.scScalar c) 0 () = SparseCore.onCore hcore0 (fun c => cc0_pair_ff (coordsS c) mX0 (Memref.isWhole_whole _) mY0 (Memref.isWhole_whole _) mX1 (Memref.isWhole_whole _) mY1 (Memref.isWhole_whole _)
      mY0 (Memref.isWhole_whole _) mY1 (Memref.isWhole_whole _) cc0_scratch0 cc0_scratch1) ⟨⟩ c := rfl
abbrev kern : Prog (TpuEff nD τ sig (Elt F) Λ₀ (.scScalar c₀)) PUnit :=
  cc0_pair_ff L₀ mX0 (Memref.isWhole_whole _) mY0 (Memref.isWhole_whole _) mX1 (Memref.isWhole_whole _) mY1 (Memref.isWhole_whole _) mY0 (Memref.isWhole_whole _) mY1 (Memref.isWhole_whole _) cc0_scratch0 cc0_scratch1

/-! ## The cells -/

/-- The semaphores: the barrier, then per array the sender's and the receiver's. -/
abbrev bar : Sem sig := (SemArray.scalar (sig.barrier 3 rfl) : Sems sig S_).sem
abbrev snd0 : DmaSem sig := ((cc0_scratch0.slice (Rect.unit (s := S3) ![0] S1.size inb_S3_S1_0)).squeeze S_ squeezes_S1_S_).sem
abbrev rcv0 : DmaSem sig := ((cc0_scratch1.slice (Rect.unit (s := S3) ![0] S1.size inb_S3_S1_0)).squeeze S_ squeezes_S1_S_).sem
abbrev snd1 : DmaSem sig := ((cc0_scratch0.slice (Rect.unit (s := S3) ![1] S1.size inb_S3_S1_1)).squeeze S_ squeezes_S1_S_).sem
abbrev rcv1 : DmaSem sig := ((cc0_scratch1.slice (Rect.unit (s := S3) ![1] S1.size inb_S3_S1_1)).squeeze S_ squeezes_S1_S_).sem

abbrev asem : Fin 5 → SemLoc sig := fun
  | 0 => .reg bar
  | 1 => .dma snd0
  | 2 => .dma rcv0
  | 3 => .dma snd1
  | 4 => .dma rcv1
/-- Which cell a semaphore is. -/
def num (s : SemLoc sig) : Fin 5 := if s = asem 1 then 1 else if s = asem 2 then 2 else if s = asem 3 then 3 else if s = asem 4 then 4 else 0
theorem num_asem (j : Fin 5) : num (asem j) = j := by revert j; decide
/-- Cell `j` of device `d`. -/
abbrev cell (d : Dev nD) (j : Fin 5) : GSem nD τ sig := (S d c₀, asem j)

theorem cell_injective : Function.Injective fun x : Dev nD × Fin 5 => cell x.1 x.2 := fun a b e => by
  have h := Prod.mk.inj e
  exact Prod.ext (Prod.mk.inj h.1).1 (by rw [← num_asem a.2, ← num_asem b.2, h.2])

def cells : Finset (GSem nD τ sig) := Finset.univ.image fun x : Dev nD × Fin 5 => cell x.1 x.2
theorem mem_cells (d : Dev nD) (j : Fin 5) : cell d j ∈ cells := Finset.mem_image_of_mem (fun x : Dev nD × Fin 5 => cell x.1 x.2) (Finset.mem_univ (d, j))
theorem bigSep_cells (Φ : GSem nD τ sig → sProp 𝕄) : bigSep cells Φ = bigSep Finset.univ fun x : Dev nD × Fin 5 => Φ (cell x.1 x.2) :=
  SparseCore.bigSep_image_of_injOn (fun a _ b _ e => cell_injective e) Φ

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The barriers, which no scope closes; the transfers' cells, which the kernel holds from the launch. -/
def bars : Finset (GSem nD τ sig) := Finset.univ.image fun d : Dev nD => cell d 0
def dmas : Finset (GSem nD τ sig) := Finset.univ.image fun x : Dev nD × Fin 4 => cell x.1 x.2.succ

theorem bar_ne_start : (SemLoc.reg bar : SemLoc sig) ≠ .reg sc_start := by decide
theorem bar_ne_done : (SemLoc.reg bar : SemLoc sig) ≠ .reg sc_taskDone := by decide

/-- The cell's level: transfers above the barrier. -/
abbrev lv (j : Fin 5) : ℕ := if j = 0 then 3 else 5
theorem lev_cell (d : Dev nD) : ∀ j : Fin 5, (K (F := F)).lev (cell d j) (some 0) = lv j
  | 0 => (K (F := F)).lev_S_reg d c₀ (s := bar) (fun h => bar_ne_start (congrArg _ h)) (fun h => bar_ne_done (congrArg _ h)) 0
  | 1 => (K (F := F)).lev_S_dma d c₀ snd0 0
  | 2 => (K (F := F)).lev_S_dma d c₀ rcv0 0
  | 3 => (K (F := F)).lev_S_dma d c₀ snd1 0
  | 4 => (K (F := F)).lev_S_dma d c₀ rcv1 0
theorem lv_band (j : Fin 5) : 3 ≤ lv j ∧ lv j ≤ 5 := by revert j; decide

/-- A wait on a cell is admissible under debts above it and whatever the launch owes. -/
theorem mayWait (d : Dev nD) (j : Fin 5) (O : CellTallies nD τ sig (HIx 1)) (hO : ∀ g ι, 0 < O g ι → 8 * (0 : Fin 1).val + 7 ≤ (K (F := F)).lev g ι)
    (X : CellTallies nD τ sig (HIx 1)) (hX : ∀ g ι, 0 < X g ι → lv j < (K (F := F)).lev g ι) :
    (levAts (K (F := F)).L (K (F := F)).lev : sProp 𝕄) ⊢ MayWait (S d c₀) (asem j) (some 0) (O + X) :=
  (K (F := F)).mayOwe_of_bound (lv j) (fun p hp => by rw [Finset.mem_singleton] at hp; subst hp; exact (lev_cell d j).le)
    fun g ι hg => by
      rw [Pi.add_apply, Finsupp.add_apply] at hg
      rcases Nat.add_pos_iff_pos_or_pos.mp hg with h | h
      · exact lt_of_lt_of_le (lt_of_le_of_lt (lv_band j).2 (by decide)) (hO g ι h)
      · exact hX g ι h
theorem mayWait' (d : Dev nD) (j : Fin 5) (O : CellTallies nD τ sig (HIx 1)) (hO : ∀ g ι, 0 < O g ι → 8 * (0 : Fin 1).val + 7 ≤ (K (F := F)).lev g ι) :
    (levAts (K (F := F)).L (K (F := F)).lev : sProp 𝕄) ⊢ MayWait (S d c₀) (asem j) (some 0) O := by
  have h := mayWait (F := F) d j O hO 0 (fun g ι h => absurd h (lt_irrefl 0))
  rwa [add_zero] at h

/-! ## The cells' counters at the launch and at the exit -/

theorem inter_other (d : Dev nD) (c : Fin τ.nSC) (hc : c ≠ c₀) : ownCells (sig := sig) (S d c) ∩ dmas = ∅ := by
  ext g
  simp only [Finset.mem_inter, mem_ownCells, dmas, Finset.mem_image, Finset.mem_univ, true_and, Finset.notMem_empty, iff_false, not_and, not_exists]
  rintro ⟨hg, -⟩ x rfl
  exact hc (Proc.scScalar.inj (Prod.mk.inj hg).2).symm

theorem inter_c₀ (d : Dev nD) : ownCells (sig := sig) (S d c₀) ∩ dmas = (Finset.univ : Finset (Fin 4)).image fun j => cell d j.succ := by
  ext g
  simp only [Finset.mem_inter, mem_ownCells, dmas, Finset.mem_image, Finset.mem_univ, true_and, Prod.exists]
  constructor
  · rintro ⟨⟨hg, -⟩, d', j, rfl⟩
    obtain rfl : d' = d := (Prod.mk.inj hg).1
    exact ⟨j, rfl⟩
  · rintro ⟨j, rfl⟩
    exact ⟨⟨rfl, by show (asem j.succ).isScoped .scScalar = true; revert j; decide⟩, d, j, rfl⟩

theorem heldOf (d : Dev nD) : (bigSep (ownCells (sig := sig) (S d c₀) ∩ dmas) fun g => (semVal g 0 : sProp 𝕄))
    = iprop(semVal (cell d 1) 0 ∗ semVal (cell d 2) 0 ∗ semVal (cell d 3) 0 ∗ semVal (cell d 4) 0) := by
  rw [inter_c₀, SparseCore.bigSep_image_of_injOn (fun a _ b _ e => Fin.succ_injective _ (Prod.mk.inj (cell_injective (a₁ := (d, a.succ)) (a₂ := (d, b.succ)) e)).2)]
  exact bigSep_univ_eq_bigSepL [0, 1, 2, 3] (by decide) (by decide) _

set_option maxRecDepth 8000 in
theorem sems_dma (P : (K (F := F)).Pay (nD := nD) (Val := Elt F) (Name := ℕ) (U := UU)) (hP : P.held = dmas) :
    (P.heldSems0 : sProp 𝕄) ⊢ bigSep Finset.univ fun d : Dev nD => iprop(semVal (cell d 1) 0 ∗ semVal (cell d 2) 0 ∗ semVal (cell d 3) 0 ∗ semVal (cell d 4) 0) := by
  change (bigSep Finset.univ fun dc : Dev nD × Fin τ.nSC => bigSep (ownCells (S dc.1 dc.2) ∩ P.held) fun g => (semVal g 0 : sProp 𝕄)) ⊢ _
  rw [hP, bigSep_univ_prod (fun dc : Dev nD × Fin τ.nSC => bigSep (ownCells (S dc.1 dc.2) ∩ dmas) fun g => (semVal g 0 : sProp 𝕄))]
  exact bigSep_mono fun d _ => (bigSep_elim (Φ := fun c : Fin τ.nSC => bigSep (ownCells (S d c) ∩ dmas) fun g => (semVal g 0 : sProp 𝕄)) (i := c₀)
    (Finset.mem_univ _)).trans (Entails.of_eq (heldOf d))

theorem sems_bar : ((K (F := F)).freeOn (· ∈ bars) : sProp 𝕄) ⊢ bigSep Finset.univ fun d : Dev nD => semVal (cell d 0) 0 := by
  unfold SparseCore.Cfg.freeOn
  refine sep_elim_left.trans ?_
  rw [bigSep_univ_prod]
  refine bigSep_mono fun d _ => (bigSep_elim (i := c₀) (Finset.mem_univ _)).trans ?_
  exact bigSep_elim (i := (SemLoc.reg bar : SemLoc sig)) (Φ := fun sm : SemLoc sig => (semVal (S d c₀, sm) 0 : sProp 𝕄)) (Finset.mem_filter.mpr
    ⟨Finset.mem_erase.mpr ⟨bar_ne_done, Finset.mem_erase.mpr ⟨bar_ne_start, Finset.mem_filter.mpr ⟨Finset.mem_univ _, by decide⟩⟩⟩,
      Finset.mem_image_of_mem (fun d : Dev nD => cell d 0) (Finset.mem_univ d)⟩)

/-- Every cell at zero, from the launch. -/
theorem sems_all (P : (K (F := F)).Pay (nD := nD) (Val := Elt F) (Name := ℕ) (U := UU)) (hP : P.held = dmas) :
    iprop((K (F := F)).freeOn (· ∈ bars) ∗ P.heldSems0) ⊢ (bigSep cells fun g => semVal g 0 : sProp 𝕄) := by
  rw [bigSep_cells, bigSep_univ_prod (fun x : Dev nD × Fin 5 => (semVal (cell x.1 x.2) 0 : sProp 𝕄))]
  simp only [bigSep_five]
  rw [bigSep_sep']
  exact BI.sep_mono sems_bar (sems_dma P hP)

set_option maxRecDepth 65536 in
/-- The scoped semaphores at the exit: the transfers' cells closed, the others as handed. -/
theorem exitSems (P : (K (F := F)).Pay (nD := nD) (Val := Elt F) (Name := ℕ) (U := UU)) (hP : P.held = dmas) (d : Dev nD) :
    iprop((P.ownSems0' (S d c₀) ∗ semVal (cell d 1) 0 ∗ semVal (cell d 2) 0 ∗ semVal (cell d 3) 0 ∗ semVal (cell d 4) 0) ∗ bigSep Finset.univ fun i : Fin τ.nSub => scopedSems0 (V d c₀ i))
      ⊢ (scopedSems0 (S d c₀) : sProp 𝕄) := by
  iintro ⟨⟨Hown, Hcells⟩, Hsubs⟩
  iapply (SparseCore.Cfg.scopedSems0_S_intro (Val := Elt F) d c₀)
  isplitl [Hown Hcells]
  · iapply (SparseCore.ent (Entails.of_eq ((P.ownSems0_split (S d c₀)).trans (by rw [hP, heldOf])).symm))
    isplitl [Hown]; · iexact Hown
    iexact Hcells
  · iexact Hsubs

end Cert.Pair

end
-- ==== Proof.Pair.Schedule.lean ====
module

public import proofs.«01_k».proof.Proof.Pair.Cells

@[expose] public section

/-! # The exchange's schedule: what each cell's one round hands over, who owes it and who holds its token

A device's barrier hands it its sibling's two result arrays, to be written; its sender's cells give the halves it sent
back; its receiver's cells hand it its own result arrays, holding what its sibling sent. -/

noncomputable section

namespace Cert.Pair

open Cert.Kernel4Ideal Cert.Kernel4Ideal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} (m : (ℓ : Loc nD τ sig) → Buf (Elt F) ℓ) [FloatOps F] [∀ e, Nonempty (Elt F e)]

local notation "𝕄" => MT nD τ sig (HIx 1) (Elt F) ℕ UU ℕ

/-- What cell `j`'s round hands device `d`. -/
def pay (d : Dev nD) : Fin 5 → sProp 𝕄
  | 0 => iprop((∃ f, locY0 (sib d) ↦{fullShare} f) ∗ (∃ f, locY1 (sib d) ↦{fullShare} f))
  | 1 => iprop(locX0 d ↦[halfSet d]{fullShare} m (locX0 d))
  | 2 => iprop(locY0 d ↦{fullShare} got0 m d)
  | 3 => iprop(locX1 d ↦[halfSet d]{fullShare} m (locX1 d))
  | 4 => iprop(locY1 d ↦{fullShare} got1 m d)
/-- How much it takes: one signal, or one transfer. -/
abbrev amt (j : Fin 5) : ℕ := if j = 0 then 1 else N
theorem amt_pos (j : Fin 5) : 0 < amt j := by
  unfold amt; split; exacts [Nat.one_pos, N_pos]

instance pay_storable (d : Dev nD) : ∀ j, BI.Storable (upEmb : UEmb _ 𝕄) (pay m d j)
  | 0 => by unfold pay; infer_instance
  | 1 => by unfold pay; infer_instance
  | 2 => by unfold pay; infer_instance
  | 3 => by unfold pay; infer_instance
  | 4 => by unfold pay; infer_instance

def Rd : Rounds.Schedule (GSem nD τ sig) Unit 𝕄 where
  duties g r := if r = 0 ∧ g ∈ cells then {()} else ∅
  unitless _ := False
  amount g _ _ := amt (num g.2)
  payload g _ _ := pay m g.1.1 (num g.2)
  amount_pos _ _ _ _ := amt_pos _

instance Rd_storable (g : GSem nD τ sig) (r : ℕ) (s : Unit) : BI.Storable (upEmb : UEmb _ 𝕄) ((Rd (F := F) m).payload g r s) :=
  pay_storable m g.1.1 (num g.2)

theorem duties_later (g : GSem nD τ sig) (r : ℕ) (hr : 1 ≤ r) : (Rd (F := F) m).duties g r = ∅ := if_neg fun h => by omega
theorem duties_cell (d : Dev nD) (j : Fin 5) : (Rd (F := F) m).duties (cell d j) 0 = {()} := if_pos ⟨rfl, mem_cells d j⟩
theorem mem_duties (d : Dev nD) (j : Fin 5) : () ∈ (Rd (F := F) m).duties (cell d j) 0 := by rw [duties_cell]; exact Finset.mem_singleton_self _
theorem amount_cell (d : Dev nD) (j : Fin 5) : (Rd (F := F) m).amount (cell d j) 0 () = amt j := by
  show amt (num (asem j)) = _; rw [num_asem]
theorem payload_cell (d : Dev nD) (j : Fin 5) : (Rd (F := F) m).payload (cell d j) 0 () = pay m d j := by
  show pay m d (num (asem j)) = _; rw [num_asem]
theorem expect_cell (d : Dev nD) (j : Fin 5) : (Rd (F := F) m).expect (cell d j) 0 = amt j := by
  unfold Schedule.expect Schedule.amountOf
  rw [duties_cell, Finset.sum_singleton, amount_cell]
theorem rest_cell (d : Dev nD) (j : Fin 5) :
    (bigSep ((Rd (F := F) m).duties (cell d j) 0 \ ∅) fun s => (Rd (F := F) m).payload (cell d j) 0 s) = pay m d j := by
  rw [duties_cell, Finset.sdiff_empty, bigSep_singleton, payload_cell]

/-! ## What is owed: each sequencer its sibling's barrier and both transfers -/

/-- The cells owed to device `p`. -/
abbrev owing : Fin 3 → Fin 5 := ![0, 2, 4]
def owedTo (p : Dev nD) : CellTallies nD τ sig (HIx 1) := ∑ e : Fin 3, tallyAt (cell p (owing e)) (some 0) (amt (owing e))
def owe (d : Dev nD) : CellTallies nD τ sig (HIx 1) := owedTo (sib d)

theorem owe_pos {d : Dev nD} {g : GSem nD τ sig} {ι : HIx 1} (h : 0 < owe d g ι) : ∃ e, g = cell (sib d) (owing e) ∧ ι = some 0 := by
  unfold owe owedTo at h
  rw [Finset.sum_apply, Finsupp.finsetSum_apply] at h
  obtain ⟨e, -, he⟩ := Finset.exists_ne_zero_of_sum_ne_zero (Nat.pos_iff_ne_zero.mp h)
  rw [tallyAt_apply] at he
  split at he
  · next hg => exact ⟨e, hg.1, hg.2⟩
  · exact absurd rfl he
theorem owe_band {d : Dev nD} {g : GSem nD τ sig} {ι : HIx 1} (h : 0 < owe d g ι) :
    8 * (0 : Fin 1).val + 3 ≤ (K (F := F)).lev g ι ∧ (K (F := F)).lev g ι ≤ 8 * (0 : Fin 1).val + 5 := by
  obtain ⟨e, rfl, rfl⟩ := owe_pos h
  rw [lev_cell]; exact lv_band _

/-- One after the other: the last transfer, the first, the barrier. -/
theorem owe_eq (d : Dev nD) : owe d = tallyAt (cell (sib d) 4) (some 0) N + tallyAt (cell (sib d) 2) (some 0) N + tallyAt (cell (sib d) 0) (some 0) 1 := by
  unfold owe owedTo
  rw [Fin.sum_univ_three, add_comm, add_comm (tallyAt (cell (sib d) (owing 0)) _ _), ← add_assoc]
  rfl

theorem owe_regroup : ∑ d : Dev nD, owe d = ∑ p : Dev nD, owedTo p := Equiv.sum_comp sibEquiv owedTo

/-- The credit device `p` is dealt. -/
abbrev creds (p : Dev nD) : sProp 𝕄 := bigSep Finset.univ fun e : Fin 3 => cred (tallyAt (cell p (owing e)) (some 0) (amt (owing e)))
theorem cred_owedTo (p : Dev nD) : (cred (owedTo p) : sProp 𝕄) = creds p := by unfold owedTo; rw [SparseCore.Cfg.cred_finsum]
theorem creds_eq (p : Dev nD) : (creds p : sProp 𝕄)
    = iprop(cred (tallyAt (cell p 0) (some 0) 1) ∗ cred (tallyAt (cell p 2) (some 0) N) ∗ cred (tallyAt (cell p 4) (some 0) N)) :=
  bigSep_univ_eq_bigSepL [0, 1, 2] (by decide) (by decide) _

/-! ## The tokens: the sibling's barrier and receiver's cells, one's own sender's -/

/-- Whose cell `j` device `d` may pay. -/
def dst (d : Dev nD) (j : Fin 5) : Dev nD := if j.val % 2 = 0 then sib d else d
def gtok (x : Dev nD × Fin 5) : GSem nD τ sig × ℕ × Unit := (cell (dst x.1 x.2) x.2, 0, ())
theorem gtok_injective : Function.Injective gtok := fun a b e => by
  have h := cell_injective (a₁ := (dst a.1 a.2, a.2)) (a₂ := (dst b.1 b.2, b.2)) (Prod.mk.inj e).1
  obtain ⟨h1, h2⟩ := Prod.mk.inj h
  obtain ⟨d, j⟩ := a; obtain ⟨d', j'⟩ := b
  obtain rfl : j = j' := h2
  refine Prod.ext ?_ rfl
  have h3 : dst d j = dst d' j := h1
  unfold dst at h3
  split at h3
  · exact sibEquiv.injective h3
  · exact h3
def toks : Finset (GSem nD τ sig × ℕ × Unit) := Finset.univ.image gtok
abbrev toksOf (d : Dev nD) : sProp 𝕄 := bigSep Finset.univ fun j : Fin 5 => dutyTok EX (cell (dst d j) j) 0 ()
theorem toks_eq : (bigSep toks fun x => (dutyTok EX x.1 x.2.1 x.2.2 : sProp 𝕄)) = bigSep Finset.univ fun d : Dev nD => toksOf d := by
  unfold toks
  rw [SparseCore.bigSep_image_of_injOn (fun a _ b _ e => gtok_injective e), bigSep_univ_prod]
  rfl

/-! ## What each device is handed -/

abbrev invs (κ : GSem nD τ sig → ℕ) : sProp 𝕄 := bigSep Finset.univ fun x : Dev nD × Fin 5 => cellInv EX (Rd (F := F) m) (κ (cell x.1 x.2)) (cell x.1 x.2)
abbrev begun : sProp 𝕄 := bigSep Finset.univ fun x : Dev nD × Fin 5 => reached EX (cell x.1 x.2) 0
/-- What all are handed alike, -/
abbrev shared : sProp 𝕄 := iprop((∃ κ : GSem nD τ sig → ℕ, invs (F := F) m κ) ∗ begun)
abbrev places (d : Dev nD) : sProp 𝕄 := bigSep Finset.univ fun j : Fin 5 => atPos EX (cell d j) 0 ∅ 0
/-- and each of its own. -/
abbrev mine (d : Dev nD) : sProp 𝕄 := iprop(places d ∗ toksOf d ∗ creds d)
def kit (d : Dev nD) : sProp 𝕄 := iprop(shared m ∗ mine d)

theorem inv_of (κ : GSem nD τ sig → ℕ) (p : Dev nD) (j : Fin 5) : invs (F := F) m κ ⊢ cellInv EX (Rd (F := F) m) (κ (cell p j)) (cell p j) :=
  bigSep_elim (Φ := fun x : Dev nD × Fin 5 => cellInv EX (Rd (F := F) m) (κ (cell x.1 x.2)) (cell x.1 x.2)) (i := (p, j)) (Finset.mem_univ _)
theorem begun_of (p : Dev nD) (j : Fin 5) : (begun : sProp 𝕄) ⊢ reached EX (cell p j) 0 :=
  bigSep_elim (Φ := fun x : Dev nD × Fin 5 => (reached EX (cell x.1 x.2) 0 : sProp 𝕄)) (i := (p, j)) (Finset.mem_univ _)

theorem invs_alloc : iprop((bigSep cells fun g => (semVal g 0 : sProp 𝕄)) ∗ bigSep cells fun g => roundState EX (Rd (F := F) m) g 0)
    ⊢ |={Set.univ}=> iprop(∃ κ : GSem nD τ sig → ℕ, invs m κ) := by
  refine (Rounds.bodies_intro EX (Rd (F := F) m) cells).trans ((inv_alloc_family cells (Rounds.body EX (Rd (F := F) m)) ∅ (E := Set.univ)).trans ?_)
  iintro H
  imod H with ⟨%κ, -, Hinv⟩
  imodintro; iexists κ
  iapply (SparseCore.ent (Entails.of_eq (bigSep_cells (fun g => (cellInv EX (Rd (F := F) m) (κ g) g : sProp 𝕄)))))
  iexact Hinv

/-! ## The steps -/

/-- The signal to the sibling's barrier. -/
theorem signalled (κ : GSem nD τ sig → ℕ) (d p : Dev nD) (hp : p = sib d) (n : ℕ) (hn : n = 1) (O : CellTallies nD τ sig (HIx 1)) (W : Waits sig (HIx 1))
    {β : Type} {cont : PUnit → Prog (TpuEff nD τ sig (Elt F) Λ₀ (.scScalar c₀)) β} {Q : β → sProp 𝕄} :
    iprop(cellInv EX (Rd (F := F) m) (κ (cell (sib d) 0)) (cell (sib d) 0) ∗ owes (S d c₀) (O + tallyAt (cell (sib d) 0) (some 0) 1) W
        ∗ dutyTok EX (cell (sib d) 0) 0 () ∗ pay m (sib d) 0 ∗ reached EX (cell (sib d) 0) 0)
      ⊢ iprop((owes (S d c₀) O W -∗ wp frame (wpE (defs₀ (F := F)) 𝒱₀ (S d c₀) none) Set.univ (cont ⟨⟩) Q)
          -∗ wp frame (wpE (defs₀ (F := F)) 𝒱₀ (S d c₀) none) Set.univ (.op (.semSignal (S p c₀) bar n) cont) Q) := by
  subst hp hn
  rw [← payload_cell m]
  exact Rounds.wp_signal 𝒱₀ EX (Rd (F := F) m) (S d c₀) none (dst := S (sib d) c₀) (κ := κ (cell (sib d) 0)) (r := 0) (d := ()) (mem_duties m (sib d) 0) (amount_cell m (sib d) 0) (some 0) O rfl

/-- The wait on one's own barrier: the sibling's result arrays. -/
theorem barriered (κ : GSem nD τ sig → ℕ) (d : Dev nD) (n : ℕ) (hn : n = 1) (O : CellTallies nD τ sig (HIx 1)) (W : Waits sig (HIx 1))
    {β : Type} {cont : PUnit → Prog (TpuEff nD τ sig (Elt F) Λ₀ (.scScalar c₀)) β} {Q : β → sProp 𝕄} :
    iprop(cellInv EX (Rd (F := F) m) (κ (cell d 0)) (cell d 0) ∗ cred (tallyAt (cell d 0) (some 0) 1)
        ∗ owes (S d c₀) O W ∗ MayWait (S d c₀) (asem 0) (some 0) O ∗ atPos EX (cell d 0) 0 ∅ 0)
      ⊢ iprop(((owes (S d c₀) O (insert (asem 0, some 0) W) ∗ atPos EX (cell d 0) 1 ∅ 0 ∗ pay m d 0)
            -∗ wp frame (wpE (defs₀ (F := F)) 𝒱₀ (S d c₀) none) Set.univ (cont ⟨⟩) Q)
          -∗ wp frame (wpE (defs₀ (F := F)) 𝒱₀ (S d c₀) none) Set.univ (.op (.semWait bar n) cont) Q) := by
  subst hn
  iintro H Hk
  iapply (Rounds.wp_wait_rest_token 𝒱₀ EX (Rd (F := F) m) (S d c₀) none (κ := κ (cell d 0)) (wpE_semWait_eq 𝒱₀ (S d c₀) none Set.univ) (Set.mem_univ _) (some 0)
    ((Nat.zero_add 1).trans (expect_cell m d 0).symm)) $$ H
  iintro ⟨HO, Hat, -, Hp⟩
  iapply Hk
  isplitl [HO]; · iexact HO
  isplitl [Hat]; · iexact Hat
  iapply (SparseCore.ent (Entails.of_eq (rest_cell m d 0))); iexact Hp

/-- A wait for one transfer on cell `j`: what its round hands over. -/
theorem waited (κ : GSem nD τ sig → ℕ) (d : Dev nD) (j : Fin 5) (hj : amt j = N) (s : DmaSem sig) (hs : asem j = .dma s) {sp sp' : Space} {sh : Shape} {e : EltTy}
    {src : Memref sig .scScalar sp sh e} {tgt : Memref sig .scScalar sp' sh e} {hsrc : src.view.WordExact} {htgt : tgt.view.WordExact} (hN : tgt.view.dmaCredit = N)
    (O : CellTallies nD τ sig (HIx 1)) (W : Waits sig (HIx 1)) {β : Type} {cont : PUnit → Prog (TpuEff nD τ sig (Elt F) Λ₀ (.scScalar c₀)) β} {Q : β → sProp 𝕄} :
    iprop(cellInv EX (Rd (F := F) m) (κ (cell d j)) (cell d j) ∗ cred (tallyAt (cell d j) (some 0) N)
        ∗ owes (S d c₀) O W ∗ MayWait (S d c₀) (asem j) (some 0) O ∗ atPos EX (cell d j) 0 ∅ 0)
      ⊢ iprop(((owes (S d c₀) O (insert (asem j, some 0) W) ∗ atPos EX (cell d j) 1 ∅ 0 ∗ pay m d j)
            -∗ wp frame (wpE (defs₀ (F := F)) 𝒱₀ (S d c₀) none) Set.univ (cont ⟨⟩) Q)
          -∗ wp frame (wpE (defs₀ (F := F)) 𝒱₀ (S d c₀) none) Set.univ (.op (.waitDma2 s src tgt hsrc htgt) cont) Q) := by
  have hk : 0 + N = (Rd (F := F) m).expect (cell d j) 0 := by rw [expect_cell, hj, Nat.zero_add]
  have h := Rounds.wp_wait_rest_token (defs := defs₀ (F := F)) (k := cont) (Q := Q) (O := O) (W := W) (T := ∅) (m := 0) (R := 0) 𝒱₀ EX (Rd (F := F) m) (S d c₀) none
    (w := .waitDma2 s src tgt hsrc htgt) (sm := asem j) (k' := N) (κ := κ (cell d j)) (fun L => by rw [wpE_waitDma2_eq, hN, hs]) (Set.mem_univ _) (some 0) hk
  iintro ⟨Hinv, Hc, HO, Hm, Hat⟩ Hk
  iapply h $$ [Hinv Hc HO Hm Hat]
  · isplitl [Hinv]; · iexact Hinv
    isplitl [Hc]; · iexact Hc
    isplitl [HO]; · iexact HO
    isplitl [Hm]; · iexact Hm
    iexact Hat
  iintro ⟨HO, Hat, -, Hp⟩
  iapply Hk
  isplitl [HO]; · iexact HO
  isplitl [Hat]; · iexact Hat
  iapply (SparseCore.ent (Entails.of_eq (rest_cell m d j))); iexact Hp

/-- A transfer of a half to the sibling: its landing pays the sender's cell here and the receiver's there. -/
theorem sent (κ : GSem nD τ sig → ℕ) (d p : Dev nD) (hp : p = sib d) (j k : Fin 5) (hj : amt j = N) (hk : amt k = N) (s t : DmaSem sig) (hs : asem j = .dma s) (ht : asem k = .dma t)
    {M : Memref sig .scScalar .hbm S4x1024x1024 .f32} {Y : Memref sig .scScalar .hbm S4x512x1024 .f32}
    {hsc : (Y : Memref sig (S p c₀).2.kind .hbm S4x512x1024 _).view.ref.isScScratch = false} {hsrc : (half M d).view.WordExact} {htgt : Y.view.WordExact}
    {hsem : DmaTarget.Typed .hbm (.dma t) (.remote (S p c₀) (Y : Memref sig (S p c₀).2.kind .hbm S4x512x1024 _) (.dma s) hsc)} (hN : Y.view.dmaCredit = N)
    (fs : Buf (Elt F) ((half M d).view.loc (S d c₀))) (fd : Buf (Elt F) (Y.view.loc (S (sib d) c₀)))
    (h₁ : ((half M d).view.loc (S d c₀) ↦[(half M d).view.set]{fullShare} fs) ⊢ pay m d j)
    (h₂ : (Y.view.loc (S (sib d) c₀) ↦[Y.view.set]{fullShare} (Y.view.write (Elt F) fd ((half M d).view.read (Elt F) fs) Finset.univ)) ⊢ pay m (sib d) k)
    (O : CellTallies nD τ sig (HIx 1)) (W : Waits sig (HIx 1)) {β : Type} {cont : PUnit → Prog (TpuEff nD τ sig (Elt F) Λ₀ (.scScalar c₀)) β} {Q : β → sProp 𝕄} :
    iprop(cellInv EX (Rd (F := F) m) (κ (cell d j)) (cell d j) ∗ cellInv EX (Rd (F := F) m) (κ (cell (sib d) k)) (cell (sib d) k)
        ∗ ((half M d).view.loc (S d c₀) ↦[(half M d).view.set]{fullShare} fs) ∗ (Y.view.loc (S (sib d) c₀) ↦[Y.view.set]{fullShare} fd)
        ∗ owes (S d c₀) (O + tallyAt (cell (sib d) k) (some 0) N) W
        ∗ dutyTok EX (cell d j) 0 () ∗ reached EX (cell d j) 0 ∗ dutyTok EX (cell (sib d) k) 0 () ∗ reached EX (cell (sib d) k) 0)
      ⊢ iprop(((cred (tallyAt (cell d j) (some 0) N) ∗ owes (S d c₀) O W) -∗ wp frame (wpE (defs₀ (F := F)) 𝒱₀ (S d c₀) none) Set.univ (cont ⟨⟩) Q)
          -∗ wp frame (wpE (defs₀ (F := F)) 𝒱₀ (S d c₀) none) Set.univ (.op (.enqueueDma (half M d) (.remote (S p c₀) Y (.dma s) hsc) (.dma t) hsrc htgt hsem) cont) Q) := by
  subst hp
  have e₁ : cell d j = (S d c₀, .dma s) := congrArg (Prod.mk _) hs
  have e₂ : cell (sib d) k = (S (sib d) c₀, .dma t) := congrArg (Prod.mk _) ht
  have m₁ := mem_duties m d j
  have m₂ := mem_duties m (sib d) k
  have a₁ := (amount_cell m d j).trans hj
  have a₂ := (amount_cell m (sib d) k).trans hk
  rw [← payload_cell m] at h₁ h₂
  rw [e₁] at m₁ a₁ h₁ ⊢
  rw [e₂] at m₂ a₂ h₂ ⊢
  exact Rounds.wp_send_pointsTo 𝒱₀ EX (Rd (F := F) m) (S d c₀) none (κ₁ := κ (S d c₀, .dma s)) (κ₂ := κ (S (sib d) c₀, .dma t)) (r₁ := 0) (r₂ := 0) (d₁ := ()) (d₂ := ())
    m₁ m₂ (some 0) (some 0) N hN a₁ a₂ O rfl (W := W) h₁ h₂

end Cert.Pair

end
-- ==== Proof.Pair.Body.lean ====
module

public import proofs.«01_k».proof.Proof.Pair.Schedule

@[expose] public section

/-! # The exchange's kernel, step by step -/

noncomputable section

namespace Cert.Pair

open Cert.Kernel4Ideal Cert.Kernel4Ideal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} (m : (ℓ : Loc nD τ sig) → Buf (Elt F) ℓ) [FloatOps F] [∀ e, Nonempty (Elt F e)]

local notation "𝕄" => MT nD τ sig (HIx 1) (Elt F) ℕ UU ℕ

/-- What the kernel is given: its two arrays and room for the results; -/
abbrev before (d : Dev nD) : sProp 𝕄 :=
  iprop((locX0 d ↦{fullShare} m (locX0 d)) ∗ (locX1 d ↦{fullShare} m (locX1 d)) ∗ (∃ f, locY0 d ↦{fullShare} f) ∗ (∃ f, locY1 d ↦{fullShare} f))
/-- what it gives back: the arrays as they were, the results received, the barrier at zero. -/
abbrev afterwards (d : Dev nD) : sProp 𝕄 :=
  iprop((locX0 d ↦{fullShare} m (locX0 d)) ∗ (locX1 d ↦{fullShare} m (locX1 d)) ∗ (locY0 d ↦{fullShare} got0 m d) ∗ (locY1 d ↦{fullShare} got1 m d) ∗ semVal (cell d 0) 0)

theorem toksOf_eq (d : Dev nD) : (toksOf d : sProp 𝕄) = iprop(dutyTok EX (cell (sib d) 0) 0 () ∗ dutyTok EX (cell d 1) 0 () ∗ dutyTok EX (cell (sib d) 2) 0 ()
    ∗ dutyTok EX (cell d 3) 0 () ∗ dutyTok EX (cell (sib d) 4) 0 ()) := bigSep_five _
theorem places_eq (d : Dev nD) : (places d : sProp 𝕄) = iprop(atPos EX (cell d 0) 0 ∅ 0 ∗ atPos EX (cell d 1) 0 ∅ 0 ∗ atPos EX (cell d 2) 0 ∅ 0
    ∗ atPos EX (cell d 3) 0 ∅ 0 ∗ atPos EX (cell d 4) 0 ∅ 0) := bigSep_five _

/-- A cell whose round is over, closed. -/
theorem closed (κ : GSem nD τ sig → ℕ) (d : Dev nD) (j : Fin 5) :
    iprop(invs (F := F) m κ ∗ atPos EX (cell d j) 1 ∅ 0) ⊢ |={Set.univ}=> (semVal (cell d j) 0 : sProp 𝕄) := by
  iintro ⟨#Hinv, Hat⟩
  iapply (Rounds.cell_close EX (Rd (F := F) m) (Set.mem_univ (κ (cell d j))) (fun h => h) (duties_later m (cell d j)))
  isplitr; · iapply (inv_of m κ d j); iexact Hinv
  iexact Hat

theorem late (d : Dev nD) (j : Fin 5) (hj : j ≠ 0) : ∀ (g : GSem nD τ sig) (ι : HIx 1), 0 < tallyAt (cell d j) (some 0) N g ι → 3 < (K (F := F)).lev g ι := fun g ι h => by
  rw [tallyAt_apply] at h
  split at h
  · next hg => obtain ⟨rfl, rfl⟩ := hg; rw [lev_cell, lv, if_neg hj]; decide
  · exact absurd h (lt_irrefl 0)
theorem late2 (d : Dev nD) (g : GSem nD τ sig) (ι : HIx 1) (h : 0 < (tallyAt (cell d 4) (some 0) N + tallyAt (cell d 2) (some 0) N : CellTallies nD τ sig (HIx 1)) g ι) : lv 0 < (K (F := F)).lev g ι := by
  rw [Pi.add_apply, Finsupp.add_apply] at h
  rcases Nat.add_pos_iff_pos_or_pos.mp h with h | h
  · exact late d 4 (by decide) g ι h
  · exact late d 2 (by decide) g ι h

set_option maxHeartbeats 1000000 in
theorem body (d : Dev nD) (R : sProp 𝕄) (O : CellTallies nD τ sig (HIx 1)) (W : Waits sig (HIx 1)) (hO : ∀ g ι, 0 < O g ι → 8 * (0 : Fin 1).val + 7 ≤ (K (F := F)).lev g ι) :
    iprop(levAts (K (F := F)).L (K (F := F)).lev ∗ kit m d ∗ before m d ∗ R ∗ owes (S d c₀) (O + owe d) W)
      ⊢ wp frame (wpE (defs₀ (F := F)) 𝒱₀ (S d c₀) none) Set.univ (kern (F := F))
          fun _ => iprop(afterwards m d ∗ R ∗ (semVal (cell d 1) 0 ∗ semVal (cell d 2) 0 ∗ semVal (cell d 3) 0 ∗ semVal (cell d 4) 0)
            ∗ ∃ W', ⌜∀ p ∈ W', p ∈ W ∨ p.2 = none ∨ p.2 = some (0 : Fin 1)⌝ ∗ owes (S d c₀) O W') := by
  unfold kit mine
  rw [owe_eq, ← add_assoc O, creds_eq, toksOf_eq, places_eq]
  unfold kern
  simp only [cc0_pair_ff_eq_skeleton]; unfold cc0_pair_ff_skel
  simp only [k0_part1_eq_skeleton]; unfold k0_part1_skel
  simp only [k0_part2_eq_skeleton]; unfold k0_part2_skel
  simp only [k0_part3_eq_skeleton]; unfold k0_part3_skel
  simp only [semSignalWord, semWaitWord, Prog.lift, Prog.bind_op, Prog.bind_ret, Prog.pure_eq_ret, Prog.bind_assoc]
  iintro ⟨#Hlv, ⟨⟨⟨%κ, #Hinv⟩, #Hr⟩, ⟨Ha0, Ha1, Ha2, Ha3, Ha4⟩, ⟨Ht0, Ht1, Ht2, Ht3, Ht4⟩, Hc0, Hc2, Hc4⟩, ⟨Hx0, Hx1, Hy0, Hy1⟩, HR, HO⟩
  ihave Hx0' := (pointsTo_split_subset (ℓ := locX0 d) (Finset.subset_univ (halfSet d))).1 $$ Hx0
  icases Hx0' with ⟨Hx0, Hz0⟩
  ihave Hx1' := (pointsTo_split_subset (ℓ := locX1 d) (Finset.subset_univ (halfSet d))).1 $$ Hx1
  icases Hx1' with ⟨Hx1, Hz1⟩
  simp only [wp_deviceId]
  -- the result arrays handed to the sibling, its own received
  iapply (signalled m κ d _ (dev1 d) _ rfl (O + (tallyAt (cell (sib d) 4) (some 0) N + tallyAt (cell (sib d) 2) (some 0) N)) W) $$ [HO Ht0 Hy0 Hy1]
  · isplitr; · iapply (inv_of m κ (sib d) 0); iexact Hinv
    isplitl [HO]; · iexact HO
    isplitl [Ht0]; · iexact Ht0
    isplitl [Hy0 Hy1]
    · unfold pay; rw [sib_sib]
      isplitl [Hy0]; · iexact Hy0
      iexact Hy1
    iapply (begun_of (sib d) 0); iexact Hr
  iintro HO
  iapply (barriered m κ d _ rfl (O + (tallyAt (cell (sib d) 4) (some 0) N + tallyAt (cell (sib d) 2) (some 0) N)) W) $$ [Hc0 HO Ha0]
  · isplitr; · iapply (inv_of m κ d 0); iexact Hinv
    isplitl [Hc0]; · iexact Hc0
    isplitl [HO]; · iexact HO
    isplitr; · iapply (mayWait d 0 O hO _ (late2 (F := F) (sib d))); iexact Hlv
    iexact Ha0
  iintro ⟨HO, Ha0, Hp⟩
  unfold pay
  icases Hp with ⟨⟨%f0, Hy0⟩, ⟨%f1, Hy1⟩⟩
  -- the two halves sent
  iapply (sent m κ d _ (dev2 d) 1 2 (if_neg (by decide)) (if_neg (by decide)) snd0 rcv0 rfl rfl (M := mX0) (Y := mY0) rfl (m (locX0 d)) f0 ?s₀ ?r₀ (O + tallyAt (cell (sib d) 4) (some 0) N) _) $$ [Hx0 Hy0 HO Ht1 Ht2]
  case s₀ => unfold pay; rw [set_half0]
  case r₀ => unfold pay got0; rw [View.set_whole, View.write_whole_univ, sib_sib]
  · isplitr; · iapply (inv_of m κ d 1); iexact Hinv
    isplitr; · iapply (inv_of m κ (sib d) 2); iexact Hinv
    isplitl [Hx0]; · rw [set_half0]; iexact Hx0
    isplitl [Hy0]; · rw [View.set_whole]; iexact Hy0
    isplitl [HO]; · rw [add_assoc]; iexact HO
    isplitl [Ht1]; · iexact Ht1
    isplitr; · iapply (begun_of d 1); iexact Hr
    isplitl [Ht2]; · iexact Ht2
    iapply (begun_of (sib d) 2); iexact Hr
  iintro ⟨Hc1, HO⟩
  iapply (sent m κ d _ (dev3 d) 3 4 (if_neg (by decide)) (if_neg (by decide)) snd1 rcv1 rfl rfl (M := mX1) (Y := mY1) N_y1 (m (locX1 d)) f1 ?s₁ ?r₁ O _) $$ [Hx1 Hy1 HO Ht3 Ht4]
  case s₁ => unfold pay; rw [set_half1]
  case r₁ => unfold pay got1; rw [View.set_whole, View.write_whole_univ, sib_sib]
  · isplitr; · iapply (inv_of m κ d 3); iexact Hinv
    isplitr; · iapply (inv_of m κ (sib d) 4); iexact Hinv
    isplitl [Hx1]; · rw [set_half1]; iexact Hx1
    isplitl [Hy1]; · rw [View.set_whole]; iexact Hy1
    isplitl [HO]; · iexact HO
    isplitl [Ht3]; · iexact Ht3
    isplitr; · iapply (begun_of d 3); iexact Hr
    isplitl [Ht4]; · iexact Ht4
    iapply (begun_of (sib d) 4); iexact Hr
  iintro ⟨Hc3, HO⟩
  -- the four waits
  iapply (waited m κ d 1 (if_neg (by decide)) snd0 rfl (N_x0 d) O _) $$ [Hc1 HO Ha1]
  · isplitr; · iapply (inv_of m κ d 1); iexact Hinv
    isplitl [Hc1]; · iexact Hc1
    isplitl [HO]; · iexact HO
    isplitr; · iapply (mayWait' d 1 O hO); iexact Hlv
    iexact Ha1
  iintro ⟨HO, Ha1, Hx0⟩
  iapply (waited m κ d 2 (if_neg (by decide)) rcv0 rfl rfl O _) $$ [Hc2 HO Ha2]
  · isplitr; · iapply (inv_of m κ d 2); iexact Hinv
    isplitl [Hc2]; · iexact Hc2
    isplitl [HO]; · iexact HO
    isplitr; · iapply (mayWait' d 2 O hO); iexact Hlv
    iexact Ha2
  iintro ⟨HO, Ha2, Hy0⟩
  iapply (waited m κ d 3 (if_neg (by decide)) snd1 rfl (N_x1 d) O _) $$ [Hc3 HO Ha3]
  · isplitr; · iapply (inv_of m κ d 3); iexact Hinv
    isplitl [Hc3]; · iexact Hc3
    isplitl [HO]; · iexact HO
    isplitr; · iapply (mayWait' d 3 O hO); iexact Hlv
    iexact Ha3
  iintro ⟨HO, Ha3, Hx1⟩
  iapply (waited m κ d 4 (if_neg (by decide)) rcv1 rfl N_y1 O _) $$ [Hc4 HO Ha4]
  · isplitr; · iapply (inv_of m κ d 4); iexact Hinv
    isplitl [Hc4]; · iexact Hc4
    isplitl [HO]; · iexact HO
    isplitr; · iapply (mayWait' d 4 O hO); iexact Hlv
    iexact Ha4
  iintro ⟨HO, Ha4, Hy1⟩
  -- the cells closed
  rw [wp_ret]
  imod (closed m κ d 0) $$ [Ha0] with Hs0
  · isplitr; · iexact Hinv
    iexact Ha0
  imod (closed m κ d 1) $$ [Ha1] with Hs1
  · isplitr; · iexact Hinv
    iexact Ha1
  imod (closed m κ d 2) $$ [Ha2] with Hs2
  · isplitr; · iexact Hinv
    iexact Ha2
  imod (closed m κ d 3) $$ [Ha3] with Hs3
  · isplitr; · iexact Hinv
    iexact Ha3
  imod (closed m κ d 4) $$ [Ha4] with Hs4
  · isplitr; · iexact Hinv
    iexact Ha4
  imodintro
  unfold pay
  isplitl [Hx0 Hz0 Hx1 Hz1 Hy0 Hy1 Hs0]
  · isplitl [Hx0 Hz0]
    · iapply (SparseCore.ent (pointsTo_split_subset (ℓ := locX0 d) (Finset.subset_univ (halfSet d))).2)
      isplitl [Hx0] <;> iassumption
    isplitl [Hx1 Hz1]
    · iapply (SparseCore.ent (pointsTo_split_subset (ℓ := locX1 d) (Finset.subset_univ (halfSet d))).2)
      isplitl [Hx1] <;> iassumption
    isplitl [Hy0]; · iexact Hy0
    isplitl [Hy1]; · iexact Hy1
    iexact Hs0
  isplitl [HR]; · iexact HR
  isplitl [Hs1 Hs2 Hs3 Hs4]
  · isplitl [Hs1]; · iexact Hs1
    isplitl [Hs2]; · iexact Hs2
    isplitl [Hs3]; · iexact Hs3
    iexact Hs4
  iexists _
  isplitr
  swap
  · iexact HO
  ipureintro
  intro p hp
  simp only [Finset.mem_insert] at hp
  rcases hp with rfl | rfl | rfl | rfl | rfl | hp <;> first | exact .inr (.inr rfl) | exact .inl hp

end Cert.Pair

end
-- ==== Proof.Pair.Run.lean ====
module

public import proofs.«01_k».proof.Proof.Pair.Body

@[expose] public section

/-! # The exchange's run on the mesh

From any memory every fair run ends, the arrays sent as they were, the arrays received holding the siblings' halves,
every semaphore at zero. -/

set_option Elab.async false

noncomputable section

namespace Cert.Pair

open Cert.Kernel4Ideal Cert.Kernel4Ideal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within wp_allocateBuffer)

variable {F : FTy → Type} (m : (ℓ : Loc nD τ sig) → Buf (Elt F) ℓ) (ρ : Dev nD → PrngReg) [FloatOps F] [∀ e, Nonempty (Elt F e)]

local notation "𝕄" => MT nD τ sig (HIx 1) (Elt F) ℕ UU ℕ

/-! ## What the handshakes carry -/

set_option backward.proofsInPublic true in
def P : (K (F := F)).Pay (nD := nD) (Val := Elt F) (Name := ℕ) (U := UU) where
  st := fun _ d _ => before m d
  dn := fun _ d _ => afterwards m d
  go := fun _ _ _ _ => iprop(emp)
  td := fun _ _ _ _ => iprop(emp)
  x := fun _ thr => match thr with
    | (d, .scScalar c) => if c = c₀ then kit m d else iprop(emp)
    | _ => iprop(emp)
  ox := fun _ thr => match thr with
    | (d, .scScalar c) => if c = c₀ then owe d else 0
    | _ => 0
  ox_band := by
    intro q thr g ι h
    obtain rfl : q = 0 := Subsingleton.elim _ _
    rcases thr with ⟨d, _ | c | ⟨c, i⟩⟩
    · exact absurd h (lt_irrefl 0)
    · dsimp only at h
      split at h
      · exact owe_band h
      · exact absurd h (lt_irrefl 0)
    · exact absurd h (lt_irrefl 0)
  ox_tc := fun _ _ => rfl
  ox_sc := by
    intro q d c h
    obtain rfl : q = 0 := Subsingleton.elim _ _
    dsimp only at h
    split at h
    · next hc => subst hc; exact ⟨rfl, Nat.one_pos⟩
    · exact absurd rfl h
  ox_vc := fun _ _ _ _ h => absurd rfl h
  held := dmas
  held_vec := by
    intro q d c h
    obtain rfl : q = 0 := Subsingleton.elim _ _
    exact absurd h.1 fun e => nomatch e

instance P_storable : (P (F := F) m).IsStorable where
  st _ d _ := (inferInstance : BI.Storable (upEmb : UEmb _ 𝕄) (before m d))
  dn _ d _ := (inferInstance : BI.Storable (upEmb : UEmb _ 𝕄) (afterwards m d))
  go _ _ _ _ := (inferInstance : BI.Storable (upEmb : UEmb _ 𝕄) (iprop(emp) : sProp 𝕄))
  td _ _ _ _ := (inferInstance : BI.Storable (upEmb : UEmb _ 𝕄) (iprop(emp) : sProp 𝕄))

theorem P_held : (P (F := F) m).held = dmas := rfl
theorem x_tc (d : Dev nD) : (bigSep Finset.univ fun q : Fin 1 => (P (F := F) m).x q (SparseCore.T d)) = iprop(emp) := bigSep_univ_of_subsingleton (0 : Fin 1)
theorem x_sc (d : Dev nD) (c : Fin τ.nSC) : (bigSep Finset.univ fun q : Fin 1 => (P (F := F) m).x q (S d c)) = if c = c₀ then kit m d else iprop(emp) :=
  bigSep_univ_of_subsingleton (0 : Fin 1)
theorem x_vc (d : Dev nD) (c : Fin τ.nSC) (i : Fin τ.nSub) : (bigSep Finset.univ fun q : Fin 1 => (P (F := F) m).x q (V d c i)) = iprop(emp) :=
  bigSep_univ_of_subsingleton (0 : Fin 1)
theorem st_eq (d : Dev nD) : (bigSep Finset.univ fun c : Fin ((K (F := F)).nCore 0) => (P (F := F) m).st 0 d c) = before m d := bigSep_univ_of_subsingleton (0 : Fin 1)
theorem dn_eq (d : Dev nD) : (bigSep Finset.univ fun c : Fin ((K (F := F)).nCore 0) => (P (F := F) m).dn 0 d c) = afterwards m d := bigSep_univ_of_subsingleton (0 : Fin 1)

/-! ## The launch -/

theorem nothing {ι : Type} [DecidableEq ι] (s : Finset ι) : (bigSep s fun _ => (iprop(emp) : sProp 𝕄)) = iprop(emp) := bigSep_emp_const s

/-- The debts' credit, regrouped by whom they are owed to. -/
theorem credits : ((P (F := F) m).oxCred : sProp 𝕄) ⊢ bigSep Finset.univ fun d : Dev nD => creds d := by
  unfold SparseCore.Cfg.Pay.oxCred
  rw [SparseCore.Cfg.bigSep_threads (fun thr : Thread nD τ => (cred ((P (F := F) m).oxFrom 0 thr) : sProp 𝕄))]
  refine sep_elim_right.trans (sep_elim_left.trans ?_)
  have hox : ∀ dc : Dev nD × Fin τ.nSC, (P (F := F) m).oxFrom 0 (S dc.1 dc.2) = if dc.2 = c₀ then owe dc.1 else 0 := fun dc => by
    rw [show (0 : ℕ) = (0 : Fin 1).val from rfl, (P m).oxFrom_step, (P m).oxFrom_end _ (n := (0 : Fin 1).val + 1) le_rfl, add_zero]; rfl
  simp only [hox]
  rw [← SparseCore.Cfg.cred_finsum,
    show (∑ x : Dev nD × Fin τ.nSC, if x.2 = c₀ then owe x.1 else 0) = ∑ p : Dev nD, owedTo p from ?_,
    SparseCore.Cfg.cred_finsum]
  · exact bigSep_mono fun d _ => Entails.of_eq (cred_owedTo d)
  · rw [Fintype.sum_prod_type, ← owe_regroup]
    exact Finset.sum_congr rfl fun d _ => by rw [Fintype.sum_eq_single c₀ fun c hc => if_neg hc, if_pos rfl]

theorem kit_place (d : Dev nD) : iprop(shared (F := F) m ∗ mine d) ⊢ (bigSep Finset.univ fun c : Fin τ.nSC => if c = c₀ then kit m d else (iprop(emp) : sProp 𝕄)) := by
  rw [SparseCore.bigSep_erase' (Finset.mem_univ c₀), if_pos rfl]
  unfold kit
  iintro ⟨#Hsh, Hmine⟩
  isplitl [Hmine]
  · isplitr; · iexact Hsh
    iexact Hmine
  · iapply (SparseCore.ent (bigSep_mono (Φ := fun _ => iprop(emp)) (fun c hc => show iprop(emp) ⊢ (if c = c₀ then kit m d else (iprop(emp) : sProp 𝕄)) from
      Entails.of_eq (if_neg (Finset.ne_of_mem_erase hc)).symm)))
    rw [nothing]; iempintro

/-- What is shared, beside each device's own, to each device. -/
theorem share_out {R : sProp 𝕄} [BI.Persistent R] {Φ Ψ : Dev nD → sProp 𝕄} (h : ∀ d, iprop(R ∗ Φ d) ⊢ Ψ d) (s : Finset (Dev nD)) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

theorem deal : iprop(shared (F := F) m ∗ bigSep Finset.univ (mine (F := F)))
    ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [x_tc, x_sc, x_vc, nothing]
  rw [bigSep_univ_prod (fun dc : Dev nD × Fin τ.nSC => if dc.2 = c₀ then kit m dc.1 else (iprop(emp) : sProp 𝕄))]
  iintro ⟨#Hsh, Hmine⟩
  isplitr; · iempintro
  isplitl [Hmine]
  · iapply (share_out (R := shared (F := F) m) (Φ := mine (F := F)) (fun d => kit_place (F := F) m d) Finset.univ)
    isplitr; · iexact Hsh
    iexact Hmine
  · iempintro

theorem mine_split : (bigSep Finset.univ (mine (F := F)) : sProp 𝕄)
    = iprop((bigSep Finset.univ fun d : Dev nD => places d) ∗ (bigSep Finset.univ fun d : Dev nD => toksOf d) ∗ bigSep Finset.univ fun d : Dev nD => creds d) := by
  unfold mine; rw [bigSep_sep', bigSep_sep']

def u₀ : UU := (initOf (K (F := F)).hsCells (K (F := F)).hsToks, initOf cells toks)

/-- The launch element: every cell funded and allocated before any kernel begins. -/
theorem hu₀ : iprop(ownU (u₀ (F := F)) ∗ (P (F := F) m).oxCred ∗ (K (F := F)).freeOn (· ∈ bars) ∗ (P (F := F) m).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (F := F) m).x q thr) : sProp 𝕄) := by
  unfold u₀
  iintro ⟨Hu, Hcred, Hfree, Hheld⟩
  ihave H := (ownU_pair _ _) $$ Hu
  icases H with ⟨HH, HA⟩
  imod (Rounds.fund EX (Rd (F := F) m) cells toks) $$ HA with ⟨Hst, #Hr, Hat, Htok⟩
  ihave Hsems := (sems_all (F := F) (P m) (P_held m)) $$ [Hfree Hheld]
  · isplitl [Hfree] <;> iassumption
  imod (invs_alloc (F := F) m) $$ [Hsems Hst] with ⟨%κ, #Hinv⟩
  · isplitl [Hsems] <;> iassumption
  ihave Hcred' := (credits m) $$ Hcred
  ihave Hr' := (Entails.of_eq (bigSep_cells (F := F) fun g => reached EX g 0)) $$ Hr
  ihave Hat' := (Entails.of_eq ((bigSep_cells (F := F) fun g => atPos EX g 0 ∅ 0).trans (bigSep_univ_prod (fun x : Dev nD × Fin 5 => (atPos EX (cell x.1 x.2) 0 ∅ 0 : sProp 𝕄))))) $$ Hat
  ihave Htok' := (Entails.of_eq (toks_eq (F := F))) $$ Htok
  imodintro
  isplitl [HH]; · iexact HH
  isplitr; · rw [nothing]; iempintro
  iapply (deal m)
  isplitr
  · isplitl; · iexists κ; iexact Hinv
    iexact Hr'
  iapply (SparseCore.ent (Entails.of_eq (mine_split (F := F)).symm))
  isplitl [Hat']; · iexact Hat'
  isplitl [Htok']; · iexact Htok'
  iexact Hcred'

/-! ## The kernel as the launch calls it -/

set_option maxRecDepth 65536 in
theorem scalarObl : (K (F := F)).ScalarObl' (D (F := F)) 𝒱 (P m) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [defs₀_scalar]; simp only [SparseCore.onCore, hc, ↓reduceDIte]
  have hc₀ : (K (F := F)).core 0 ⟨0, hcv⟩ = c₀ := rfl
  rw [show (P (F := F) m).x 0 (S d ((K (F := F)).core 0 ⟨0, hcv⟩)) = kit m d from (if_pos hc₀ : (if (K (F := F)).core 0 ⟨0, hcv⟩ = c₀ then kit m d else iprop(emp)) = (kit m d : sProp 𝕄)),
    show (P (F := F) m).ox 0 (S d ((K (F := F)).core 0 ⟨0, hcv⟩)) = owe d from (if_pos hc₀ : (if (K (F := F)).core 0 ⟨0, hcv⟩ = c₀ then owe d else (0 : CellTallies nD τ sig (HIx 1))) = owe d)]
  rw [show (P (F := F) m).st 0 d ⟨0, hcv⟩ = before m d from rfl]
  refine BIBase.Entails.trans ?_ ((body m d iprop(scopedBufs (S d c₀) ∗ ((P (F := F) m).ownSems0' (S d c₀) ∗ bigSep Finset.univ fun i : Fin τ.nSub => scopedSems0 (V d c₀ i))) O W hOlev).trans
    (wp_mono _ _ _ fun _ => ?_))
  · iintro ⟨Hlv, Hk, Hst, Hsb, Hss, HO⟩
    isplitl [Hlv]; · iexact Hlv
    isplitl [Hk]; · iexact Hk
    isplitl [Hst]; · iexact Hst
    isplitl [Hsb Hss]
    · isplitl [Hsb]; · iexact Hsb
      iexact Hss
    iexact HO
  change _ ⊢ iprop(afterwards m d ∗ scopedBufs (S d c₀) ∗ scopedSems0 (S d c₀) ∗ ∃ W', ⌜∀ p ∈ W', p ∈ W ∨ p.2 = none ∨ p.2 = some (0 : Fin 1)⌝ ∗ owes (S d c₀) O W')
  iintro ⟨Hst, ⟨Hsb, Hown, Hsubs⟩, Hcells, HO⟩
  isplitl [Hst]; · iexact Hst
  isplitl [Hsb]; · iexact Hsb
  isplitl [Hown Hsubs Hcells]
  · iapply (exitSems (F := F) (P m) (P_held m) d)
    isplitl [Hown Hcells]
    · isplitl [Hown]; · iexact Hown
      iexact Hcells
    iexact Hsubs
  iexact HO

/-! ## The host program -/

theorem unscopedBufs_eq (d : Dev nD) (W : (b : Ref sig .tc) → Buf (Elt F) ((d.tc : Thread nD τ).loc b)) :
    (unscopedBufs d W : sProp 𝕄) = iprop((locX0 d ↦{fullShare} W main_arg0) ∗ (locX1 d ↦{fullShare} W main_arg1) ∗ ((SparseCore.T d).loc main_v1 ↦{fullShare} W main_v1)
      ∗ ((SparseCore.T d).loc main_v2 ↦{fullShare} W main_v2) ∗ (locY0 d ↦{fullShare} W main_v3_0) ∗ (locY1 d ↦{fullShare} W main_v3_1)) := by
  unfold unscopedBufs
  rw [show (Finset.univ.filter fun b : Ref sig .tc => ¬ b.isScoped) = {main_arg0, main_arg1, main_v1, main_v2, main_v3_0, main_v3_1} by decide]
  repeat rw [SparseCore.bigSep_insert' (by decide)]
  rw [bigSep_singleton]

theorem held_two (d : Dev nD) (y z : Ref sig .tc) (h : (Proc.devRef .tc y : DevRef τ sig) ≠ Proc.devRef .tc z) (U : Valuation τ sig (Elt F)) :
    (held (SparseCore.T d) {(Proc.devRef .tc y : DevRef τ sig), Proc.devRef .tc z} U : sProp 𝕄)
      = iprop(((SparseCore.T d).loc y ↦{fullShare} U (Proc.devRef .tc y)) ∗ ((SparseCore.T d).loc z ↦{fullShare} U (Proc.devRef .tc z))) := by
  unfold held
  rw [SparseCore.bigSep_insert' (by rwa [Finset.mem_singleton]), bigSep_singleton]

/-- A host operation over two arrays leaves them holding something. -/
theorem host (V₁ : Valuation τ sig (Elt F)) (d : Dev nD) (y z : Ref sig .tc) (h : (Proc.devRef .tc y : DevRef τ sig) ≠ Proc.devRef .tc z) {hp : (SparseCore.T d : Thread nD τ).2.kind.runsHlo = true} {op : HloOp τ sig (Elt F)}
    (hb : op.bufs ⊆ {(Proc.devRef .tc y : DevRef τ sig), Proc.devRef .tc z}) (hf : op.fresh = ∅) {β : Type}
    {k : ((b : op.writes) → b.1.ty.Contents (Elt F)) → Prog (TpuEff nD τ sig (Elt F) (SparseCore.Sig (ΛP (F := F)) 1) (SparseCore.T d : Thread nD τ).2) β} {Q : β → sProp 𝕄} :
    iprop(boundary (SparseCore.T d) ∗ (∃ f, (SparseCore.T d).loc y ↦{fullShare} f) ∗ (∃ f, (SparseCore.T d).loc z ↦{fullShare} f))
      ⊢ iprop((∀ r, (boundary (SparseCore.T d) ∗ (∃ f, (SparseCore.T d).loc y ↦{fullShare} f) ∗ (∃ f, (SparseCore.T d).loc z ↦{fullShare} f))
          -∗ wp frame (wpE ((K (F := F)).defs (D (F := F))) 𝒱 (SparseCore.T d) none) Set.univ (k r) Q)
        -∗ wp frame (wpE ((K (F := F)).defs (D (F := F))) 𝒱 (SparseCore.T d) none) Set.univ (hlo hp op k) Q) := by
  iintro ⟨Hb, ⟨%f, Hy⟩, ⟨%g, Hz⟩⟩ Hk
  iapply (wp_hlo_within 𝒱 (SparseCore.T d) none Set.univ (op := op) hb
    (V := Function.update (Function.update V₁ (Proc.devRef .tc y) f) (Proc.devRef .tc z) g) hf) $$ [Hb Hy Hz]
  · isplitl [Hb]; · iexact Hb
    rw [held_two d y z h, Function.update_self, Function.update_of_ne h, Function.update_self]
    isplitl [Hy]; · iexact Hy
    iexact Hz
  rw [held_two d y z h]
  iintro ⟨Hb, Hy, Hz⟩
  iapply Hk
  isplitl [Hb]; · iexact Hb
  isplitl [Hy]; · iexists _; iexact Hy
  iexists _; iexact Hz

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ afterwards m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx0, Hx1, Hv1, Hv2, Hy0, Hy1⟩, Hts, -⟩, -⟩
  iapply (wp_allocateBuffer 𝒱 (SparseCore.T d) none Set.univ main_v1 _ (V := fun b => m (d, b))) $$ [Hb Hv1]
  · isplitl [Hb]; · iexact Hb
    iexact Hv1
  iintro %r1 ⟨Hb, Hv1⟩
  rw [wp_ret]; imodintro
  iapply (wp_allocateBuffer 𝒱 (SparseCore.T d) none Set.univ main_v2 _ (V := fun b => m (d, b))) $$ [Hb Hv2]
  · isplitl [Hb]; · iexact Hb
    iexact Hv2
  iintro %r2 ⟨Hb, Hv2⟩
  rw [wp_ret]; imodintro
  iapply (host (fun b => m (d, b)) d main_v1 main_v3_0 (by decide) (fun b hb => hb) rfl) $$ [Hb Hv1 Hy0]
  · isplitl [Hb]; · iexact Hb
    isplitl [Hv1]; · iexists _; iexact Hv1
    iexists _; iexact Hy0
  iintro %_ ⟨Hb, Hv1, Hy0⟩
  rw [wp_ret]; imodintro
  iapply (host (fun b => m (d, b)) d main_v2 main_v3_1 (by decide) (fun b hb => hb) rfl) $$ [Hb Hv2 Hy1]
  · isplitl [Hb]; · iexact Hb
    isplitl [Hv2]; · iexists _; iexact Hv2
    iexists _; iexact Hy1
  iintro %_ ⟨Hb, Hv2, Hy1⟩
  rw [wp_ret]; imodintro
  iapply ((K (F := F)).wp_run (D (F := F)) 𝒱 (EH := EH) (P := P m) κ d 0) $$ [Hst Hb Hts Hx0 Hx1 Hy0 Hy1]
  isplitr; · iexact Hctx
  isplitl [Hst]; · iexact Hst
  isplitl [Hx0 Hx1 Hy0 Hy1]
  · rw [st_eq]
    isplitl [Hx0]; · iexact Hx0
    isplitl [Hx1]; · iexact Hx1
    isplitl [Hy0]; · iexact Hy0
    iexact Hy1
  iintro ⟨Hst, Hdn⟩
  ihave Hdn' := (Entails.of_eq (dn_eq (F := F) m d)) $$ Hdn
  imodintro
  isplitl [Hst]; · iexact Hst
  isplitl [Hdn']; · iexact Hdn'
  isplitl [Hb] <;> iassumption

/-! ## The run -/

/-- What a device's end state is: arrays as they were, results received, barrier at zero. -/
def Ends (d : Dev nD) (s : MemSt nD τ sig (Elt F)) : Prop :=
  s.mem (locX0 d) = m (locX0 d) ∧ s.mem (locX1 d) = m (locX1 d) ∧ s.mem (locY0 d) = got0 m d ∧ s.mem (locY1 d) = got1 m d

theorem agree (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨Ha, HSI⟩
  ihave H := (SI_pointsTo_agree (st := s') (ℓ := ℓ) (I := Finset.univ) (q := fullShare) (f := f)) $$ [HSI Ha]
  · isplitl [HSI] <;> iassumption
  icases H with %h
  ipureintro; exact Buf.eq_of_forall_mem_univ h

theorem and_read {A B : sProp 𝕄} {s' : Phys nD τ sig (Elt F)} {p q : Prop} (ha : iprop(A ∗ SI s') ⊢ (⌜p⌝ : sProp 𝕄)) (hb : iprop(B ∗ SI s') ⊢ (⌜q⌝ : sProp 𝕄)) :
    iprop((A ∗ B) ∗ SI s') ⊢ (⌜p ∧ q⌝ : sProp 𝕄) := by
  have h₁ : iprop((A ∗ B) ∗ SI s') ⊢ (⌜p⌝ : sProp 𝕄) := by
    iintro ⟨⟨HA, -⟩, HS⟩
    iapply ha; isplitl [HA] <;> iassumption
  have h₂ : iprop((A ∗ B) ∗ SI s') ⊢ (⌜q⌝ : sProp 𝕄) := by
    iintro ⟨⟨-, HB⟩, HS⟩
    iapply hb; isplitl [HB] <;> iassumption
  exact fun x hx => ⟨h₁ x hx, h₂ x hx⟩

def fq (d : Dev nD) (s' : Phys nD τ sig (Elt F)) : Prop :=
  s'.mem.mem (locX0 d) = m (locX0 d) ∧ s'.mem.mem (locX1 d) = m (locX1 d) ∧ s'.mem.mem (locY0 d) = got0 m d ∧ s'.mem.mem (locY1 d) = got1 m d ∧ s'.mem.sem (cell d 0) = 0

theorem hfin (d : Dev nD) (s' : Phys nD τ sig (Elt F)) : iprop(afterwards m d ∗ SI s') ⊢ (⌜fq m d s'⌝ : sProp 𝕄) :=
  and_read (agree s' _ _) (and_read (agree s' _ _) (and_read (agree s' _ _) (and_read (agree s' _ _) (SparseCore.Cfg.semVal_zero_read (cell d 0) s'))))

theorem held_ran (d : Dev nD) (c : Fin τ.nSC) (sm : SemLoc sig) (_ : sm.isScoped .scScalar = true) (h : ((S d c, sm) : GSem nD τ sig) ∈ (P (F := F) m).held) :
    0 < (K (F := F)).kRank c 1 := by
  rw [P_held, dmas] at h
  obtain ⟨x, -, e⟩ := Finset.mem_image.mp h
  obtain rfl : c₀ = c := Proc.scScalar.inj (Prod.mk.inj (Prod.mk.inj e).1).2
  exact SparseCore.Cfg.kRank_pos (q := 0) ⟨rfl, show c₀.val < (K (F := F)).nCore 0 by rw [c₀_val]; exact Nat.one_pos⟩

theorem run : θ_run (defs (F := F)) (threads (F := F)) ⟨m, fun _ => 0, ρ⟩ (fun r => (∀ d, Ends m d r.2) ∧ r.2.sem = fun _ => 0) :=
  SparseCore.Cfg.θ_run_sc_held_quiescent (K := K (F := F)) (D := D (F := F)) (𝒱 := 𝒱) (EH := EH) (P := P m) (A := bars) (hran := held_ran m) launchFacts v₀
    (fun q _ => match q with | 0 => scalarObl m)
    (fun q hq => match q with | 0 => nomatch hq)
    (fun q hq => match q with | 0 => nomatch hq)
    m ρ main (fun _ => iprop(emp)) (fun d => afterwards m d) (u₀ (F := F)) (hu₀ m) (hmain m ρ) (fq m) (hfin m) _
    (fun s' h hz => ⟨fun d => ⟨(h d).1, (h d).2.1, (h d).2.2.1, (h d).2.2.2.1⟩, hz⟩)
    (hA := fun s' h g hg => by
      obtain ⟨d, -, rfl⟩ := Finset.mem_image.mp hg
      exact (h d).2.2.2.2)

end Cert.Pair

end
-- ==== Proof.Pair.Value.lean ====
module

public import proofs.«01_k».proof.Proof.Pair.Run
public import proofs.«01_k».proof.Proof.Gen.Reference4Ideal.Run
public import Idealize.ShloMosaic.Lib.PointwiseCore
public import Idealize.ShloMosaic.Lib.LayoutAt

@[expose] public section

/-! # What the exchange computes, over the whole arrays

The reference cuts the whole array into chips, cores and halves and hands each core its sibling's half; a device's
block of that is what the device receives. -/

noncomputable section

namespace Cert.Pair

open Idealize.ShloMosaic Idealize.SL.Sem
open Cert.Reference4Ideal Cert.Reference4Ideal.Gen

/-- The reference's value of one array. -/
def swapped {α : Type} (a : S32x1024x1024.Idx → α) : S32x512x1024.Idx → α :=
  shapeCast _ (concatenate S4x2x4x512x1024 1 [⟨S4x1x4x512x1024, (broadcastInDim S4x1x4x512x1024 ![0, 2, 3, 4] bcast_S4x4x512x1024_S4x1x4x512x1024_0_2_3_4 (shapeCast _ (extractStridedSlice S4x1x4x1x512x1024 ![0, 1, 0, 0, 0, 0] (shapeCast _ a shapeCasts_S32x1024x1024_S4x2x4x2x512x1024) slices_S4x2x4x2x512x1024_S4x1x4x1x512x1024_0_1_0_0_0_0) shapeCasts_S4x1x4x1x512x1024_S4x4x512x1024))⟩, ⟨S4x1x4x512x1024, (broadcastInDim S4x1x4x512x1024 ![0, 2, 3, 4] bcast_S4x4x512x1024_S4x1x4x512x1024_0_2_3_4 (shapeCast _ (extractStridedSlice S4x1x4x1x512x1024 ![0, 0, 0, 1, 0, 0] (shapeCast _ a shapeCasts_S32x1024x1024_S4x2x4x2x512x1024) slices_S4x2x4x2x512x1024_S4x1x4x1x512x1024_0_0_0_1_0_0) shapeCasts_S4x1x4x1x512x1024_S4x4x512x1024))⟩] concatenates_S4x1x4x512x1024_S4x1x4x512x1024_S4x2x4x512x1024_d1) shapeCasts_S4x2x4x512x1024_S32x512x1024

theorem sib_val : ∀ d : Fin 8, (sib d).val = d.val + 1 - 2 * (d.val % 2) := by decide

/-- A device's rows of the whole array, cut to the half the device sends. -/
theorem block_swapped {α : Type} (a : S32x1024x1024.Idx → α) (d : Fin 8) :
    Layout.block ⟨3, ![4, 512, 1024]⟩ ⟨3, ![32, 512, 1024]⟩ 0 8 d (swapped a)
      = fun i => (Layout.block ⟨3, ![4, 1024, 1024]⟩ ⟨3, ![32, 1024, 1024]⟩ 0 8 (sib d) a : (⟨3, ![4, 1024, 1024]⟩ : Shape).Idx → α) ((halfR (sib d)).emb i) := by
  funext i
  have hs := sib_val d
  obtain ⟨k, hk⟩ : ∃ k, k = (halfR (sib d)).emb i := ⟨_, rfl⟩
  have h0 : (k 0).val = (i 0).val := by
    rw [hk, Rect.emb_apply]; show (Cert.Kernel4Ideal.k0_off1 (sib d)) 0 + 1 * (i 0).val = _
    rw [Cert.Kernel4Ideal.Gen.k0_off1_eq]; show 0 + 1 * (i 0).val = _; omega
  have h1 : (k 1).val = 512 - 512 * ((sib d).val % 2) + (i 1).val := by
    rw [hk, Rect.emb_apply]; show (Cert.Kernel4Ideal.k0_off1 (sib d)) 1 + 1 * (i 1).val = _
    rw [Cert.Kernel4Ideal.Gen.k0_off1_eq]; show 512 - 512 * ((sib d).val % 2) + 1 * (i 1).val = _; omega
  have h2 : (k 2).val = (i 2).val := by
    rw [hk, Rect.emb_apply]; show (Cert.Kernel4Ideal.k0_off1 (sib d)) 2 + 1 * (i 2).val = _
    rw [Cert.Kernel4Ideal.Gen.k0_off1_eq]; show 0 + 1 * (i 2).val = _; omega
  rw [← hk]
  clear hk
  simp only [Layout.block_apply]
  unfold swapped
  pointwise []
  shard_ext

variable {F : FTy → Type} (m : (ℓ : Loc Cert.Kernel4Ideal.nD Cert.Kernel4Ideal.τ Cert.Kernel4Ideal.sig) → Buf (Elt F) ℓ)

theorem got0_eq (a : S32x1024x1024.Idx → Elt F .f32) (d : Fin 8)
    (h : m (locX0 (sib d)) = Layout.block ⟨3, ![4, 1024, 1024]⟩ ⟨3, ![32, 1024, 1024]⟩ 0 8 (sib d) a) :
    got0 m d = Layout.block ⟨3, ![4, 512, 1024]⟩ ⟨3, ![32, 512, 1024]⟩ 0 8 d (swapped a) := by
  rw [block_swapped]; unfold got0; rw [h]; rfl

theorem got1_eq (a : S32x1024x1024.Idx → Elt F .f32) (d : Fin 8)
    (h : m (locX1 (sib d)) = Layout.block ⟨3, ![4, 1024, 1024]⟩ ⟨3, ![32, 1024, 1024]⟩ 0 8 (sib d) a) :
    got1 m d = Layout.block ⟨3, ![4, 512, 1024]⟩ ⟨3, ![32, 512, 1024]⟩ 0 8 d (swapped a) := by
  rw [block_swapped]; unfold got1; rw [h]; rfl

end Cert.Pair

end
-- ==== Proof.Pair.Claims.lean ====
module

public import proofs.«01_k».proof.Defs
public import proofs.«01_k».proof.Proof.Pair.Value
public import proofs.«01_k».proof.Proof.Gen.Kernel4
public import proofs.«01_k».proof.Proof.Gen.Reference4

@[expose] public section

/-! # The exchange's claims -/

noncomputable section

namespace Cert.Pair

open Idealize.ShloMosaic Idealize.ShloMosaic.TcCoe Idealize.SL.Sem

/-- The exchange as printed runs, leaves its arguments alone and ends with every counter at zero. -/
theorem frame_kernel : Cert.quiescent_Kernel4 (hKernel4 := Cert.Kernel4.Gen.facts) := fun m ρ _ =>
  (θ_run Cert.Kernel4Ideal.defs _ _).mono (fun _ h => ⟨fun d => ⟨(h.1 d).1, (h.1 d).2.1⟩, h.2⟩) (run (F := Bits) m ρ)

theorem frame_ideal : Cert.quiescent_Kernel4Ideal (hKernel4Ideal := Cert.Kernel4Ideal.Gen.facts) := fun m ρ _ =>
  (θ_run Cert.Kernel4Ideal.defs _ _).mono (fun _ h => ⟨fun d => ⟨(h.1 d).1, (h.1 d).2.1⟩, h.2⟩) (run (F := Ideal) m ρ)

theorem frame_ref : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_ref_bits : Cert.quiescent_Reference4 (hReference4 := Cert.Reference4.Gen.facts) := fun m ρ _ =>
  (θ_run Cert.Reference4Ideal.defs _ _).mono (fun r h => ⟨fun c => (h c).2.2, sem_eq_zero_of_no_sems (by decide) r.2⟩)
    (Cert.Reference4Ideal.Value.run (F := Bits) m ρ)

/-- The value, over any float instance: a device's results are its blocks of the reference's. -/
theorem value {F : FTy → Type} [FloatOps F] [∀ e, Nonempty (Elt F e)]
    (m : (ℓ : Loc Cert.Kernel4Ideal.nD Cert.Kernel4Ideal.τ Cert.Kernel4Ideal.sig) → Buf (Elt F) ℓ) (ρ : Dev Cert.Kernel4Ideal.nD → PrngReg)
    (a b : Cert.Reference4Ideal.S32x1024x1024.Idx → Elt F .f32)
    (h : ∀ c : Dev Cert.Kernel4Ideal.nD,
      m (locX0 c) = Layout.block ⟨3, ![4, 1024, 1024]⟩ ⟨3, ![32, 1024, 1024]⟩ 0 8 c a
      ∧ m (locX1 c) = Layout.block ⟨3, ![4, 1024, 1024]⟩ ⟨3, ![32, 1024, 1024]⟩ 0 8 c b) :
    θ_run (Cert.Kernel4Ideal.defs (F := F)) (Cert.Kernel4Ideal.threads (F := F)) ⟨m, fun _ => 0, ρ⟩ (fun r => ∀ c : Dev Cert.Kernel4Ideal.nD,
      r.2.mem (locY0 c) = Layout.block ⟨3, ![4, 512, 1024]⟩ ⟨3, ![32, 512, 1024]⟩ 0 8 c (swapped a)
      ∧ r.2.mem (locY1 c) = Layout.block ⟨3, ![4, 512, 1024]⟩ ⟨3, ![32, 512, 1024]⟩ 0 8 c (swapped b)
      ∧ r.2.mem (locX0 c) = m (locX0 c) ∧ r.2.mem (locX1 c) = m (locX1 c)) :=
  (θ_run Cert.Kernel4Ideal.defs _ _).mono
    (fun _ k c => ⟨(k.1 c).2.2.1.trans (got0_eq m a c (h (sib c)).1), (k.1 c).2.2.2.trans (got1_eq m b c (h (sib c)).2), (k.1 c).1, (k.1 c).2.1⟩)
    (run m ρ)

theorem algebraic : Cert.algebraic_Kernel4Ideal_Reference4Ideal (hKernel4Ideal := Cert.Kernel4Ideal.Gen.facts) (hReference4Ideal := Cert.Reference4Ideal.Gen.facts) :=
  fun m ρ m' ρ' _ agree => ⟨swapped _, swapped _, value (F := Ideal) m ρ _ _ agree,
    (θ_run Cert.Reference4Ideal.defs _ _).mono (fun _ h => h 0) (Cert.Reference4Ideal.Value.run (F := Ideal) m' ρ')⟩

theorem bitexact : Cert.bitexact_Kernel4_Reference4 (hKernel4 := Cert.Kernel4.Gen.facts) (hReference4 := Cert.Reference4.Gen.facts) :=
  fun m ρ m' ρ' _ agree => ⟨swapped _, swapped _, value (F := Bits) m ρ _ _ agree,
    (θ_run Cert.Reference4Ideal.defs _ _).mono (fun _ h => h 0) (Cert.Reference4Ideal.Value.run (F := Bits) m' ρ')⟩

end Cert.Pair

end
-- ==== Proof.Product.lean ====
module

public import proofs.«01_k».proof.Proof.Gen.Kernel5Ideal.Value
public import proofs.«01_k».proof.Proof.Gen.Reference5Ideal.Run
public import Idealize.ShloMosaic.Lib.Pointwise
public import Idealize.ShloMosaic.Lib.Pipeline.ReadBack
public import Idealize.ShloMosaic.Lib.Pipeline.ValueKit
public import Idealize.ShloMosaic.Lib.StableHlo.Run
public import Idealize.ShloMosaic.Lib.StableHlo.RunRead

@[expose] public section

/-! # The plain product: the gradient of the projection's weights

The kernel goes over the rows in eight blocks and adds each block's product to what the blocks before left; the
reference sums over all the rows at once. -/

set_option maxRecDepth 100000

noncomputable section

namespace Cert.Product

open Idealize.ShloMosaic Idealize.ShloMosaic.TcCoe Idealize.SL.Sem

/-- Row `k` of the block of rows that point `n` takes. -/
def row (n : ℕ) (k : Fin 2048) : Fin 16384 := ⟨n % 8 * 2048 + k.val, by omega⟩

/-- Column `j` of the block of columns that point `n` takes. -/
def col (n : ℕ) (j : Fin 2176) : Fin 8704 := ⟨n / 8 % 4 * 2176 + j.val, by omega⟩

/-- Column `j` of block `b` of the columns. -/
def at_ (b : Fin 4) (j : Fin 2176) : Fin 8704 := ⟨b.val * 2176 + j.val, by omega⟩

/-- What row `r` contributes to the entry at `a` and `b`. -/
def term (x : FVec Ideal Cert.Kernel5Ideal.S1x16384x1024 .f32) (d : FVec Ideal Cert.Kernel5Ideal.S16384x8704 .bf16) (a : Fin 1024) (b : Fin 8704) (r : Fin 16384) : EReal :=
  x (ix3 0 r a) * d (ix2 r b)

/-- The sum over eight blocks of 2048 rows is the sum over the rows. -/
theorem sum_blocks (q : ℕ) (f : Fin 16384 → EReal) :
    ∑ s ∈ Finset.range 8, ∑ k : Fin 2048, f (row (8 * q + s) k) = ∑ r : Fin 16384, f r := by
  rw [Finset.sum_range, ← Fintype.sum_prod_type']
  refine Fintype.sum_equiv (finProdFinEquiv (m := 8) (n := 2048)) _ _ fun p => congrArg f (Fin.ext ?_)
  have h := p.1.isLt
  show (8 * q + p.1.val) % 8 * 2048 + p.2.val = p.2.val + 2048 * p.1.val
  omega

end Cert.Product

namespace Cert.Kernel5Ideal.Product

open Idealize.ShloMosaic Idealize.ShloMosaic.TcCoe Idealize.SL.Sem Cert.Kernel5Ideal Cert.Kernel5Ideal.Gen Cert.Product

variable (c : Dev nD) (m : (ℓ : Loc nD τ sig) → Buf (Elt Ideal) ℓ)

/-- The call's arguments as the launch leaves them. -/
def x : FVec Ideal S1x16384x1024 .f32 := m ((c : Thread nD τ).loc main_arg0)
def d : FVec Ideal S16384x8704 .bf16 := m ((c : Thread nD τ).loc main_arg1)

theorem entry_x : V m c main_v0 = (fun i => x c m (ix3 0 (i 0) (i 1)) : FVec Ideal S16384x1024 .f32) := by
  dsimp only [V]
  after_reads_simp
  funext i
  idx_vars i
  pointwise [x]

theorem index_in : ∀ t : Fin cfg0.N, win0_0.index t = ![t.val % 8, 0] ∧ win0_1.index t = ![t.val % 8, t.val / 8] := by
  decide +kernel

theorem input0 (t : Fin cfg0.N) : iblk m c 0 t = (fun i => x c m (ix3 0 (row t.val (i 0)) (i 1)) : FVec Ideal S2048x1024 .f32) := by
  funext y
  blk_simp [iblk]
  refine (congrFun (entry_x c m) _).trans ?_
  refine congrArg₂ (fun r k => x c m (ix3 0 r k)) (Fin.ext ?_) (Fin.ext ?_) <;> blk_simp [(index_in t).1, row] <;> simp [row] <;> omega

theorem input1 (t : Fin cfg0.N) : iblk m c 1 t = (fun i => d c m (ix2 (row t.val (i 0)) (col t.val (i 1))) : FVec Ideal S2048x2176 .bf16) := by
  have hN : t.val < 32 := t.isLt
  funext y
  blk_simp [iblk]
  refine (congrFun (V_main_arg1 m c) _).trans ?_
  show d c m _ = _
  refine congrArg (d c m) ?_
  funext a
  fin_cases a <;> refine Fin.ext ?_ <;> blk_simp [(index_in t).2, row, col] <;> simp [row, col, ix2] <;> omega

/-- What the rows of point `n` contribute. -/
def addend (n : ℕ) (i : S1x1024x2176.Idx) : EReal :=
  ∑ k : Fin 2048, term (x c m) (d c m) (i 1) (col n (i 2)) (row n k)

theorem step_apply (n : ℕ) (hn : n < cfg0.N) (acc : FVec Ideal S1x1024x2176 .f32) (i : S1x1024x2176.Idx) :
    k0_pay2 acc (iblk m c 0 ⟨n, hn⟩) (iblk m c 1 ⟨n, hn⟩) i = acc i + addend c m n i := by
  rw [input0, input1]
  unfold k0_pay2 addend term
  idx_vars i
  obtain rfl : i0 = 0 := Subsingleton.elim _ _
  pointwise []

theorem zero_apply (i : S1x1024x2176.Idx) : (k0_pay1 : FVec Ideal S1x1024x2176 .f32) i = 0 := by
  unfold k0_pay1
  idx_vars i
  pointwise []

/-- The call's result: each entry sums over all the rows. -/
theorem result : Cert.Kernel5Ideal.Value.G2 m c =
    (fun i => ∑ r : Fin 16384, term (x c m) (d c m) (i 1) (at_ (i 0) (i 2)) r : FVec Ideal S4x1024x2176 .f32) := by
  funext i
  have h0 : (i 0).val < 4 := (i 0).isLt
  have h1 : (i 1).val < 1024 := (i 1).isLt
  have h2 : (i 2).val < 2176 := (i 2).isLt
  have e : Cert.Kernel5Ideal.Value.run2Of i = (i 0).val := by dsimp only [Cert.Kernel5Ideal.Value.run2Of]; omega
  have hN : 8 * Cert.Kernel5Ideal.Value.run2Of i + 7 < cfg0.N := by rw [e]; show _ < 32; omega
  unfold Cert.Kernel5Ideal.Value.G2
  rw [dif_pos hN]
  refine (Pipeline.accAt_add_apply (β := EReal) _ _ (fun _ => 0) (addend c m) _ 7 (fun h j => ?_) (fun n h acc j _ _ => step_apply c m n h acc j) 7 le_rfl hN _).trans ?_
  · exact (step_apply c m _ h _ j).trans (congrArg (· + _) (zero_apply j))
  · rw [zero_add]
    refine Eq.trans ?_ (sum_blocks (Cert.Kernel5Ideal.Value.run2Of i) _)
    refine Finset.sum_congr rfl fun s hs => Finset.sum_congr rfl fun k _ => ?_
    have := Finset.mem_range.mp hs
    refine congrArg₂ (fun a b => term (x c m) (d c m) a b _) (Fin.ext ?_) (Fin.ext ?_)
    · show (i 1).val % 1024 = (i 1).val
      omega
    · show (8 * Cert.Kernel5Ideal.Value.run2Of i + s) / 8 % 4 * 2176 + (i 2).val % 2176 = (i 0).val * 2176 + (i 2).val
      rw [e]
      omega

end Cert.Kernel5Ideal.Product

namespace Cert.Reference5Ideal.Product

open Idealize.ShloMosaic Idealize.ShloMosaic.TcCoe Idealize.SL.Sem Cert.Reference5Ideal Cert.Reference5Ideal.Gen Cert.Product

/-- The reference's result term, entry by entry. -/
theorem result (x : FVec Ideal S1x16384x1024 .f32) (d : FVec Ideal S16384x8704 .bf16) :
    transpose S4x1024x2176 [1, 0, 2] (shapeCast S1024x4x2176 (transpose S1024x8704 [1, 0] (Host.dotGeneral (F := Ideal) dot_S1x16384x8704_S1x16384x1024_S8704x1024_01_01_2_2_n_n none (broadcastInDim S1x16384x8704 ![1, 2] bcast_S16384x8704_S1x16384x8704_1_2 (extf .f32 d bitsLt_bf16_f32)) x) transposes_S8704x1024_S1024x8704_1_0) shapeCasts_S1024x8704_S1024x4x2176) transposes_S1024x4x2176_S4x1024x2176_1_0_2 =
    (fun i => ∑ r : Fin 16384, term x d (i 1) (at_ (i 0) (i 2)) r : FVec Ideal S4x1024x2176 .f32) := by
  funext i
  idx_vars i
  unfold term
  pointwise []
  refine (Fintype.sum_unique _).trans (Finset.sum_congr rfl fun r _ => ?_)
  exact mul_comm _ _

end Cert.Reference5Ideal.Product
-- ==== Proof.Back.lean ====
module

public import proofs.«01_k».proof.Proof.Gen.Kernel6Ideal.Value
public import proofs.«01_k».proof.Proof.Gen.Reference6Ideal.Run
public import Idealize.ShloMosaic.Lib.Pointwise
public import Idealize.ShloMosaic.Lib.Pipeline.ReadBack
public import Idealize.ShloMosaic.Lib.Pipeline.ValueKit
public import Idealize.ShloMosaic.Lib.StableHlo.Run
public import Idealize.ShloMosaic.Lib.StableHlo.RunRead

@[expose] public section

/-! # The gradient of the layer's input

The product with the transposed weights, in four blocks of columns, and the residual's part. The call writes the rows
from 3072 on; the rows before are those of the array that it is given. -/

set_option maxRecDepth 100000

noncomputable section

namespace Cert.Back

open Idealize.ShloMosaic Idealize.ShloMosaic.TcCoe Idealize.SL.Sem

/-- Block and place of a column. -/
def block (q : Fin 8704) : Fin 4 := ⟨q.val / 2176, by omega⟩
def place (q : Fin 8704) : Fin 2176 := ⟨q.val % 2176, by omega⟩

/-- Column `p` of block `b`. -/
def col (b : Fin 4) (p : Fin 2176) : Fin 8704 := ⟨b.val * 2176 + p.val, by omega⟩

/-- A sum over the columns is the sum of the four blocks' sums. -/
theorem sum_cols (f : Fin 8704 → EReal) :
    ∑ q : Fin 8704, f q = ∑ p, f (col 0 p) + ∑ p, f (col 1 p) + ∑ p, f (col 2 p) + ∑ p, f (col 3 p) := by
  rw [← Fin.sum_univ_four (fun b => ∑ p, f (col b p)), ← Fintype.sum_prod_type']
  refine (Fintype.sum_equiv (finProdFinEquiv (m := 4) (n := 2176)) _ _ fun p => congrArg f (Fin.ext ?_)).symm
  show p.1.val * 2176 + p.2.val = p.2.val + 2176 * p.1.val
  omega

theorem block_col (b : Fin 4) (p : Fin 2176) : block (col b p) = b := Fin.ext (by show (b.val * 2176 + p.val) / 2176 = b.val; omega)

theorem place_col (b : Fin 4) (p : Fin 2176) : place (col b p) = p := Fin.ext (by show (b.val * 2176 + p.val) % 2176 = p.val; omega)

variable (dp : FVec Ideal Cert.Kernel6Ideal.S16384x8704 .bf16) (w : FVec Ideal Cert.Kernel6Ideal.S4x1024x2176 .bf16)
  (dr : FVec Ideal Cert.Kernel6Ideal.S16384x1024 .f32) (filled : FVec Ideal Cert.Kernel6Ideal.S16384x1024 .f32)

/-- The gradient at row `r` and column `k`. -/
def back (r : Fin 16384) (k : Fin 1024) : EReal :=
  Ideal.ofBits .f32 0x3F9837F0#32 * dr (ix2 r k) + ∑ q : Fin 8704, dp (ix2 r q) * w (ix3 (block q) k (place q))

/-- The array that the call leaves. -/
def filledBack : FVec Ideal Cert.Kernel6Ideal.S16384x1024 .f32 :=
  fun i => if (i 0).val < 3072 then filled i else back dp w dr (i 0) (i 1)

end Cert.Back

namespace Cert.Kernel6Ideal.Back

open Idealize.ShloMosaic Idealize.ShloMosaic.TcCoe Idealize.SL.Sem Cert.Kernel6Ideal Cert.Kernel6Ideal.Gen Cert.Back

variable (c : Dev nD) (m : (ℓ : Loc nD τ sig) → Buf (Elt Ideal) ℓ)

/-- The call's arguments as the launch leaves them. -/
def dp : FVec Ideal S16384x8704 .bf16 := m ((c : Thread nD τ).loc main_arg0)
def w : FVec Ideal S4x1024x2176 .bf16 := m ((c : Thread nD τ).loc main_arg1)
def dr : FVec Ideal S16384x1024 .f32 := m ((c : Thread nD τ).loc main_arg2)
def filled : FVec Ideal S16384x1024 .f32 := m ((c : Thread nD τ).loc main_arg3)

/-- Row `r` of the block of rows that point `t` takes. -/
def row (t : Fin cfg0.N) (r : Fin 512) : Fin 16384 := ⟨(t.val + 6) * 512 + r.val, by have : t.val < 26 := t.isLt; omega⟩

theorem index : ∀ t : Fin cfg0.N, win0_0.index t = ![t.val + 6, 0] ∧ win0_1.index t = ![0, 0, 0] ∧ win0_2.index t = ![t.val + 6, 0] ∧ win0_3.index t = ![t.val + 6, 0] := by
  decide +kernel

theorem input0 (t : Fin cfg0.N) : iblk m c 0 t = (fun i => dp c m (ix2 (row t (i 0)) (i 1)) : FVec Ideal S512x8704 .bf16) := by
  funext y
  blk_simp [iblk]
  refine (congrFun (V_main_arg0 m c) _).trans (congrArg (dp c m) (funext fun a => ?_))
  fin_cases a <;> refine Fin.ext ?_ <;> blk_simp [(index t).1, row] <;> simp [row, ix2] <;> omega

theorem input1 (t : Fin cfg0.N) : iblk m c 1 t = w c m := by
  funext y
  blk_simp [iblk]
  refine (congrFun (V_main_arg1 m c) _).trans (congrArg (w c m) (funext fun a => ?_))
  fin_cases a <;> refine Fin.ext ?_ <;> blk_simp [(index t).2.1] <;> simp <;> omega

theorem input2 (t : Fin cfg0.N) : iblk m c 2 t = (fun i => dr c m (ix2 (row t (i 0)) (i 1)) : FVec Ideal S512x1024 .f32) := by
  funext y
  blk_simp [iblk]
  refine (congrFun (V_main_arg2 m c) _).trans (congrArg (dr c m) (funext fun a => ?_))
  fin_cases a <;> refine Fin.ext ?_ <;> blk_simp [(index t).2.2.1, row] <;> simp [row, ix2] <;> omega

theorem place3 (t : Fin cfg0.N) (y : S512x1024.Idx) : (win0_3.blk t).view.emb y = (ix2 (row t (y 0)) (y 1) : S16384x1024.Idx) := by
  funext a
  fin_cases a <;> refine Fin.ext ?_ <;> blk_simp [(index t).2.2.2, row] <;> simp [row, ix2] <;> omega

/-- The result starts as a copy of the array that the call is given. -/
theorem entry : V m c main_v0 = filled c m := by
  dsimp only [V]
  after_reads_simp
  rfl

theorem array3 : (dats m 0 c).arrAt 3 cfg0.N = filledBack (dp c m) (w c m) (dr c m) (filled c m) := by
  refine (dats m 0 c).arrAt_eq_of_coversWhere_of_agree 3 _ (fun β => 6 ≤ β (0 : Fin 2)) (by decide +kernel) (fun t hf y => ?_) (fun j hj => ?_)
  · blk_simp
    refine Eq.trans ?_ (congrArg (filledBack (dp c m) (w c m) (dr c m) (filled c m)) (place3 t y)).symm
    rw [after0_3]
    unfold outsAt0
    rw [input0, input1, input2]
    frame_out
    change S512x1024.Idx at y
    idx_vars y
    unfold filledBack k0_pay1
    pointwise []
    have hr : ¬ (row t y0).val < 3072 := by
      show ¬ (t.val + 6) * 512 + y0.val < 3072
      omega
    rw [if_neg hr]
    unfold back
    rw [sum_cols]
    simp only [block_col, place_col, ← add_assoc]
    refine congrArg₂ (· + ·) (congrArg₂ (· + ·) (congrArg₂ (· + ·) (congrArg₂ (· + ·) rfl ?_) ?_) ?_) ?_ <;>
      refine Finset.sum_congr rfl fun p _ => congrArg (fun q => dp c m (ix2 (row t y0) q) * _) (Fin.ext ?_) <;> simp [col]
  · have hr : (j 0).val < 3072 := by
      have e : (cfg0.win 3).cell j (0 : Fin 2) = (j 0).val / 512 := rfl
      rw [e] at hj
      omega
    refine (congrFun (A_eq m c 3) _).trans ?_
    refine (congrFun (entry c m) j).trans ?_
    unfold filledBack
    exact (if_pos hr).symm

end Cert.Kernel6Ideal.Back

namespace Cert.Reference6Ideal.Back

open Idealize.ShloMosaic Idealize.ShloMosaic.TcCoe Idealize.SL.Sem Cert.Reference6Ideal Cert.Reference6Ideal.Gen Cert.Back

/-- The reference's result term, entry by entry. -/
theorem result (dp : FVec Ideal S16384x8704 .bf16) (w : FVec Ideal S4x1024x2176 .bf16) (dr filled : FVec Ideal S16384x1024 .f32) :
    concatenate S16384x1024 0 [⟨S3072x1024, (extractStridedSlice S3072x1024 ![0, 0] filled slices_S16384x1024_S3072x1024_0_0)⟩, ⟨S13312x1024, (extractStridedSlice S13312x1024 ![3072, 0] (addf (Host.dotGeneral (F := Ideal) dot_S16384x8704_S1024x8704_S16384x1024_1_1_0_0_n_n none (extf .f32 dp bitsLt_bf16_f32) (shapeCast S1024x8704 (transpose S1024x4x2176 [1, 0, 2] (extf .f32 w bitsLt_bf16_f32) transposes_S4x1024x2176_S1024x4x2176_1_0_2) shapeCasts_S1024x4x2176_S1024x8704)) (mulf (broadcastInDim S16384x1024 ![] bcast_S_S16384x1024 (constant (F := Ideal) S_ .f32 0x3F9837F0#32)) dr)) slices_S16384x1024_S13312x1024_3072_0)⟩] concatenates_S3072x1024_S13312x1024_S16384x1024_d0
      = filledBack dp w dr filled := by
  funext i
  idx_vars i
  unfold filledBack back
  pointwise []
  by_cases h : i0.val < 3072
  · rw [dif_pos h, if_pos h]
  · rw [dif_neg h, if_neg h, add_comm]
    have e : (⟨3072 + (i0.val - 3072), by omega⟩ : Fin 16384) = i0 := Fin.ext (by show 3072 + (i0.val - 3072) = i0.val; omega)
    rw [e]
    rfl

end Cert.Reference6Ideal.Back
-- ==== Proof.Panels.lean ====
module

public import proofs.«01_k».proof.Proof.Gen.Kernel8Ideal.Value
public import proofs.«01_k».proof.Proof.Gen.Reference8Ideal.Run
public import Idealize.ShloMosaic.Lib.Pointwise
public import Idealize.ShloMosaic.Lib.Pipeline.ReadBack
public import Idealize.ShloMosaic.Lib.Pipeline.ValueKit
public import Idealize.ShloMosaic.Lib.StableHlo.Run
public import Idealize.ShloMosaic.Lib.StableHlo.RunRead

@[expose] public section

/-! # The three weight gradients side by side

The kernel goes over the rows in sixteen blocks; for each of four parts of the three weights it adds the block's product
to what the blocks before left, in the part's own rows of one result. The reference sums over all the rows at once. -/

set_option maxRecDepth 100000

noncomputable section

namespace Cert.Panels

open Idealize.ShloMosaic Idealize.ShloMosaic.TcCoe Idealize.SL.Sem

/-- What row `r` contributes to the entry in part `k`, row `p`, column `q` of the result: rows below 384 hold the first
    weight's gradient, rows below 640 the second's and the others the third's. -/
def term {n : ℕ} (a : Fin n → Fin 1536 → EReal) (da b db z dz : Fin n → Fin 1024 → EReal) (k : Fin 4) (p : Fin 896) (q : Fin 1024) (r : Fin n) : EReal :=
  if h : p.val < 384 then a r ⟨k.val * 384 + p.val, by omega⟩ * da r q
  else if h' : p.val < 640 then b r ⟨k.val * 256 + (p.val - 384), by omega⟩ * db r q
  else z r ⟨k.val * 256 + (p.val - 640), by omega⟩ * dz r q

section Terms

variable {n : ℕ} (a : Fin n → Fin 1536 → EReal) (da b db z dz : Fin n → Fin 1024 → EReal) (k : Fin 4) (p : Fin 896) (q : Fin 1024) (r : Fin n)

theorem term_first (h : p.val < 384) : term a da b db z dz k p q r = a r ⟨k.val * 384 + p.val, by omega⟩ * da r q := dif_pos h

theorem term_second (h : ¬p.val < 384) (h' : p.val < 640) : term a da b db z dz k p q r = b r ⟨k.val * 256 + (p.val - 384), by omega⟩ * db r q :=
  (dif_neg h).trans (dif_pos h')

theorem term_third (h : ¬p.val < 384) (h' : ¬p.val < 640) : term a da b db z dz k p q r = z r ⟨k.val * 256 + (p.val - 640), by omega⟩ * dz r q :=
  (dif_neg h).trans (dif_neg h')

end Terms

/-- Row `k` of the block of rows that point `n` takes. -/
def row (n : ℕ) (k : Fin 1024) : Fin 16384 := ⟨n % 16 * 1024 + k.val, by omega⟩

/-- The sum over sixteen blocks of 1024 rows is the sum over the rows. -/
theorem sum_blocks (f : Fin 16384 → EReal) :
    ∑ s ∈ Finset.range 16, ∑ k : Fin 1024, f (row s k) = ∑ r : Fin 16384, f r := by
  rw [Finset.sum_range, ← Fintype.sum_prod_type']
  refine Fintype.sum_equiv (finProdFinEquiv (m := 16) (n := 1024)) _ _ fun p => congrArg f (Fin.ext ?_)
  have h := p.1.isLt
  show p.1.val % 16 * 1024 + p.2.val = p.2.val + 1024 * p.1.val
  omega

end Cert.Panels

namespace Cert.Kernel8Ideal.Panels

open Idealize.ShloMosaic Idealize.ShloMosaic.TcCoe Idealize.SL.Sem Cert.Kernel8Ideal Cert.Kernel8Ideal.Gen Cert.Panels

/-- Each store's payload: what the rows held, and the block's product. -/
theorem pay384 (u : FVec Ideal S1x384x1024 .f32) (v : FVec Ideal S1024x384 .bf16) (w : FVec Ideal S1024x1024 .bf16) (r : Fin 384) (q : Fin 1024) :
    k0_pay3 u v w (ix3 0 r q) = u (ix3 0 r q) + ∑ k : Fin 1024, v (ix2 k r) * w (ix2 k q) := by
  unfold k0_pay3
  pointwise []

theorem pay256 (u : FVec Ideal S1x256x1024 .f32) (v : FVec Ideal S1024x256 .bf16) (w : FVec Ideal S1024x1024 .bf16) (r : Fin 256) (q : Fin 1024) :
    k0_pay8 u v w (ix3 0 r q) = u (ix3 0 r q) + ∑ k : Fin 1024, v (ix2 k r) * w (ix2 k q) := by
  unfold k0_pay8
  pointwise []

/-- A part's rows, stored last: an entry in them is the store's, any other is what was there before. -/
theorem canon_panel (g : FVec Ideal S4x896x1024 .f32) (a b s : ℕ) (inb : ∀ d, ![a, b, 0] d + ![1, s, 1024] d ≤ S4x896x1024.size d)
    (w : (Rect.unit (s := S4x896x1024) ![a, b, 0] ![1, s, 1024] inb).shape.Idx → EReal)
    (L : List (View.Piece (Elt Ideal) S4x896x1024 .f32)) (i : S4x896x1024.Idx)
    (hw : ∀ (h0 : (i 0).val = a) (r : Fin s) (hr : (i 1).val = b + r.val), w (ix3 (0 : Fin 1) r (i 2)) = g i)
    (H : ¬((i 0).val = a ∧ b ≤ (i 1).val ∧ (i 1).val < b + s) → View.canon L i = g i) :
    View.canon ((⟨Rect.unit (s := S4x896x1024) ![a, b, 0] ![1, s, 1024] inb, w⟩ : View.Piece (Elt Ideal) S4x896x1024 .f32) :: L) i = g i := by
  by_cases e : (i 0).val = a ∧ b ≤ (i 1).val ∧ (i 1).val < b + s
  · obtain ⟨e0, e1, e2⟩ := e
    have hr : (i 1).val - b < s := by omega
    refine (congrArg (View.canon _) (?_ : i = (Rect.unit (s := S4x896x1024) ![a, b, 0] ![1, s, 1024] inb).emb (ix3 (0 : Fin 1) (⟨(i 1).val - b, hr⟩ : Fin s) (i 2)))).trans
      ((View.canon_cons_emb _ _ _ _).trans (hw e0 ⟨(i 1).val - b, hr⟩ (by show (i 1).val = b + ((i 1).val - b); omega)))
    funext d
    refine Fin.ext ?_
    fin_cases d
    · show (i 0).val = a + 1 * 0
      omega
    · show (i 1).val = b + 1 * ((i 1).val - b)
      omega
    · show (i 2).val = 0 + 1 * (i 2).val
      omega
  · refine (View.canon_cons_of_not_mem _ _ fun hm => e ?_).trans (H e)
    have h := (Rect.mem_set_unit (s := S4x896x1024) (off := ![a, b, 0]) (size := ![1, s, 1024]) (inb := inb)).mp hm
    have h0 : a ≤ (i 0).val ∧ (i 0).val < a + 1 := h 0
    have h1 : b ≤ (i 1).val ∧ (i 1).val < b + s := h 1
    omega

/-- A load off the rows stored last reads what was there before. -/
theorem load_past (v : View sig .tc .vmem S4x896x1024 .f32) (a b s a' b' s' : ℕ) (inb : ∀ d, ![a, b, 0] d + ![1, s, 1024] d ≤ S4x896x1024.size d)
    (inb' : ∀ d, ![a', b', 0] d + ![1, s', 1024] d ≤ S4x896x1024.size d)
    (w : (Rect.unit (s := S4x896x1024) ![a, b, 0] ![1, s, 1024] inb).shape.Idx → EReal)
    (L : List (View.Piece (Elt Ideal) S4x896x1024 .f32)) (h : a ≠ a' ∨ b + s ≤ b' ∨ b' + s' ≤ b) :
    v.readCov ((⟨Rect.unit (s := S4x896x1024) ![a, b, 0] ![1, s, 1024] inb, w⟩ : View.Piece (Elt Ideal) S4x896x1024 .f32) :: L) (Rect.unit ![a', b', 0] ![1, s', 1024] inb').toLoadRect =
      v.readCov L (Rect.unit ![a', b', 0] ![1, s', 1024] inb').toLoadRect := by
  refine View.readCov_cons_of_disjoint _ _ _ _ (Finset.disjoint_left.mpr fun y hy hy' => ?_)
  have h1 := (Rect.mem_set_unit (s := S4x896x1024) (off := ![a, b, 0]) (size := ![1, s, 1024]) (inb := inb)).mp hy
  have h2 := (Rect.mem_set_unit (s := S4x896x1024) (off := ![a', b', 0]) (size := ![1, s', 1024]) (inb := inb')).mp hy'
  have e0 : a ≤ (y 0).val ∧ (y 0).val < a + 1 := h1 0
  have e1 : b ≤ (y 1).val ∧ (y 1).val < b + s := h1 1
  have f0 : a' ≤ (y 0).val ∧ (y 0).val < a' + 1 := h2 0
  have f1 : b' ≤ (y 1).val ∧ (y 1).val < b' + s' := h2 1
  omega

theorem zero_apply : (k0_pay2 : FVec Ideal S4x896x1024 .f32) = fun _ => 0 := by
  unfold k0_pay2
  funext i
  idx_vars i
  pointwise []

/-- A load of one whole store reads the store. -/
theorem load_whole (v : View sig .tc .vmem S4x896x1024 .f32) (a b s : ℕ) (inb : ∀ d, ![a, b, 0] d + ![1, s, 1024] d ≤ S4x896x1024.size d)
    (inb' : ∀ d, ![0, 0, 0] d + ![4, 896, 1024] d ≤ S4x896x1024.size d) (w : S4x896x1024.Idx → EReal) :
    v.readCov [(⟨Rect.unit (s := S4x896x1024) ![0, 0, 0] ![4, 896, 1024] inb', w⟩ : View.Piece (Elt Ideal) S4x896x1024 .f32)]
        (Rect.unit ![a, b, 0] ![1, s, 1024] inb).toLoadRect = View.ld (Val := Elt Ideal) (S := S4x896x1024) (e' := .f32) w (Rect.unit ![a, b, 0] ![1, s, 1024] inb) := by
  have h : (![0, 0, 0] : Fin 3 → ℕ) = fun _ => 0 := by decide
  rw [View.readCov_eq_canon']
  funext j
  exact congrFun (View.canon_cons_unit_zero (Val := Elt Ideal) (e := .f32) (S := S4x896x1024) (off := ![0, 0, 0]) h inb' w []) _

/-- What a point's blocks add to the result. -/
def addend (x0 : FVec Ideal S1024x1536 .bf16) (x1 x2 x3 x4 x5 : FVec Ideal S1024x1024 .bf16) (i : S4x896x1024.Idx) : EReal :=
  ∑ r : Fin 1024, term (fun r j => x0 (ix2 r j)) (fun r j => x1 (ix2 r j)) (fun r j => x2 (ix2 r j)) (fun r j => x3 (ix2 r j)) (fun r j => x4 (ix2 r j)) (fun r j => x5 (ix2 r j))
    (i 0) (i 1) (i 2) r

section Point

variable (acc : FVec Ideal S4x896x1024 .f32) (x0 : FVec Ideal S1024x1536 .bf16) (x1 x2 x3 x4 x5 : FVec Ideal S1024x1024 .bf16)

theorem panel_first (a o : ℕ) (ho : o = a * 384) (i : S4x896x1024.Idx) (inb : ∀ d, ![a, 0, 0] d + ![1, 384, 1024] d ≤ S4x896x1024.size d)
    (inb' : ∀ d, ![0, o] d + ![1024, 384] d ≤ S1024x1536.size d) (h0 : (i 0).val = a) (r : Fin 384) (hr : (i 1).val = 0 + r.val) :
    k0_pay3 (F := Ideal) (View.ld (Val := Elt Ideal) (S := S4x896x1024) (e' := .f32) acc (Rect.unit ![a, 0, 0] ![1, 384, 1024] inb)) (View.ld (Val := Elt Ideal) (S := S1024x1536) (e' := .bf16) x0 (Rect.unit ![0, o] ![1024, 384] inb')) x1 (ix3 (0 : Fin 1) r (i 2)) =
      acc i + addend x0 x1 x2 x3 x4 x5 i := by
  subst ho
  refine (pay384 _ _ _ r (i 2)).trans (congrArg₂ (· + ·) (congrArg acc ?_) (Finset.sum_congr rfl fun k _ => ?_))
  · funext d
    refine Fin.ext ?_
    fin_cases d
    · show a + 1 * 0 = (i 0).val
      omega
    · show 0 + 1 * r.val = (i 1).val
      omega
    · show 0 + 1 * (i 2).val = (i 2).val
      omega
  · have h1 : (i 1).val < 384 := by have := r.isLt; omega
    unfold term
    rw [dif_pos h1]
    refine congrArg (· * _) (congrArg x0 ?_)
    funext d
    refine Fin.ext ?_
    fin_cases d
    · show 0 + 1 * k.val = k.val
      omega
    · show a * 384 + 1 * r.val = (i 0).val * 384 + (i 1).val
      rw [h0]; omega

theorem panel_second (a o : ℕ) (ho : o = a * 256) (i : S4x896x1024.Idx) (inb : ∀ d, ![a, 384, 0] d + ![1, 256, 1024] d ≤ S4x896x1024.size d)
    (inb' : ∀ d, ![0, o] d + ![1024, 256] d ≤ S1024x1024.size d) (h0 : (i 0).val = a) (r : Fin 256) (hr : (i 1).val = 384 + r.val) :
    k0_pay8 (F := Ideal) (View.ld (Val := Elt Ideal) (S := S4x896x1024) (e' := .f32) acc (Rect.unit ![a, 384, 0] ![1, 256, 1024] inb)) (View.ld (Val := Elt Ideal) (S := S1024x1024) (e' := .bf16) x2 (Rect.unit ![0, o] ![1024, 256] inb')) x3 (ix3 (0 : Fin 1) r (i 2)) =
      acc i + addend x0 x1 x2 x3 x4 x5 i := by
  subst ho
  refine (pay256 _ _ _ r (i 2)).trans (congrArg₂ (· + ·) (congrArg acc ?_) (Finset.sum_congr rfl fun k _ => ?_))
  · funext d
    refine Fin.ext ?_
    fin_cases d
    · show a + 1 * 0 = (i 0).val
      omega
    · show 384 + 1 * r.val = (i 1).val
      omega
    · show 0 + 1 * (i 2).val = (i 2).val
      omega
  · have h1 : ¬(i 1).val < 384 := by omega
    have h2 : (i 1).val < 640 := by have := r.isLt; omega
    unfold term
    rw [dif_neg h1, dif_pos h2]
    refine congrArg (· * _) (congrArg x2 ?_)
    funext d
    refine Fin.ext ?_
    fin_cases d
    · show 0 + 1 * k.val = k.val
      omega
    · show a * 256 + 1 * r.val = (i 0).val * 256 + ((i 1).val - 384)
      rw [h0]; omega

theorem panel_third (a o : ℕ) (ho : o = a * 256) (i : S4x896x1024.Idx) (inb : ∀ d, ![a, 640, 0] d + ![1, 256, 1024] d ≤ S4x896x1024.size d)
    (inb' : ∀ d, ![0, o] d + ![1024, 256] d ≤ S1024x1024.size d) (h0 : (i 0).val = a) (r : Fin 256) (hr : (i 1).val = 640 + r.val) :
    k0_pay8 (F := Ideal) (View.ld (Val := Elt Ideal) (S := S4x896x1024) (e' := .f32) acc (Rect.unit ![a, 640, 0] ![1, 256, 1024] inb)) (View.ld (Val := Elt Ideal) (S := S1024x1024) (e' := .bf16) x4 (Rect.unit ![0, o] ![1024, 256] inb')) x5 (ix3 (0 : Fin 1) r (i 2)) =
      acc i + addend x0 x1 x2 x3 x4 x5 i := by
  subst ho
  refine (pay256 _ _ _ r (i 2)).trans (congrArg₂ (· + ·) (congrArg acc ?_) (Finset.sum_congr rfl fun k _ => ?_))
  · funext d
    refine Fin.ext ?_
    fin_cases d
    · show a + 1 * 0 = (i 0).val
      omega
    · show 640 + 1 * r.val = (i 1).val
      omega
    · show 0 + 1 * (i 2).val = (i 2).val
      omega
  · have h1 : ¬(i 1).val < 384 := by omega
    have h2 : ¬(i 1).val < 640 := by omega
    unfold term
    rw [dif_neg h1, dif_neg h2]
    refine congrArg (· * _) (congrArg x4 ?_)
    funext d
    refine Fin.ext ?_
    fin_cases d
    · show 0 + 1 * k.val = k.val
      omega
    · show a * 256 + 1 * r.val = (i 0).val * 256 + ((i 1).val - 640)
      rw [h0]; omega

/-- A point's twelve stores, over anything that was there. -/
theorem stored (L : List (View.Piece (Elt Ideal) S4x896x1024 .f32)) (i : S4x896x1024.Idx) :
    View.canon ([⟨Rect.unit ![3, 640, 0] ![1, 256, 1024] inb_S4x896x1024_S1x256x1024_3_640_0, k0_pay1 (F := Ideal) (View.ld (Val := Elt Ideal) (S := S4x896x1024) (e' := .f32) acc (Rect.unit ![3, 640, 0] ![1, 256, 1024] inb_S4x896x1024_S1x256x1024_3_640_0)) (View.ld (Val := Elt Ideal) (S := S1024x1024) (e' := .bf16) x4 (Rect.unit ![0, 768] ![1024, 256] inb_S1024x1024_S1024x256_0_768)) x5⟩, ⟨Rect.unit ![2, 640, 0] ![1, 256, 1024] inb_S4x896x1024_S1x256x1024_2_640_0, k0_pay16 (F := Ideal) (View.ld (Val := Elt Ideal) (S := S4x896x1024) (e' := .f32) acc (Rect.unit ![2, 640, 0] ![1, 256, 1024] inb_S4x896x1024_S1x256x1024_2_640_0)) (View.ld (Val := Elt Ideal) (S := S1024x1024) (e' := .bf16) x4 (Rect.unit ![0, 512] ![1024, 256] inb_S1024x1024_S1024x256_0_512)) x5⟩, ⟨Rect.unit ![1, 640, 0] ![1, 256, 1024] inb_S4x896x1024_S1x256x1024_1_640_0, k0_pay15 (F := Ideal) (View.ld (Val := Elt Ideal) (S := S4x896x1024) (e' := .f32) acc (Rect.unit ![1, 640, 0] ![1, 256, 1024] inb_S4x896x1024_S1x256x1024_1_640_0)) (View.ld (Val := Elt Ideal) (S := S1024x1024) (e' := .bf16) x4 (Rect.unit ![0, 256] ![1024, 256] inb_S1024x1024_S1024x256_0_256)) x5⟩, ⟨Rect.unit ![0, 640, 0] ![1, 256, 1024] inb_S4x896x1024_S1x256x1024_0_640_0, k0_pay14 (F := Ideal) (k0_pay13 (View.ld (Val := Elt Ideal) (S := S4x896x1024) (e' := .f32) acc (Rect.unit ![0, 640, 0] ![1, 256, 1024] inb_S4x896x1024_S1x256x1024_0_640_0))) (View.ld (Val := Elt Ideal) (S := S1024x1024) (e' := .bf16) x4 (Rect.unit ![0, 0] ![1024, 256] inb_S1024x1024_S1024x256_0_0)) x5⟩, ⟨Rect.unit ![3, 384, 0] ![1, 256, 1024] inb_S4x896x1024_S1x256x1024_3_384_0, k0_pay12 (F := Ideal) (View.ld (Val := Elt Ideal) (S := S4x896x1024) (e' := .f32) acc (Rect.unit ![3, 384, 0] ![1, 256, 1024] inb_S4x896x1024_S1x256x1024_3_384_0)) (View.ld (Val := Elt Ideal) (S := S1024x1024) (e' := .bf16) x2 (Rect.unit ![0, 768] ![1024, 256] inb_S1024x1024_S1024x256_0_768)) x3⟩, ⟨Rect.unit ![2, 384, 0] ![1, 256, 1024] inb_S4x896x1024_S1x256x1024_2_384_0, k0_pay11 (F := Ideal) (View.ld (Val := Elt Ideal) (S := S4x896x1024) (e' := .f32) acc (Rect.unit ![2, 384, 0] ![1, 256, 1024] inb_S4x896x1024_S1x256x1024_2_384_0)) (View.ld (Val := Elt Ideal) (S := S1024x1024) (e' := .bf16) x2 (Rect.unit ![0, 512] ![1024, 256] inb_S1024x1024_S1024x256_0_512)) x3⟩, ⟨Rect.unit ![1, 384, 0] ![1, 256, 1024] inb_S4x896x1024_S1x256x1024_1_384_0, k0_pay10 (F := Ideal) (k0_pay9 (View.ld (Val := Elt Ideal) (S := S4x896x1024) (e' := .f32) acc (Rect.unit ![1, 384, 0] ![1, 256, 1024] inb_S4x896x1024_S1x256x1024_1_384_0))) (View.ld (Val := Elt Ideal) (S := S1024x1024) (e' := .bf16) x2 (Rect.unit ![0, 256] ![1024, 256] inb_S1024x1024_S1024x256_0_256)) x3⟩, ⟨Rect.unit ![0, 384, 0] ![1, 256, 1024] inb_S4x896x1024_S1x256x1024_0_384_0, k0_pay8 (F := Ideal) (View.ld (Val := Elt Ideal) (S := S4x896x1024) (e' := .f32) acc (Rect.unit ![0, 384, 0] ![1, 256, 1024] inb_S4x896x1024_S1x256x1024_0_384_0)) (View.ld (Val := Elt Ideal) (S := S1024x1024) (e' := .bf16) x2 (Rect.unit ![0, 0] ![1024, 256] inb_S1024x1024_S1024x256_0_0)) x3⟩, ⟨Rect.unit ![3, 0, 0] ![1, 384, 1024] inb_S4x896x1024_S1x384x1024_3_0_0, k0_pay7 (F := Ideal) (View.ld (Val := Elt Ideal) (S := S4x896x1024) (e' := .f32) acc (Rect.unit ![3, 0, 0] ![1, 384, 1024] inb_S4x896x1024_S1x384x1024_3_0_0)) (View.ld (Val := Elt Ideal) (S := S1024x1536) (e' := .bf16) x0 (Rect.unit ![0, 1152] ![1024, 384] inb_S1024x1536_S1024x384_0_1152)) x1⟩, ⟨Rect.unit ![2, 0, 0] ![1, 384, 1024] inb_S4x896x1024_S1x384x1024_2_0_0, k0_pay6 (F := Ideal) (k0_pay5 (View.ld (Val := Elt Ideal) (S := S4x896x1024) (e' := .f32) acc (Rect.unit ![2, 0, 0] ![1, 384, 1024] inb_S4x896x1024_S1x384x1024_2_0_0))) (View.ld (Val := Elt Ideal) (S := S1024x1536) (e' := .bf16) x0 (Rect.unit ![0, 768] ![1024, 384] inb_S1024x1536_S1024x384_0_768)) x1⟩, ⟨Rect.unit ![1, 0, 0] ![1, 384, 1024] inb_S4x896x1024_S1x384x1024_1_0_0, k0_pay4 (F := Ideal) (View.ld (Val := Elt Ideal) (S := S4x896x1024) (e' := .f32) acc (Rect.unit ![1, 0, 0] ![1, 384, 1024] inb_S4x896x1024_S1x384x1024_1_0_0)) (View.ld (Val := Elt Ideal) (S := S1024x1536) (e' := .bf16) x0 (Rect.unit ![0, 384] ![1024, 384] inb_S1024x1536_S1024x384_0_384)) x1⟩, ⟨Rect.unit ![0, 0, 0] ![1, 384, 1024] inb_S4x896x1024_S1x384x1024_0_0_0, k0_pay3 (F := Ideal) (View.ld (Val := Elt Ideal) (S := S4x896x1024) (e' := .f32) acc (Rect.unit ![0, 0, 0] ![1, 384, 1024] inb_S4x896x1024_S1x384x1024_0_0_0)) (View.ld (Val := Elt Ideal) (S := S1024x1536) (e' := .bf16) x0 (Rect.unit ![0, 0] ![1024, 384] inb_S1024x1536_S1024x384_0_0)) x1⟩] ++ L) i = acc i + addend x0 x1 x2 x3 x4 x5 i := by
  have b0 : (i 0).val < 4 := (i 0).isLt
  have b1 : (i 1).val < 896 := (i 1).isLt
  let g : FVec Ideal S4x896x1024 .f32 := fun i => acc i + addend x0 x1 x2 x3 x4 x5 i
  refine canon_panel g 3 640 256 _ _ _ i (panel_third acc x0 x1 x2 x3 x4 x5 3 768 rfl i _ _) fun et3 => ?_
  refine canon_panel g 2 640 256 _ _ _ i (panel_third acc x0 x1 x2 x3 x4 x5 2 512 rfl i _ _) fun et2 => ?_
  refine canon_panel g 1 640 256 _ _ _ i (panel_third acc x0 x1 x2 x3 x4 x5 1 256 rfl i _ _) fun et1 => ?_
  refine canon_panel g 0 640 256 _ _ _ i (panel_third acc x0 x1 x2 x3 x4 x5 0 0 rfl i _ _) fun et0 => ?_
  refine canon_panel g 3 384 256 _ _ _ i (panel_second acc x0 x1 x2 x3 x4 x5 3 768 rfl i _ _) fun es3 => ?_
  refine canon_panel g 2 384 256 _ _ _ i (panel_second acc x0 x1 x2 x3 x4 x5 2 512 rfl i _ _) fun es2 => ?_
  refine canon_panel g 1 384 256 _ _ _ i (panel_second acc x0 x1 x2 x3 x4 x5 1 256 rfl i _ _) fun es1 => ?_
  refine canon_panel g 0 384 256 _ _ _ i (panel_second acc x0 x1 x2 x3 x4 x5 0 0 rfl i _ _) fun es0 => ?_
  refine canon_panel g 3 0 384 _ _ _ i (panel_first acc x0 x1 x2 x3 x4 x5 3 1152 rfl i _ _) fun ef3 => ?_
  refine canon_panel g 2 0 384 _ _ _ i (panel_first acc x0 x1 x2 x3 x4 x5 2 768 rfl i _ _) fun ef2 => ?_
  refine canon_panel g 1 0 384 _ _ _ i (panel_first acc x0 x1 x2 x3 x4 x5 1 384 rfl i _ _) fun ef1 => ?_
  refine canon_panel g 0 0 384 _ _ _ i (panel_first acc x0 x1 x2 x3 x4 x5 0 0 rfl i _ _) fun ef0 => ?_
  exfalso
  omega

end Point

variable (c : Dev nD) (m : (ℓ : Loc nD τ sig) → Buf (Elt Ideal) ℓ)

/-- What point `n` adds to the result. -/
def added (n : ℕ) (hn : n < cfg0.N) (i : S4x896x1024.Idx) : EReal :=
  addend (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) i

theorem later (t : Fin cfg0.N) (h : ¬ t.val % 16 = 0) (i : S4x896x1024.Idx) :
    outsAt0 m c t.val t.isLt i = outsAt0 m c (t.val - 1) (lt_of_le_of_lt (Nat.sub_le _ _) t.isLt) i + added c m t.val t.isLt i := by
  rw [outsAt0_B m c t h]
  frame_out
  exact stored _ _ _ _ _ _ _ [] i

theorem first (t : Fin cfg0.N) (h : t.val % 16 = 0) (i : S4x896x1024.Idx) :
    outsAt0 m c t.val t.isLt i = 0 + added c m t.val t.isLt i := by
  rw [outsAt0_A m c t h]
  frame_out
  simp (disch := decide) only [load_past, load_whole, zero_apply]
  exact stored (fun _ => 0) _ _ _ _ _ _ [_] i

/-- The call's arguments as the launch leaves them. -/
def a : FVec Ideal S16384x1536 .bf16 := m ((c : Thread nD τ).loc main_arg0)
def da : FVec Ideal S16384x1024 .bf16 := m ((c : Thread nD τ).loc main_arg1)
def b : FVec Ideal S16384x1024 .bf16 := m ((c : Thread nD τ).loc main_arg2)
def db : FVec Ideal S16384x1024 .bf16 := m ((c : Thread nD τ).loc main_arg3)
def z : FVec Ideal S16384x1024 .bf16 := m ((c : Thread nD τ).loc main_arg4)
def dz : FVec Ideal S16384x1024 .bf16 := m ((c : Thread nD τ).loc main_arg5)

theorem index_in : ∀ t : Fin cfg0.N, win0_0.index t = ![t.val % 16, 0] ∧ win0_1.index t = ![t.val % 16, 0] ∧ win0_2.index t = ![t.val % 16, 0] ∧ win0_3.index t = ![t.val % 16, 0] ∧ win0_4.index t = ![t.val % 16, 0] ∧ win0_5.index t = ![t.val % 16, 0] := by
  decide +kernel

theorem input0 (t : Fin cfg0.N) (k : Fin 1024) (j : Fin 1536) : (iblk m c 0 t : FVec Ideal S1024x1536 .bf16) (ix2 k j) = a c m (ix2 (row t.val k) j) := by
  have hN : t.val < 16 := t.isLt
  blk_simp [iblk]
  refine (congrFun (V_main_arg0 m c) _).trans ?_
  show a c m _ = _
  refine congrArg (a c m) ?_
  funext d
  fin_cases d <;> refine Fin.ext ?_ <;> blk_simp [(index_in t).1, row] <;> simp [row, ix2] <;> omega

theorem input1 (t : Fin cfg0.N) (k : Fin 1024) (j : Fin 1024) : (iblk m c 1 t : FVec Ideal S1024x1024 .bf16) (ix2 k j) = da c m (ix2 (row t.val k) j) := by
  have hN : t.val < 16 := t.isLt
  blk_simp [iblk]
  refine (congrFun (V_main_arg1 m c) _).trans ?_
  show da c m _ = _
  refine congrArg (da c m) ?_
  funext d
  fin_cases d <;> refine Fin.ext ?_ <;> blk_simp [(index_in t).2.1, row] <;> simp [row, ix2] <;> omega

theorem input2 (t : Fin cfg0.N) (k : Fin 1024) (j : Fin 1024) : (iblk m c 2 t : FVec Ideal S1024x1024 .bf16) (ix2 k j) = b c m (ix2 (row t.val k) j) := by
  have hN : t.val < 16 := t.isLt
  blk_simp [iblk]
  refine (congrFun (V_main_arg2 m c) _).trans ?_
  show b c m _ = _
  refine congrArg (b c m) ?_
  funext d
  fin_cases d <;> refine Fin.ext ?_ <;> blk_simp [(index_in t).2.2.1, row] <;> simp [row, ix2] <;> omega

theorem input3 (t : Fin cfg0.N) (k : Fin 1024) (j : Fin 1024) : (iblk m c 3 t : FVec Ideal S1024x1024 .bf16) (ix2 k j) = db c m (ix2 (row t.val k) j) := by
  have hN : t.val < 16 := t.isLt
  blk_simp [iblk]
  refine (congrFun (V_main_arg3 m c) _).trans ?_
  show db c m _ = _
  refine congrArg (db c m) ?_
  funext d
  fin_cases d <;> refine Fin.ext ?_ <;> blk_simp [(index_in t).2.2.2.1, row] <;> simp [row, ix2] <;> omega

theorem input4 (t : Fin cfg0.N) (k : Fin 1024) (j : Fin 1024) : (iblk m c 4 t : FVec Ideal S1024x1024 .bf16) (ix2 k j) = z c m (ix2 (row t.val k) j) := by
  have hN : t.val < 16 := t.isLt
  blk_simp [iblk]
  refine (congrFun (V_main_arg4 m c) _).trans ?_
  show z c m _ = _
  refine congrArg (z c m) ?_
  funext d
  fin_cases d <;> refine Fin.ext ?_ <;> blk_simp [(index_in t).2.2.2.2.1, row] <;> simp [row, ix2] <;> omega

theorem input5 (t : Fin cfg0.N) (k : Fin 1024) (j : Fin 1024) : (iblk m c 5 t : FVec Ideal S1024x1024 .bf16) (ix2 k j) = dz c m (ix2 (row t.val k) j) := by
  have hN : t.val < 16 := t.isLt
  blk_simp [iblk]
  refine (congrFun (V_main_arg5 m c) _).trans ?_
  show dz c m _ = _
  refine congrArg (dz c m) ?_
  funext d
  fin_cases d <;> refine Fin.ext ?_ <;> blk_simp [(index_in t).2.2.2.2.2, row] <;> simp [row, ix2] <;> omega

/-- An entry of the result: the sum over all the rows. -/
def total (a : FVec Ideal S16384x1536 .bf16) (da b db z dz : FVec Ideal S16384x1024 .bf16) : FVec Ideal S4x896x1024 .f32 := fun i =>
  ∑ r : Fin 16384, term (fun r j => a (ix2 r j)) (fun r j => da (ix2 r j)) (fun r j => b (ix2 r j)) (fun r j => db (ix2 r j)) (fun r j => z (ix2 r j)) (fun r j => dz (ix2 r j)) (i 0) (i 1) (i 2) r

/-- The rows that point `n` takes. -/
def part (n : ℕ) (i : S4x896x1024.Idx) : EReal :=
  ∑ k : Fin 1024, term (fun r j => a c m (ix2 r j)) (fun r j => da c m (ix2 r j)) (fun r j => b c m (ix2 r j)) (fun r j => db c m (ix2 r j)) (fun r j => z c m (ix2 r j)) (fun r j => dz c m (ix2 r j)) (i 0) (i 1) (i 2) (row n k)

theorem added_eq (t : Fin cfg0.N) (i : S4x896x1024.Idx) : added c m t.val t.isLt i = part c m t.val i := by
  unfold added addend part
  refine Finset.sum_congr rfl fun k _ => ?_
  unfold term
  split
  · exact congrArg₂ (· * ·) (input0 c m t k _) (input1 c m t k _)
  · split
    · exact congrArg₂ (· * ·) (input2 c m t k _) (input3 c m t k _)
    · exact congrArg₂ (· * ·) (input4 c m t k _) (input5 c m t k _)

/-- The last point leaves the whole result. -/
theorem last (t : Fin cfg0.N) (ht : t.val = 15) (i : S4x896x1024.Idx) :
    outsAt0 m c t.val t.isLt i = total (a c m) (da c m) (b c m) (db c m) (z c m) (dz c m) i := by
  have h0 : ∀ t : Fin cfg0.N, t.val % 16 = 0 → ∀ i, outsAt0 m c t.val t.isLt i = (fun _ => (0 : EReal)) i + part c m t.val i :=
    fun t h i => (first c m t h i).trans (congrArg ((0 : EReal) + ·) (added_eq c m t i))
  have hs : ∀ t : Fin cfg0.N, ¬t.val % 16 = 0 → ∀ i, outsAt0 m c t.val t.isLt i = outsAt0 m c (t.val - 1) (lt_of_le_of_lt (Nat.sub_le _ _) t.isLt) i + part c m t.val i :=
    fun t h i => (later c m t h i).trans (congrArg (_ + ·) (added_eq c m t i))
  have hN : cfg0.N ≤ 16 := by decide
  have e := Pipeline.eq_sum_of_reset_step_apply_single (M := EReal) (fun n h => outsAt0 m c n h) 16 (fun _ => (0 : EReal)) (part c m) h0 hs hN t i
  refine e.trans ?_
  rw [zero_add, ht]
  exact sum_blocks _

theorem last_whole : (cfg0.win 6).WholeAt ⟨15, by decide⟩ := by decide +kernel

theorem array : (dats m 0 c).arrAt 6 cfg0.N = total (a c m) (da c m) (b c m) (db c m) (z c m) (dz c m) := by
  have key : outsAt0 m c (⟨15, by decide⟩ : Fin cfg0.N).val (⟨15, by decide⟩ : Fin cfg0.N).isLt = total (a c m) (da c m) (b c m) (db c m) (z c m) (dz c m) :=
    funext (last c m ⟨15, by decide⟩ rfl)
  generalize total (a c m) (da c m) (b c m) (db c m) (z c m) (dz c m) = G at key
  refine (dats m 0 c).arrAt_eq_of_after_last 6 ⟨15, by decide⟩ last_whole G fun j => ?_
  rw [after0_6, key]
  rfl

end Cert.Kernel8Ideal.Panels

namespace Cert.Reference8Ideal.Panels

open Idealize.ShloMosaic Idealize.ShloMosaic.TcCoe Idealize.SL.Sem Cert.Reference8Ideal Cert.Reference8Ideal.Gen Cert.Panels

/-- One weight's gradient as the reference writes it, entry by entry. -/
theorem wide (a : FVec Ideal S16384x1536 .bf16) (d : FVec Ideal S16384x1024 .bf16) (k : Fin 4) (p : Fin 384) (q : Fin 1024) :
    shapeCast S4x384x1024 (transpose S1536x1024 [1, 0] (Host.dotGeneral (F := Ideal) dot_S16384x1024_S16384x1536_S1024x1536_0_0_1_1_n_n none (extf .f32 d bitsLt_bf16_f32) (extf .f32 a bitsLt_bf16_f32)) transposes_S1024x1536_S1536x1024_1_0) shapeCasts_S1536x1024_S4x384x1024 (ix3 k p q) =
      ∑ r : Fin 16384, a (ix2 r ⟨k.val * 384 + p.val, by omega⟩) * d (ix2 r q) := by
  pointwise []
  refine Finset.sum_congr rfl fun r _ => mul_comm _ _

theorem narrow (a d : FVec Ideal S16384x1024 .bf16) (k : Fin 4) (p : Fin 256) (q : Fin 1024) :
    shapeCast S4x256x1024 (transpose S1024x1024 [1, 0] (Host.dotGeneral (F := Ideal) dot_S16384x1024_S16384x1024_S1024x1024_0_0_1_1_n_n none (extf .f32 d bitsLt_bf16_f32) (extf .f32 a bitsLt_bf16_f32)) transposes_S1024x1024_S1024x1024_1_0) shapeCasts_S1024x1024_S4x256x1024 (ix3 k p q) =
      ∑ r : Fin 16384, a (ix2 r ⟨k.val * 256 + p.val, by omega⟩) * d (ix2 r q) := by
  pointwise []
  refine Finset.sum_congr rfl fun r _ => mul_comm _ _

/-- The three gradients side by side. -/
theorem joined (u : FVec Ideal S4x384x1024 .f32) (v w : FVec Ideal S4x256x1024 .f32) (k : Fin 4) (p : Fin 896) (q : Fin 1024) :
    concatenate S4x896x1024 1 [⟨S4x384x1024, u⟩, ⟨S4x256x1024, v⟩, ⟨S4x256x1024, w⟩] concatenates_S4x384x1024_S4x256x1024_S4x256x1024_S4x896x1024_d1 (ix3 k p q) =
      if h : p.val < 384 then u (ix3 k ⟨p.val, h⟩ q)
      else if h' : p.val < 640 then v (ix3 k ⟨p.val - 384, by omega⟩ q) else w (ix3 k ⟨p.val - 640, by omega⟩ q) := by
  pointwise []
  split
  · rfl
  · split
    · rw [dif_pos (by omega)]
    · rw [dif_neg (by omega)]
      rfl

/-- The reference's result term is the sum over all the rows. -/
theorem result (a : FVec Ideal S16384x1536 .bf16) (da b db z dz : FVec Ideal S16384x1024 .bf16) :
    concatenate S4x896x1024 1 [⟨S4x384x1024, shapeCast S4x384x1024 (transpose S1536x1024 [1, 0] (Host.dotGeneral (F := Ideal) dot_S16384x1024_S16384x1536_S1024x1536_0_0_1_1_n_n none (extf .f32 da bitsLt_bf16_f32) (extf .f32 a bitsLt_bf16_f32)) transposes_S1024x1536_S1536x1024_1_0) shapeCasts_S1536x1024_S4x384x1024⟩, ⟨S4x256x1024, shapeCast S4x256x1024 (transpose S1024x1024 [1, 0] (Host.dotGeneral (F := Ideal) dot_S16384x1024_S16384x1024_S1024x1024_0_0_1_1_n_n none (extf .f32 db bitsLt_bf16_f32) (extf .f32 b bitsLt_bf16_f32)) transposes_S1024x1024_S1024x1024_1_0) shapeCasts_S1024x1024_S4x256x1024⟩, ⟨S4x256x1024, shapeCast S4x256x1024 (transpose S1024x1024 [1, 0] (Host.dotGeneral (F := Ideal) dot_S16384x1024_S16384x1024_S1024x1024_0_0_1_1_n_n none (extf .f32 dz bitsLt_bf16_f32) (extf .f32 z bitsLt_bf16_f32)) transposes_S1024x1024_S1024x1024_1_0) shapeCasts_S1024x1024_S4x256x1024⟩] concatenates_S4x384x1024_S4x256x1024_S4x256x1024_S4x896x1024_d1 =
      Cert.Kernel8Ideal.Panels.total a da b db z dz := by
  funext i
  idx_vars i
  refine (joined _ _ _ _ _ _).trans ?_
  unfold Cert.Kernel8Ideal.Panels.total
  by_cases h : i1.val < 384
  · rw [dif_pos h]
    exact (wide a da i0 ⟨i1.val, h⟩ i2).trans (Finset.sum_congr rfl fun r _ => (term_first (fun r j => a (ix2 r j)) (fun r j => da (ix2 r j)) (fun r j => b (ix2 r j)) (fun r j => db (ix2 r j)) (fun r j => z (ix2 r j)) (fun r j => dz (ix2 r j)) i0 i1 i2 r h).symm)
  · rw [dif_neg h]
    by_cases h' : i1.val < 640
    · rw [dif_pos h']
      exact (narrow b db i0 ⟨i1.val - 384, by omega⟩ i2).trans (Finset.sum_congr rfl fun r _ => (term_second (fun r j => a (ix2 r j)) (fun r j => da (ix2 r j)) (fun r j => b (ix2 r j)) (fun r j => db (ix2 r j)) (fun r j => z (ix2 r j)) (fun r j => dz (ix2 r j)) i0 i1 i2 r h h').symm)
    · rw [dif_neg h']
      exact (narrow z dz i0 ⟨i1.val - 640, by omega⟩ i2).trans (Finset.sum_congr rfl fun r _ => (term_third (fun r j => a (ix2 r j)) (fun r j => da (ix2 r j)) (fun r j => b (ix2 r j)) (fun r j => db (ix2 r j)) (fun r j => z (ix2 r j)) (fun r j => dz (ix2 r j)) i0 i1 i2 r h h').symm)

end Cert.Reference8Ideal.Panels
-- ==== Proof.Step.lean ====
module

public import proofs.«01_k».proof.Proof.Gen.Kernel7Ideal.Value
public import proofs.«01_k».proof.Proof.Gen.Reference7Ideal.Run
public import Idealize.ShloMosaic.Lib.Pointwise
public import Idealize.ShloMosaic.Lib.Pipeline.ReadBack
public import Idealize.ShloMosaic.Lib.Pipeline.ValueKit
public import Idealize.ShloMosaic.Lib.StableHlo.Run
public import Idealize.ShloMosaic.Lib.StableHlo.RunRead

@[expose] public section

/-! # The optimiser's step

The step is the same formula at every entry, so the kernel's eight blocks of 128 rows give the reference's array. -/

set_option maxRecDepth 100000

noncomputable section

namespace Cert.Reference7Ideal.Step

open Idealize.ShloMosaic Idealize.ShloMosaic.TcCoe Idealize.SL.Sem Cert.Reference7Ideal Cert.Reference7Ideal.Gen

/-! The reference's results, of its arguments. -/

def first (g : FVec Ideal S1024x2176 .f32) (m1 : FVec Ideal S1x1024x2176 .f32) : FVec Ideal S1024x2176 .f32 :=
  addf (mulf (broadcastInDim S1024x2176 ![] bcast_S_S1024x2176 (constant S_ .f32 0x3F666666#32)) (shapeCast _ m1 shapeCasts_S1x1024x2176_S1024x2176)) (mulf (broadcastInDim S1024x2176 ![] bcast_S_S1024x2176 (constant S_ .f32 0x3DCCCCCD#32)) g)

def second (g : FVec Ideal S1024x2176 .f32) (m2 : FVec Ideal S1x1024x2176 .f32) : FVec Ideal S1024x2176 .f32 :=
  addf (mulf (broadcastInDim S1024x2176 ![] bcast_S_S1024x2176 (constant S_ .f32 0x3F7FBE77#32)) (shapeCast _ m2 shapeCasts_S1x1024x2176_S1024x2176)) (mulf (broadcastInDim S1024x2176 ![] bcast_S_S1024x2176 (constant S_ .f32 0x3A83126F#32)) (mulf g g))

def delta (w : FVec Ideal S1x1024x2176 .f32) (g : FVec Ideal S1024x2176 .f32) (m1 m2 : FVec Ideal S1x1024x2176 .f32) : FVec Ideal S1024x2176 .f32 :=
  mulf (broadcastInDim S1024x2176 ![] bcast_S_S1024x2176 (constant S_ .f32 0xBA83126F#32)) (addf (Host.divf (Host.divf (first g m1) (broadcastInDim S1024x2176 ![] bcast_S_S1024x2176 (constant S_ .f32 0x3F26BD02#32))) (addf (Host.sqrt (Host.divf (second g m2) (broadcastInDim S1024x2176 ![] bcast_S_S1024x2176 (constant S_ .f32 0x3C231ACC#32)))) (broadcastInDim S1024x2176 ![] bcast_S_S1024x2176 (constant S_ .f32 0x322BCC77#32)))) (mulf (broadcastInDim S1024x2176 ![] bcast_S_S1024x2176 (constant S_ .f32 0x3C23D70A#32)) (shapeCast _ w shapeCasts_S1x1024x2176_S1024x2176)))

end Cert.Reference7Ideal.Step

namespace Cert.Kernel7Ideal.Step

open Idealize.ShloMosaic Idealize.ShloMosaic.TcCoe Idealize.SL.Sem Cert.Kernel7Ideal Cert.Kernel7Ideal.Gen Cert.Reference7Ideal.Step

variable (c : Dev nD) (m : (ℓ : Loc nD τ sig) → Buf (Elt Ideal) ℓ)

/-- The weights, the gradient and the two moments as the launch leaves them. -/
def w : FVec Ideal S1x1024x2176 .f32 := m ((c : Thread nD τ).loc main_arg0)
def g : FVec Ideal S1024x2176 .f32 := m ((c : Thread nD τ).loc main_arg1)
def m1 : FVec Ideal S1x1024x2176 .f32 := m ((c : Thread nD τ).loc main_arg2)
def m2 : FVec Ideal S1x1024x2176 .f32 := m ((c : Thread nD τ).loc main_arg3)

theorem entry_w : V m c main_v0 = (fun i => w c m (ix3 0 (i 0) (i 1)) : FVec Ideal S1024x2176 .f32) := by
  dsimp only [V]
  after_reads_simp
  funext i
  idx_vars i
  pointwise [w]

theorem entry_m1 : V m c main_v1 = (fun i => m1 c m (ix3 0 (i 0) (i 1)) : FVec Ideal S1024x2176 .f32) := by
  dsimp only [V]
  after_reads_simp
  funext i
  idx_vars i
  pointwise [m1]

theorem entry_m2 : V m c main_v2 = (fun i => m2 c m (ix3 0 (i 0) (i 1)) : FVec Ideal S1024x2176 .f32) := by
  dsimp only [V]
  after_reads_simp
  funext i
  idx_vars i
  pointwise [m2]

/-- Row `r` of the block of rows that point `t` takes. -/
def row (t : Fin cfg0.N) (r : Fin 128) : Fin 1024 := ⟨t.val * 128 + r.val, by have : t.val < 8 := t.isLt; omega⟩

theorem index : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by
  decide +kernel

theorem input0 (t : Fin cfg0.N) : iblk m c 0 t = (fun i => w c m (ix3 0 (row t (i 0)) (i 1)) : FVec Ideal S128x2176 .f32) := by
  funext y
  blk_simp [iblk]
  refine (congrFun (entry_w c m) _).trans ?_
  refine congrArg₂ (fun r k => w c m (ix3 0 r k)) (Fin.ext ?_) (Fin.ext ?_) <;> blk_simp [(index t).1, row] <;> simp [row] <;> omega

theorem input1 (t : Fin cfg0.N) : iblk m c 1 t = (fun i => g c m (ix2 (row t (i 0)) (i 1)) : FVec Ideal S128x2176 .f32) := by
  funext y
  blk_simp [iblk]
  refine (congrFun (V_main_arg1 m c) _).trans (congrArg (g c m) (funext fun a => ?_))
  fin_cases a <;> refine Fin.ext ?_ <;> blk_simp [(index t).2.1, row] <;> simp [row, ix2] <;> omega

theorem input2 (t : Fin cfg0.N) : iblk m c 2 t = (fun i => m1 c m (ix3 0 (row t (i 0)) (i 1)) : FVec Ideal S128x2176 .f32) := by
  funext y
  blk_simp [iblk]
  refine (congrFun (entry_m1 c m) _).trans ?_
  refine congrArg₂ (fun r k => m1 c m (ix3 0 r k)) (Fin.ext ?_) (Fin.ext ?_) <;> blk_simp [(index t).2.2.1, row] <;> simp [row] <;> omega

theorem input3 (t : Fin cfg0.N) : iblk m c 3 t = (fun i => m2 c m (ix3 0 (row t (i 0)) (i 1)) : FVec Ideal S128x2176 .f32) := by
  funext y
  blk_simp [iblk]
  refine (congrFun (entry_m2 c m) _).trans ?_
  refine congrArg₂ (fun r k => m2 c m (ix3 0 r k)) (Fin.ext ?_) (Fin.ext ?_) <;> blk_simp [(index t).2.2.2.1, row] <;> simp [row] <;> omega

theorem place4 (t : Fin cfg0.N) (y : S128x2176.Idx) : (win0_4.blk t).view.emb y = (ix2 (row t (y 0)) (y 1) : S1024x2176.Idx) := by
  funext a
  fin_cases a <;> refine Fin.ext ?_ <;> blk_simp [(index t).2.2.2.2.1, row] <;> simp [row, ix2] <;> omega

theorem array4 : (dats m 0 c).arrAt 4 cfg0.N = delta (w c m) (g c m) (m1 c m) (m2 c m) := by
  refine (dats m 0 c).arrAt_eq_of_covers 4 _ (by decide +kernel) fun t hf y => ?_
  blk_simp
  refine Eq.trans ?_ (congrArg (delta (w c m) (g c m) (m1 c m) (m2 c m)) (place4 t y)).symm
  rw [after0_4, input0, input1, input2, input3]
  frame_out
  change S128x2176.Idx at y
  idx_vars y
  unfold delta first second k0_pay3 k0_pay1 k0_pay2
  pointwise []

theorem place5 (t : Fin cfg0.N) (y : S128x2176.Idx) : (win0_5.blk t).view.emb y = (ix2 (row t (y 0)) (y 1) : S1024x2176.Idx) := by
  funext a
  fin_cases a <;> refine Fin.ext ?_ <;> blk_simp [(index t).2.2.2.2.2.1, row] <;> simp [row, ix2] <;> omega

theorem array5 : (dats m 0 c).arrAt 5 cfg0.N = first (g c m) (m1 c m) := by
  refine (dats m 0 c).arrAt_eq_of_covers 5 _ (by decide +kernel) fun t hf y => ?_
  blk_simp
  refine Eq.trans ?_ (congrArg (first (g c m) (m1 c m)) (place5 t y)).symm
  rw [after0_5, input0, input1, input2, input3]
  frame_out
  change S128x2176.Idx at y
  idx_vars y
  unfold first k0_pay1
  pointwise []

theorem place6 (t : Fin cfg0.N) (y : S128x2176.Idx) : (win0_6.blk t).view.emb y = (ix2 (row t (y 0)) (y 1) : S1024x2176.Idx) := by
  funext a
  fin_cases a <;> refine Fin.ext ?_ <;> blk_simp [(index t).2.2.2.2.2.2, row] <;> simp [row, ix2] <;> omega

theorem array6 : (dats m 0 c).arrAt 6 cfg0.N = second (g c m) (m2 c m) := by
  refine (dats m 0 c).arrAt_eq_of_covers 6 _ (by decide +kernel) fun t hf y => ?_
  blk_simp
  refine Eq.trans ?_ (congrArg (second (g c m) (m2 c m)) (place6 t y)).symm
  rw [after0_6, input0, input1, input2, input3]
  frame_out
  change S128x2176.Idx at y
  idx_vars y
  unfold second k0_pay2
  pointwise []

end Cert.Kernel7Ideal.Step
-- ==== Proof.Plain.lean ====
module

public import proofs.«01_k».proof.Defs
public import proofs.«01_k».proof.Proof.Product
public import proofs.«01_k».proof.Proof.Back
public import proofs.«01_k».proof.Proof.Panels
public import proofs.«01_k».proof.Proof.Step
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Adequacy
public import Idealize.ShloMosaic.Init

@[expose] public section

/-! # The claims of the plain products and of the optimiser's step -/

set_option maxRecDepth 100000

noncomputable section

namespace Cert.Plain

open Idealize.ShloMosaic Idealize.ShloMosaic.TcCoe Idealize.SL.Sem

theorem frame_ref5 : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem frame_ref6 : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run (F := Ideal) m ρ)

theorem frame_ref7 : Cert.quiescent_Reference7Ideal (hReference7Ideal := Cert.Reference7Ideal.Gen.facts) := by
  intro m ρ _
  exact (θ_run Cert.Reference7Ideal.defs _ _).mono (fun r h => ⟨fun c => (h c).2.2.2, sem_eq_zero_of_no_sems (by decide) r.2⟩)
    (Cert.Reference7Ideal.Value.run (F := Ideal) m ρ)

theorem value5 : Cert.algebraic_Kernel5Ideal_Reference5Ideal (hKernel5Ideal := Cert.Kernel5Ideal.Gen.facts)
    (hReference5Ideal := Cert.Reference5Ideal.Gen.facts) := by
  intro m ρ m' ρ' _ agree
  refine ⟨_, Cert.Kernel5Ideal.Value.run m ρ, ?_⟩
  refine (θ_run Cert.Reference5Ideal.defs _ _).mono (fun r h c => ?_) (Cert.Reference5Ideal.Value.run (F := Ideal) m' ρ')
  obtain ⟨e0, e1⟩ := agree c
  obtain ⟨r0, kept⟩ := h c
  rw [e0, e1] at r0
  exact ⟨(r0.trans (Cert.Reference5Ideal.Product.result _ _)).trans (Cert.Kernel5Ideal.Product.result c m).symm, kept⟩

theorem value6 : Cert.algebraic_Kernel6Ideal_Reference6Ideal (hKernel6Ideal := Cert.Kernel6Ideal.Gen.facts)
    (hReference6Ideal := Cert.Reference6Ideal.Gen.facts) := by
  intro m ρ m' ρ' _ agree
  refine ⟨_, Cert.Kernel6Ideal.Value.run_blocks m ρ, ?_⟩
  refine (θ_run Cert.Reference6Ideal.defs _ _).mono (fun r h c => ?_) (Cert.Reference6Ideal.Value.run (F := Ideal) m' ρ')
  obtain ⟨e0, e1, e2, e3⟩ := agree c
  obtain ⟨r0, kept⟩ := h c
  rw [e0, e1, e2, e3] at r0
  exact ⟨(r0.trans (Cert.Reference6Ideal.Back.result _ _ _ _)).trans (Cert.Kernel6Ideal.Back.array3 c m).symm, kept⟩

theorem value7 : Cert.algebraic_Kernel7Ideal_Reference7Ideal (hKernel7Ideal := Cert.Kernel7Ideal.Gen.facts)
    (hReference7Ideal := Cert.Reference7Ideal.Gen.facts) := by
  intro m ρ m' ρ' _ agree
  refine ⟨_, _, _, Cert.Kernel7Ideal.Value.run_blocks m ρ, ?_⟩
  refine (θ_run Cert.Reference7Ideal.defs _ _).mono (fun r h c => ?_) (Cert.Reference7Ideal.Value.run (F := Ideal) m' ρ')
  obtain ⟨e0, e1, e2, e3⟩ := agree c
  obtain ⟨r0, r1, r2, kept⟩ := h c
  rw [e0, e1, e2, e3] at r0
  rw [e1, e2] at r1
  rw [e1, e3] at r2
  exact ⟨r0.trans (Cert.Kernel7Ideal.Step.array4 c m).symm, r1.trans (Cert.Kernel7Ideal.Step.array5 c m).symm,
    r2.trans (Cert.Kernel7Ideal.Step.array6 c m).symm, kept⟩
theorem frame_ref8 : Cert.quiescent_Reference8Ideal (hReference8Ideal := Cert.Reference8Ideal.Gen.facts) := by
  intro m ρ _
  exact (θ_run Cert.Reference8Ideal.defs _ _).mono (fun r h => ⟨fun c => (h c).2, sem_eq_zero_of_no_sems (by decide) r.2⟩)
    (Cert.Reference8Ideal.Value.run (F := Ideal) m ρ)

theorem value8 : Cert.algebraic_Kernel8Ideal_Reference8Ideal (hKernel8Ideal := Cert.Kernel8Ideal.Gen.facts)
    (hReference8Ideal := Cert.Reference8Ideal.Gen.facts) := by
  intro m ρ m' ρ' _ agree
  refine ⟨_, Cert.Kernel8Ideal.Value.run_blocks m ρ, ?_⟩
  refine (θ_run Cert.Reference8Ideal.defs _ _).mono (fun r h c => ?_) (Cert.Reference8Ideal.Value.run (F := Ideal) m' ρ')
  obtain ⟨e0, e1, e2, e3, e4, e5⟩ := agree c
  obtain ⟨r0, kept⟩ := h c
  rw [e0, e1, e2, e3, e4, e5] at r0
  exact ⟨(r0.trans (Cert.Reference8Ideal.Panels.result _ _ _ _ _ _)).trans (Cert.Kernel8Ideal.Panels.array c m).symm, kept⟩

end Cert.Plain
-- ==== Proof.Mix.Forward.lean ====
module

public import proofs.«01_k».proof.Proof.Mix.Arrays
public import proofs.«01_k».proof.Proof.Gen.Kernel3Ideal.Value

@[expose] public section

/-! # The mixing layer's forward kernel at one grid point

It computes the branches as the backward kernel recomputes them, so its terms are that kernel's, and two products more. -/

set_option maxRecDepth 16384

noncomputable section

namespace Cert.Kernel3Ideal.Point

open Idealize.ShloMosaic Idealize.ShloMosaic.TcCoe Idealize.SL.Sem Cert.Kernel3Ideal Cert.Kernel3Ideal.Gen Cert.Reals Cert.Row Cert.Mix Cert.Kernel2Ideal.Block Cert.Kernel2Ideal.Loads
open Cert.Kernel2Ideal.Point (mixB mixX mix_piece)

/-! ## The kernel's terms as the backward kernel's -/

theorem same_mix :
    (∀ a b c, k0_pay11 (F := Ideal) a b c = Cert.Kernel2Ideal.Gen.k0_pay26 a b c) ∧
    (∀ a b c, k0_pay12 (F := Ideal) a b c = Cert.Kernel2Ideal.Gen.k0_pay26 a b c) ∧
    (∀ a b c, k0_pay13 (F := Ideal) a b c = Cert.Kernel2Ideal.Gen.k0_pay26 a b c) ∧
    (∀ a b c, k0_pay14 (F := Ideal) a b c = Cert.Kernel2Ideal.Gen.k0_pay26 a b c) ∧
    (∀ a b c, k0_pay15 (F := Ideal) a b c = Cert.Kernel2Ideal.Gen.k0_pay26 a b c) ∧
    (∀ a b c, k0_pay16 (F := Ideal) a b c = Cert.Kernel2Ideal.Gen.k0_pay26 a b c) ∧
    (∀ a b c, k0_pay19 (F := Ideal) a b c = Cert.Kernel2Ideal.Gen.k0_pay26 a b c) ∧
    (∀ a b c, k0_pay20 (F := Ideal) a b c = Cert.Kernel2Ideal.Gen.k0_pay26 a b c) ∧
    (∀ a b c, k0_pay23 (F := Ideal) a b c = Cert.Kernel2Ideal.Gen.k0_pay26 a b c) ∧
    (∀ a b c, k0_pay24 (F := Ideal) a b c = Cert.Kernel2Ideal.Gen.k0_pay26 a b c) ∧
    (∀ a b c, k0_pay27 (F := Ideal) a b c = Cert.Kernel2Ideal.Gen.k0_pay26 a b c) ∧
    (∀ a b c, k0_pay28 (F := Ideal) a b c = Cert.Kernel2Ideal.Gen.k0_pay26 a b c) ∧
    (∀ a b c, k0_pay18 (F := Ideal) (k0_pay17 a b c) = Cert.Kernel2Ideal.Gen.k0_pay26 a b c) ∧
    (∀ a b c, k0_pay22 (F := Ideal) (k0_pay21 a b c) = Cert.Kernel2Ideal.Gen.k0_pay26 a b c) ∧
    (∀ a b c, k0_pay26 (F := Ideal) (k0_pay25 a b) c = Cert.Kernel2Ideal.Gen.k0_pay26 a b c) ∧
    (∀ a b c, k0_pay30 (F := Ideal) (k0_pay29 a) b (constant S128x128 .f32 0x00000000#32) c = Cert.Kernel2Ideal.Gen.k0_pay26 a b c) :=
  ⟨fun _ _ _ => rfl, fun _ _ _ => rfl, fun _ _ _ => rfl, fun _ _ _ => rfl, fun _ _ _ => rfl, fun _ _ _ => rfl, fun _ _ _ => rfl, fun _ _ _ => rfl, fun _ _ _ => rfl,
    fun _ _ _ => rfl, fun _ _ _ => rfl, fun _ _ _ => rfl, fun _ _ _ => rfl, fun _ _ _ => rfl, fun _ _ _ => rfl, fun _ _ _ => rfl⟩

theorem same_gelu : (∀ a, k0_pay8 (F := Ideal) a = Cert.Kernel2Ideal.Gen.k0_pay20 a) ∧ (∀ a, k0_pay9 (F := Ideal) a = Cert.Kernel2Ideal.Gen.k0_pay21 a) ∧
    (∀ a b c d, k0_pay10 (F := Ideal) a b c d = Cert.Kernel2Ideal.Gen.k0_pay25 a b c d) ∧ (∀ a b, k0_pay32 (F := Ideal) a b = Cert.Kernel2Ideal.Gen.k0_pay50 b a) ∧
    (∀ a b, k0_pay2 (F := Ideal) a b = Cert.Kernel2Ideal.Gen.k0_pay11 a b) ∧ (∀ i a b d e, k0_pay3 (F := Ideal) i a b d e = Cert.Kernel2Ideal.Gen.k0_pay13 i a b d e) :=
  ⟨fun _ => rfl, fun _ => rfl, fun _ _ _ _ => rfl, fun _ _ => rfl, fun _ _ => rfl, fun _ _ _ _ _ => rfl⟩

/-! ## The two kinds of product -/

theorem times_oblong (f : Fin 256 → Fin 1536 → ℝ) (w : Fin 1536 → Fin 1024 → ℝ) :
    (matmul dot_S256x1536_S1536x1024_S256x1024_1_0_0_1_n_n none (wide .bf16 f) (shapeCast S1536x1024 (oblong w) shapeCasts_S1536x1024_S1536x1024)
      (constant S256x1024 .f32 0x00000000#32) : FVec Ideal S256x1024 .f32) = rows .f32 fun r k => ∑ c, f r c * w c k := by
  funext i
  idx_vars i
  pointwise [wide, oblong, rows]
  simp only [← EReal.coe_mul, ← coe_sum]

theorem times_square (f : Fin 256 → Fin 1024 → ℝ) (w : Fin 1024 → Fin 1024 → ℝ) :
    (matmul dot_S256x1024_S1024x1024_S256x1024_1_0_0_1_n_n none (rows .bf16 f) (shapeCast S1024x1024 (square w) shapeCasts_S1024x1024_S1024x1024)
      (constant S256x1024 .f32 0x00000000#32) : FVec Ideal S256x1024 .f32) = rows .f32 fun r k => ∑ c, f r c * w c k := by
  funext i
  idx_vars i
  pointwise [square, rows]
  simp only [← EReal.coe_mul, ← coe_sum]

variable (W : Cert.Mix.Weights) (X : Fin 272 → Fin 8704 → ℝ) (Y : Fin 256 → Fin 1024 → ℝ) (sp sn : ℝ)

/-- The branches and the projection's input of a block, and the sum after it. -/
def yaB (r : Fin 256) (k : Fin 1024) : ℝ := ∑ c, chanB (X (mid r)) c * cvB W X sp sn r c * W.wpa c k

def ybB (r : Fin 256) (k : Fin 1024) : ℝ := ∑ c, gu (X (mid r)) c * mixX W X r c * W.wpb c k

def zB (r : Fin 256) (k : Fin 1024) : ℝ := ga W (X (mid r)) k * yaB W X sp sn r k + gb W (X (mid r)) k * ybB W X r k

def r1B (r : Fin 256) (k : Fin 1024) : ℝ := alpha * Y r k + ∑ c, zB W X sp sn r c * W.wo c k

theorem pay7 (i : grid0.Coords) (hn : Cert.Kernel2Ideal.Gen.k0_pay8 (F := Ideal) i = (sn : EReal)) :
    k0_pay7 (F := Ideal) (wide .f32 fun r => ch (X (mid r))) (wide .f32 fun r => chm X sp sn (down r)) k0_pay4
      (k0_pay5 (wide .f32 fun r => chanC (X (mid r))) (wide .f32 fun r => chanH (X (mid r)))) (k0_pay6 i (edge (chanC (X (post 0)))) (edge (chanH (X (post 0)))))
      (long (W.cw 0)) (long (W.cw 1)) (long (W.cw 2)) (wide .f32 fun r => chanB (X (mid r))) (oblong W.wpa) = rows .f32 (yaB W X sp sn) := by
  refine Eq.trans ?_ (times_oblong (fun r c => chanB (X (mid r)) c * cvB W X sp sn r c) W.wpa)
  refine Eq.trans ?_ (congrArg (fun v => matmul dot_S256x1536_S1536x1024_S256x1024_1_0_0_1_n_n none v (shapeCast S1536x1024 (oblong W.wpa) shapeCasts_S1536x1024_S1536x1024)
      (constant S256x1024 .f32 0x00000000#32)) (pay17 W X sp sn))
  rw [← pay12 X sn i hn, ← pay11 X]
  rfl

theorem pay31 (f m : Fin 256 → Fin 1024 → ℝ) (w : Fin 1024 → Fin 1024 → ℝ) :
    k0_pay31 (F := Ideal) (rows .f32 f) (rows .f32 m) (square w) = rows .f32 fun r k => ∑ c, gelu (f r c) * m r c * w c k := by
  refine Eq.trans ?_ (times_square (fun r c => gelu (f r c) * m r c) w)
  rw [← pay49]
  rfl

theorem pay1_eq (y1 y2 g v x : FVec Ideal S256x1024 .f32) (b : FVec Ideal S1x1024 .f32) (w : FVec Ideal S1024x1024 .bf16) :
    k0_pay1 (F := Ideal) y1 y2 g v b x w = addf (mulf (broadcast S256x1024 (Scalar.ofBits .f32 0x3F9837F0#32 : Ideal .f32)) (shapeCast S256x1024 x shapeCasts_S256x1024_S256x1024))
      (matmul dot_S256x1024_S1024x1024_S256x1024_1_0_0_1_n_n none
        (truncf .bf16 (addf (mulf g y1) (mulf (Cert.Kernel2Ideal.Gen.k0_pay53 (Cert.Kernel2Ideal.Gen.k0_pay51 v) (Cert.Kernel2Ideal.Gen.k0_pay52 b)) y2)) bitsLt_bf16_f32)
        (shapeCast S1024x1024 w shapeCasts_S1024x1024_S1024x1024) (constant S256x1024 .f32 0x00000000#32)) := rfl

theorem pay1 (y1 y2 : Fin 256 → Fin 1024 → ℝ) :
    k0_pay1 (F := Ideal) (rows .f32 y1) (rows .f32 y2) (rows .f32 fun r => ga W (X (mid r))) (rows .f32 fun r => chanG (X (mid r))) (line fun k => W.bg (hi k))
      (rows .f32 Y) (square W.wo) =
      rows .f32 fun r k => alpha * Y r k + ∑ c, (ga W (X (mid r)) c * y1 r c + gb W (X (mid r)) c * y2 r c) * W.wo c k := by
  have e := times_square (fun r k => ga W (X (mid r)) k * y1 r k + gb W (X (mid r)) k * y2 r k) W.wo
  rw [← pay56 W X y1 y2, Cert.Kernel2Ideal.Gen.k0_pay56, pay54, pay55] at e
  rw [pay1_eq, pay51, e]
  funext i
  idx_vars i
  pointwise [rows]
  simp only [ofBits_alpha, ← EReal.coe_mul, ← EReal.coe_add]

/-! ## What a grid point writes -/

variable (c : Dev nD) (t : Fin cfg0.N) (m : (ℓ : Loc nD τ sig) → Buf (Elt Ideal) ℓ)

/-- The blocks of a grid point are real. -/
structure RealAt : Prop where
  h0 : iblk m c 0 t = blockP X
  h1 : iblk m c 1 t = prevP X
  h2 : iblk m c 2 t = nextP X
  h3 : iblk m c 3 t = rows .f32 Y
  h4 : iblk m c 4 t = oblong W.wpa
  h5 : iblk m c 5 t = square W.wpb
  h6 : iblk m c 6 t = square W.wo
  h7 : iblk m c 7 t = spatial W
  h8 : iblk m c 8 t = spreadBias W
  h9 : iblk m c 9 t = gateBias W
  h10 : iblk m c 10 t = taps W
  h11 : iblk m c 11 t = line W.vg
  h12 : iblk m c 12 t = line W.vb
  hp : Cert.Kernel2Ideal.Gen.k0_pay7 (F := Ideal) (grid0.coords t) = (sp : EReal)
  hn : Cert.Kernel2Ideal.Gen.k0_pay8 (F := Ideal) (grid0.coords t) = (sn : EReal)

variable (h : RealAt W X Y sp sn c t m)

include h in
theorem out14 : (outsAt0 m c t).2.1 = rows .f32 (yaB W X sp sn) := by
  simp only [outsAt0]
  frame_open
  simp (disch := decide) only [↓ View.readCov_skip, ↓ View.readCov_cons_toLoadRect, ↓ View.readCov_fill]
  frame_out
  simp only [h.h0, h.h1, h.h2, h.h3, h.h4, h.h5, h.h6, h.h7, h.h8, h.h9, h.h10, h.h11, h.h12, ld_block X, ld_prev X, ld_next X, ld_spatial W, ld_bias W, ld_gates W, ld_taps W, ld_pieces,
    same_mix, same_gelu, mix_piece W, sixteen, pay11 X, pay13 X sp sn _ h.hp, pay7 W X sp sn _ h.hn]
  try rfl

include h in
theorem out15 : (outsAt0 m c t).2.2 = rows .f32 (ybB W X) := by
  simp only [outsAt0]
  frame_open
  simp (disch := decide) only [↓ View.readCov_skip, ↓ View.readCov_cons_toLoadRect, ↓ View.readCov_fill]
  frame_out
  simp only [h.h0, h.h1, h.h2, h.h3, h.h4, h.h5, h.h6, h.h7, h.h8, h.h9, h.h10, h.h11, h.h12, ld_block X, ld_prev X, ld_next X, ld_spatial W, ld_bias W, ld_gates W, ld_taps W, ld_pieces,
    same_mix, same_gelu, mix_piece W, sixteen, pay20, pay21, Cert.Kernel2Ideal.Point.normed W X, pay31]
  try rfl

include h in
theorem out13 : (outsAt0 m c t).1 = rows .f32 (r1B W X Y sp sn) := by
  simp only [outsAt0]
  frame_open
  simp (disch := decide) only [↓ View.readCov_skip, ↓ View.readCov_cons_toLoadRect, ↓ View.readCov_fill]
  frame_out
  simp only [h.h0, h.h1, h.h2, h.h3, h.h4, h.h5, h.h6, h.h7, h.h8, h.h9, h.h10, h.h11, h.h12, ld_block X, ld_prev X, ld_next X, ld_spatial W, ld_bias W, ld_gates W, ld_taps W, ld_pieces,
    same_mix, same_gelu, mix_piece W, sixteen, pay11 X, pay13 X sp sn _ h.hp, pay7 W X sp sn _ h.hn, pay20, pay21, Cert.Kernel2Ideal.Point.normed W X, pay31, pay50 W X, pay1 W X]
  try rfl

end Cert.Kernel3Ideal.Point
-- ==== Proof.Mix.ForwardArrays.lean ====
module

public import proofs.«01_k».proof.Proof.Mix.Forward
public import Idealize.ShloMosaic.Lib.StableHlo.Run
public import Idealize.ShloMosaic.Lib.StableHlo.RunRead

@[expose] public section

/-! # The forward kernel's results on real arguments -/

set_option maxRecDepth 100000

noncomputable section

namespace Cert.Kernel3Ideal.Arrays

open Idealize.ShloMosaic Idealize.ShloMosaic.TcCoe Idealize.SL.Sem Cert.Kernel3Ideal Cert.Kernel3Ideal.Gen Cert.Reals Cert.Row Cert.Mix Cert.Kernel2Ideal.Block Cert.Kernel2Ideal.Loads Cert.Kernel3Ideal.Point
open Cert.Kernel2Ideal.Arrays

variable (W : Cert.Mix.Weights) (P : Fin 16384 → Fin 8704 → ℝ) (X : Fin 16384 → Fin 1024 → ℝ) (c : Dev nD) (m : (ℓ : Loc nD τ sig) → Buf (Elt Ideal) ℓ)

/-- The arguments are the real rows `P` and `X` and the weights. -/
structure RealArgs : Prop where
  a0 : m ((c : Thread nD τ).loc main_arg0) = (fun i => ((P (i 1) (i 2) : ℝ) : EReal) : FVec Ideal S1x16384x8704 .f32)
  a1 : m ((c : Thread nD τ).loc main_arg1) = (fun i => ((W.bg (i 1) : ℝ) : EReal) : FVec Ideal S1x2048 .f32)
  a2 : m ((c : Thread nD τ).loc main_arg2) = (fun i => ((W.cw (i 1) (i 2) : ℝ) : EReal) : FVec Ideal S1x3x1536 .f32)
  a3 : m ((c : Thread nD τ).loc main_arg3) = (line W.vg : FVec Ideal S1x1024 .f32)
  a4 : m ((c : Thread nD τ).loc main_arg4) = (line W.vb : FVec Ideal S1x1024 .f32)
  a5 : m ((c : Thread nD τ).loc main_arg5) = (fun i => ((W.ws (i 1) (i 2) (i 3) : ℝ) : EReal) : FVec Ideal S1x8x128x128 .f32)
  a6 : m ((c : Thread nD τ).loc main_arg6) = (fun i => ((W.bs (i 1) (i 2) : ℝ) : EReal) : FVec Ideal S1x8x128 .f32)
  a7 : m ((c : Thread nD τ).loc main_arg7) = (fun i => ((W.wpa (i 1) (i 2) : ℝ) : EReal) : FVec Ideal S1x1536x1024 .f32)
  a8 : m ((c : Thread nD τ).loc main_arg8) = (fun i => ((W.wpb (i 1) (i 2) : ℝ) : EReal) : FVec Ideal S1x1024x1024 .f32)
  a9 : m ((c : Thread nD τ).loc main_arg9) = (fun i => ((W.wo (i 1) (i 2) : ℝ) : EReal) : FVec Ideal S1x1024x1024 .f32)
  a10 : m ((c : Thread nD τ).loc main_arg10) = (fun i => ((X (i 1) (i 2) : ℝ) : EReal) : FVec Ideal S1x16384x1024 .f32)

variable (h : RealArgs W P X c m)

/-! ## What the call finds in its operands -/

include h in
theorem entry_p : V m c main_v12 = (fun i => ((P (i 0) (i 1) : ℝ) : EReal) : FVec Ideal S16384x8704 .f32) := by
  dsimp only [V]
  after_reads_simp
  rw [h.a0]
  funext i
  idx_vars i
  pointwise []

include h in
theorem entry_x : V m c main_v17 = (fun i => ((X (i 0) (i 1) : ℝ) : EReal) : FVec Ideal S16384x1024 .f32) := by
  dsimp only [V]
  after_reads_simp
  rw [h.a10]
  funext i
  idx_vars i
  pointwise []

include h in
theorem entry_wpa : V m c main_v1 = (oblong W.wpa : FVec Ideal S1536x1024 .bf16) := by
  dsimp only [V]
  after_reads_simp
  rw [h.a7]
  funext i
  idx_vars i
  pointwise [oblong]

include h in
theorem entry_wpb : V m c main_v3 = (square W.wpb : FVec Ideal S1024x1024 .bf16) := by
  dsimp only [V]
  after_reads_simp
  rw [h.a8]
  funext i
  idx_vars i
  pointwise [square]

include h in
theorem entry_wo : V m c main_v5 = (square W.wo : FVec Ideal S1024x1024 .bf16) := by
  dsimp only [V]
  after_reads_simp
  rw [h.a9]
  funext i
  idx_vars i
  pointwise [square]

include h in
theorem entry_ws : V m c main_v7 = (spatial W : FVec Ideal S8x128x128 .bf16) := by
  dsimp only [V]
  after_reads_simp
  rw [h.a5]
  funext i
  idx_vars i
  pointwise [spatial]

include h in
theorem entry_bs : V m c main_v11 = (spreadBias W : FVec Ideal S128x1024 .f32) := by
  dsimp only [V]
  after_reads_simp
  rw [h.a6]
  funext i
  idx_vars i
  pointwise [spreadBias]
  rfl

include h in
theorem entry_cw : V m c main_v18 = (taps W : FVec Ideal S3x1536 .f32) := by
  dsimp only [V]
  after_reads_simp
  rw [h.a2]
  funext i
  idx_vars i
  pointwise [taps]

include h in
theorem entry_pe : V m c main_v16 = (fun i => ((P (edgeOf (i 0) (i 1)) (i 2) : ℝ) : EReal) : FVec Ideal S64x16x8704 .f32) := by
  dsimp only [V]
  after_reads_simp
  have e0 : StableHlo.upto hostOps0 (fun b => m (c, b)) 16 (Proc.tc.devRef main_v14) = (fun i => ((P ⟨256 * (i 0).val + (0 + (i 1).val), inBlock (i 0) 0 (i 1) (by decide)⟩ (i 2) : ℝ) : EReal) : FVec Ideal S64x8x8704 .f32) := by
    after_reads_simp
    rw [h.a0]
    funext i
    idx_vars i
    pointwise []
    exact congrArg (fun r => ((P r i2 : ℝ) : EReal)) (Fin.ext (by dsimp only; omega))
  have e1 : StableHlo.upto hostOps0 (fun b => m (c, b)) 16 (Proc.tc.devRef main_v15) = (fun i => ((P ⟨256 * (i 0).val + (248 + (i 1).val), inBlock (i 0) 248 (i 1) (by decide)⟩ (i 2) : ℝ) : EReal) : FVec Ideal S64x8x8704 .f32) := by
    after_reads_simp
    rw [h.a0]
    funext i
    idx_vars i
    pointwise []
    exact congrArg (fun r => ((P r i2 : ℝ) : EReal)) (Fin.ext (by dsimp only; omega))
  rw [e0, e1]
  funext i
  idx_vars i
  by_cases h8 : i1.val < 8
  · pointwise [edgeOf, h8]
  · pointwise [edgeOf, h8]
    exact congrArg (fun r => ((P r i2 : ℝ) : EReal)) (Fin.ext (by dsimp only; omega))

/-! ## The blocks -/

theorem index_in : ∀ t : Fin cfg0.N, win0_0.index t = ![t.val, 0] ∧ win0_1.index t = ![t.val - 1, 1, 0] ∧ win0_2.index t = ![min (t.val + 1) 63, 0, 0] ∧
    win0_3.index t = ![t.val, 0] := by
  decide +kernel

theorem index_whole : ∀ t : Fin cfg0.N, win0_4.index t = ![0, 0] ∧ win0_5.index t = ![0, 0] ∧ win0_6.index t = ![0, 0] ∧ win0_7.index t = ![0, 0, 0] ∧
    win0_8.index t = ![0, 0] ∧ win0_9.index t = ![0, 0] ∧ win0_10.index t = ![0, 0] ∧ win0_11.index t = ![0, 0] ∧ win0_12.index t = ![0, 0] := by
  decide +kernel

include h in
theorem input0 (t : Fin cfg0.N) : iblk m c 0 t = blockP (rowsP P t) := by
  refine Eq.trans ?_ (own_p P t).symm
  funext i
  blk_simp [iblk]
  rw [entry_p W P X c m h]
  refine congrArg₂ (fun r k => ((P r k : ℝ) : EReal)) (Fin.ext ?_) (Fin.ext ?_) <;> blk_simp [(index_in t).1, at64] <;> simp [at64] <;> omega

include h in
theorem input1 (t : Fin cfg0.N) : iblk m c 1 t = prevP (rowsP P t) := by
  refine Eq.trans ?_ (prev_p P t).symm
  funext i
  blk_simp [iblk]
  rw [entry_pe W P X c m h]
  refine congrArg₂ (fun r k => ((P r k : ℝ) : EReal)) (congrArg₂ edgeOf (Fin.ext ?_) (Fin.ext ?_)) (Fin.ext ?_) <;>
    blk_simp [(index_in t).2.1, prevBlock, lastEdge] <;> simp [prevBlock, lastEdge] <;> omega

include h in
theorem input2 (t : Fin cfg0.N) : iblk m c 2 t = nextP (rowsP P t) := by
  refine Eq.trans ?_ (next_p P t).symm
  funext i
  blk_simp [iblk]
  rw [entry_pe W P X c m h]
  refine congrArg₂ (fun r k => ((P r k : ℝ) : EReal)) (congrArg₂ edgeOf (Fin.ext ?_) (Fin.ext ?_)) (Fin.ext ?_) <;>
    blk_simp [(index_in t).2.2.1, nextBlock, firstEdge] <;> simp [nextBlock, firstEdge] <;> omega

include h in
theorem input3 (t : Fin cfg0.N) : iblk m c 3 t = rows .f32 fun r => X (at64 t r) := by
  funext i
  blk_simp [iblk]
  rw [entry_x W P X c m h]
  refine congrArg₂ (fun r k => ((X r k : ℝ) : EReal)) (Fin.ext ?_) (Fin.ext ?_) <;> blk_simp [(index_in t).2.2.2, at64] <;> simp [at64] <;> omega

include h in
theorem input4 (t : Fin cfg0.N) : iblk m c 4 t = oblong W.wpa := by
  funext i
  blk_simp [iblk]
  rw [entry_wpa W P X c m h]
  exact congrArg (oblong W.wpa) (by blk_ext [(index_whole t).1])

include h in
theorem input5 (t : Fin cfg0.N) : iblk m c 5 t = square W.wpb := by
  funext i
  blk_simp [iblk]
  rw [entry_wpb W P X c m h]
  exact congrArg (square W.wpb) (by blk_ext [(index_whole t).2.1])

include h in
theorem input6 (t : Fin cfg0.N) : iblk m c 6 t = square W.wo := by
  funext i
  blk_simp [iblk]
  rw [entry_wo W P X c m h]
  exact congrArg (square W.wo) (by blk_ext [(index_whole t).2.2.1])

include h in
theorem input7 (t : Fin cfg0.N) : iblk m c 7 t = spatial W := by
  funext i
  blk_simp [iblk]
  rw [entry_ws W P X c m h]
  exact congrArg (spatial W) (by blk_ext [(index_whole t).2.2.2.1])

include h in
theorem input8 (t : Fin cfg0.N) : iblk m c 8 t = spreadBias W := by
  funext i
  blk_simp [iblk]
  rw [entry_bs W P X c m h]
  exact congrArg (spreadBias W) (by blk_ext [(index_whole t).2.2.2.2.1])

include h in
theorem input9 (t : Fin cfg0.N) : iblk m c 9 t = gateBias W := by
  funext i
  blk_simp [iblk]
  rw [V_main_arg1, h.a1]
  exact congrArg (gateBias W) (by blk_ext [(index_whole t).2.2.2.2.2.1])

include h in
theorem input10 (t : Fin cfg0.N) : iblk m c 10 t = taps W := by
  funext i
  blk_simp [iblk]
  rw [entry_cw W P X c m h]
  exact congrArg (taps W) (by blk_ext [(index_whole t).2.2.2.2.2.2.1])

include h in
theorem input11 (t : Fin cfg0.N) : iblk m c 11 t = line W.vg := by
  funext i
  blk_simp [iblk]
  rw [V_main_arg3, h.a3]
  exact congrArg (line W.vg) (by blk_ext [(index_whole t).2.2.2.2.2.2.2.1])

include h in
theorem input12 (t : Fin cfg0.N) : iblk m c 12 t = line W.vb := by
  funext i
  blk_simp [iblk]
  rw [V_main_arg4, h.a4]
  exact congrArg (line W.vb) (by blk_ext [(index_whole t).2.2.2.2.2.2.2.2])

include h in
theorem realAt (t : Fin cfg0.N) : RealAt W (rowsP P t) (fun r => X (at64 t r)) (isPrev t) (isNext t) c t m where
  h0 := input0 W P X c m h t
  h1 := input1 W P X c m h t
  h2 := input2 W P X c m h t
  h3 := input3 W P X c m h t
  h4 := input4 W P X c m h t
  h5 := input5 W P X c m h t
  h6 := input6 W P X c m h t
  h7 := input7 W P X c m h t
  h8 := input8 W P X c m h t
  h9 := input9 W P X c m h t
  h10 := input10 W P X c m h t
  h11 := input11 W P X c m h t
  h12 := input12 W P X c m h t
  hp := Cert.Kernel2Ideal.Arrays.isPrev_at t
  hn := Cert.Kernel2Ideal.Arrays.isNext_at t

theorem ya_block (t : Fin 64) : yaB W (rowsP P t) (isPrev t) (isNext t) = fun r => ya W P (at64 t r) :=
  congrArg (fun (f : Fin 256 → Fin 1536 → ℝ) r k => ∑ j, f r j * W.wpa j k) (a_block W P t)

theorem yb_block (t : Fin 64) : ybB W (rowsP P t) = fun r => yb W P (at64 t r) :=
  congrArg (fun (f : Fin 256 → Fin 1024 → ℝ) r k => ∑ j, f r j * W.wpb j k) (bb_block W P t)

/-- The first residual sum. -/
def r1 (r : Fin 16384) (k : Fin 1024) : ℝ := alpha * X r k + ∑ j, z W P r j * W.wo j k

theorem r1_block (t : Fin 64) : r1B W (rowsP P t) (fun r => X (at64 t r)) (isPrev t) (isNext t) = fun r => r1 W P X (at64 t r) := by
  funext r k
  unfold r1B zB
  rw [ya_block, yb_block, rowsP_mid]
  rfl

end Cert.Kernel3Ideal.Arrays
-- ==== Proof.Mix.ForwardResults.lean ====
module

public import proofs.«01_k».proof.Proof.Mix.ForwardArrays

@[expose] public section

/-! # The forward kernel's results on real arguments, from its blocks -/

set_option maxRecDepth 16384

noncomputable section

namespace Cert.Kernel3Ideal.Arrays

open Idealize.ShloMosaic Idealize.ShloMosaic.TcCoe Idealize.SL.Sem Cert.Kernel3Ideal Cert.Kernel3Ideal.Gen Cert.Reals Cert.Row Cert.Mix Cert.Kernel2Ideal.Block Cert.Kernel2Ideal.Loads Cert.Kernel3Ideal.Point
open Cert.Kernel2Ideal.Arrays

variable (W : Cert.Mix.Weights) (P : Fin 16384 → Fin 8704 → ℝ) (X : Fin 16384 → Fin 1024 → ℝ) (c : Dev nD) (m : (ℓ : Loc nD τ sig) → Buf (Elt Ideal) ℓ)
  (h : RealArgs W P X c m)

theorem index_rows : ∀ t : Fin cfg0.N, win0_13.index t = ![t.val, 0] ∧ win0_14.index t = ![t.val, 0] ∧ win0_15.index t = ![t.val, 0] := by
  decide +kernel

include h in
theorem array13 : (dats m 0 c).arrAt 13 cfg0.N = (fun i => ((r1 W P X (i 0) (i 1) : ℝ) : EReal) : FVec Ideal S16384x1024 .f32) := by
  refine (dats m 0 c).arrAt_eq_of_covers 13 _ (by decide +kernel) fun t hf y => ?_
  blk_simp
  refine (congrFun ((after0_13 m c t).trans ((out13 W (rowsP P t) (fun r => X (at64 t r)) (isPrev t) (isNext t) c t m (realAt W P X c m h t)).trans (congrArg (rows .f32) (r1_block W P X t)))) y).trans ?_
  refine congrArg₂ (fun r k => ((r1 W P X r k : ℝ) : EReal)) (Fin.ext ?_) (Fin.ext ?_) <;> blk_simp [(index_rows t).1, at64] <;> simp [at64] <;> omega

include h in
theorem array14 : (dats m 0 c).arrAt 14 cfg0.N = (fun i => ((ya W P (i 0) (i 1) : ℝ) : EReal) : FVec Ideal S16384x1024 .f32) := by
  refine (dats m 0 c).arrAt_eq_of_covers 14 _ (by decide +kernel) fun t hf y => ?_
  blk_simp
  refine (congrFun ((after0_14 m c t).trans ((out14 W (rowsP P t) (fun r => X (at64 t r)) (isPrev t) (isNext t) c t m (realAt W P X c m h t)).trans (congrArg (rows .f32) (ya_block W P t)))) y).trans ?_
  refine congrArg₂ (fun r k => ((ya W P r k : ℝ) : EReal)) (Fin.ext ?_) (Fin.ext ?_) <;> blk_simp [(index_rows t).2.1, at64] <;> simp [at64] <;> omega

include h in
theorem array15 : (dats m 0 c).arrAt 15 cfg0.N = (fun i => ((yb W P (i 0) (i 1) : ℝ) : EReal) : FVec Ideal S16384x1024 .f32) := by
  refine (dats m 0 c).arrAt_eq_of_covers 15 _ (by decide +kernel) fun t hf y => ?_
  blk_simp
  refine (congrFun ((after0_15 m c t).trans ((out15 W (rowsP P t) (fun r => X (at64 t r)) (isPrev t) (isNext t) c t m (realAt W P X c m h t)).trans (congrArg (rows .f32) (yb_block W P t)))) y).trans ?_
  refine congrArg₂ (fun r k => ((yb W P r k : ℝ) : EReal)) (Fin.ext ?_) (Fin.ext ?_) <;> blk_simp [(index_rows t).2.2, at64] <;> simp [at64] <;> omega

end Cert.Kernel3Ideal.Arrays
-- ==== Proof.Mix.ForwardRef.lean ====
module

public import proofs.«01_k».proof.Proof.Mix.ForwardArrays
public import proofs.«01_k».proof.Proof.Gen.Reference3Ideal.Run

@[expose] public section

/-! # The forward reference's results on real arguments

Its branches are the lines with which the backward's reference begins. -/

set_option maxRecDepth 100000

noncomputable section

namespace Cert.Reference3Ideal.Ref

open Idealize.ShloMosaic Idealize.ShloMosaic.TcCoe Idealize.SL.Sem Cert.Reference3Ideal Cert.Reference3Ideal.Gen Cert.Reals Cert.Row Cert.Mix Cert.Reference3Ideal.Value
open Cert.Reference2Ideal.Ref (cube)

/-- The backward reference's memory with given arguments. -/
theorem exists_args (W : Cert.Mix.Weights) (P : Fin 16384 → Fin 8704 → ℝ) (D : Fin 16384 → Fin 1024 → ℝ) :
    ∃ V0 : Valuation Cert.Reference2Ideal.τ Cert.Reference2Ideal.sig (Elt Ideal), Cert.Reference2Ideal.Ref.RealArgs W P D V0 := by
  let base : Valuation Cert.Reference2Ideal.τ Cert.Reference2Ideal.sig (Elt Ideal) := fun b _ => default
  refine ⟨Function.update (Function.update (Function.update (Function.update (Function.update (Function.update (Function.update (Function.update (Function.update
    (Function.update (Function.update base
      (Proc.devRef .tc Cert.Reference2Ideal.main_arg0) (fun i => ((P (i 1) (i 2) : ℝ) : EReal) : FVec Ideal S1x16384x8704 .f32))
      (Proc.devRef .tc Cert.Reference2Ideal.main_arg1) (fun i => ((W.bg (i 1) : ℝ) : EReal) : FVec Ideal S1x2048 .f32))
      (Proc.devRef .tc Cert.Reference2Ideal.main_arg2) (fun i => ((W.cw (i 1) (i 2) : ℝ) : EReal) : FVec Ideal S1x3x1536 .f32))
      (Proc.devRef .tc Cert.Reference2Ideal.main_arg3) (fun i => ((W.vg (i 1) : ℝ) : EReal) : FVec Ideal S1x1024 .f32))
      (Proc.devRef .tc Cert.Reference2Ideal.main_arg4) (fun i => ((W.vb (i 1) : ℝ) : EReal) : FVec Ideal S1x1024 .f32))
      (Proc.devRef .tc Cert.Reference2Ideal.main_arg5) (fun i => ((W.ws (i 1) (i 2) (i 3) : ℝ) : EReal) : FVec Ideal S1x8x128x128 .f32))
      (Proc.devRef .tc Cert.Reference2Ideal.main_arg6) (fun i => ((W.bs (i 1) (i 2) : ℝ) : EReal) : FVec Ideal S1x8x128 .f32))
      (Proc.devRef .tc Cert.Reference2Ideal.main_arg7) (fun i => ((W.wpa (i 1) (i 2) : ℝ) : EReal) : FVec Ideal S1x1536x1024 .f32))
      (Proc.devRef .tc Cert.Reference2Ideal.main_arg8) (fun i => ((W.wpb (i 1) (i 2) : ℝ) : EReal) : FVec Ideal S1x1024x1024 .f32))
      (Proc.devRef .tc Cert.Reference2Ideal.main_arg9) (fun i => ((W.wo (i 1) (i 2) : ℝ) : EReal) : FVec Ideal S1x1024x1024 .f32))
      (Proc.devRef .tc Cert.Reference2Ideal.main_arg10) (cube D), ?_⟩
  constructor <;> (repeat rw [Function.update_of_ne (by decide)]) <;> exact Function.update_self _ _ _

variable (W : Cert.Mix.Weights) (P : Fin 16384 → Fin 8704 → ℝ) (X : Fin 16384 → Fin 1024 → ℝ) (c : Dev nD) (m : (ℓ : Loc nD τ sig) → Buf (Elt Ideal) ℓ)

/-- The arguments are the real rows `P` and `X` and the weights. -/
structure RealArgs : Prop where
  a0 : m ((c : Thread nD τ).loc main_arg0) = (fun i => ((P (i 1) (i 2) : ℝ) : EReal) : FVec Ideal S1x16384x8704 .f32)
  a1 : m ((c : Thread nD τ).loc main_arg1) = (fun i => ((W.bg (i 1) : ℝ) : EReal) : FVec Ideal S1x2048 .f32)
  a2 : m ((c : Thread nD τ).loc main_arg2) = (fun i => ((W.cw (i 1) (i 2) : ℝ) : EReal) : FVec Ideal S1x3x1536 .f32)
  a3 : m ((c : Thread nD τ).loc main_arg3) = (fun i => ((W.vg (i 1) : ℝ) : EReal) : FVec Ideal S1x1024 .f32)
  a4 : m ((c : Thread nD τ).loc main_arg4) = (fun i => ((W.vb (i 1) : ℝ) : EReal) : FVec Ideal S1x1024 .f32)
  a5 : m ((c : Thread nD τ).loc main_arg5) = (fun i => ((W.ws (i 1) (i 2) (i 3) : ℝ) : EReal) : FVec Ideal S1x8x128x128 .f32)
  a6 : m ((c : Thread nD τ).loc main_arg6) = (fun i => ((W.bs (i 1) (i 2) : ℝ) : EReal) : FVec Ideal S1x8x128 .f32)
  a7 : m ((c : Thread nD τ).loc main_arg7) = (fun i => ((W.wpa (i 1) (i 2) : ℝ) : EReal) : FVec Ideal S1x1536x1024 .f32)
  a8 : m ((c : Thread nD τ).loc main_arg8) = (fun i => ((W.wpb (i 1) (i 2) : ℝ) : EReal) : FVec Ideal S1x1024x1024 .f32)
  a9 : m ((c : Thread nD τ).loc main_arg9) = (fun i => ((W.wo (i 1) (i 2) : ℝ) : EReal) : FVec Ideal S1x1024x1024 .f32)
  a10 : m ((c : Thread nD τ).loc main_arg10) = cube X

variable (h : RealArgs W P X c m) (V0 : Valuation Cert.Reference2Ideal.τ Cert.Reference2Ideal.sig (Elt Ideal)) (h' : Cert.Reference2Ideal.Ref.RealArgs W P X V0)

include h h' in
theorem at_yb : res_main_v125 m c = shapeCast _ (Cert.Reference2Ideal.Value.res_main_v140 V0) shapeCasts_S1x16384x1024_S16384x1024 := by
  unfold res_main_v125
  rw [h.a0, h.a3, h.a4, h.a5, h.a6, h.a8]
  unfold Cert.Reference2Ideal.Value.res_main_v140 Cert.Reference2Ideal.Value.res_main_v139 Cert.Reference2Ideal.Value.res_main_v136 Cert.Reference2Ideal.Value.res_main_v135 Cert.Reference2Ideal.Value.res_main_v129 Cert.Reference2Ideal.Value.res_main_v123 Cert.Reference2Ideal.Value.res_main_v122 Cert.Reference2Ideal.Value.res_main_v117 Cert.Reference2Ideal.Value.res_main_v116 Cert.Reference2Ideal.Value.res_main_v114 Cert.Reference2Ideal.Value.res_main_v105 Cert.Reference2Ideal.Value.res_main_v103 Cert.Reference2Ideal.Value.res_main_v99 Cert.Reference2Ideal.Value.res_main_v96 Cert.Reference2Ideal.Value.res_main_v95 Cert.Reference2Ideal.Value.res_main_v86 Cert.Reference2Ideal.Value.res_main_v75 Cert.Reference2Ideal.Value.res_main_v74 Cert.Reference2Ideal.Value.res_main_v73 Cert.Reference2Ideal.Value.res_main_v64 Cert.Reference2Ideal.Value.res_main_v53 Cert.Reference2Ideal.Value.res_main_v8 Cert.Reference2Ideal.Value.res_main_v7
  rw [h'.a0, h'.a3, h'.a4, h'.a5, h'.a6, h'.a8]
  rfl

/-- The rows of an array that keeps the leading axis. -/
theorem flat (f : Fin 16384 → Fin 1024 → ℝ) : shapeCast S16384x1024 (cube f) shapeCasts_S1x16384x1024_S16384x1024 = (fun i => ((f (i 0) (i 1) : ℝ) : EReal) : FVec Ideal S16384x1024 .f32) := by
  funext i
  idx_vars i
  pointwise [cube]

include h in
theorem yb_real : res_main_v125 m c = (fun i => ((yb W P (i 0) (i 1) : ℝ) : EReal) : FVec Ideal S16384x1024 .f32) := by
  obtain ⟨V0, h'⟩ := exists_args W P X
  rw [at_yb W P X c m h V0 h', Cert.Reference2Ideal.Ref.v140 W P X V0 h']
  exact flat (yb W P)

/-- The first residual sum as the reference writes it, from the gates and the branches. -/
def sumOf (x ga ya gb yb : FVec Ideal S1x16384x1024 .f32) (wo : FVec Ideal S1x1024x1024 .f32) : FVec Ideal S1x16384x1024 .f32 :=
  addf (mulf (broadcastInDim S1x16384x1024 ![] bcast_S_S1x16384x1024 (constant S_ .f32 0x3F9837F0#32)) x)
    (Host.dotGeneral dot_S1x16384x1024_S1024x1024_S1x16384x1024_2_0_01_1_n_n none (addf (mulf ga ya) (mulf gb yb)) (shapeCast S1024x1024 wo shapeCasts_S1x1024x1024_S1024x1024))

include h h' in
theorem at_r1 : res_main_v123 m c = shapeCast _ (sumOf (cube X) (Cert.Reference2Ideal.Value.res_main_v23 V0) (Cert.Reference2Ideal.Value.res_main_v138 V0)
    (Cert.Reference2Ideal.Value.res_main_v24 V0) (Cert.Reference2Ideal.Value.res_main_v140 V0) (fun i => ((W.wo (i 1) (i 2) : ℝ) : EReal))) shapeCasts_S1x16384x1024_S16384x1024 := by
  unfold res_main_v123
  rw [h.a0, h.a1, h.a2, h.a3, h.a4, h.a5, h.a6, h.a7, h.a8, h.a9, h.a10]
  unfold Cert.Reference2Ideal.Value.res_main_v140 Cert.Reference2Ideal.Value.res_main_v139 Cert.Reference2Ideal.Value.res_main_v138 Cert.Reference2Ideal.Value.res_main_v137 Cert.Reference2Ideal.Value.res_main_v136 Cert.Reference2Ideal.Value.res_main_v135 Cert.Reference2Ideal.Value.res_main_v129 Cert.Reference2Ideal.Value.res_main_v123 Cert.Reference2Ideal.Value.res_main_v122 Cert.Reference2Ideal.Value.res_main_v117 Cert.Reference2Ideal.Value.res_main_v116 Cert.Reference2Ideal.Value.res_main_v114 Cert.Reference2Ideal.Value.res_main_v105 Cert.Reference2Ideal.Value.res_main_v103 Cert.Reference2Ideal.Value.res_main_v99 Cert.Reference2Ideal.Value.res_main_v96 Cert.Reference2Ideal.Value.res_main_v95 Cert.Reference2Ideal.Value.res_main_v86 Cert.Reference2Ideal.Value.res_main_v75 Cert.Reference2Ideal.Value.res_main_v74 Cert.Reference2Ideal.Value.res_main_v73 Cert.Reference2Ideal.Value.res_main_v64 Cert.Reference2Ideal.Value.res_main_v53 Cert.Reference2Ideal.Value.res_main_v52 Cert.Reference2Ideal.Value.res_main_v51 Cert.Reference2Ideal.Value.res_main_v48 Cert.Reference2Ideal.Value.res_main_v45 Cert.Reference2Ideal.Value.res_main_v41 Cert.Reference2Ideal.Value.res_main_v38 Cert.Reference2Ideal.Value.res_main_v35 Cert.Reference2Ideal.Value.res_main_v32 Cert.Reference2Ideal.Value.res_main_v29 Cert.Reference2Ideal.Value.res_main_v26 Cert.Reference2Ideal.Value.res_main_v25 Cert.Reference2Ideal.Value.res_main_v24 Cert.Reference2Ideal.Value.res_main_v23 Cert.Reference2Ideal.Value.res_main_v19 Cert.Reference2Ideal.Value.res_main_v8 Cert.Reference2Ideal.Value.res_main_v7 Cert.Reference2Ideal.Value.res_main_v6 Cert.Reference2Ideal.Value.res_main_v5 Cert.Reference2Ideal.Value.res_main_v4
  rw [h'.a0, h'.a1, h'.a2, h'.a3, h'.a4, h'.a5, h'.a6, h'.a7, h'.a8]
  rfl

include h in
theorem r1_real : res_main_v123 m c = (fun i => ((Cert.Kernel3Ideal.Arrays.r1 W P X (i 0) (i 1) : ℝ) : EReal) : FVec Ideal S16384x1024 .f32) := by
  obtain ⟨V0, h'⟩ := exists_args W P X
  rw [at_r1 W P X c m h V0 h', Cert.Reference2Ideal.Ref.v138 W P X V0 h', Cert.Reference2Ideal.Ref.v140 W P X V0 h', Cert.Reference2Ideal.Ref.v23 W P X V0 h', Cert.Reference2Ideal.Ref.v24 W P X V0 h']
  funext i
  idx_vars i
  pointwise [sumOf, cube]
  simp only [ofBits_alpha, ← EReal.coe_mul, ← EReal.coe_add, ← coe_sum]
  rfl

end Cert.Reference3Ideal.Ref
-- ==== Proof.lean ====
module

public import proofs.«01_k».proof.Proof.Gen.Kernel3Ideal.Value
public import proofs.«01_k».proof.Proof.Gen.Reference3Ideal.Run
public import proofs.«01_k».proof.Proof.Gen.Kernel3.Frame
public import proofs.«01_k».proof.Defs
public import proofs.«01_k».proof.Proof.Arrays
public import proofs.«01_k».proof.Proof.Results
public import proofs.«01_k».proof.Proof.Finite
public import proofs.«01_k».proof.Proof.Mix.Arrays
public import proofs.«01_k».proof.Proof.Mix.Results
public import proofs.«01_k».proof.Proof.Mix.Finite
public import proofs.«01_k».proof.Proof.Pair.Claims
public import proofs.«01_k».proof.Proof.Plain
public import proofs.«01_k».proof.Proof.Mix.ForwardResults
public import proofs.«01_k».proof.Proof.Mix.ForwardRef
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Adequacy
public import Idealize.ShloMosaic.Init

@[expose] public section

noncomputable section

namespace Cert.Proof

open Idealize.ShloMosaic Idealize.ShloMosaic.TcCoe Idealize.SL.Sem Cert.Row

/-- Arrays whose entries are real: the rows, the targets and the weights of the layer. -/
theorem reals (m : (ℓ : Loc Cert.KernelIdeal.nD Cert.KernelIdeal.τ Cert.KernelIdeal.sig) → Buf (Elt Ideal) ℓ)
    (pre : Pre_KernelIdeal_finite (hPre_finite := Cert.Pre_finite.facts) m) (c : Dev Cert.KernelIdeal.nD) :
    ∃ (W : Weights) (X Y : Fin 16384 → Fin 1024 → ℝ), Cert.KernelIdeal.Arrays.RealArgs W X Y c m := by
  obtain ⟨⟨f0, h0⟩, ⟨f1, h1⟩, ⟨f2, h2⟩, ⟨f3, h3⟩, ⟨f4, h4⟩, ⟨f5, h5⟩, ⟨f6, h6⟩, ⟨f7, h7⟩⟩ :=
    Cert.Pre_finite.real _ _ _ _ _ _ _ _ default (congrFun (pre c) default)
  refine ⟨⟨fun j => f3 (ix2 0 j), fun j => f4 (ix2 0 j), fun j => f5 (ix2 0 j), fun j => f6 (ix2 0 j), fun i j => f1 (ix3 0 i j), fun i j => f2 (ix3 0 i j)⟩,
    fun r j => f0 (ix3 0 r j), fun r j => f7 (ix3 0 r j), ⟨h0.trans ?_, h1.trans ?_, h2.trans ?_, h3.trans ?_, h4.trans ?_, h5.trans ?_, h6.trans ?_, h7.trans ?_⟩⟩ <;>
  · funext i
    idx_vars i
    obtain rfl : i0 = 0 := Subsingleton.elim i0 0
    rfl

/-- Memories that agree on the arguments hold the same real rows and weights. -/
theorem reals_ref (W : Weights) (X Y : Fin 16384 → Fin 1024 → ℝ) (c : Dev Cert.KernelIdeal.nD)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.KernelIdeal.Arrays.RealArgs W X Y c m)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (e3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (e4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (e5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (e6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (e7 : m' ((c : Thread Cert.ReferenceIdeal.nD Cert.ReferenceIdeal.τ).loc Cert.ReferenceIdeal.main_arg7) = m ((c : Thread Cert.KernelIdeal.nD Cert.KernelIdeal.τ).loc Cert.KernelIdeal.main_arg7)) :
    Cert.ReferenceIdeal.Ref.RealArgs W X Y (StableHlo.launchContents m' c) :=
  ⟨e0.trans h.a0, e1.trans h.a1, e2.trans h.a2, e3.trans h.a3, e4.trans h.a4, e5.trans h.a5, e6.trans h.a6, e7.trans h.a7⟩

/-- The reference runs, leaves its arguments alone and ends with every counter at zero. -/
theorem frame_ref : Cert.quiescent_ReferenceIdeal (hReferenceIdeal := Cert.ReferenceIdeal.Gen.facts) := by
  intro m ρ _
  exact (θ_run Cert.ReferenceIdeal.defs _ _).mono (fun r h => ⟨fun c => (h c).2.2.2.2.2.2.2.2, sem_eq_zero_of_no_sems (by decide) r.2⟩)
    (Cert.ReferenceIdeal.Value.run (F := Ideal) m ρ)

theorem value : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' pre agree
  refine ⟨_, _, _, _, _, _, _, _, Cert.KernelIdeal.Value.run_blocks m ρ, ?_⟩
  refine (θ_run Cert.ReferenceIdeal.defs _ _).mono (fun r h c => ?_) (Cert.ReferenceIdeal.Value.run (F := Ideal) m' ρ')
  obtain ⟨W, X, Y, hm⟩ := reals m pre c
  obtain ⟨e0, e1, e2, e3, e4, e5, e6, e7⟩ := agree c
  have hr := reals_ref W X Y c m m' hm e0 e1 e2 e3 e4 e5 e6 e7
  obtain ⟨r0, r1, r2, r3, r4, r5, r6, r7, kept⟩ := h c
  exact ⟨(r0.trans (Cert.ReferenceIdeal.Ref.result_dx W X Y _ hr)).trans (Cert.KernelIdeal.Arrays.array8 W X Y c m hm).symm,
    (r1.trans (Cert.ReferenceIdeal.Ref.result_dx_cast W X Y _ hr)).trans (Cert.KernelIdeal.Arrays.array9 W X Y c m hm).symm,
    (r2.trans (Cert.ReferenceIdeal.Ref.result_edge W X Y _ hr)).trans (Cert.KernelIdeal.Arrays.array10 W X Y c m hm).symm,
    (r3.trans (Cert.ReferenceIdeal.Ref.result_norm W X Y _ hr)).trans (Cert.KernelIdeal.Arrays.array11 W X Y c m hm).symm,
    (r4.trans (Cert.ReferenceIdeal.Ref.result_hid W X Y _ hr)).trans (Cert.KernelIdeal.Arrays.array12 W X Y c m hm).symm,
    (r5.trans (Cert.ReferenceIdeal.Ref.result_dup W X Y _ hr)).trans (Cert.KernelIdeal.Arrays.array13 W X Y c m hm).symm,
    (r6.trans (Cert.ReferenceIdeal.Ref.result_dres W X Y _ hr)).trans (Cert.KernelIdeal.Arrays.array14 W X Y c m hm).symm,
    (r7.trans (Cert.ReferenceIdeal.Ref.result_sums W X Y _ hr)).trans (Cert.KernelIdeal.Arrays.array15 W X Y c m hm).symm, kept⟩

/-- The second reference runs, leaves its arguments alone and ends with every counter at zero. -/
theorem frame_ref2 : Cert.quiescent_Reference2Ideal (hReference2Ideal := Cert.Reference2Ideal.Gen.facts) := by
  intro m ρ _
  exact (θ_run Cert.Reference2Ideal.defs _ _).mono (fun r h => ⟨fun c => (h c).2.2.2.2.2.2.2.2.2.2.2, sem_eq_zero_of_no_sems (by decide) r.2⟩)
    (Cert.Reference2Ideal.Value.run (F := Ideal) m ρ)

/-- The two constants of the gate's slope are named after the decimals they round. -/
theorem preserves2 : Cert.preserves_Kernel2_Kernel2Ideal :=
  ⟨IdealRules.named_const.statement Cert.Kernel2Ideal.κ "gelu_cubic" .f32 0x3D372713#32 ((8943 / 200000 : ℝ) : EReal) rfl,
    IdealRules.named_const.statement Cert.Kernel2Ideal.κ "gelu_cubic_grad" .f32 0x3E095D4F#32 ((26829 / 200000 : ℝ) : EReal) rfl⟩

/-- Arrays whose entries are real: the projections, the rows and the weights of the mixing layer. -/
theorem reals_mix (a0 : FVec Ideal Cert.Kernel2Ideal.S1x16384x8704 .f32) (a1 : FVec Ideal Cert.Kernel2Ideal.S1x2048 .f32) (a2 : FVec Ideal Cert.Kernel2Ideal.S1x3x1536 .f32) (a3 : FVec Ideal Cert.Kernel2Ideal.S1x1024 .f32) (a4 : FVec Ideal Cert.Kernel2Ideal.S1x1024 .f32) (a5 : FVec Ideal Cert.Kernel2Ideal.S1x8x128x128 .f32) (a6 : FVec Ideal Cert.Kernel2Ideal.S1x8x128 .f32) (a7 : FVec Ideal Cert.Kernel2Ideal.S1x1536x1024 .f32) (a8 : FVec Ideal Cert.Kernel2Ideal.S1x1024x1024 .f32) (a9 : FVec Ideal Cert.Kernel2Ideal.S1x1024x1024 .f32) (a10 : FVec Ideal Cert.Kernel2Ideal.S1x16384x1024 .f32)
    (e : @Cert.Pre_finite2.fn Cert.Pre_finite2.facts Ideal _ a0 a1 a2 a3 a4 a5 a6 a7 a8 a9 a10 default = 1#1) :
    ∃ (W : Cert.Mix.Weights) (P : Fin 16384 → Fin 8704 → ℝ) (D : Fin 16384 → Fin 1024 → ℝ),
      a0 = (fun i => ((P (i 1) (i 2) : ℝ) : EReal)) ∧
      a1 = (fun i => ((W.bg (i 1) : ℝ) : EReal)) ∧
      a2 = (fun i => ((W.cw (i 1) (i 2) : ℝ) : EReal)) ∧
      a3 = (fun i => ((W.vg (i 1) : ℝ) : EReal)) ∧
      a4 = (fun i => ((W.vb (i 1) : ℝ) : EReal)) ∧
      a5 = (fun i => ((W.ws (i 1) (i 2) (i 3) : ℝ) : EReal)) ∧
      a6 = (fun i => ((W.bs (i 1) (i 2) : ℝ) : EReal)) ∧
      a7 = (fun i => ((W.wpa (i 1) (i 2) : ℝ) : EReal)) ∧
      a8 = (fun i => ((W.wpb (i 1) (i 2) : ℝ) : EReal)) ∧
      a9 = (fun i => ((W.wo (i 1) (i 2) : ℝ) : EReal)) ∧
      a10 = (fun i => ((D (i 1) (i 2) : ℝ) : EReal)) := by
  obtain ⟨⟨f0, h0⟩, ⟨f1, h1⟩, ⟨f2, h2⟩, ⟨f3, h3⟩, ⟨f4, h4⟩, ⟨f5, h5⟩, ⟨f6, h6⟩, ⟨f7, h7⟩, ⟨f8, h8⟩, ⟨f9, h9⟩, ⟨f10, h10⟩⟩ :=
    Cert.Pre_finite2.real _ _ _ _ _ _ _ _ _ _ _ default e
  refine ⟨⟨fun j => f1 (ix2 0 j), fun i j => f2 (ix3 0 i j), fun j => f3 (ix2 0 j), fun j => f4 (ix2 0 j), fun i j k => f5 (ix4 0 i j k), fun i j => f6 (ix3 0 i j),
    fun i j => f7 (ix3 0 i j), fun i j => f8 (ix3 0 i j), fun i j => f9 (ix3 0 i j)⟩,
    fun r j => f0 (ix3 0 r j), fun r j => f10 (ix3 0 r j), h0.trans ?_, h1.trans ?_, h2.trans ?_, h3.trans ?_, h4.trans ?_, h5.trans ?_, h6.trans ?_, h7.trans ?_, h8.trans ?_, h9.trans ?_, h10.trans ?_⟩ <;>
  · funext i
    idx_vars i
    obtain rfl : i0 = 0 := Subsingleton.elim i0 0
    rfl

theorem reals2 (m : (ℓ : Loc Cert.Kernel2Ideal.nD Cert.Kernel2Ideal.τ Cert.Kernel2Ideal.sig) → Buf (Elt Ideal) ℓ)
    (pre : Pre_Kernel2Ideal_finite2 (hPre_finite2 := Cert.Pre_finite2.facts) m) (c : Dev Cert.Kernel2Ideal.nD) :
    ∃ (W : Cert.Mix.Weights) (P : Fin 16384 → Fin 8704 → ℝ) (D : Fin 16384 → Fin 1024 → ℝ), Cert.Kernel2Ideal.Arrays.RealArgs W P D c m := by
  obtain ⟨W, P, D, h0, h1, h2, h3, h4, h5, h6, h7, h8, h9, h10⟩ := reals_mix _ _ _ _ _ _ _ _ _ _ _ (congrFun (pre c) default)
  exact ⟨W, P, D, ⟨h0, h1, h2, h3, h4, h5, h6, h7, h8, h9, h10⟩⟩

theorem reals3 (m : (ℓ : Loc Cert.Kernel3Ideal.nD Cert.Kernel3Ideal.τ Cert.Kernel3Ideal.sig) → Buf (Elt Ideal) ℓ)
    (pre : Pre_Kernel3Ideal_finite2 (hPre_finite2 := Cert.Pre_finite2.facts) m) (c : Dev Cert.Kernel3Ideal.nD) :
    ∃ (W : Cert.Mix.Weights) (P : Fin 16384 → Fin 8704 → ℝ) (D : Fin 16384 → Fin 1024 → ℝ), Cert.Kernel3Ideal.Arrays.RealArgs W P D c m := by
  obtain ⟨W, P, D, h0, h1, h2, h3, h4, h5, h6, h7, h8, h9, h10⟩ := reals_mix _ _ _ _ _ _ _ _ _ _ _ (congrFun (pre c) default)
  exact ⟨W, P, D, ⟨h0, h1, h2, h3, h4, h5, h6, h7, h8, h9, h10⟩⟩

theorem reals_ref2 (W : Cert.Mix.Weights) (P : Fin 16384 → Fin 8704 → ℝ) (D : Fin 16384 → Fin 1024 → ℝ) (c : Dev Cert.Kernel2Ideal.nD)
    (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (h : Cert.Kernel2Ideal.Arrays.RealArgs W P D c m)
    (e0 : m' ((c : Thread Cert.Reference2Ideal.nD Cert.Reference2Ideal.τ).loc Cert.Reference2Ideal.main_arg0) = m ((c : Thread Cert.Kernel2Ideal.nD Cert.Kernel2Ideal.τ).loc Cert.Kernel2Ideal.main_arg0))
    (e1 : m' ((c : Thread Cert.Reference2Ideal.nD Cert.Reference2Ideal.τ).loc Cert.Reference2Ideal.main_arg1) = m ((c : Thread Cert.Kernel2Ideal.nD Cert.Kernel2Ideal.τ).loc Cert.Kernel2Ideal.main_arg1))
    (e2 : m' ((c : Thread Cert.Reference2Ideal.nD Cert.Reference2Ideal.τ).loc Cert.Reference2Ideal.main_arg2) = m ((c : Thread Cert.Kernel2Ideal.nD Cert.Kernel2Ideal.τ).loc Cert.Kernel2Ideal.main_arg2))
    (e3 : m' ((c : Thread Cert.Reference2Ideal.nD Cert.Reference2Ideal.τ).loc Cert.Reference2Ideal.main_arg3) = m ((c : Thread Cert.Kernel2Ideal.nD Cert.Kernel2Ideal.τ).loc Cert.Kernel2Ideal.main_arg3))
    (e4 : m' ((c : Thread Cert.Reference2Ideal.nD Cert.Reference2Ideal.τ).loc Cert.Reference2Ideal.main_arg4) = m ((c : Thread Cert.Kernel2Ideal.nD Cert.Kernel2Ideal.τ).loc Cert.Kernel2Ideal.main_arg4))
    (e5 : m' ((c : Thread Cert.Reference2Ideal.nD Cert.Reference2Ideal.τ).loc Cert.Reference2Ideal.main_arg5) = m ((c : Thread Cert.Kernel2Ideal.nD Cert.Kernel2Ideal.τ).loc Cert.Kernel2Ideal.main_arg5))
    (e6 : m' ((c : Thread Cert.Reference2Ideal.nD Cert.Reference2Ideal.τ).loc Cert.Reference2Ideal.main_arg6) = m ((c : Thread Cert.Kernel2Ideal.nD Cert.Kernel2Ideal.τ).loc Cert.Kernel2Ideal.main_arg6))
    (e7 : m' ((c : Thread Cert.Reference2Ideal.nD Cert.Reference2Ideal.τ).loc Cert.Reference2Ideal.main_arg7) = m ((c : Thread Cert.Kernel2Ideal.nD Cert.Kernel2Ideal.τ).loc Cert.Kernel2Ideal.main_arg7))
    (e8 : m' ((c : Thread Cert.Reference2Ideal.nD Cert.Reference2Ideal.τ).loc Cert.Reference2Ideal.main_arg8) = m ((c : Thread Cert.Kernel2Ideal.nD Cert.Kernel2Ideal.τ).loc Cert.Kernel2Ideal.main_arg8))
    (e9 : m' ((c : Thread Cert.Reference2Ideal.nD Cert.Reference2Ideal.τ).loc Cert.Reference2Ideal.main_arg9) = m ((c : Thread Cert.Kernel2Ideal.nD Cert.Kernel2Ideal.τ).loc Cert.Kernel2Ideal.main_arg9))
    (e10 : m' ((c : Thread Cert.Reference2Ideal.nD Cert.Reference2Ideal.τ).loc Cert.Reference2Ideal.main_arg10) = m ((c : Thread Cert.Kernel2Ideal.nD Cert.Kernel2Ideal.τ).loc Cert.Kernel2Ideal.main_arg10)) :
    Cert.Reference2Ideal.Ref.RealArgs W P D (StableHlo.launchContents m' c) :=
  ⟨e0.trans h.a0, e1.trans h.a1, e2.trans h.a2, e3.trans h.a3, e4.trans h.a4, e5.trans h.a5, e6.trans h.a6, e7.trans h.a7, e8.trans h.a8, e9.trans h.a9, e10.trans h.a10⟩

theorem value2 : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m ρ m' ρ' pre agree
  refine ⟨_, _, _, _, _, _, _, _, _, _, _, Cert.Kernel2Ideal.Value.run_blocks m ρ, ?_⟩
  refine (θ_run Cert.Reference2Ideal.defs _ _).mono (fun r h c => ?_) (Cert.Reference2Ideal.Value.run (F := Ideal) m' ρ')
  obtain ⟨W, P, D, hm⟩ := reals2 m pre c
  obtain ⟨e0, e1, e2, e3, e4, e5, e6, e7, e8, e9, e10⟩ := agree c
  have hr := reals_ref2 W P D c m m' hm e0 e1 e2 e3 e4 e5 e6 e7 e8 e9 e10
  obtain ⟨r0, r1, r2, r3, r4, r5, r6, r7, r8, r9, r10, kept⟩ := h c
  exact ⟨(r0.trans (Cert.Reference2Ideal.Ref.result_dp W P D _ hr)).trans (Cert.Kernel2Ideal.Arrays.array17 W P D c m hm _ hr).symm,
    (r1.trans (Cert.Reference2Ideal.Ref.result_ab W P D _ hr)).trans (Cert.Kernel2Ideal.Arrays.array18 W P D c m hm _ hr).symm,
    (r2.trans (Cert.Reference2Ideal.Ref.result_bbb W P D _ hr)).trans (Cert.Kernel2Ideal.Arrays.array19 W P D c m hm _ hr).symm,
    (r3.trans (Cert.Reference2Ideal.Ref.result_zb W P D _ hr)).trans (Cert.Kernel2Ideal.Arrays.array20 W P D c m hm _ hr).symm,
    (r4.trans (Cert.Reference2Ideal.Ref.result_dyab W P D _ hr)).trans (Cert.Kernel2Ideal.Arrays.array21 W P D c m hm _ hr).symm,
    (r5.trans (Cert.Reference2Ideal.Ref.result_dybb W P D _ hr)).trans (Cert.Kernel2Ideal.Arrays.array22 W P D c m hm _ hr).symm,
    (r6.trans (Cert.Reference2Ideal.Ref.result_dbg W P D _ hr)).trans (Cert.Kernel2Ideal.Arrays.array23 W P D c m hm _ hr).symm,
    (r7.trans (Cert.Reference2Ideal.Ref.result_dcw W P D _ hr)).trans (Cert.Kernel2Ideal.Arrays.array24 W P D c m hm _ hr).symm,
    (r8.trans (Cert.Reference2Ideal.Ref.result_dvgb W P D _ hr)).trans (Cert.Kernel2Ideal.Arrays.array25 W P D c m hm _ hr).symm,
    (r9.trans (Cert.Reference2Ideal.Ref.result_dws W P D _ hr)).trans (Cert.Kernel2Ideal.Arrays.array26 W P D c m hm _ hr).symm,
    (r10.trans (Cert.Reference2Ideal.Ref.result_dbs W P D _ hr)).trans (Cert.Kernel2Ideal.Arrays.array27 W P D c m hm _ hr).symm, kept⟩

theorem frame_ref3 : Cert.quiescent_Reference3Ideal (hReference3Ideal := Cert.Reference3Ideal.Gen.facts) := by
  intro m ρ _
  exact (θ_run Cert.Reference3Ideal.defs _ _).mono (fun r h => ⟨fun c => (h c).2.2.2, sem_eq_zero_of_no_sems (by decide) r.2⟩)
    (Cert.Reference3Ideal.Value.run (F := Ideal) m ρ)

/-- The constant of the gate's curve is named after the decimal it rounds. -/
theorem preserves3 : Cert.preserves_Kernel3_Kernel3Ideal :=
  IdealRules.named_const.statement Cert.Kernel3Ideal.κ "gelu_cubic" .f32 0x3D372713#32 ((8943 / 200000 : ℝ) : EReal) rfl

theorem value3 : Cert.algebraic_Kernel3Ideal_Reference3Ideal_pre_finite2 (hKernel3Ideal := Cert.Kernel3Ideal.Gen.facts)
    (hReference3Ideal := Cert.Reference3Ideal.Gen.facts) (hPre_finite2 := Cert.Pre_finite2.facts) := by
  intro m ρ m' ρ' pre agree
  refine ⟨_, _, _, Cert.Kernel3Ideal.Value.run_blocks m ρ, ?_⟩
  refine (θ_run Cert.Reference3Ideal.defs _ _).mono (fun r h c => ?_) (Cert.Reference3Ideal.Value.run (F := Ideal) m' ρ')
  obtain ⟨W, P, X, hm⟩ := reals3 m pre c
  obtain ⟨e0, e1, e2, e3, e4, e5, e6, e7, e8, e9, e10⟩ := agree c
  have hr : Cert.Reference3Ideal.Ref.RealArgs W P X c m' := ⟨e0.trans hm.a0, e1.trans hm.a1, e2.trans hm.a2, e3.trans hm.a3, e4.trans hm.a4, e5.trans hm.a5,
    e6.trans hm.a6, e7.trans hm.a7, e8.trans hm.a8, e9.trans hm.a9, e10.trans hm.a10⟩
  obtain ⟨r0, r1, r2, kept⟩ := h c
  refine ⟨(r0.trans (Cert.Reference3Ideal.Ref.r1_real W P X c m' hr)).trans (Cert.Kernel3Ideal.Arrays.array13 W P X c m hm).symm,
    (r1.trans ?_).trans (Cert.Kernel3Ideal.Arrays.array14 W P X c m hm).symm,
    (r2.trans (Cert.Reference3Ideal.Ref.yb_real W P X c m' hr)).trans (Cert.Kernel3Ideal.Arrays.array15 W P X c m hm).symm, kept⟩
  obtain ⟨V0, h'⟩ := Cert.Reference3Ideal.Ref.exists_args W P X
  have e := Cert.Reference2Ideal.Ref.v138 W P X V0 h'
  unfold Cert.Reference2Ideal.Value.res_main_v138 Cert.Reference2Ideal.Value.res_main_v137 Cert.Reference2Ideal.Value.res_main_v52 Cert.Reference2Ideal.Value.res_main_v51 Cert.Reference2Ideal.Value.res_main_v48 Cert.Reference2Ideal.Value.res_main_v45 Cert.Reference2Ideal.Value.res_main_v41 Cert.Reference2Ideal.Value.res_main_v38 Cert.Reference2Ideal.Value.res_main_v35 Cert.Reference2Ideal.Value.res_main_v32 Cert.Reference2Ideal.Value.res_main_v29 Cert.Reference2Ideal.Value.res_main_v26 Cert.Reference2Ideal.Value.res_main_v25 Cert.Reference2Ideal.Value.res_main_v6 Cert.Reference2Ideal.Value.res_main_v5 Cert.Reference2Ideal.Value.res_main_v4 at e
  rw [h'.a0, h'.a2, h'.a7] at e
  rw [hr.a0, hr.a2, hr.a7]
  exact (congrArg (fun v : FVec Ideal Cert.Reference3Ideal.S1x16384x1024 .f32 => shapeCast Cert.Reference3Ideal.S16384x1024 v Cert.Reference3Ideal.Gen.shapeCasts_S1x16384x1024_S16384x1024) e).trans
    (Cert.Reference3Ideal.Ref.flat (Cert.Mix.ya W P))

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.facts, Cert.Pre_finite2.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ,
  fun m ρ _ => Cert.Kernel2Ideal.Gen.frame m ρ, frame_ref2, fun m ρ _ => frame_ref2 m ρ trivial,
  fun m ρ _ => Cert.Kernel3.Gen.frame m ρ, fun m ρ _ => Cert.Kernel3Ideal.Gen.frame m ρ,
  fun m ρ _ => Cert.Kernel3Ideal.Gen.frame m ρ, frame_ref3, fun m ρ _ => frame_ref3 m ρ trivial,
  Cert.Pair.frame_kernel, Cert.Pair.frame_ideal, Cert.Pair.frame_ref, Cert.Pair.frame_ref_bits,
  fun m ρ _ => Cert.Kernel5.Gen.frame m ρ, fun m ρ _ => Cert.Kernel5Ideal.Gen.frame m ρ, Cert.Plain.frame_ref5,
  fun m ρ _ => Cert.Kernel6.Gen.frame m ρ, fun m ρ _ => Cert.Kernel6Ideal.Gen.frame m ρ, Cert.Plain.frame_ref6,
  fun m ρ _ => Cert.Kernel7.Gen.frame m ρ, fun m ρ _ => Cert.Kernel7Ideal.Gen.frame m ρ, Cert.Plain.frame_ref7,
  fun m ρ _ => Cert.Kernel8.Gen.frame m ρ, fun m ρ _ => Cert.Kernel8Ideal.Gen.frame m ρ, Cert.Plain.frame_ref8,
  trivial, value, preserves2, value2, preserves3, value3, trivial, Cert.Pair.algebraic, Cert.Pair.bitexact,
  trivial, Cert.Plain.value5, trivial, Cert.Plain.value6, trivial, Cert.Plain.value7, trivial, Cert.Plain.value8⟩

end Cert.Proof

end
